-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_queries_keys [hPre_finite_queries_keys : Cert.Pre_finite_queries_keys.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_queries_keys.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_queries_keys [hPre_finite_queries_keys : Cert.Pre_finite_queries_keys.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_queries_keys.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_queries_keys [hKernel3Ideal : Cert.Kernel3Ideal.Facts] [hPre_finite_queries_keys : Cert.Pre_finite_queries_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_queries_keys m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_queries_keys [hReference3Ideal : Cert.Reference3Ideal.Facts] [hPre_finite_queries_keys : Cert.Pre_finite_queries_keys.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_queries_keys m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "scale_log2e" .f32 0x3E0293EE#32 (((11863283 / 134217728) * (Real.log 2)⁻¹ : ℝ) : EReal)

def algebraic_Kernel3Ideal_Reference3Ideal_pre_finite_queries_keys [hKernel3Ideal : Cert.Kernel3Ideal.Facts] [hReference3Ideal : Cert.Reference3Ideal.Facts] [hPre_finite_queries_keys : Cert.Pre_finite_queries_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_queries_keys m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)) (v4 : (c : Dev Cert.Kernel3Ideal.nD) → Buf (Elt Ideal) ((c.tc : Thread Cert.Kernel3Ideal.nD Cert.Kernel3Ideal.τ).loc Cert.Kernel3Ideal.main_v12_4)) (v5 : (c : Dev Cert.Kernel3Ideal.nD) → Buf (Elt Ideal) ((c.tc : Thread Cert.Kernel3Ideal.nD Cert.Kernel3Ideal.τ).loc Cert.Kernel3Ideal.main_v12_5)) (v6 : (c : Dev Cert.Kernel3Ideal.nD) → Buf (Elt Ideal) ((c.tc : Thread Cert.Kernel3Ideal.nD Cert.Kernel3Ideal.τ).loc Cert.Kernel3Ideal.main_v12_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_v12_4) = v4 c
          ∧ r.2.mem ((c.tc : Thread Cert.Kernel3Ideal.nD Cert.Kernel3Ideal.τ).loc Cert.Kernel3Ideal.main_v12_5) = v5 c
          ∧ r.2.mem ((c.tc : Thread Cert.Kernel3Ideal.nD Cert.Kernel3Ideal.τ).loc Cert.Kernel3Ideal.main_v12_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_v23) = v3 c
          ∧ r.2.mem ((c.tc : Thread Cert.Reference3Ideal.nD Cert.Reference3Ideal.τ).loc Cert.Reference3Ideal.main_v25) = v4 c
          ∧ r.2.mem ((c.tc : Thread Cert.Reference3Ideal.nD Cert.Reference3Ideal.τ).loc Cert.Reference3Ideal.main_v27) = v5 c
          ∧ r.2.mem ((c.tc : Thread Cert.Reference3Ideal.nD Cert.Reference3Ideal.τ).loc Cert.Reference3Ideal.main_v29) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)) (v2 : (c : Dev Cert.Kernel4Ideal.nD) → Buf (Elt Ideal) ((c.tc : Thread Cert.Kernel4Ideal.nD Cert.Kernel4Ideal.τ).loc Cert.Kernel4Ideal.main_v17_2)) (v3 : (c : Dev Cert.Kernel4Ideal.nD) → Buf (Elt Ideal) ((c.tc : Thread Cert.Kernel4Ideal.nD Cert.Kernel4Ideal.τ).loc Cert.Kernel4Ideal.main_v17_3)) (v4 : (c : Dev Cert.Kernel4Ideal.nD) → Buf (Elt Ideal) ((c.tc : Thread Cert.Kernel4Ideal.nD Cert.Kernel4Ideal.τ).loc Cert.Kernel4Ideal.main_v17_4)) (v5 : (c : Dev Cert.Kernel4Ideal.nD) → Buf (Elt Ideal) ((c.tc : Thread Cert.Kernel4Ideal.nD Cert.Kernel4Ideal.τ).loc Cert.Kernel4Ideal.main_v17_5)) (v6 : (c : Dev Cert.Kernel4Ideal.nD) → Buf (Elt Ideal) ((c.tc : Thread Cert.Kernel4Ideal.nD Cert.Kernel4Ideal.τ).loc Cert.Kernel4Ideal.main_v17_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_v17_2) = v2 c
          ∧ r.2.mem ((c.tc : Thread Cert.Kernel4Ideal.nD Cert.Kernel4Ideal.τ).loc Cert.Kernel4Ideal.main_v17_3) = v3 c
          ∧ r.2.mem ((c.tc : Thread Cert.Kernel4Ideal.nD Cert.Kernel4Ideal.τ).loc Cert.Kernel4Ideal.main_v17_4) = v4 c
          ∧ r.2.mem ((c.tc : Thread Cert.Kernel4Ideal.nD Cert.Kernel4Ideal.τ).loc Cert.Kernel4Ideal.main_v17_5) = v5 c
          ∧ r.2.mem ((c.tc : Thread Cert.Kernel4Ideal.nD Cert.Kernel4Ideal.τ).loc Cert.Kernel4Ideal.main_v17_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v124) = v0 c
          ∧ r.2.mem ((c.tc : Thread Cert.Reference4Ideal.nD Cert.Reference4Ideal.τ).loc Cert.Reference4Ideal.main_v125) = v1 c
          ∧ r.2.mem ((c.tc : Thread Cert.Reference4Ideal.nD Cert.Reference4Ideal.τ).loc Cert.Reference4Ideal.main_v126) = v2 c
          ∧ r.2.mem ((c.tc : Thread Cert.Reference4Ideal.nD Cert.Reference4Ideal.τ).loc Cert.Reference4Ideal.main_v127) = v3 c
          ∧ r.2.mem ((c.tc : Thread Cert.Reference4Ideal.nD Cert.Reference4Ideal.τ).loc Cert.Reference4Ideal.main_v128) = v4 c
          ∧ r.2.mem ((c.tc : Thread Cert.Reference4Ideal.nD Cert.Reference4Ideal.τ).loc Cert.Reference4Ideal.main_v129) = v5 c
          ∧ r.2.mem ((c.tc : Thread Cert.Reference4Ideal.nD Cert.Reference4Ideal.τ).loc Cert.Reference4Ideal.main_v130) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_queries_keys : Cert.Pre_finite_queries_keys.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_queries_keys (hKernel3Ideal := hKernel3Ideal) (hPre_finite_queries_keys := hPre_finite_queries_keys)
    ∧ quiescent_Reference3Ideal (hReference3Ideal := hReference3Ideal)
    ∧ quiescent_Reference3Ideal_pre_finite_queries_keys (hReference3Ideal := hReference3Ideal) (hPre_finite_queries_keys := hPre_finite_queries_keys)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_queries_keys (hKernel3Ideal := hKernel3Ideal) (hReference3Ideal := hReference3Ideal) (hPre_finite_queries_keys := hPre_finite_queries_keys)
    ∧ preserves_Kernel4_Kernel4Ideal
    ∧ algebraic_Kernel4Ideal_Reference4Ideal (hKernel4Ideal := hKernel4Ideal) (hReference4Ideal := hReference4Ideal)
-- ==== Pre_finite_queries_keys.lean ====
abbrev S8x4096x8x128 : Shape := ⟨4, ![8, 4096, 8, 128]⟩
abbrev S8x4096x2x128 : Shape := ⟨4, ![8, 4096, 2, 128]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S8x4096x8x128 : S_.BroadcastsInDim S8x4096x8x128 (![] : Fin 0 → Fin S8x4096x8x128.rank)
  reducesTo_S8x4096x8x128_S_d0_1_2_3 : S8x4096x8x128.ReducesTo [0, 1, 2, 3] S_
  h_S_ : 0 < S_.numel
  bcast_S_S8x4096x2x128 : S_.BroadcastsInDim S8x4096x2x128 (![] : Fin 0 → Fin S8x4096x2x128.rank)
  reducesTo_S8x4096x2x128_S_d0_1_2_3 : S8x4096x2x128.ReducesTo [0, 1, 2, 3] S_

variable [Facts]

def fn {F : FTy → Type} [FloatOps F] (main_arg0 : FVec F S8x4096x8x128 .f32) (main_arg1 : FVec F S8x4096x2x128 .f32) (main_arg2 : FVec F S8x4096x2x128 .f32) (main_arg3 : FVec F S1x512x1024 .f32) (main_arg4 : FVec F S1x1024x1024 .f32) (main_arg5 : FVec F S1x1024x1024 .f32) (main_arg6 : FVec F S1x1024x2816 .f32) (main_arg7 : FVec F S1x1024x2816 .f32) (main_arg8 : FVec F S1x2816x1024 .f32) : IVec S_ 1 :=
  let main_v0 : FVec F S8x4096x8x128 .f32 := Host.absf main_arg0
  let main_cst : FVec F S_ .f32 := constant S_ .f32 0x7F800000#32
  let main_v1 : FVec F S8x4096x8x128 .f32 := broadcastInDim S8x4096x8x128 ![] bcast_S_S8x4096x8x128 main_cst
  let main_v2 : IVec S8x4096x8x128 1 := cmpf .olt main_v0 main_v1
  let main_c : IVec S_ 1 := constantI S_ 1 1#1
  let main_v3 : IVec S_ 1 := (fun x v => Host.reduce IntOp.andi x v reducesTo_S8x4096x8x128_S_d0_1_2_3 h_S_) main_v2 main_c
  let main_v4 : FVec F S8x4096x2x128 .f32 := Host.absf main_arg1
  let main_cst_0 : FVec F S_ .f32 := constant S_ .f32 0x7F800000#32
  let main_v5 : FVec F S8x4096x2x128 .f32 := broadcastInDim S8x4096x2x128 ![] bcast_S_S8x4096x2x128 main_cst_0
  let main_v6 : IVec S8x4096x2x128 1 := cmpf .olt main_v4 main_v5
  let main_c_1 : IVec S_ 1 := constantI S_ 1 1#1
  let main_v7 : IVec S_ 1 := (fun x v => Host.reduce IntOp.andi x v reducesTo_S8x4096x2x128_S_d0_1_2_3 h_S_) main_v6 main_c_1
  let main_v8 : IVec S_ 1 := andi main_v3 main_v7
  main_v8
-- ==== Kernel.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x8192 : Shape := ⟨3, ![1, 1024, 8192]⟩
abbrev S1024 : Shape := ⟨1, ![1024]⟩
abbrev S32768x1024 : Shape := ⟨2, ![32768, 1024]⟩
abbrev S1024x2816 : Shape := ⟨2, ![1024, 2816]⟩
abbrev S2816x1024 : Shape := ⟨2, ![2816, 1024]⟩
abbrev S1024x8192 : Shape := ⟨2, ![1024, 8192]⟩
abbrev S1024x1024 : Shape := ⟨2, ![1024, 1024]⟩
abbrev S32x8192 : Shape := ⟨2, ![32, 8192]⟩
abbrev S4x128x2816 : Shape := ⟨3, ![4, 128, 2816]⟩
abbrev S4 : Shape := ⟨1, ![4]⟩
abbrev S1 : Shape := ⟨1, ![1]⟩
abbrev S_ : Shape := ⟨0, ![]⟩
abbrev S1x128x2816 : Shape := ⟨3, ![1, 128, 2816]⟩
abbrev S128x2816 : Shape := ⟨2, ![128, 2816]⟩
abbrev S4x352x1024 : Shape := ⟨3, ![4, 352, 1024]⟩
abbrev S1x352x1024 : Shape := ⟨3, ![1, 352, 1024]⟩
abbrev S352x1024 : Shape := ⟨2, ![352, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 17
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024x8192, .f32⟩
  | .hbm, ⟨6, _⟩ => ⟨S1024, .f32⟩
  | .hbm, ⟨7, _⟩ => ⟨S32768x1024, .f32⟩
  | .hbm, ⟨8, _⟩ => ⟨S1024, .f32⟩
  | .hbm, ⟨9, _⟩ => ⟨S1x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1x1024, .f32⟩
  | .hbm, ⟨14, _⟩ => ⟨S1024x8192, .f32⟩
  | .hbm, ⟨15, _⟩ => ⟨S32768x1024, .f32⟩
  | .hbm, ⟨16, _⟩ => ⟨S1024x8192, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S32x8192, .f32⟩
  | .local _ .vmem, ⟨5, _⟩ => ⟨S32x8192, .f32⟩
  | .local _ .vmem, ⟨6, _⟩ => ⟨S1024x1024, .f32⟩
  | .local _ .vmem, ⟨7, _⟩ => ⟨S1024x1024, .f32⟩
  | .local _ .vmem, ⟨8, _⟩ => ⟨S32x8192, .bf16⟩
  | .local _ .vmem, ⟨9, _⟩ => ⟨S32x8192, .bf16⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S4x128x2816, .f32⟩
  | .local _ .vmem, ⟨14, _⟩ => ⟨S4x128x2816, .f32⟩
  | .local _ .vmem, ⟨15, _⟩ => ⟨S4x352x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scoped0 : Ref sig .tc := ⟨.vmem, 13, rfl⟩
abbrev cc0_scoped2 : Ref sig .tc := ⟨.vmem, 14, rfl⟩
abbrev cc0_scoped4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x8192 : Shape := ⟨3, ![1, 1024, 8192]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S8x4096x2816 : Shape := ⟨3, ![8, 4096, 2816]⟩
abbrev S32768x1024 : Shape := ⟨2, ![32768, 1024]⟩
abbrev S1024x8192 : Shape := ⟨2, ![1024, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024x8192, .f32⟩
  | .hbm, ⟨6, _⟩ => ⟨S1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S1024x2816, .f32⟩
  | .hbm, ⟨25, _⟩ => ⟨S1024x2816, .f32⟩
  | .hbm, ⟨26, _⟩ => ⟨S2816x1024, .f32⟩
  | .hbm, ⟨27, _⟩ => ⟨S8x4096x2816, .f32⟩
  | .hbm, ⟨28, _⟩ => ⟨S8x4096x2816, .f32⟩
  | .hbm, ⟨29, _⟩ => ⟨S8x4096x2816, .f32⟩
  | .hbm, ⟨30, _⟩ => ⟨S_, .f32⟩
  | .hbm, ⟨31, _⟩ => ⟨S8x4096x2816, .f32⟩
  | .hbm, ⟨32, _⟩ => ⟨S8x4096x2816, .f32⟩
  | .hbm, ⟨33, _⟩ => ⟨S_, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S32768x1024, .f32⟩
  | .hbm, ⟨45, _⟩ => ⟨S1024x8192, .f32⟩
  | .hbm, ⟨46, _⟩ => ⟨S1024x8192, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Kernel2.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 17
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S32768x1024, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S8x4096x2816 : Shape := ⟨3, ![8, 4096, 2816]⟩
abbrev S32768x1024 : Shape := ⟨2, ![32768, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S8x4096x2816, .f32⟩
  | .hbm, ⟨27, _⟩ => ⟨S8x4096x2816, .f32⟩
  | .hbm, ⟨28, _⟩ => ⟨S8x4096x2816, .f32⟩
  | .hbm, ⟨29, _⟩ => ⟨S_, .f32⟩
  | .hbm, ⟨30, _⟩ => ⟨S8x4096x2816, .f32⟩
  | .hbm, ⟨31, _⟩ => ⟨S8x4096x2816, .f32⟩
  | .hbm, ⟨32, _⟩ => ⟨S_, .f32⟩
  | .hbm, ⟨33, _⟩ => ⟨S8x4096x2816, .f32⟩
  | .hbm, ⟨34, _⟩ => ⟨S8x4096x2816, .f32⟩
  | .hbm, ⟨35, _⟩ => ⟨S8x4096x2816, .f32⟩
  | .hbm, ⟨36, _⟩ => ⟨S8x4096x2816, .f32⟩
  | .hbm, ⟨37, _⟩ => ⟨S8x4096x2816, .f32⟩
  | .hbm, ⟨38, _⟩ => ⟨S8x4096x1024, .f32⟩
  | .hbm, ⟨39, _⟩ => ⟨S_, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x1, .f32⟩
  | .hbm, ⟨54, _⟩ => ⟨S8x4096x1024, .f32⟩
  | .hbm, ⟨55, _⟩ => ⟨S8x4096x1024, .f32⟩
  | .hbm, ⟨56, _⟩ => ⟨S1x1x1024, .f32⟩
  | .hbm, ⟨57, _⟩ => ⟨S8x4096x1024, .f32⟩
  | .hbm, ⟨58, _⟩ => ⟨S8x4096x1024, .f32⟩
  | .hbm, ⟨59, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel3.lean ====
abbrev S8x4096x8x128 : Shape := ⟨4, ![8, 4096, 8, 128]⟩
abbrev S8x4096x2x128 : Shape := ⟨4, ![8, 4096, 2, 128]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S8x4096x1024 : Shape := ⟨3, ![8, 4096, 1024]⟩
abbrev S8x4096x256 : Shape := ⟨3, ![8, 4096, 256]⟩
abbrev S8x256x4096 : Shape := ⟨3, ![8, 256, 4096]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S1x4096x512 : Shape := ⟨3, ![1, 4096, 512]⟩
abbrev S1x4096x128 : Shape := ⟨3, ![1, 4096, 128]⟩
abbrev S1x128x4096 : Shape := ⟨3, ![1, 128, 4096]⟩
abbrev S32x1024 : Shape := ⟨2, ![32, 1024]⟩
abbrev S64x1024 : Shape := ⟨2, ![64, 1024]⟩
abbrev S64x2816 : Shape := ⟨2, ![64, 2816]⟩
abbrev S176x1024 : Shape := ⟨2, ![176, 1024]⟩
abbrev S4x4096x256 : Shape := ⟨3, ![4, 4096, 256]⟩
abbrev S1x256x128 : Shape := ⟨3, ![1, 256, 128]⟩
abbrev S256x128 : Shape := ⟨2, ![256, 128]⟩
abbrev S8x256 : Shape := ⟨2, ![8, 256]⟩
abbrev S1x512x128 : Shape := ⟨3, ![1, 512, 128]⟩
abbrev S512x128 : Shape := ⟨2, ![512, 128]⟩
abbrev S512x256 : Shape := ⟨2, ![512, 256]⟩
abbrev S1x512x256 : Shape := ⟨3, ![1, 512, 256]⟩
abbrev S64x8x256 : Shape := ⟨3, ![64, 8, 256]⟩
abbrev S256 : Shape := ⟨1, ![256]⟩
abbrev S1x256 : Shape := ⟨2, ![1, 256]⟩
abbrev S128x4096 : Shape := ⟨2, ![128, 4096]⟩
abbrev S1x4096x256 : Shape := ⟨3, ![1, 4096, 256]⟩
abbrev S4096x256 : Shape := ⟨2, ![4096, 256]⟩
abbrev S128x256 : Shape := ⟨2, ![128, 256]⟩

abbrev nBuf : Space → Nat
  | .hbm => 28
  | .vmem => 34
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x2x128, .f32⟩
  | .hbm, ⟨2, _⟩ => ⟨S8x4096x2x128, .f32⟩
  | .hbm, ⟨3, _⟩ => ⟨S1x512x1024, .f32⟩
  | .hbm, ⟨4, _⟩ => ⟨S1x1024x1024, .f32⟩
  | .hbm, ⟨5, _⟩ => ⟨S1x1024x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S8x4096x1024, .f32⟩
  | .hbm, ⟨10, _⟩ => ⟨S8x4096x256, .f32⟩
  | .hbm, ⟨11, _⟩ => ⟨S8x4096x256, .bf16⟩
  | .hbm, ⟨12, _⟩ => ⟨S8x4096x256, .f32⟩
  | .hbm, ⟨13, _⟩ => ⟨S8x256x4096, .f32⟩
  | .hbm, ⟨14, _⟩ => ⟨S8x256x4096, .bf16⟩
  | .hbm, ⟨15, _⟩ => ⟨S512x1024, .f32⟩
  | .hbm, ⟨16, _⟩ => ⟨S1024x1024, .f32⟩
  | .hbm, ⟨17, _⟩ => ⟨S1024x1024, .f32⟩
  | .hbm, ⟨18, _⟩ => ⟨S1024x2816, .f32⟩
  | .hbm, ⟨19, _⟩ => ⟨S1024x2816, .f32⟩
  | .hbm, ⟨20, _⟩ => ⟨S2816x1024, .f32⟩
  | .hbm, ⟨21, _⟩ => ⟨S8x4096x1024, .bf16⟩
  | .hbm, ⟨22, _⟩ => ⟨S512x1024, .bf16⟩
  | .hbm, ⟨23, _⟩ => ⟨S1024x1024, .bf16⟩
  | .hbm, ⟨24, _⟩ => ⟨S1024x1024, .bf16⟩
  | .hbm, ⟨25, _⟩ => ⟨S1024x2816, .bf16⟩
  | .hbm, ⟨26, _⟩ => ⟨S1024x2816, .bf16⟩
  | .hbm, ⟨27, _⟩ => ⟨S2816x1024, .bf16⟩
  | .local _ .vmem, ⟨0, _⟩ => ⟨S1x4096x512, .f32⟩
  | .local _ .vmem, ⟨1, _⟩ => ⟨S1x4096x512, .f32⟩
  | .local _ .vmem, ⟨2, _⟩ => ⟨S1x4096x128, .bf16⟩
  | .local _ .vmem, ⟨3, _⟩ => ⟨S1x4096x128, .bf16⟩
  | .local _ .vmem, ⟨4, _⟩ => ⟨S1x128x4096, .bf16⟩
  | .local _ .vmem, ⟨5, _⟩ => ⟨S1x128x4096, .bf16⟩
  | .local _ .vmem, ⟨6, _⟩ => ⟨S32x1024, .f32⟩
  | .local _ .vmem, ⟨7, _⟩ => ⟨S32x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | .local _ .vmem, ⟨16, _⟩ => ⟨S176x1024, .f32⟩
  | .local _ .vmem, ⟨17, _⟩ => ⟨S176x1024, .f32⟩
  | .local _ .vmem, ⟨18, _⟩ => ⟨S1x4096x512, .bf16⟩
  | .local _ .vmem, ⟨19, _⟩ => ⟨S1x4096x512, .bf16⟩
  | .local _ .vmem, ⟨20, _⟩ => ⟨S32x1024, .bf16⟩
  | .local _ .vmem, ⟨21, _⟩ => ⟨S32x1024, .bf16⟩
  | .local _ .vmem, ⟨22, _⟩ => ⟨S64x1024, .bf16⟩
  | .local _ .vmem, ⟨23, _⟩ => ⟨S64x1024, .bf16⟩
  | .local _ .vmem, ⟨24, _⟩ => ⟨S64x1024, .bf16⟩
  | .local _ .vmem, ⟨25, _⟩ => ⟨S64x1024, .bf16⟩
  | .local _ .vmem, ⟨26, _⟩ => ⟨S64x2816, .bf16⟩
  | .local _ .vmem, ⟨27, _⟩ => ⟨S64x2816, .bf16⟩
  | .local _ .vmem, ⟨28, _⟩ => ⟨S64x2816, .bf16⟩
  | .local _ .vmem, ⟨29, _⟩ => ⟨S64x2816, .bf16⟩
  | .local _ .vmem, ⟨30, _⟩ => ⟨S176x1024, .bf16⟩
  | .local _ .vmem, ⟨31, _⟩ => ⟨S176x1024, .bf16⟩
  | .local _ .vmem, ⟨32, _⟩ => ⟨S4x4096x256, .f32⟩
  | .local _ .vmem, ⟨33, _⟩ => ⟨S4x4096x256, .bf16⟩
  | _, _ => ⟨S8x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev main_v12_6 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![8, 2], ![false, false]⟩

def k0_mult1 : BitVec 32 :=
  let c0_i32 : BitVec 32 := 0#32
  c0_i32
@[reducible] def k0_t1_loop : Scf.Loop 32 :=
  let c0_i32_83 : BitVec 32 := 0#32
  let c16_i32 : BitVec 32 := 16#32
  let v104 : BitVec 32 := Scalar.addi c0_i32_83 c16_i32
  let c1_i32 : BitVec 32 := 1#32
  ⟨c0_i32_83, v104, c1_i32⟩
def k0_mult2 (k0_t1 : Fin k0_t1_loop.trips) : BitVec 32 :=
  let c0_i32_83 : BitVec 32 := 0#32
  let c1_i32 : BitVec 32 := 1#32
  let arg20 : BitVec 32 := Scf.iv c0_i32_83 c1_i32 k0_t1
  let c256_i32 : BitVec 32 := 256#32
  let v106 : BitVec 32 := Scalar.muli arg20 c256_i32
  v106
def k0_off1 (k0_t1 : Fin k0_t1_loop.trips) : Fin 3 → Nat :=
  let c0_85 : Index := 0#32
  let c0_i32_83 : BitVec 32 := 0#32
  let c1_i32 : BitVec 32 := 1#32
  let arg20 : BitVec 32 := Scf.iv c0_i32_83 c1_i32 k0_t1
  let c256_i32 : BitVec 32 := 256#32
  let v106 : BitVec 32 := Scalar.muli arg20 c256_i32
  let v107 : BitVec 32 := v106
  let v108 : Index := Scalar.indexCast v107
  let c128 : Index := 128#32
  ![0, v108.toNat, 128]
def k0_mult3 (k0_t1 : Fin k0_t1_loop.trips) : BitVec 32 :=
  let c0_i32_83 : BitVec 32 := 0#32
  let c1_i32 : BitVec 32 := 1#32
  let arg20 : BitVec 32 := Scf.iv c0_i32_83 c1_i32 k0_t1
  let c256_i32_151 : BitVec 32 := 256#32
  let v187 : BitVec 32 := Scalar.muli arg20 c256_i32_151
  v187
def k0_off2 (k0_t1 : Fin k0_t1_loop.trips) : Fin 3 → Nat :=
  let c0_218 : Index := 0#32
  let c0_i32_83 : BitVec 32 := 0#32
  let c1_i32 : BitVec 32 := 1#32
  let arg20 : BitVec 32 := Scf.iv c0_i32_83 c1_i32 k0_t1
  let c256_i32_151 : BitVec 32 := 256#32
  let v187 : BitVec 32 := Scalar.muli arg20 c256_i32_151
  let v188 : BitVec 32 := v187
  let v299 : Index := Scalar.indexCast v188
  let c0_219 : Index := 0#32
  ![0, v299.toNat, 0]
def k0_mult4 (k0_t1 : Fin k0_t1_loop.trips) : BitVec 32 :=
  let c0_i32_83 : BitVec 32 := 0#32
  let c1_i32 : BitVec 32 := 1#32
  let arg20 : BitVec 32 := Scf.iv c0_i32_83 c1_i32 k0_t1
  let c256_i32_220 : BitVec 32 := 256#32
  let v303 : BitVec 32 := Scalar.muli arg20 c256_i32_220
  v303
def k0_off3 (k0_t1 : Fin k0_t1_loop.trips) : Fin 3 → Nat :=
  let c0_221 : Index := 0#32
  let c0_i32_83 : BitVec 32 := 0#32
  let c1_i32 : BitVec 32 := 1#32
  let arg20 : BitVec 32 := Scf.iv c0_i32_83 c1_i32 k0_t1
  let c256_i32_220 : BitVec 32 := 256#32
  let v303 : BitVec 32 := Scalar.muli arg20 c256_i32_220
  let v304 : BitVec 32 := v303
  let v305 : Index := Scalar.indexCast v304
  let c256 : Index := 256#32
  ![0, v305.toNat, 256]
def k0_mult5 (k0_t1 : Fin k0_t1_loop.trips) : BitVec 32 :=
  let c0_i32_83 : BitVec 32 := 0#32
  let c1_i32 : BitVec 32 := 1#32
  let arg20 : BitVec 32 := Scf.iv c0_i32_83 c1_i32 k0_t1
  let c256_i32_287 : BitVec 32 := 256#32
  let v384 : BitVec 32 := Scalar.muli arg20 c256_i32_287
  v384
def k0_mult6 (k0_t1 : Fin k0_t1_loop.trips) : BitVec 32 :=
  let c0_i32_83 : BitVec 32 := 0#32
  let c1_i32 : BitVec 32 := 1#32
  let arg20 : BitVec 32 := Scf.iv c0_i32_83 c1_i32 k0_t1
  let c256_i32_356 : BitVec 32 := 256#32
  let v500 : BitVec 32 := Scalar.muli arg20 c256_i32_356
  v500
def k0_off4 (k0_t1 : Fin k0_t1_loop.trips) : Fin 3 → Nat :=
  let c0_357 : Index := 0#32
  let c0_i32_83 : BitVec 32 := 0#32
  let c1_i32 : BitVec 32 := 1#32
  let arg20 : BitVec 32 := Scf.iv c0_i32_83 c1_i32 k0_t1
  let c256_i32_356 : BitVec 32 := 256#32
  let v500 : BitVec 32 := Scalar.muli arg20 c256_i32_356
  let v501 : BitVec 32 := v500
  let v502 : Index := Scalar.indexCast v501
  let c384 : Index := 384#32
  ![0, v502.toNat, 384]
def k0_mult7 (k0_t1 : Fin k0_t1_loop.trips) : BitVec 32 :=
  let c0_i32_83 : BitVec 32 := 0#32
  let c1_i32 : BitVec 32 := 1#32
  let arg20 : BitVec 32 := Scf.iv c0_i32_83 c1_i32 k0_t1
  let c256_i32_423 : BitVec 32 := 256#32
  let v581 : BitVec 32 := Scalar.muli arg20 c256_i32_423
  v581
def k0_mult8 (k0_t1 : Fin k0_t1_loop.trips) : BitVec 32 :=
  let c0_i32_83 : BitVec 32 := 0#32
  let c1_i32 : BitVec 32 := 1#32
  let arg20 : BitVec 32 := Scf.iv c0_i32_83 c1_i32 k0_t1
  let c1_i32_492 : BitVec 32 := 1#32
  let v697 : BitVec 32 := Scalar.addi arg20 c1_i32_492
  let c15_i32 : BitVec 32 := 15#32
  let v698 : BitVec 32 := Scalar.minsi v697 c15_i32
  let c256_i32_493 : BitVec 32 := 256#32
  let v699 : BitVec 32 := Scalar.muli v698 c256_i32_493
  v699
def k0_off5 (k0_t1 : Fin k0_t1_loop.trips) : Fin 3 → Nat :=
  let c0_494 : Index := 0#32
  let c0_i32_83 : BitVec 32 := 0#32
  let c1_i32 : BitVec 32 := 1#32
  let arg20 : BitVec 32 := Scf.iv c0_i32_83 c1_i32 k0_t1
  let c1_i32_492 : BitVec 32 := 1#32
  let v697 : BitVec 32 := Scalar.addi arg20 c1_i32_492
  let c15_i32 : BitVec 32 := 15#32
  let v698 : BitVec 32 := Scalar.minsi v697 c15_i32
  let c256_i32_493 : BitVec 32 := 256#32
  let v699 : BitVec 32 := Scalar.muli v698 c256_i32_493
  let v700 : BitVec 32 := v699
  let v701 : Index := Scalar.indexCast v700
  let c0_495 : Index := 0#32
  ![0, v701.toNat, 0]
def k0_mult9 (k0_t1 : Fin k0_t1_loop.trips) : BitVec 32 :=
  let c0_i32_83 : BitVec 32 := 0#32
  let c1_i32 : BitVec 32 := 1#32
  let arg20 : BitVec 32 := Scf.iv c0_i32_83 c1_i32 k0_t1
  let c256_i32_562 : BitVec 32 := 256#32
  let v780 : BitVec 32 := Scalar.muli arg20 c256_i32_562
  v780
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S176x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel3Ideal.lean ====
variable {F : FTy → Type} [FloatOps F] [Named F]
def κ : String → Option EReal := fun
  | "scale_log2e" => some (((11863283 / 134217728) * (Real.log 2)⁻¹ : ℝ) : EReal)
  | _ => none
-- ==== Reference3Ideal.lean ====
abbrev S8x4096x8x128 : Shape := ⟨4, ![8, 4096, 8, 128]⟩
abbrev S8x4096x2x128 : Shape := ⟨4, ![8, 4096, 2, 128]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S8x4096x2x4x128 : Shape := ⟨5, ![8, 4096, 2, 4, 128]⟩
abbrev S8x2x4096x4096x4 : Shape := ⟨5, ![8, 2, 4096, 4096, 4]⟩
abbrev S8x2x4x4096x4096 : Shape := ⟨5, ![8, 2, 4, 4096, 4096]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x128x4x4096 : Shape := ⟨5, ![8, 2, 128, 4, 4096]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S8x4096x1024 : Shape := ⟨3, ![8, 4096, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x2x128, .f32⟩
  | .hbm, ⟨2, _⟩ => ⟨S8x4096x2x128, .f32⟩
  | .hbm, ⟨3, _⟩ => ⟨S1x512x1024, .f32⟩
  | .hbm, ⟨4, _⟩ => ⟨S1x1024x1024, .f32⟩
  | .hbm, ⟨5, _⟩ => ⟨S1x1024x1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S8x4096x2x4x128, .f32⟩
  | .hbm, ⟨10, _⟩ => ⟨S8x2x4096x4096x4, .f32⟩
  | .hbm, ⟨11, _⟩ => ⟨S8x2x4x4096x4096, .f32⟩
  | .hbm, ⟨12, _⟩ => ⟨S_, .f32⟩
  | .hbm, ⟨13, _⟩ => ⟨S8x2x4x4096x4096, .f32⟩
  | .hbm, ⟨14, _⟩ => ⟨S8x2x4x4096x4096, .f32⟩
  | .hbm, ⟨15, _⟩ => ⟨S_, .f32⟩
  | .hbm, ⟨16, _⟩ => ⟨S8x2x4x4096, .f32⟩
  | .hbm, ⟨17, _⟩ => ⟨S_, .f32⟩
  | .hbm, ⟨18, _⟩ => ⟨S8x2x4x4096, .f32⟩
  | .hbm, ⟨19, _⟩ => ⟨S8x2x4x4096, .f32⟩
  | .hbm, ⟨20, _⟩ => ⟨S8x2x4x4096x1, .f32⟩
  | .hbm, ⟨21, _⟩ => ⟨S8x2x4x4096x4096, .f32⟩
  | .hbm, ⟨22, _⟩ => ⟨S8x2x4x4096x4096, .f32⟩
  | .hbm, ⟨23, _⟩ => ⟨S8x2x4x4096x4096, .f32⟩
  | .hbm, ⟨24, _⟩ => ⟨S_, .f32⟩
  | .hbm, ⟨25, _⟩ => ⟨S8x2x4x4096, .f32⟩
  | .hbm, ⟨26, _⟩ => ⟨S8x2x4x4096x1, .f32⟩
  | .hbm, ⟨27, _⟩ => ⟨S8x2x4x4096x4096, .f32⟩
  | .hbm, ⟨28, _⟩ => ⟨S8x2x4x4096x4096, .f32⟩
  | .hbm, ⟨29, _⟩ => ⟨S8x2x128x4x4096, .f32⟩
  | .hbm, ⟨30, _⟩ => ⟨S8x4096x2x4x128, .f32⟩
  | .hbm, ⟨31, _⟩ => ⟨S512x1024, .f32⟩
  | .hbm, ⟨32, _⟩ => ⟨S512x1024, .bf16⟩
  | .hbm, ⟨33, _⟩ => ⟨S1024x1024, .f32⟩
  | .hbm, ⟨34, _⟩ => ⟨S1024x1024, .bf16⟩
  | .hbm, ⟨35, _⟩ => ⟨S1024x1024, .f32⟩
  | .hbm, ⟨36, _⟩ => ⟨S1024x1024, .bf16⟩
  | .hbm, ⟨37, _⟩ => ⟨S1024x2816, .f32⟩
  | .hbm, ⟨38, _⟩ => ⟨S1024x2816, .bf16⟩
  | .hbm, ⟨39, _⟩ => ⟨S1024x2816, .f32⟩
  | .hbm, ⟨40, _⟩ => ⟨S1024x2816, .bf16⟩
  | .hbm, ⟨41, _⟩ => ⟨S2816x1024, .f32⟩
  | .hbm, ⟨42, _⟩ => ⟨S2816x1024, .bf16⟩
  | .hbm, ⟨43, _⟩ => ⟨S8x4096x1024, .f32⟩
  | .hbm, ⟨44, _⟩ => ⟨S8x4096x1024, .bf16⟩
  | _, _ => ⟨S8x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel4.lean ====
abbrev S8x4096x1024 : Shape := ⟨3, ![8, 4096, 1024]⟩
abbrev S1x1024 : Shape := ⟨2, ![1, 1024]⟩
abbrev S1x1024x8192 : Shape := ⟨3, ![1, 1024, 8192]⟩
abbrev S1x2048 : Shape := ⟨2, ![1, 2048]⟩
abbrev S1x128 : Shape := ⟨2, ![1, 128]⟩
abbrev S4096x64 : Shape := ⟨2, ![4096, 64]⟩
abbrev S4096x64x2 : Shape := ⟨3, ![4096, 64, 2]⟩
abbrev S4096x128 : Shape := ⟨2, ![4096, 128]⟩
abbrev S4096x64x1 : Shape := ⟨3, ![4096, 64, 1]⟩
abbrev S1024 : Shape := ⟨1, ![1024]⟩
abbrev S1024x8192 : Shape := ⟨2, ![1024, 8192]⟩
abbrev S2048 : Shape := ⟨1, ![2048]⟩
abbrev S128 : Shape := ⟨1, ![128]⟩
abbrev S8x1x4096x1536 : Shape := ⟨4, ![8, 1, 4096, 1536]⟩
abbrev S8x4x1024x1536 : Shape := ⟨4, ![8, 4, 1024, 1536]⟩
abbrev S8x16x256x1536 : Shape := ⟨4, ![8, 16, 256, 1536]⟩
abbrev S8x4096x256 : Shape := ⟨3, ![8, 4096, 256]⟩
abbrev S8x256x4096 : Shape := ⟨3, ![8, 256, 4096]⟩
abbrev S8x4096x2048 : Shape := ⟨3, ![8, 4096, 2048]⟩
abbrev S1x512x1024 : Shape := ⟨3, ![1, 512, 1024]⟩
abbrev S512x128 : Shape := ⟨2, ![512, 128]⟩
abbrev S1x1x512x1536 : Shape := ⟨4, ![1, 1, 512, 1536]⟩
abbrev S1x4x128x1536 : Shape := ⟨4, ![1, 4, 128, 1536]⟩
abbrev S1x16x32x1536 : Shape := ⟨4, ![1, 16, 32, 1536]⟩
abbrev S1x512x256 : Shape := ⟨3, ![1, 512, 256]⟩
abbrev S1x256x512 : Shape := ⟨3, ![1, 256, 512]⟩
abbrev S1x512x2048 : Shape := ⟨3, ![1, 512, 2048]⟩
abbrev S2x8x512x128 : Shape := ⟨4, ![2, 8, 512, 128]⟩
abbrev S3x512x1024 : Shape := ⟨3, ![3, 512, 1024]⟩
abbrev S512x1024 : Shape := ⟨2, ![512, 1024]⟩
abbrev S512 : Shape := ⟨1, ![512]⟩
abbrev S512x1 : Shape := ⟨2, ![512, 1]⟩
abbrev S1x1x512x128 : Shape := ⟨4, ![1, 1, 512, 128]⟩
abbrev S1x1x128x128 : Shape := ⟨4, ![1, 1, 128, 128]⟩
abbrev S128x128 : Shape := ⟨2, ![128, 128]⟩
abbrev S1x128x128 : Shape := ⟨3, ![1, 128, 128]⟩
abbrev S1x1x32x128 : Shape := ⟨4, ![1, 1, 32, 128]⟩
abbrev S32x128 : Shape := ⟨2, ![32, 128]⟩
abbrev S1x32x128 : Shape := ⟨3, ![1, 32, 128]⟩
abbrev S1024x256 : Shape := ⟨2, ![1024, 256]⟩
abbrev S512x256 : Shape := ⟨2, ![512, 256]⟩
abbrev S1x256 : Shape := ⟨2, ![1, 256]⟩
abbrev S1x512x128 : Shape := ⟨3, ![1, 512, 128]⟩
abbrev S256x512 : Shape := ⟨2, ![256, 512]⟩
abbrev S16x32x256 : Shape := ⟨3, ![16, 32, 256]⟩
abbrev S1x16x32x256 : Shape := ⟨4, ![1, 16, 32, 256]⟩
abbrev S4x128x256 : Shape := ⟨3, ![4, 128, 256]⟩
abbrev S1x4x128x256 : Shape := ⟨4, ![1, 4, 128, 256]⟩
abbrev S1x1x512x256 : Shape := ⟨4, ![1, 1, 512, 256]⟩

abbrev nBuf : Space → Nat
  | .hbm => 32
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x8192, .f32⟩
  | .hbm, ⟨3, _⟩ => ⟨S1x2048, .f32⟩
  | .hbm, ⟨4, _⟩ => ⟨S1x128, .f32⟩
  | .hbm, ⟨5, _⟩ => ⟨S1x128, .f32⟩
  | .hbm, ⟨6, _⟩ => ⟨S4096x64, .f32⟩
  | .hbm, ⟨7, _⟩ => ⟨S4096x64, .f32⟩
  | .hbm, ⟨8, _⟩ => ⟨S4096x64x2, .f32⟩
  | .hbm, ⟨9, _⟩ => ⟨S4096x128, .f32⟩
  | .hbm, ⟨10, _⟩ => ⟨S4096x64, .f32⟩
  | .hbm, ⟨11, _⟩ => ⟨S4096x64x1, .f32⟩
  | .hbm, ⟨12, _⟩ => ⟨S4096x64x1, .f32⟩
  | .hbm, ⟨13, _⟩ => ⟨S4096x64x2, .f32⟩
  | .hbm, ⟨14, _⟩ => ⟨S4096x128, .f32⟩
  | .hbm, ⟨15, _⟩ => ⟨S1024, .f32⟩
  | .hbm, ⟨16, _⟩ => ⟨S1x1024, .f32⟩
  | .hbm, ⟨17, _⟩ => ⟨S1024x8192, .f32⟩
  | .hbm, ⟨18, _⟩ => ⟨S1024x8192, .bf16⟩
  | .hbm, ⟨19, _⟩ => ⟨S2048, .f32⟩
  | .hbm, ⟨20, _⟩ => ⟨S1x2048, .f32⟩
  | .hbm, ⟨21, _⟩ => ⟨S128, .f32⟩
  | .hbm, ⟨22, _⟩ => ⟨S1x128, .f32⟩
  | .hbm, ⟨23, _⟩ => ⟨S128, .f32⟩
  | .hbm, ⟨24, _⟩ => ⟨S1x128, .f32⟩
  | .hbm, ⟨25, _⟩ => ⟨S8x1x4096x1536, .bf16⟩
  | .hbm, ⟨26, _⟩ => ⟨S8x4x1024x1536, .bf16⟩
  | .hbm, ⟨27, _⟩ => ⟨S8x16x256x1536, .bf16⟩
  | .hbm, ⟨28, _⟩ => ⟨S8x4096x1024, .bf16⟩
  | .hbm, ⟨29, _⟩ => ⟨S8x4096x256, .bf16⟩
  | .hbm, ⟨30, _⟩ => ⟨S8x256x4096, .bf16⟩
  | .hbm, ⟨31, _⟩ => ⟨S8x4096x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x8192, .bf16⟩
  | .local _ .vmem, ⟨4, _⟩ => ⟨S1x2048, .f32⟩
  | .local _ .vmem, ⟨5, _⟩ => ⟨S1x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x1x512x1536, .bf16⟩
  | .local _ .vmem, ⟨12, _⟩ => ⟨S1x1x512x1536, .bf16⟩
  | .local _ .vmem, ⟨13, _⟩ => ⟨S1x4x128x1536, .bf16⟩
  | .local _ .vmem, ⟨14, _⟩ => ⟨S1x4x128x1536, .bf16⟩
  | .local _ .vmem, ⟨15, _⟩ => ⟨S1x16x32x1536, .bf16⟩
  | .local _ .vmem, ⟨16, _⟩ => ⟨S1x16x32x1536, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x256, .bf16⟩
  | .local _ .vmem, ⟨20, _⟩ => ⟨S1x512x256, .bf16⟩
  | .local _ .vmem, ⟨21, _⟩ => ⟨S1x256x512, .bf16⟩
  | .local _ .vmem, ⟨22, _⟩ => ⟨S1x256x512, .bf16⟩
  | .local _ .vmem, ⟨23, _⟩ => ⟨S1x512x2048, .bf16⟩
  | .local _ .vmem, ⟨24, _⟩ => ⟨S1x512x2048, .bf16⟩
  | .local _ .vmem, ⟨25, _⟩ => ⟨S2x8x512x128, .f32⟩
  | .local _ .vmem, ⟨26, _⟩ => ⟨S3x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev main_v17_5 : Ref sig .tc := ⟨.hbm, 30, rfl⟩
abbrev main_v17_6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x128x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x32x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S8x4096x1024 : Shape := ⟨3, ![8, 4096, 1024]⟩
abbrev S1x1024 : Shape := ⟨2, ![1, 1024]⟩
abbrev S1x1024x8192 : Shape := ⟨3, ![1, 1024, 8192]⟩
abbrev S1x2048 : Shape := ⟨2, ![1, 2048]⟩
abbrev S1x128 : Shape := ⟨2, ![1, 128]⟩
abbrev S4096x64 : Shape := ⟨2, ![4096, 64]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x8192 : Shape := ⟨2, ![1024, 8192]⟩
abbrev S8x4096x8192 : Shape := ⟨3, ![8, 4096, 8192]⟩
abbrev S8x4096x4608 : Shape := ⟨3, ![8, 4096, 4608]⟩
abbrev S8x4096x256 : Shape := ⟨3, ![8, 4096, 256]⟩
abbrev S8x4096x2048 : Shape := ⟨3, ![8, 4096, 2048]⟩
abbrev S8x4096x3x3x512 : Shape := ⟨5, ![8, 4096, 3, 3, 512]⟩
abbrev S8x4096x1x3x512 : Shape := ⟨5, ![8, 4096, 1, 3, 512]⟩
abbrev S8x4096x2x3x512 : Shape := ⟨5, ![8, 4096, 2, 3, 512]⟩
abbrev S8x4096x3x1x512 : Shape := ⟨5, ![8, 4096, 3, 1, 512]⟩
abbrev S8x4096x3x512 : Shape := ⟨4, ![8, 4096, 3, 512]⟩
abbrev S8x4096x1x1536 : Shape := ⟨4, ![8, 4096, 1, 1536]⟩
abbrev S8x1x4096x1536 : Shape := ⟨4, ![8, 1, 4096, 1536]⟩
abbrev S8x1024x4x1536 : Shape := ⟨4, ![8, 1024, 4, 1536]⟩
abbrev S8x4x1024x1536 : Shape := ⟨4, ![8, 4, 1024, 1536]⟩
abbrev S8x256x16x1536 : Shape := ⟨4, ![8, 256, 16, 1536]⟩
abbrev S8x16x256x1536 : Shape := ⟨4, ![8, 16, 256, 1536]⟩
abbrev S8x4096x8x128 : Shape := ⟨4, ![8, 4096, 8, 128]⟩
abbrev S128 : Shape := ⟨1, ![128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x8x64x2 : Shape := ⟨5, ![8, 4096, 8, 64, 2]⟩
abbrev S8x4096x8x64x1 : Shape := ⟨5, ![8, 4096, 8, 64, 1]⟩
abbrev S8x4096x8x64 : Shape := ⟨4, ![8, 4096, 8, 64]⟩
abbrev S1x4096x1x64 : Shape := ⟨4, ![1, 4096, 1, 64]⟩
abbrev S8x4096x2x128 : Shape := ⟨4, ![8, 4096, 2, 128]⟩
abbrev S8x4096x2 : Shape := ⟨3, ![8, 4096, 2]⟩
abbrev S8x4096x2x1 : Shape := ⟨4, ![8, 4096, 2, 1]⟩
abbrev S8x4096x2x64x2 : Shape := ⟨5, ![8, 4096, 2, 64, 2]⟩
abbrev S8x4096x2x64x1 : Shape := ⟨5, ![8, 4096, 2, 64, 1]⟩
abbrev S8x4096x2x64 : Shape := ⟨4, ![8, 4096, 2, 64]⟩
abbrev S2048 : Shape := ⟨1, ![2048]⟩
abbrev S1x1x2048 : Shape := ⟨3, ![1, 1, 2048]⟩
abbrev S8x256x4096 : Shape := ⟨3, ![8, 256, 4096]⟩

abbrev nBuf : Space → Nat
  | .hbm => 151
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x8192, .f32⟩
  | 3 => ⟨S1x2048, .f32⟩
  | 4 => ⟨S1x128, .f32⟩
  | 5 => ⟨S1x128, .f32⟩
  | 6 => ⟨S4096x64, .f32⟩
  | 7 => ⟨S4096x64, .f32⟩
  | 8 => ⟨S1024, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S1024x8192, .f32⟩
  | 26 => ⟨S8x4096x8192, .f32⟩
  | 27 => ⟨S8x4096x4608, .f32⟩
  | 28 => ⟨S8x4096x1024, .f32⟩
  | 29 => ⟨S8x4096x256, .f32⟩
  | 30 => ⟨S8x4096x256, .f32⟩
  | 31 => ⟨S8x4096x2048, .f32⟩
  | 32 => ⟨S8x4096x3x3x512, .f32⟩
  | 33 => ⟨S8x4096x1x3x512, .f32⟩
  | 34 => ⟨S_, .f32⟩
  | 35 => ⟨S8x4096x1x3x512, .f32⟩
  | 36 => ⟨S8x4096x1x3x512, .f32⟩
  | 37 => ⟨S8x4096x2x3x512, .f32⟩
  | 38 => ⟨S8x4096x3x3x512, .f32⟩
  | 39 => ⟨S8x4096x3x1x512, .f32⟩
  | 40 => ⟨S8x4096x3x512, .f32⟩
  | 41 => ⟨S8x4096x1x1536, .f32⟩
  | 42 => ⟨S8x1x4096x1536, .f32⟩
  | 43 => ⟨S8x4096x3x1x512, .f32⟩
  | 44 => ⟨S8x4096x3x512, .f32⟩
  | 45 => ⟨S8x1024x4x1536, .f32⟩
  | 46 => ⟨S8x4x1024x1536, .f32⟩
  | 47 => ⟨S8x4096x3x1x512, .f32⟩
  | 48 => ⟨S8x4096x3x512, .f32⟩
  | 49 => ⟨S8x256x16x1536, .f32⟩
  | 50 => ⟨S8x16x256x1536, .f32⟩
  | 51 => ⟨S8x4096x8x128, .f32⟩
  | 52 => ⟨S128, .f32⟩
  | 53 => ⟨S8x4096x8x128, .f32⟩
  | 54 => ⟨S_, .f32⟩
  | 55 => ⟨S8x4096x8, .f32⟩
  | 56 => ⟨S8x4096x8x1, .f32⟩
  | 57 => ⟨S_, .f32⟩
  | 58 => ⟨S8x4096x8x1, .f32⟩
  | 59 => ⟨S8x4096x8x1, .f32⟩
  | 60 => ⟨S_, .f32⟩
  | 61 => ⟨S8x4096x8x1, .f32⟩
  | 62 => ⟨S8x4096x8x1, .f32⟩
  | 63 => ⟨S8x4096x8x1, .f32⟩
  | 64 => ⟨S8x4096x8x128, .f32⟩
  | 65 => ⟨S8x4096x8x128, .f32⟩
  | 66 => ⟨S1x1x1x128, .f32⟩
  | 67 => ⟨S8x4096x8x128, .f32⟩
  | 68 => ⟨S8x4096x8x128, .f32⟩
  | 69 => ⟨S8x4096x8x64x2, .f32⟩
  | 70 => ⟨S8x4096x8x64x1, .f32⟩
  | 71 => ⟨S8x4096x8x64, .f32⟩
  | 72 => ⟨S8x4096x8x64x1, .f32⟩
  | 73 => ⟨S8x4096x8x64, .f32⟩
  | 74 => ⟨S1x4096x1x64, .f32⟩
  | 75 => ⟨S1x4096x1x64, .f32⟩
  | 76 => ⟨S8x4096x8x64, .f32⟩
  | 77 => ⟨S8x4096x8x64, .f32⟩
  | 78 => ⟨S8x4096x8x64, .f32⟩
  | 79 => ⟨S8x4096x8x64, .f32⟩
  | 80 => ⟨S8x4096x8x64, .f32⟩
  | 81 => ⟨S8x4096x8x64, .f32⟩
  | 82 => ⟨S8x4096x8x64, .f32⟩
  | 83 => ⟨S8x4096x8x64, .f32⟩
  | 84 => ⟨S8x4096x8x64, .f32⟩
  | 85 => ⟨S8x4096x8x64, .f32⟩
  | 86 => ⟨S8x4096x8x64x1, .f32⟩
  | 87 => ⟨S8x4096x8x64x1, .f32⟩
  | 88 => ⟨S8x4096x8x64x2, .f32⟩
  | 89 => ⟨S8x4096x8x128, .f32⟩
  | 90 => ⟨S8x4096x2x128, .f32⟩
  | 91 => ⟨S128, .f32⟩
  | 92 => ⟨S8x4096x2x128, .f32⟩
  | 93 => ⟨S_, .f32⟩
  | 94 => ⟨S8x4096x2, .f32⟩
  | 95 => ⟨S8x4096x2x1, .f32⟩
  | 96 => ⟨S_, .f32⟩
  | 97 => ⟨S8x4096x2x1, .f32⟩
  | 98 => ⟨S8x4096x2x1, .f32⟩
  | 99 => ⟨S_, .f32⟩
  | 100 => ⟨S8x4096x2x1, .f32⟩
  | 101 => ⟨S8x4096x2x1, .f32⟩
  | 102 => ⟨S8x4096x2x1, .f32⟩
  | 103 => ⟨S8x4096x2x128, .f32⟩
  | 104 => ⟨S8x4096x2x128, .f32⟩
  | 105 => ⟨S1x1x1x128, .f32⟩
  | 106 => ⟨S8x4096x2x128, .f32⟩
  | 107 => ⟨S8x4096x2x128, .f32⟩
  | 108 => ⟨S8x4096x2x64x2, .f32⟩
  | 109 => ⟨S8x4096x2x64x1, .f32⟩
  | 110 => ⟨S8x4096x2x64, .f32⟩
  | 111 => ⟨S8x4096x2x64x1, .f32⟩
  | 112 => ⟨S8x4096x2x64, .f32⟩
  | 113 => ⟨S1x4096x1x64, .f32⟩
  | 114 => ⟨S1x4096x1x64, .f32⟩
  | 115 => ⟨S8x4096x2x64, .f32⟩
  | 116 => ⟨S8x4096x2x64, .f32⟩
  | 117 => ⟨S8x4096x2x64, .f32⟩
  | 118 => ⟨S8x4096x2x64, .f32⟩
  | 119 => ⟨S8x4096x2x64, .f32⟩
  | 120 => ⟨S8x4096x2x64, .f32⟩
  | 121 => ⟨S8x4096x2x64, .f32⟩
  | 122 => ⟨S8x4096x2x64, .f32⟩
  | 123 => ⟨S8x4096x2x64, .f32⟩
  | 124 => ⟨S8x4096x2x64, .f32⟩
  | 125 => ⟨S8x4096x2x64x1, .f32⟩
  | 126 => ⟨S8x4096x2x64x1, .f32⟩
  | 127 => ⟨S8x4096x2x64x2, .f32⟩
  | _ => ⟨S8x4096x1024, .f32⟩

abbrev hbmTy0_1 (i : Nat) : BufTy := match i % 128 with
  | 0 => ⟨S8x4096x2x128, .f32⟩
  | 1 => ⟨S2048, .f32⟩
  | 2 => ⟨S1x1x2048, .f32⟩
  | 3 => ⟨S8x4096x2048, .f32⟩
  | 4 => ⟨S8x4096x2048, .f32⟩
  | 5 => ⟨S8x4096x2048, .f32⟩
  | 6 => ⟨S8x4096x2048, .f32⟩
  | 7 => ⟨S_, .f32⟩
  | 8 => ⟨S8x4096x2048, .f32⟩
  | 9 => ⟨S8x4096x2048, .f32⟩
  | 10 => ⟨S_, .f32⟩
  | 11 => ⟨S8x4096x2048, .f32⟩
  | 12 => ⟨S8x4096x2048, .f32⟩
  | 13 => ⟨S8x4096x1024, .f32⟩
  | 14 => ⟨S8x4096x256, .f32⟩
  | 15 => ⟨S8x256x4096, .f32⟩
  | 16 => ⟨S8x1x4096x1536, .bf16⟩
  | 17 => ⟨S8x4x1024x1536, .bf16⟩
  | 18 => ⟨S8x16x256x1536, .bf16⟩
  | 19 => ⟨S8x4096x1024, .bf16⟩
  | 20 => ⟨S8x4096x256, .bf16⟩
  | 21 => ⟨S8x256x4096, .bf16⟩
  | 22 => ⟨S8x4096x2048, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_6 : Ref sig .tc := ⟨.hbm, 93, rfl⟩
abbrev main_v78 : Ref sig .tc := ⟨.hbm, 94, rfl⟩
abbrev main_v79 : Ref sig .tc := ⟨.hbm, 95, rfl⟩
abbrev main_cst_7 : Ref sig .tc := ⟨.hbm, 96, rfl⟩
abbrev main_v80 : Ref sig .tc := ⟨.hbm, 97, rfl⟩
abbrev main_v81 : Ref sig .tc := ⟨.hbm, 98, rfl⟩
abbrev main_cst_8 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_cst_9 : Ref sig .tc := ⟨.hbm, 135, rfl⟩
abbrev main_v117 : Ref sig .tc := ⟨.hbm, 136, rfl⟩
abbrev main_v118 : Ref sig .tc := ⟨.hbm, 137, rfl⟩
abbrev main_cst_10 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩

abbrev nD : Nat := 1
abbrev τ : Topo := Topo.v7x

variable {F : FTy → Type} [FloatOps F]
-- ==== Proof.Setup.lean ====
/- The launch's set-up for the ffn kernel: the host lines before the region, the windows' blocks, the body's branch
   condition, and what the launch hands the body besides the windows. Stated over any float interpretation `F`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines before the region -/

/-- Core `c`'s TensorCore buffers when the region is entered. -/
abbrev V (c : Dev nD) (b : Ref sig .tc) : Buf (Elt F) ((c : Thread nD τ).loc b) := StableHlo.after hostOps0 (fun b => m (c, b)) b

/-- No host line allocates a fresh buffer. -/
theorem hostOps0_fresh : (hostOps0 : List (HloOp τ sig (Elt F))).Forall fun op => op.fresh = ∅ := by
  simp only [List.Forall]; repeat' constructor

set_option maxHeartbeats 800000 in
/-- The host lines run up to the region, at the contents `V`. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that no host line writes holds at the region's entry what it held at the launch. -/
theorem V_kept (c : Dev nD) (b : Ref sig .tc)
    (h : (hostOps0 : List (HloOp τ sig (Elt F))).Forall fun op => (Proc.devRef .tc b : DevRef τ sig) ∉ op.writes) :
    V m c b = m ((c : Thread nD τ).loc b) :=
  StableHlo.after_of_forall_not_mem (b := Proc.devRef .tc b) _ _ (List.forall_iff_forall_mem.mp h)

/-- Argument 0 is written by no host line. -/
theorem V_main_arg0 (c : Dev nD) : V m c main_arg0 = m ((c : Thread nD τ).loc main_arg0) :=
  V_kept m c main_arg0 (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))
/-- Argument 1 is written by no host line. -/
theorem V_main_arg1 (c : Dev nD) : V m c main_arg1 = m ((c : Thread nD τ).loc main_arg1) :=
  V_kept m c main_arg1 (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))
/-- Argument 2 is written by no host line. -/
theorem V_main_arg2 (c : Dev nD) : V m c main_arg2 = m ((c : Thread nD τ).loc main_arg2) :=
  V_kept m c main_arg2 (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))
/-- Argument 3 is written by no host line. -/
theorem V_main_arg3 (c : Dev nD) : V m c main_arg3 = m ((c : Thread nD τ).loc main_arg3) :=
  V_kept m c main_arg3 (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))
/-- Argument 4 is written by no host line. -/
theorem V_main_arg4 (c : Dev nD) : V m c main_arg4 = m ((c : Thread nD τ).loc main_arg4) :=
  V_kept m c main_arg4 (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))
/-- Argument 5 is written by no host line. -/
theorem V_main_arg5 (c : Dev nD) : V m c main_arg5 = m ((c : Thread nD τ).loc main_arg5) :=
  V_kept m c main_arg5 (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))
/-- Argument 6 is written by no host line. -/
theorem V_main_arg6 (c : Dev nD) : V m c main_arg6 = m ((c : Thread nD τ).loc main_arg6) :=
  V_kept m c main_arg6 (by
    simp only [hostOps0, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide))

/-! ## The windows' blocks -/

/-- Window `w`'s block at point `t`, read off its array at the region's entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for proof data over `V` whose body leaves it there. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for proof data over `V` whose body leaves it there. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for proof data over `V` whose body leaves it there. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for proof data over `V` whose body leaves it there. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branch condition -/

/-- The condition of the body's one branch, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The memrefs the body is called on -/

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x8192 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x2816 .bf16 := Memref.whole cc0_scratch0
abbrev scM0_1 : Memref sig .tc .vmem S1024x2816 .bf16 := Memref.whole cc0_scratch1
abbrev scM0_2 : Memref sig .tc .vmem S2816x1024 .bf16 := Memref.whole cc0_scratch2
abbrev scM0_3 : Memref sig .tc .vmem S4x128x2816 .f32 := Memref.whole cc0_scoped0
abbrev scM0_4 : Memref sig .tc .vmem S4x128x2816 .f32 := Memref.whole cc0_scoped2
abbrev scM0_5 : Memref sig .tc .vmem S4x352x1024 .f32 := Memref.whole cc0_scoped4
/-- The operands left in HBM that the body copies into scratch itself, whole. -/
abbrev hbM0_0 : Memref sig .tc .hbm S1024x2816 .f32 := Memref.whole main_v3
abbrev hbM0_1 : Memref sig .tc .hbm S1024x2816 .f32 := Memref.whole main_v4
abbrev hbM0_2 : Memref sig .tc .hbm S2816x1024 .f32 := Memref.whole main_v5
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own copy semaphores, cell by cell; none is a window's. -/
abbrev osem0 : Fin 12 → SemLoc sig := fun j => (![SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 12 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2, 3, 4, 5, 6, 7, 8, 9, 10, 11] (by decide) (by decide)]; rfl
/-- The HBM operands the body moves, as references: unscoped, no window's array (`Pipeline.restRefs`). -/
def H0 : Finset (Ref sig .tc) := {main_v3, main_v4, main_v5}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v3) ∗ hbPt0 c hbM0_1 (V m c main_v4) ∗ hbPt0 c hbM0_2 (V m c main_v5)) := by
  rw [BI.bigSep_eq_bigSepL_of_eq [main_v3, main_v4, main_v5] (by decide) (by decide)]; rfl

/-- The launch's invariant, conjunct by conjunct: the scratch at some contents, the generator register at some state, the
    own cells at zero, the HBM operands at their contents at the region's entry. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(hbPt0 c hbM0_0 (V m c main_v3) ∗ hbPt0 c hbM0_1 (V m c main_v4) ∗ hbPt0 c hbM0_2 (V m c main_v5))) := by
  rw [Pipeline.ΦD_eq, scopedRest0_eq, ownSems00_eq, hbmPts0_eq]; simp only [scM0_0, scM0_1, scM0_2, scM0_3, scM0_4, scM0_5, owns_whole]; try rfl

end Cert.KernelIdeal.Ffn

end
-- ==== Proof.Slots.lean ====
/- Reading a staging slot back after the copies into its ring: the slot's own copy is read, the copies into other slots
   are passed over; and a weight's rows read back after its chunks are stored one by one. -/
module

public import proofs.«01_k».proof.Proof.Setup
public import Idealize.ShloMosaic.Lib.Pipeline.Value

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Slot

variable {κ : Kind} {sp : Space} {s s' : Shape} {e : EltTy} {Val : EltTy → Type}

/-- A slot loaded whole and cast to the slice's shape, after a copy into that same slot, is what the copy brought. -/
theorem slot_hit (M : Memref sig κ sp s e) (r : Rect s) (hr : ∀ a, r.stride a = 1) (hq : r.shape.Squeezes s')
    (hc : r.shape.ShapeCasts s') (f : M.view.ty.Contents Val) (d : s'.Idx → Val e) :
    shapeCast s' (M.view.readAt Val r.toLoadRect (View.write Val ((M.slice r hr).squeeze s' hq).view f d Finset.univ)) hc = d :=
  (Memref.read_squeeze_slice M r hr hq hc _).symm.trans (View.read_write_univ (v := ((M.slice r hr).squeeze s' hq).view) f d)

/-- A slot loaded after a copy into a slot apart from it on one axis is what it was before the copy. -/
theorem slot_miss (M : Memref sig κ sp s e) {off off' size : Fin s.rank → ℕ} (inb : ∀ a, off a + size a ≤ s.size a)
    (inb' : ∀ a, off' a + size a ≤ s.size a) (hr : ∀ a, (Rect.unit (s := s) off' size inb').stride a = 1)
    (hq : (Rect.unit (s := s) off' size inb').shape.Squeezes s') (a : Fin s.rank)
    (ha : off a + size a ≤ off' a ∨ off' a + size a ≤ off a) (f : M.view.ty.Contents Val) (d : s'.Idx → Val e) :
    M.view.readAt Val (Rect.unit (s := s) off size inb).toLoadRect
        (View.write Val ((M.slice (Rect.unit (s := s) off' size inb') hr).squeeze s' hq).view f d Finset.univ)
      = M.view.readAt Val (Rect.unit (s := s) off size inb).toLoadRect f := by
  rw [View.readAt_rect, View.readAt_rect]
  refine View.read_congr fun i hi => View.write_of_not_mem _ _ _ fun hi' => ?_
  have h1 : i ∈ ((M.slice (Rect.unit (s := s) off' size inb') hr).squeeze s' hq).view.set := by
    rw [View.setOn_univ] at hi'; exact hi'
  rw [Memref.set_view_squeeze] at h1
  rw [View.set_slice] at hi
  have h2 : i ∈ (M.view.slice (Rect.unit (s := s) off' size inb')).set := h1
  rw [View.set_slice] at h2
  obtain ⟨x, hx, rfl⟩ := Finset.mem_map.mp hi
  obtain ⟨y, hy, hxy⟩ := Finset.mem_map.mp h2
  have := M.view.emb.injective hxy
  subst this
  have hx := Rect.mem_set_unit.mp hx a
  have hy := Rect.mem_set_unit.mp hy a
  omega

end Slot

/-- The first weight after its eight chunks of 128 rows are stored: the whole weight, each entry rounded. -/
theorem rows_w1 {sp : Space} (M : Memref sig .tc sp S1024x2816 .bf16) (f : M.view.ty.Contents (Elt F)) (X : Vec F S1024x2816 .f32)
    (v0 v1 v2 v3 v4 v5 v6 v7 : Vec F S1x128x2816 .f32)
    (h0 : shapeCast S128x2816 v0 shapeCasts_S1x128x2816_S128x2816 = fun x => X ((Rect.unit (s := S1024x2816) ![0, 0] S128x2816.size inb_S1024x2816_S128x2816_0_0).emb x))
    (h1 : shapeCast S128x2816 v1 shapeCasts_S1x128x2816_S128x2816 = fun x => X ((Rect.unit (s := S1024x2816) ![128, 0] S128x2816.size inb_S1024x2816_S128x2816_128_0).emb x))
    (h2 : shapeCast S128x2816 v2 shapeCasts_S1x128x2816_S128x2816 = fun x => X ((Rect.unit (s := S1024x2816) ![256, 0] S128x2816.size inb_S1024x2816_S128x2816_256_0).emb x))
    (h3 : shapeCast S128x2816 v3 shapeCasts_S1x128x2816_S128x2816 = fun x => X ((Rect.unit (s := S1024x2816) ![384, 0] S128x2816.size inb_S1024x2816_S128x2816_384_0).emb x))
    (h4 : shapeCast S128x2816 v4 shapeCasts_S1x128x2816_S128x2816 = fun x => X ((Rect.unit (s := S1024x2816) ![512, 0] S128x2816.size inb_S1024x2816_S128x2816_512_0).emb x))
    (h5 : shapeCast S128x2816 v5 shapeCasts_S1x128x2816_S128x2816 = fun x => X ((Rect.unit (s := S1024x2816) ![640, 0] S128x2816.size inb_S1024x2816_S128x2816_640_0).emb x))
    (h6 : shapeCast S128x2816 v6 shapeCasts_S1x128x2816_S128x2816 = fun x => X ((Rect.unit (s := S1024x2816) ![768, 0] S128x2816.size inb_S1024x2816_S128x2816_768_0).emb x))
    (h7 : shapeCast S128x2816 v7 shapeCasts_S1x128x2816_S128x2816 = fun x => X ((Rect.unit (s := S1024x2816) ![896, 0] S128x2816.size inb_S1024x2816_S128x2816_896_0).emb x)) :
    M.view.read (Elt F) (M.view.writes (Elt F) f
      [⟨Rect.unit (s := S1024x2816) ![896, 0] S128x2816.size inb_S1024x2816_S128x2816_896_0, k0_pay9 v7⟩,
       ⟨Rect.unit (s := S1024x2816) ![768, 0] S128x2816.size inb_S1024x2816_S128x2816_768_0, k0_pay8 v6⟩,
       ⟨Rect.unit (s := S1024x2816) ![640, 0] S128x2816.size inb_S1024x2816_S128x2816_640_0, k0_pay7 v5⟩,
       ⟨Rect.unit (s := S1024x2816) ![512, 0] S128x2816.size inb_S1024x2816_S128x2816_512_0, k0_pay6 v4⟩,
       ⟨Rect.unit (s := S1024x2816) ![384, 0] S128x2816.size inb_S1024x2816_S128x2816_384_0, k0_pay5 v3⟩,
       ⟨Rect.unit (s := S1024x2816) ![256, 0] S128x2816.size inb_S1024x2816_S128x2816_256_0, k0_pay4 v2⟩,
       ⟨Rect.unit (s := S1024x2816) ![128, 0] S128x2816.size inb_S1024x2816_S128x2816_128_0, k0_pay3 v1⟩,
       ⟨Rect.unit (s := S1024x2816) ![0, 0] S128x2816.size inb_S1024x2816_S128x2816_0_0, k0_pay2 v0⟩])
      = truncf .bf16 X bitsLt_bf16_f32 := by
  funext y
  refine View.read_writes_apply_of_pieces (v := M.view) (f := f) (truncf .bf16 X bitsLt_bf16_f32) _ ?_ y ?_
  · intro p hp
    simp only [List.mem_cons, List.not_mem_nil, or_false] at hp
    rcases hp with rfl | rfl | rfl | rfl | rfl | rfl | rfl | rfl <;> intro x
    · simp only [k0_pay9, shapeCast_self, h7]; rfl
    · simp only [k0_pay8, shapeCast_self, h6]; rfl
    · simp only [k0_pay7, shapeCast_self, h5]; rfl
    · simp only [k0_pay6, shapeCast_self, h4]; rfl
    · simp only [k0_pay5, shapeCast_self, h3]; rfl
    · simp only [k0_pay4, shapeCast_self, h2]; rfl
    · simp only [k0_pay3, shapeCast_self, h1]; rfl
    · simp only [k0_pay2, shapeCast_self, h0]; rfl
  · have hy0 : (y 0).val < 1024 := (y 0).isLt
    have hy1 : (y 1).val < 2816 := (y 1).isLt
    simp only [List.mem_cons, List.not_mem_nil, or_false, exists_eq_or_imp, exists_eq_left, Rect.mem_set_unit, Fin.forall_fin_two]
    simp only [Matrix.cons_val_zero, Matrix.cons_val_one, S128x2816]
    omega

/-- The gate's weight after its eight chunks are stored: the whole weight, each entry rounded. -/
theorem rows_w3 {sp : Space} (M : Memref sig .tc sp S1024x2816 .bf16) (f : M.view.ty.Contents (Elt F)) (X : Vec F S1024x2816 .f32)
    (v0 v1 v2 v3 v4 v5 v6 v7 : Vec F S1x128x2816 .f32)
    (h0 : shapeCast S128x2816 v0 shapeCasts_S1x128x2816_S128x2816 = fun x => X ((Rect.unit (s := S1024x2816) ![0, 0] S128x2816.size inb_S1024x2816_S128x2816_0_0).emb x))
    (h1 : shapeCast S128x2816 v1 shapeCasts_S1x128x2816_S128x2816 = fun x => X ((Rect.unit (s := S1024x2816) ![128, 0] S128x2816.size inb_S1024x2816_S128x2816_128_0).emb x))
    (h2 : shapeCast S128x2816 v2 shapeCasts_S1x128x2816_S128x2816 = fun x => X ((Rect.unit (s := S1024x2816) ![256, 0] S128x2816.size inb_S1024x2816_S128x2816_256_0).emb x))
    (h3 : shapeCast S128x2816 v3 shapeCasts_S1x128x2816_S128x2816 = fun x => X ((Rect.unit (s := S1024x2816) ![384, 0] S128x2816.size inb_S1024x2816_S128x2816_384_0).emb x))
    (h4 : shapeCast S128x2816 v4 shapeCasts_S1x128x2816_S128x2816 = fun x => X ((Rect.unit (s := S1024x2816) ![512, 0] S128x2816.size inb_S1024x2816_S128x2816_512_0).emb x))
    (h5 : shapeCast S128x2816 v5 shapeCasts_S1x128x2816_S128x2816 = fun x => X ((Rect.unit (s := S1024x2816) ![640, 0] S128x2816.size inb_S1024x2816_S128x2816_640_0).emb x))
    (h6 : shapeCast S128x2816 v6 shapeCasts_S1x128x2816_S128x2816 = fun x => X ((Rect.unit (s := S1024x2816) ![768, 0] S128x2816.size inb_S1024x2816_S128x2816_768_0).emb x))
    (h7 : shapeCast S128x2816 v7 shapeCasts_S1x128x2816_S128x2816 = fun x => X ((Rect.unit (s := S1024x2816) ![896, 0] S128x2816.size inb_S1024x2816_S128x2816_896_0).emb x)) :
    M.view.read (Elt F) (M.view.writes (Elt F) f
      [⟨Rect.unit (s := S1024x2816) ![896, 0] S128x2816.size inb_S1024x2816_S128x2816_896_0, k0_pay17 v7⟩,
       ⟨Rect.unit (s := S1024x2816) ![768, 0] S128x2816.size inb_S1024x2816_S128x2816_768_0, k0_pay16 v6⟩,
       ⟨Rect.unit (s := S1024x2816) ![640, 0] S128x2816.size inb_S1024x2816_S128x2816_640_0, k0_pay15 v5⟩,
       ⟨Rect.unit (s := S1024x2816) ![512, 0] S128x2816.size inb_S1024x2816_S128x2816_512_0, k0_pay14 v4⟩,
       ⟨Rect.unit (s := S1024x2816) ![384, 0] S128x2816.size inb_S1024x2816_S128x2816_384_0, k0_pay13 v3⟩,
       ⟨Rect.unit (s := S1024x2816) ![256, 0] S128x2816.size inb_S1024x2816_S128x2816_256_0, k0_pay12 v2⟩,
       ⟨Rect.unit (s := S1024x2816) ![128, 0] S128x2816.size inb_S1024x2816_S128x2816_128_0, k0_pay11 v1⟩,
       ⟨Rect.unit (s := S1024x2816) ![0, 0] S128x2816.size inb_S1024x2816_S128x2816_0_0, k0_pay10 v0⟩])
      = truncf .bf16 X bitsLt_bf16_f32 := by
  funext y
  refine View.read_writes_apply_of_pieces (v := M.view) (f := f) (truncf .bf16 X bitsLt_bf16_f32) _ ?_ y ?_
  · intro p hp
    simp only [List.mem_cons, List.not_mem_nil, or_false] at hp
    rcases hp with rfl | rfl | rfl | rfl | rfl | rfl | rfl | rfl <;> intro x
    · simp only [k0_pay17, shapeCast_self, h7]; rfl
    · simp only [k0_pay16, shapeCast_self, h6]; rfl
    · simp only [k0_pay15, shapeCast_self, h5]; rfl
    · simp only [k0_pay14, shapeCast_self, h4]; rfl
    · simp only [k0_pay13, shapeCast_self, h3]; rfl
    · simp only [k0_pay12, shapeCast_self, h2]; rfl
    · simp only [k0_pay11, shapeCast_self, h1]; rfl
    · simp only [k0_pay10, shapeCast_self, h0]; rfl
  · have hy0 : (y 0).val < 1024 := (y 0).isLt
    have hy1 : (y 1).val < 2816 := (y 1).isLt
    simp only [List.mem_cons, List.not_mem_nil, or_false, exists_eq_or_imp, exists_eq_left, Rect.mem_set_unit, Fin.forall_fin_two]
    simp only [Matrix.cons_val_zero, Matrix.cons_val_one, S128x2816]
    omega

/-- The second weight after its eight chunks of 352 rows are stored: the whole weight, each entry rounded. -/
theorem rows_w2 {sp : Space} (M : Memref sig .tc sp S2816x1024 .bf16) (f : M.view.ty.Contents (Elt F)) (X : Vec F S2816x1024 .f32)
    (v0 v1 v2 v3 v4 v5 v6 v7 : Vec F S1x352x1024 .f32)
    (h0 : shapeCast S352x1024 v0 shapeCasts_S1x352x1024_S352x1024 = fun x => X ((Rect.unit (s := S2816x1024) ![0, 0] S352x1024.size inb_S2816x1024_S352x1024_0_0).emb x))
    (h1 : shapeCast S352x1024 v1 shapeCasts_S1x352x1024_S352x1024 = fun x => X ((Rect.unit (s := S2816x1024) ![352, 0] S352x1024.size inb_S2816x1024_S352x1024_352_0).emb x))
    (h2 : shapeCast S352x1024 v2 shapeCasts_S1x352x1024_S352x1024 = fun x => X ((Rect.unit (s := S2816x1024) ![704, 0] S352x1024.size inb_S2816x1024_S352x1024_704_0).emb x))
    (h3 : shapeCast S352x1024 v3 shapeCasts_S1x352x1024_S352x1024 = fun x => X ((Rect.unit (s := S2816x1024) ![1056, 0] S352x1024.size inb_S2816x1024_S352x1024_1056_0).emb x))
    (h4 : shapeCast S352x1024 v4 shapeCasts_S1x352x1024_S352x1024 = fun x => X ((Rect.unit (s := S2816x1024) ![1408, 0] S352x1024.size inb_S2816x1024_S352x1024_1408_0).emb x))
    (h5 : shapeCast S352x1024 v5 shapeCasts_S1x352x1024_S352x1024 = fun x => X ((Rect.unit (s := S2816x1024) ![1760, 0] S352x1024.size inb_S2816x1024_S352x1024_1760_0).emb x))
    (h6 : shapeCast S352x1024 v6 shapeCasts_S1x352x1024_S352x1024 = fun x => X ((Rect.unit (s := S2816x1024) ![2112, 0] S352x1024.size inb_S2816x1024_S352x1024_2112_0).emb x))
    (h7 : shapeCast S352x1024 v7 shapeCasts_S1x352x1024_S352x1024 = fun x => X ((Rect.unit (s := S2816x1024) ![2464, 0] S352x1024.size inb_S2816x1024_S352x1024_2464_0).emb x)) :
    M.view.read (Elt F) (M.view.writes (Elt F) f
      [⟨Rect.unit (s := S2816x1024) ![2464, 0] S352x1024.size inb_S2816x1024_S352x1024_2464_0, k0_pay26 v7⟩,
       ⟨Rect.unit (s := S2816x1024) ![2112, 0] S352x1024.size inb_S2816x1024_S352x1024_2112_0, k0_pay24 v6⟩,
       ⟨Rect.unit (s := S2816x1024) ![1760, 0] S352x1024.size inb_S2816x1024_S352x1024_1760_0, k0_pay23 v5⟩,
       ⟨Rect.unit (s := S2816x1024) ![1408, 0] S352x1024.size inb_S2816x1024_S352x1024_1408_0, k0_pay22 v4⟩,
       ⟨Rect.unit (s := S2816x1024) ![1056, 0] S352x1024.size inb_S2816x1024_S352x1024_1056_0, k0_pay21 v3⟩,
       ⟨Rect.unit (s := S2816x1024) ![704, 0] S352x1024.size inb_S2816x1024_S352x1024_704_0, k0_pay20 v2⟩,
       ⟨Rect.unit (s := S2816x1024) ![352, 0] S352x1024.size inb_S2816x1024_S352x1024_352_0, k0_pay19 v1⟩,
       ⟨Rect.unit (s := S2816x1024) ![0, 0] S352x1024.size inb_S2816x1024_S352x1024_0_0, k0_pay18 v0⟩])
      = truncf .bf16 X bitsLt_bf16_f32 := by
  funext y
  refine View.read_writes_apply_of_pieces (v := M.view) (f := f) (truncf .bf16 X bitsLt_bf16_f32) _ ?_ y ?_
  · intro p hp
    simp only [List.mem_cons, List.not_mem_nil, or_false] at hp
    rcases hp with rfl | rfl | rfl | rfl | rfl | rfl | rfl | rfl <;> intro x
    · simp only [k0_pay26, shapeCast_self, h7]; rfl
    · simp only [k0_pay24, shapeCast_self, h6]; rfl
    · simp only [k0_pay23, shapeCast_self, h5]; rfl
    · simp only [k0_pay22, shapeCast_self, h4]; rfl
    · simp only [k0_pay21, shapeCast_self, h3]; rfl
    · simp only [k0_pay20, shapeCast_self, h2]; rfl
    · simp only [k0_pay19, shapeCast_self, h1]; rfl
    · simp only [k0_pay18, shapeCast_self, h0]; rfl
  · have hy0 : (y 0).val < 2816 := (y 0).isLt
    have hy1 : (y 1).val < 1024 := (y 1).isLt
    simp only [List.mem_cons, List.not_mem_nil, or_false, exists_eq_or_imp, exists_eq_left, Rect.mem_set_unit, Fin.forall_fin_two]
    simp only [Matrix.cons_val_zero, Matrix.cons_val_one, S352x1024]
    omega

end Cert.KernelIdeal.Ffn

end
-- ==== Proof.Load.lean ====
/- The weight load: what the body does at its first point before the products. -/
module

public import proofs.«01_k».proof.Proof.Slots

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's first-point branch: the three weights streamed from HBM through four staging slots each, every chunk cast
    and stored into the resident scratch. -/
def loadAll (i : grid0.Coords) (arg1 : Memref sig .tc .vmem S1024x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S32x8192 .f32) (harg7 : arg7.IsWhole) (arg8 : Memref sig .tc .vmem S1024x1024 .f32) (harg8 : arg8.IsWhole) (arg9 : Memref sig .tc .vmem S32x8192 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S4x128x2816 .f32) (halloca_r0 : alloca_r0.IsWhole) (v150_r0 : DmaSems sig S4) (alloca_r1 : Memref sig .tc .vmem S4x128x2816 .f32) (halloca_r1 : alloca_r1.IsWhole) (v150_r1 : DmaSems sig S4) (alloca_r2 : Memref sig .tc .vmem S4x352x1024 .f32) (halloca_r2 : alloca_r2.IsWhole) (v150_r2 : DmaSems sig S4) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  k0_part2 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  k0_part3 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  k0_part4 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  k0_part5 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  k0_part6 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  k0_part7 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  k0_part8 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  k0_part9 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  k0_part10 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  k0_part11 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  k0_part12 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  k0_part13 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  k0_part14 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  let v268_r2 : DmaSems sig S1 := v150_r2.slice (Rect.unit (s := S4) ![3] S1.size inb_S4_S1_3)
  let v269_r2 : DmaSems sig S_ := v268_r2.squeeze S_ squeezes_S1_S_
  let v270_r2 : Memref sig .tc .vmem S1x352x1024 .f32 := alloca_r2.slice (Rect.unit (s := S4x352x1024) ![3, 0, 0] S1x352x1024.size inb_S4x352x1024_S1x352x1024_3_0_0) (fun _ => rfl)
  let v271_r2 : Memref sig .tc .vmem S352x1024 .f32 := v270_r2.squeeze S352x1024 squeezes_S1x352x1024_S352x1024
  let v272_r2 : Memref sig .tc .hbm S352x1024 .f32 := arg5.slice (Rect.unit (s := S2816x1024) ![2464, 0] S352x1024.size inb_S2816x1024_S352x1024_2464_0) (fun _ => rfl)
  Prog.lift (.waitDma2 v269_r2.sem v272_r2 v271_r2 (View.wordExact_bits rfl) ((View.wordExact_bits rfl).reshape _ _))
  let v273_r2 : Vec F S1x352x1024 .f32 ← Prog.lift (.load alloca_r2 (Rect.unit (s := S4x352x1024) ![3, 0, 0] S1x352x1024.size inb_S4x352x1024_S1x352x1024_3_0_0).toLoadRect (View.loadsAt_vmem h_S1x352x1024))
  let v276_r2 : Vec F S352x1024 .bf16 ← Prog.lift (.load arg12 (Rect.unit (s := S2816x1024) ![2464, 0] S352x1024.size inb_S2816x1024_S352x1024_2464_0).toLoadRect (View.loadsAt_vmem h_S352x1024))
  Prog.lift (.store arg12 (Rect.unit (s := S2816x1024) ![2464, 0] S352x1024.size inb_S2816x1024_S352x1024_2464_0) (k0_pay26 v273_r2) Finset.univ (View.stores_vmem h_S352x1024 (harg12.storeExact_slice rfl _ packedbf16_S2816x1024_S352x1024_2464_0) (fun _ => rfl)) (.inl rfl))
  pure ⟨⟩

/-- The three weights as the launch left them in HBM, rounded entry by entry to the resident scratch's type. -/
def wb1 (c : Dev nD) (fh : HbBuf0 (F := F) c hbM0_0) : FVec F S1024x2816 .bf16 := truncf .bf16 (hbM0_0.view.read (Elt F) fh) bitsLt_bf16_f32
def wb3 (c : Dev nD) (fh : HbBuf0 (F := F) c hbM0_1) : FVec F S1024x2816 .bf16 := truncf .bf16 (hbM0_1.view.read (Elt F) fh) bitsLt_bf16_f32
def wb2 (c : Dev nD) (fh : HbBuf0 (F := F) c hbM0_2) : FVec F S2816x1024 .bf16 := truncf .bf16 (hbM0_2.view.read (Elt F) fh) bitsLt_bf16_f32

set_option maxHeartbeats 1936000 in set_option sl_exec.dmaWindow true in set_option sl_exec.dmaWindowSet true in
/-- The weight load: from any contents of the resident scratch and of the staging slots it ends with the scratch holding the
    three weights rounded, the HBM operands as they were and every copy semaphore at zero again. -/
theorem run_load (c : Dev nD) (i : grid0.Coords) (arg1 : Memref sig .tc .vmem S1024x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S32x8192 .f32) (harg7 : arg7.IsWhole) (arg8 : Memref sig .tc .vmem S1024x1024 .f32) (harg8 : arg8.IsWhole) (arg9 : Memref sig .tc .vmem S32x8192 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S4x128x2816 .f32) (halloca_r0 : alloca_r0.IsWhole) (alloca_r1 : Memref sig .tc .vmem S4x128x2816 .f32) (halloca_r1 : alloca_r1.IsWhole) (alloca_r2 : Memref sig .tc .vmem S4x352x1024 .f32) (halloca_r2 : alloca_r2.IsWhole)
    (fh0 : HbBuf0 (F := F) c hbM0_0) (fh1 : HbBuf0 (F := F) c hbM0_1) (fh2 : HbBuf0 (F := F) c hbM0_2)
    (W : Waits sig Unit) (K : PUnit → sProp 𝕄) :
    iprop((∃ d, owns (c : Thread nD τ) arg10 fullShare d) ∗ (∃ d, owns (c : Thread nD τ) arg11 fullShare d) ∗ (∃ d, owns (c : Thread nD τ) arg12 fullShare d) ∗ (∃ d, owns (c : Thread nD τ) alloca_r0 fullShare d) ∗ (∃ d, owns (c : Thread nD τ) alloca_r1 fullShare d) ∗ (∃ d, owns (c : Thread nD τ) alloca_r2 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ hbPt0 c hbM0_2 fh2 ∗ owes (c : Thread nD τ) 0 W
      ∗ (iprop(owns (c : Thread nD τ) arg10 fullShare (wb1 c fh0) ∗ owns (c : Thread nD τ) arg11 fullShare (wb3 c fh1) ∗ owns (c : Thread nD τ) arg12 fullShare (wb2 c fh2) ∗ (∃ d, owns (c : Thread nD τ) alloca_r0 fullShare d) ∗ (∃ d, owns (c : Thread nD τ) alloca_r1 fullShare d) ∗ (∃ d, owns (c : Thread nD τ) alloca_r2 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ hbPt0 c hbM0_2 fh2 ∗ (∃ W', owes (c : Thread nD τ) 0 W')) -∗ K ⟨⟩))
      ⊢ wp frame (wpE (defs₀ (F := F)) Variants.none c none) Set.univ (loadAll i arg1 harg1 arg2 harg2 (Memref.whole main_v3) (Memref.isWhole_whole _) (Memref.whole main_v4) (Memref.isWhole_whole _) (Memref.whole main_v5) (Memref.isWhole_whole _) arg6 harg6 arg7 harg7 arg8 harg8 arg9 harg9 arg10 harg10 arg11 harg11 arg12 harg12 alloca_r0 halloca_r0 cc0_scoped1 alloca_r1 halloca_r1 cc0_scoped3 alloca_r2 halloca_r2 cc0_scoped5) K := by
  unfold loadAll
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hq2, Hq3, Hq4, Hq5, Hq6, Hq7, Hq8, Hq9, Hq10, Hq11, Hh0, Hh1, Hh2, HW, Hk⟩
  sl_exec
  sl_step
  iapply Hk
  isplitl [HS0]
  · iexists _; isplitr; swap; · iexact HS0
    ipureintro
    refine rows_w1 arg10 _ _ _ _ _ _ _ _ _ _ ?_ ?_ ?_ ?_ ?_ ?_ ?_ ?_
    · iterate 3 refine (congrArg (fun v => shapeCast S128x2816 v shapeCasts_S1x128x2816_S128x2816) (slot_miss alloca_r0 _ _ _ _ 0 (by decide) _ _)).trans ?_
      exact slot_hit alloca_r0 _ _ _ _ _ _
    · iterate 3 refine (congrArg (fun v => shapeCast S128x2816 v shapeCasts_S1x128x2816_S128x2816) (slot_miss alloca_r0 _ _ _ _ 0 (by decide) _ _)).trans ?_
      exact slot_hit alloca_r0 _ _ _ _ _ _
    · iterate 3 refine (congrArg (fun v => shapeCast S128x2816 v shapeCasts_S1x128x2816_S128x2816) (slot_miss alloca_r0 _ _ _ _ 0 (by decide) _ _)).trans ?_
      exact slot_hit alloca_r0 _ _ _ _ _ _
    · iterate 3 refine (congrArg (fun v => shapeCast S128x2816 v shapeCasts_S1x128x2816_S128x2816) (slot_miss alloca_r0 _ _ _ _ 0 (by decide) _ _)).trans ?_
      exact slot_hit alloca_r0 _ _ _ _ _ _
    · iterate 3 refine (congrArg (fun v => shapeCast S128x2816 v shapeCasts_S1x128x2816_S128x2816) (slot_miss alloca_r0 _ _ _ _ 0 (by decide) _ _)).trans ?_
      exact slot_hit alloca_r0 _ _ _ _ _ _
    · iterate 2 refine (congrArg (fun v => shapeCast S128x2816 v shapeCasts_S1x128x2816_S128x2816) (slot_miss alloca_r0 _ _ _ _ 0 (by decide) _ _)).trans ?_
      exact slot_hit alloca_r0 _ _ _ _ _ _
    · iterate 1 refine (congrArg (fun v => shapeCast S128x2816 v shapeCasts_S1x128x2816_S128x2816) (slot_miss alloca_r0 _ _ _ _ 0 (by decide) _ _)).trans ?_
      exact slot_hit alloca_r0 _ _ _ _ _ _
    · exact slot_hit alloca_r0 _ _ _ _ _ _
  isplitl [HS1]
  · iexists _; isplitr; swap; · iexact HS1
    ipureintro
    refine rows_w3 arg11 _ _ _ _ _ _ _ _ _ _ ?_ ?_ ?_ ?_ ?_ ?_ ?_ ?_
    · iterate 3 refine (congrArg (fun v => shapeCast S128x2816 v shapeCasts_S1x128x2816_S128x2816) (slot_miss alloca_r1 _ _ _ _ 0 (by decide) _ _)).trans ?_
      exact slot_hit alloca_r1 _ _ _ _ _ _
    · iterate 3 refine (congrArg (fun v => shapeCast S128x2816 v shapeCasts_S1x128x2816_S128x2816) (slot_miss alloca_r1 _ _ _ _ 0 (by decide) _ _)).trans ?_
      exact slot_hit alloca_r1 _ _ _ _ _ _
    · iterate 3 refine (congrArg (fun v => shapeCast S128x2816 v shapeCasts_S1x128x2816_S128x2816) (slot_miss alloca_r1 _ _ _ _ 0 (by decide) _ _)).trans ?_
      exact slot_hit alloca_r1 _ _ _ _ _ _
    · iterate 3 refine (congrArg (fun v => shapeCast S128x2816 v shapeCasts_S1x128x2816_S128x2816) (slot_miss alloca_r1 _ _ _ _ 0 (by decide) _ _)).trans ?_
      exact slot_hit alloca_r1 _ _ _ _ _ _
    · iterate 3 refine (congrArg (fun v => shapeCast S128x2816 v shapeCasts_S1x128x2816_S128x2816) (slot_miss alloca_r1 _ _ _ _ 0 (by decide) _ _)).trans ?_
      exact slot_hit alloca_r1 _ _ _ _ _ _
    · iterate 2 refine (congrArg (fun v => shapeCast S128x2816 v shapeCasts_S1x128x2816_S128x2816) (slot_miss alloca_r1 _ _ _ _ 0 (by decide) _ _)).trans ?_
      exact slot_hit alloca_r1 _ _ _ _ _ _
    · iterate 1 refine (congrArg (fun v => shapeCast S128x2816 v shapeCasts_S1x128x2816_S128x2816) (slot_miss alloca_r1 _ _ _ _ 0 (by decide) _ _)).trans ?_
      exact slot_hit alloca_r1 _ _ _ _ _ _
    · exact slot_hit alloca_r1 _ _ _ _ _ _
  isplitl [HS2]
  · iexists _; isplitr; swap; · iexact HS2
    ipureintro
    refine rows_w2 arg12 _ _ _ _ _ _ _ _ _ _ ?_ ?_ ?_ ?_ ?_ ?_ ?_ ?_
    · iterate 3 refine (congrArg (fun v => shapeCast S352x1024 v shapeCasts_S1x352x1024_S352x1024) (slot_miss alloca_r2 _ _ _ _ 0 (by decide) _ _)).trans ?_
      exact slot_hit alloca_r2 _ _ _ _ _ _
    · iterate 3 refine (congrArg (fun v => shapeCast S352x1024 v shapeCasts_S1x352x1024_S352x1024) (slot_miss alloca_r2 _ _ _ _ 0 (by decide) _ _)).trans ?_
      exact slot_hit alloca_r2 _ _ _ _ _ _
    · iterate 3 refine (congrArg (fun v => shapeCast S352x1024 v shapeCasts_S1x352x1024_S352x1024) (slot_miss alloca_r2 _ _ _ _ 0 (by decide) _ _)).trans ?_
      exact slot_hit alloca_r2 _ _ _ _ _ _
    · iterate 3 refine (congrArg (fun v => shapeCast S352x1024 v shapeCasts_S1x352x1024_S352x1024) (slot_miss alloca_r2 _ _ _ _ 0 (by decide) _ _)).trans ?_
      exact slot_hit alloca_r2 _ _ _ _ _ _
    · iterate 3 refine (congrArg (fun v => shapeCast S352x1024 v shapeCasts_S1x352x1024_S352x1024) (slot_miss alloca_r2 _ _ _ _ 0 (by decide) _ _)).trans ?_
      exact slot_hit alloca_r2 _ _ _ _ _ _
    · iterate 2 refine (congrArg (fun v => shapeCast S352x1024 v shapeCasts_S1x352x1024_S352x1024) (slot_miss alloca_r2 _ _ _ _ 0 (by decide) _ _)).trans ?_
      exact slot_hit alloca_r2 _ _ _ _ _ _
    · iterate 1 refine (congrArg (fun v => shapeCast S352x1024 v shapeCasts_S1x352x1024_S352x1024) (slot_miss alloca_r2 _ _ _ _ 0 (by decide) _ _)).trans ?_
      exact slot_hit alloca_r2 _ _ _ _ _ _
    · exact slot_hit alloca_r2 _ _ _ _ _ _
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hh0]; · iexact Hh0
  isplitl [Hh1]; · iexact Hh1
  isplitl [Hh2]; · iexact Hh2
  iexists _; iexact HW

end Cert.KernelIdeal.Ffn

end
-- ==== Proof.Body.lean ====
/- The products: what the body does at every point, given the resident weights. -/
module

public import proofs.«01_k».proof.Proof.Load
public import Idealize.ShloMosaic.Lib.VecWindow

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Columns `[o, o + 256)` of an up-projection weight. -/
def colAt (W : Vec F S1024x2816 .bf16) (o : ℕ) (h : o + 256 ≤ 2816) : Vec F S1024x256 .bf16 :=
  fun j => W ((Rect.unit (s := S1024x2816) ![0, o] S1024x256.size (fun a => by
    match a with
    | ⟨0, _⟩ => show 0 + 1024 ≤ 1024; omega
    | ⟨1, _⟩ => exact h)).emb j)

/-- Rows `[o, o + 256)` of the down-projection weight. -/
def rowAt (W : Vec F S2816x1024 .bf16) (o : ℕ) (h : o + 256 ≤ 2816) : Vec F S256x1024 .bf16 :=
  fun j => W ((Rect.unit (s := S2816x1024) ![o, 0] S256x1024.size (fun a => by
    match a with
    | ⟨0, _⟩ => exact h
    | ⟨1, _⟩ => show 0 + 1024 ≤ 1024; omega)).emb j)

/-- One chunk of 256 gated hidden units: `silu (h a) * (h b)`, rounded for the product with the down-projection. -/
def glu (h : FVec F S1024x1024 .bf16) (a b : Vec F S1024x256 .bf16) : FVec F S1024x256 .bf16 :=
  truncf .bf16 (mulf (mulf (matmul dot_S1024x1024_S1024x256_S1024x256_1_0_0_1_n_n none h a (constant S1024x256 .f32 0x00000000#32))
    (logistic (matmul dot_S1024x1024_S1024x256_S1024x256_1_0_0_1_n_n none h a (constant S1024x256 .f32 0x00000000#32))))
    (matmul dot_S1024x1024_S1024x256_S1024x256_1_0_0_1_n_n none h b (constant S1024x256 .f32 0x00000000#32))) bitsLt_bf16_f32

/-- The accumulator after one more chunk's product with its rows of the down-projection. -/
def accum (y : FVec F S1024x1024 .f32) (g : FVec F S1024x256 .bf16) (w : Vec F S256x1024 .bf16) : FVec F S1024x1024 .f32 :=
  addf y (matmul dot_S1024x256_S256x1024_S1024x1024_1_0_0_1_n_n none g w (constant S1024x1024 .f32 0x00000000#32))

/-- The accumulator after all eleven chunks. -/
def accAll (h : FVec F S1024x1024 .bf16) (W1 W3 : Vec F S1024x2816 .bf16) (W2 : Vec F S2816x1024 .bf16) : FVec F S1024x1024 .f32 :=
  accum (accum (accum (accum (accum (accum (accum (accum (accum (accum (accum k0_pay29
    (glu h (colAt W1 0 (by decide)) (colAt W3 0 (by decide))) (rowAt W2 0 (by decide)))
    (glu h (colAt W1 256 (by decide)) (colAt W3 256 (by decide))) (rowAt W2 256 (by decide)))
    (glu h (colAt W1 512 (by decide)) (colAt W3 512 (by decide))) (rowAt W2 512 (by decide)))
    (glu h (colAt W1 768 (by decide)) (colAt W3 768 (by decide))) (rowAt W2 768 (by decide)))
    (glu h (colAt W1 1024 (by decide)) (colAt W3 1024 (by decide))) (rowAt W2 1024 (by decide)))
    (glu h (colAt W1 1280 (by decide)) (colAt W3 1280 (by decide))) (rowAt W2 1280 (by decide)))
    (glu h (colAt W1 1536 (by decide)) (colAt W3 1536 (by decide))) (rowAt W2 1536 (by decide)))
    (glu h (colAt W1 1792 (by decide)) (colAt W3 1792 (by decide))) (rowAt W2 1792 (by decide)))
    (glu h (colAt W1 2048 (by decide)) (colAt W3 2048 (by decide))) (rowAt W2 2048 (by decide)))
    (glu h (colAt W1 2304 (by decide)) (colAt W3 2304 (by decide))) (rowAt W2 2304 (by decide)))
    (glu h (colAt W1 2560 (by decide)) (colAt W3 2560 (by decide))) (rowAt W2 2560 (by decide))

/-- A row block of the first output: the block of `x` plus half the gated product of its normalised rows. -/
def ffnOut (x : Vec F S1024x1024 .f32) (g : Vec F S1x1024 .f32) (W1 W3 : Vec F S1024x2816 .bf16) (W2 : Vec F S2816x1024 .bf16) :
    FVec F S1024x1024 .f32 :=
  addf (k0_pay27 x) (mulf (broadcast S1024x1024 (Scalar.ofBits .f32 0x3F000000#32)) (accAll (k0_pay28 x g) W1 W3 W2))

/-- The end of the body's first part: the loads after the branch. -/
def tail15 (i : grid0.Coords) (arg1 : Memref sig .tc .vmem S1024x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S32x8192 .f32) (harg7 : arg7.IsWhole) (arg8 : Memref sig .tc .vmem S1024x1024 .f32) (harg8 : arg8.IsWhole) (arg9 : Memref sig .tc .vmem S32x8192 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S4x128x2816 .f32) (halloca_r0 : alloca_r0.IsWhole) (v150_r0 : DmaSems sig S4) (alloca_r1 : Memref sig .tc .vmem S4x128x2816 .f32) (halloca_r1 : alloca_r1.IsWhole) (v150_r1 : DmaSems sig S4) (alloca_r2 : Memref sig .tc .vmem S4x352x1024 .f32) (halloca_r2 : alloca_r2.IsWhole) (v150_r2 : DmaSems sig S4) :
    Prog (TpuEff nD τ sig (Elt F) Λ₀ .tc) (Σ' (v8 : FVec F S1024x1024 .f32) (v23 : FVec F S1024x1024 .bf16) (v24 : FVec F S1024x1024 .f32) (v32 : FVec F S1024x256 .bf16) (v33 : Vec F S256x1024 .bf16), FVec F S1024x1024 .f32) := do
  let v7 : Vec F S1024x1024 .f32 ← Prog.lift (.load arg1 (Rect.unit (s := S1024x1024) ![0, 0] S1024x1024.size inb_S1024x1024_S1024x1024_0_0).toLoadRect (View.loadsAt_vmem h_S1024x1024))
  let v9 : Vec F S1x1024 .f32 ← Prog.lift (.load arg2 (Rect.unit (s := S1x1024) ![0, 0] S1x1024.size inb_S1x1024_S1x1024_0_0).toLoadRect (View.loadsAt_vmem h_S1x1024))
  let v25 : Vec F S1024x256 .bf16 ← Prog.lift (.load arg10 (Rect.unit (s := S1024x2816) ![0, 0] S1024x256.size inb_S1024x2816_S1024x256_0_0).toLoadRect (View.loadsAt_vmem h_S1024x256))
  let v27 : Vec F S1024x256 .bf16 ← Prog.lift (.load arg11 (Rect.unit (s := S1024x2816) ![0, 0] S1024x256.size inb_S1024x2816_S1024x256_0_0).toLoadRect (View.loadsAt_vmem h_S1024x256))
  let v33 : Vec F S256x1024 .bf16 ← Prog.lift (.load arg12 (Rect.unit (s := S2816x1024) ![0, 0] S256x1024.size inb_S2816x1024_S256x1024_0_0).toLoadRect (View.loadsAt_vmem h_S256x1024))
  have cst_19 : FVec F S1024x1024 .f32 := constant S1024x1024 .f32 0x00000000#32
  pure ⟨k0_pay27 v7, k0_pay28 v7 v9, k0_pay29 (F := F), k0_pay30 v7 v9 v25 v27, v33, cst_19⟩

/-- The body after its first-point branch. -/
def restFfn (i : grid0.Coords) (arg1 : Memref sig .tc .vmem S1024x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S32x8192 .f32) (harg7 : arg7.IsWhole) (arg8 : Memref sig .tc .vmem S1024x1024 .f32) (harg8 : arg8.IsWhole) (arg9 : Memref sig .tc .vmem S32x8192 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S4x128x2816 .f32) (halloca_r0 : alloca_r0.IsWhole) (v150_r0 : DmaSems sig S4) (alloca_r1 : Memref sig .tc .vmem S4x128x2816 .f32) (halloca_r1 : alloca_r1.IsWhole) (v150_r1 : DmaSems sig S4) (alloca_r2 : Memref sig .tc .vmem S4x352x1024 .f32) (halloca_r2 : alloca_r2.IsWhole) (v150_r2 : DmaSems sig S4) :
    Prog (TpuEff nD τ sig (Elt F) Λ₀ .tc) PUnit := do
  let ⟨v8, v23, v24, v32, v33, cst_19⟩ : Σ' (v8 : FVec F S1024x1024 .f32) (v23 : FVec F S1024x1024 .bf16) (v24 : FVec F S1024x1024 .f32) (v32 : FVec F S1024x256 .bf16) (v33 : Vec F S256x1024 .bf16), FVec F S1024x1024 .f32 ← tail15 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
  let ⟨v57, v65, v66, cst_43⟩ : Σ' (v57 : FVec F S1024x1024 .f32) (v65 : FVec F S1024x256 .bf16) (v66 : Vec F S256x1024 .bf16), FVec F S1024x1024 .f32 ← k0_part16 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2 v23 v24 v32 v33 cst_19
  let ⟨v90, v98, v99, cst_67⟩ : Σ' (v90 : FVec F S1024x1024 .f32) (v98 : FVec F S1024x256 .bf16) (v99 : Vec F S256x1024 .bf16), FVec F S1024x1024 .f32 ← k0_part17 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2 v23 v57 v65 v66 cst_43
  let ⟨v123, v131, v132, cst_91⟩ : Σ' (v123 : FVec F S1024x1024 .f32) (v131 : FVec F S1024x256 .bf16) (v132 : Vec F S256x1024 .bf16), FVec F S1024x1024 .f32 ← k0_part18 i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2 v23 v90 v98 v99 cst_67
  let v135 : Vec F S1024x256 .bf16 ← Prog.lift (.load arg10 (Rect.unit (s := S1024x2816) ![0, 2560] S1024x256.size inb_S1024x2816_S1024x256_0_2560).toLoadRect (View.loadsAt_vmem h_S1024x256))
  let v137 : Vec F S1024x256 .bf16 ← Prog.lift (.load arg11 (Rect.unit (s := S1024x2816) ![0, 2560] S1024x256.size inb_S1024x2816_S1024x256_0_2560).toLoadRect (View.loadsAt_vmem h_S1024x256))
  let v143 : Vec F S256x1024 .bf16 ← Prog.lift (.load arg12 (Rect.unit (s := S2816x1024) ![2560, 0] S256x1024.size inb_S2816x1024_S256x1024_2560_0).toLoadRect (View.loadsAt_vmem h_S256x1024))
  let v149 : Vec F S1024x1024 .f32 ← Prog.lift (.load arg8 (Rect.unit (s := S1024x1024) ![0, 0] S1024x1024.size inb_S1024x1024_S1024x1024_0_0).toLoadRect (View.loadsAt_vmem h_S1024x1024))
  Prog.lift (.store arg8 (Rect.unit (s := S1024x1024) ![0, 0] S1024x1024.size inb_S1024x1024_S1024x1024_0_0) (k0_pay1 v8 v23 v123 v131 v132 cst_91 v135 v137 v143) Finset.univ (View.stores_vmem_bits_univ h_S1024x1024 rfl) (.inl rfl))
  pure ⟨⟩

/-- The body at the first point: the cast of the side block, the weight load, the products. -/
theorem cc0_first (i : grid0.Coords) (arg1 : Memref sig .tc .vmem S1024x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S32x8192 .f32) (harg7 : arg7.IsWhole) (arg8 : Memref sig .tc .vmem S1024x1024 .f32) (harg8 : arg8.IsWhole) (arg9 : Memref sig .tc .vmem S32x8192 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S4x128x2816 .f32) (halloca_r0 : alloca_r0.IsWhole) (v150_r0 : DmaSems sig S4) (alloca_r1 : Memref sig .tc .vmem S4x128x2816 .f32) (halloca_r1 : alloca_r1.IsWhole) (v150_r1 : DmaSems sig S4) (alloca_r2 : Memref sig .tc .vmem S4x352x1024 .f32) (halloca_r2 : alloca_r2.IsWhole) (v150_r2 : DmaSems sig S4) (hc : cond0_0 i) :
    cc0_ffn (F := F) i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2 = (do
    let v0 : Vec F S32x8192 .f32 ← Prog.lift (.load arg7 (Rect.unit (s := S32x8192) ![0, 0] S32x8192.size inb_S32x8192_S32x8192_0_0).toLoadRect (View.loadsAt_vmem h_S32x8192))
    let v3 : Vec F S32x8192 .bf16 ← Prog.lift (.load arg9 (Rect.unit (s := S32x8192) ![0, 0] S32x8192.size inb_S32x8192_S32x8192_0_0).toLoadRect (View.loadsAt_vmem h_S32x8192))
    Prog.lift (.store arg9 (Rect.unit (s := S32x8192) ![0, 0] S32x8192.size inb_S32x8192_S32x8192_0_0) (k0_pay25 v0) Finset.univ (View.stores_vmem h_S32x8192 (harg9.storeExact_slice rfl _ packedbf16_S32x8192_S32x8192_0_0) (fun _ => rfl)) (.inl rfl))
    loadAll i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2
    restFfn i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2) := by
  rw [cc0_ffn_eq_skeleton]; unfold cc0_ffn_skel restFfn
  rw [k0_part15_eq_skeleton]; unfold k0_part15_skel tail15 loadAll
  unfold cond0_0 at hc
  simp only [bind_assoc]
  rw [dif_pos hc]
  simp only [bind_assoc, pure_bind]

/-- The body at a later point: the cast of the side block, the products. -/
theorem cc0_later (i : grid0.Coords) (arg1 : Memref sig .tc .vmem S1024x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S32x8192 .f32) (harg7 : arg7.IsWhole) (arg8 : Memref sig .tc .vmem S1024x1024 .f32) (harg8 : arg8.IsWhole) (arg9 : Memref sig .tc .vmem S32x8192 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S4x128x2816 .f32) (halloca_r0 : alloca_r0.IsWhole) (v150_r0 : DmaSems sig S4) (alloca_r1 : Memref sig .tc .vmem S4x128x2816 .f32) (halloca_r1 : alloca_r1.IsWhole) (v150_r1 : DmaSems sig S4) (alloca_r2 : Memref sig .tc .vmem S4x352x1024 .f32) (halloca_r2 : alloca_r2.IsWhole) (v150_r2 : DmaSems sig S4) (hc : ¬ cond0_0 i) :
    cc0_ffn (F := F) i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2 = (do
    let v0 : Vec F S32x8192 .f32 ← Prog.lift (.load arg7 (Rect.unit (s := S32x8192) ![0, 0] S32x8192.size inb_S32x8192_S32x8192_0_0).toLoadRect (View.loadsAt_vmem h_S32x8192))
    let v3 : Vec F S32x8192 .bf16 ← Prog.lift (.load arg9 (Rect.unit (s := S32x8192) ![0, 0] S32x8192.size inb_S32x8192_S32x8192_0_0).toLoadRect (View.loadsAt_vmem h_S32x8192))
    Prog.lift (.store arg9 (Rect.unit (s := S32x8192) ![0, 0] S32x8192.size inb_S32x8192_S32x8192_0_0) (k0_pay25 v0) Finset.univ (View.stores_vmem h_S32x8192 (harg9.storeExact_slice rfl _ packedbf16_S32x8192_S32x8192_0_0) (fun _ => rfl)) (.inl rfl))
    restFfn i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2) := by
  rw [cc0_ffn_eq_skeleton]; unfold cc0_ffn_skel restFfn
  rw [k0_part15_eq_skeleton]; unfold k0_part15_skel tail15
  unfold cond0_0 at hc
  simp only [bind_assoc]
  rw [dif_neg hc]
  simp only [bind_assoc, pure_bind]

set_option maxHeartbeats 1000000 in
/-- The products: from the blocks of `x` and the gain and the resident weights, the output block ends at `ffnOut`, everything
    else as it was. -/
theorem run_rest (c : Dev nD) (i : grid0.Coords) (arg1 : Memref sig .tc .vmem S1024x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S32x8192 .f32) (harg7 : arg7.IsWhole) (arg8 : Memref sig .tc .vmem S1024x1024 .f32) (harg8 : arg8.IsWhole) (arg9 : Memref sig .tc .vmem S32x8192 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S4x128x2816 .f32) (halloca_r0 : alloca_r0.IsWhole) (alloca_r1 : Memref sig .tc .vmem S4x128x2816 .f32) (halloca_r1 : alloca_r1.IsWhole) (alloca_r2 : Memref sig .tc .vmem S4x352x1024 .f32) (halloca_r2 : alloca_r2.IsWhole)
    (x0 : Vec F S1024x1024 .f32) (x1 : Vec F S1x1024 .f32) (W1 W3 : Vec F S1024x2816 .bf16) (W2 : Vec F S2816x1024 .bf16) (K : PUnit → sProp 𝕄) :
    iprop(owns (c : Thread nD τ) arg1 fullShare x0 ∗ owns (c : Thread nD τ) arg2 fullShare x1 ∗ (∃ d, owns (c : Thread nD τ) arg8 fullShare d) ∗ owns (c : Thread nD τ) arg10 fullShare W1 ∗ owns (c : Thread nD τ) arg11 fullShare W3 ∗ owns (c : Thread nD τ) arg12 fullShare W2
      ∗ (iprop(owns (c : Thread nD τ) arg1 fullShare x0 ∗ owns (c : Thread nD τ) arg2 fullShare x1 ∗ owns (c : Thread nD τ) arg8 fullShare (ffnOut x0 x1 W1 W3 W2) ∗ owns (c : Thread nD τ) arg10 fullShare W1 ∗ owns (c : Thread nD τ) arg11 fullShare W3 ∗ owns (c : Thread nD τ) arg12 fullShare W2) -∗ K ⟨⟩))
      ⊢ wp frame (wpE (defs₀ (F := F)) Variants.none c none) Set.univ (restFfn i arg1 harg1 arg2 harg2 (Memref.whole main_v3) (Memref.isWhole_whole _) (Memref.whole main_v4) (Memref.isWhole_whole _) (Memref.whole main_v5) (Memref.isWhole_whole _) arg6 harg6 arg7 harg7 arg8 harg8 arg9 harg9 arg10 harg10 arg11 harg11 arg12 harg12 alloca_r0 halloca_r0 cc0_scoped1 alloca_r1 halloca_r1 cc0_scoped3 alloca_r2 halloca_r2 cc0_scoped5) K := by
  unfold restFfn tail15
  simp only [k0_part16_eq_skeleton, k0_part17_eq_skeleton, k0_part18_eq_skeleton]
  unfold owns
  iintro ⟨⟨%f0, %hf0, H0⟩, ⟨%f1, %hf1, H1⟩, ⟨%d4, %f4, -, H4⟩, ⟨%fs0, %hs0, HS0⟩, ⟨%fs1, %hs1, HS1⟩, ⟨%fs2, %hs2, HS2⟩, Hk⟩
  have hx (inb) : arg1.view.readAt (Elt F) (Rect.unit (s := S1024x1024) ![0, 0] S1024x1024.size inb).toLoadRect f0 = x0 :=
    (View.readAt_full arg1.view f0 inb).trans hf0
  have hg (inb) : arg2.view.readAt (Elt F) (Rect.unit (s := S1x1024) ![0, 0] S1x1024.size inb).toLoadRect f1 = x1 :=
    (View.readAt_full arg2.view f1 inb).trans hf1
  have ha0 (inb) : arg10.view.readAt (Elt F) (Rect.unit (s := S1024x2816) ![0, 0] S1024x256.size inb).toLoadRect fs0 = colAt W1 0 (by decide) := by
    rw [← hs0]; rfl
  have hb0 (inb) : arg11.view.readAt (Elt F) (Rect.unit (s := S1024x2816) ![0, 0] S1024x256.size inb).toLoadRect fs1 = colAt W3 0 (by decide) := by
    rw [← hs1]; rfl
  have hc0 (inb) : arg12.view.readAt (Elt F) (Rect.unit (s := S2816x1024) ![0, 0] S256x1024.size inb).toLoadRect fs2 = rowAt W2 0 (by decide) := by
    rw [← hs2]; rfl
  have ha1 (inb) : arg10.view.readAt (Elt F) (Rect.unit (s := S1024x2816) ![0, 256] S1024x256.size inb).toLoadRect fs0 = colAt W1 256 (by decide) := by
    rw [← hs0]; rfl
  have hb1 (inb) : arg11.view.readAt (Elt F) (Rect.unit (s := S1024x2816) ![0, 256] S1024x256.size inb).toLoadRect fs1 = colAt W3 256 (by decide) := by
    rw [← hs1]; rfl
  have hc1 (inb) : arg12.view.readAt (Elt F) (Rect.unit (s := S2816x1024) ![256, 0] S256x1024.size inb).toLoadRect fs2 = rowAt W2 256 (by decide) := by
    rw [← hs2]; rfl
  have ha2 (inb) : arg10.view.readAt (Elt F) (Rect.unit (s := S1024x2816) ![0, 512] S1024x256.size inb).toLoadRect fs0 = colAt W1 512 (by decide) := by
    rw [← hs0]; rfl
  have hb2 (inb) : arg11.view.readAt (Elt F) (Rect.unit (s := S1024x2816) ![0, 512] S1024x256.size inb).toLoadRect fs1 = colAt W3 512 (by decide) := by
    rw [← hs1]; rfl
  have hc2 (inb) : arg12.view.readAt (Elt F) (Rect.unit (s := S2816x1024) ![512, 0] S256x1024.size inb).toLoadRect fs2 = rowAt W2 512 (by decide) := by
    rw [← hs2]; rfl
  have ha3 (inb) : arg10.view.readAt (Elt F) (Rect.unit (s := S1024x2816) ![0, 768] S1024x256.size inb).toLoadRect fs0 = colAt W1 768 (by decide) := by
    rw [← hs0]; rfl
  have hb3 (inb) : arg11.view.readAt (Elt F) (Rect.unit (s := S1024x2816) ![0, 768] S1024x256.size inb).toLoadRect fs1 = colAt W3 768 (by decide) := by
    rw [← hs1]; rfl
  have hc3 (inb) : arg12.view.readAt (Elt F) (Rect.unit (s := S2816x1024) ![768, 0] S256x1024.size inb).toLoadRect fs2 = rowAt W2 768 (by decide) := by
    rw [← hs2]; rfl
  have ha4 (inb) : arg10.view.readAt (Elt F) (Rect.unit (s := S1024x2816) ![0, 1024] S1024x256.size inb).toLoadRect fs0 = colAt W1 1024 (by decide) := by
    rw [← hs0]; rfl
  have hb4 (inb) : arg11.view.readAt (Elt F) (Rect.unit (s := S1024x2816) ![0, 1024] S1024x256.size inb).toLoadRect fs1 = colAt W3 1024 (by decide) := by
    rw [← hs1]; rfl
  have hc4 (inb) : arg12.view.readAt (Elt F) (Rect.unit (s := S2816x1024) ![1024, 0] S256x1024.size inb).toLoadRect fs2 = rowAt W2 1024 (by decide) := by
    rw [← hs2]; rfl
  have ha5 (inb) : arg10.view.readAt (Elt F) (Rect.unit (s := S1024x2816) ![0, 1280] S1024x256.size inb).toLoadRect fs0 = colAt W1 1280 (by decide) := by
    rw [← hs0]; rfl
  have hb5 (inb) : arg11.view.readAt (Elt F) (Rect.unit (s := S1024x2816) ![0, 1280] S1024x256.size inb).toLoadRect fs1 = colAt W3 1280 (by decide) := by
    rw [← hs1]; rfl
  have hc5 (inb) : arg12.view.readAt (Elt F) (Rect.unit (s := S2816x1024) ![1280, 0] S256x1024.size inb).toLoadRect fs2 = rowAt W2 1280 (by decide) := by
    rw [← hs2]; rfl
  have ha6 (inb) : arg10.view.readAt (Elt F) (Rect.unit (s := S1024x2816) ![0, 1536] S1024x256.size inb).toLoadRect fs0 = colAt W1 1536 (by decide) := by
    rw [← hs0]; rfl
  have hb6 (inb) : arg11.view.readAt (Elt F) (Rect.unit (s := S1024x2816) ![0, 1536] S1024x256.size inb).toLoadRect fs1 = colAt W3 1536 (by decide) := by
    rw [← hs1]; rfl
  have hc6 (inb) : arg12.view.readAt (Elt F) (Rect.unit (s := S2816x1024) ![1536, 0] S256x1024.size inb).toLoadRect fs2 = rowAt W2 1536 (by decide) := by
    rw [← hs2]; rfl
  have ha7 (inb) : arg10.view.readAt (Elt F) (Rect.unit (s := S1024x2816) ![0, 1792] S1024x256.size inb).toLoadRect fs0 = colAt W1 1792 (by decide) := by
    rw [← hs0]; rfl
  have hb7 (inb) : arg11.view.readAt (Elt F) (Rect.unit (s := S1024x2816) ![0, 1792] S1024x256.size inb).toLoadRect fs1 = colAt W3 1792 (by decide) := by
    rw [← hs1]; rfl
  have hc7 (inb) : arg12.view.readAt (Elt F) (Rect.unit (s := S2816x1024) ![1792, 0] S256x1024.size inb).toLoadRect fs2 = rowAt W2 1792 (by decide) := by
    rw [← hs2]; rfl
  have ha8 (inb) : arg10.view.readAt (Elt F) (Rect.unit (s := S1024x2816) ![0, 2048] S1024x256.size inb).toLoadRect fs0 = colAt W1 2048 (by decide) := by
    rw [← hs0]; rfl
  have hb8 (inb) : arg11.view.readAt (Elt F) (Rect.unit (s := S1024x2816) ![0, 2048] S1024x256.size inb).toLoadRect fs1 = colAt W3 2048 (by decide) := by
    rw [← hs1]; rfl
  have hc8 (inb) : arg12.view.readAt (Elt F) (Rect.unit (s := S2816x1024) ![2048, 0] S256x1024.size inb).toLoadRect fs2 = rowAt W2 2048 (by decide) := by
    rw [← hs2]; rfl
  have ha9 (inb) : arg10.view.readAt (Elt F) (Rect.unit (s := S1024x2816) ![0, 2304] S1024x256.size inb).toLoadRect fs0 = colAt W1 2304 (by decide) := by
    rw [← hs0]; rfl
  have hb9 (inb) : arg11.view.readAt (Elt F) (Rect.unit (s := S1024x2816) ![0, 2304] S1024x256.size inb).toLoadRect fs1 = colAt W3 2304 (by decide) := by
    rw [← hs1]; rfl
  have hc9 (inb) : arg12.view.readAt (Elt F) (Rect.unit (s := S2816x1024) ![2304, 0] S256x1024.size inb).toLoadRect fs2 = rowAt W2 2304 (by decide) := by
    rw [← hs2]; rfl
  have ha10 (inb) : arg10.view.readAt (Elt F) (Rect.unit (s := S1024x2816) ![0, 2560] S1024x256.size inb).toLoadRect fs0 = colAt W1 2560 (by decide) := by
    rw [← hs0]; rfl
  have hb10 (inb) : arg11.view.readAt (Elt F) (Rect.unit (s := S1024x2816) ![0, 2560] S1024x256.size inb).toLoadRect fs1 = colAt W3 2560 (by decide) := by
    rw [← hs1]; rfl
  have hc10 (inb) : arg12.view.readAt (Elt F) (Rect.unit (s := S2816x1024) ![2560, 0] S256x1024.size inb).toLoadRect fs2 = rowAt W2 2560 (by decide) := by
    rw [← hs2]; rfl
  sl_exec
  sl_step
  iapply Hk
  isplitl [H0]
  · iexists _; isplitr; · ipureintro; exact hf0
    iexact H0
  isplitl [H1]
  · iexists _; isplitr; · ipureintro; exact hf1
    iexact H1
  isplitl [H4]
  · iexists _; isplitr; swap; · iexact H4
    ipureintro
    refine (View.read_writes_full _ _ _ _ _).trans ?_
    sl_unfold_run_names
    rfl
  isplitl [HS0]
  · iexists _; isplitr; · ipureintro; exact hs0
    iexact HS0
  isplitl [HS1]
  · iexists _; isplitr; · ipureintro; exact hs1
    iexact HS1
  · iexists _; isplitr; · ipureintro; exact hs2
    iexact HS2

end Cert.KernelIdeal.Ffn

end
-- ==== Proof.Row.lean ====
/- The layer's row functions over the extended reals, and what a point's block of the first output is in terms of them. -/
module

public import proofs.«01_k».proof.Proof.Body
public import Idealize.ShloMosaic.Lib.Pointwise

@[expose] public section

set_option maxRecDepth 16384

noncomputable section

namespace Cert.Layer

open Idealize.ShloMosaic

/-- A row divided by its root mean square and scaled by a gain, entry by entry. -/
def normRow (x g : Fin 1024 → EReal) (k : Fin 1024) : EReal :=
  x k * Ideal.rsqrt (Ideal.div (∑ l, x l * x l) (Ideal.ofBits .f32 0x44800000#32) + Ideal.ofBits .f32 0x358637BD#32) * g k

/-- `silu a * b` on the extended reals. -/
def gate (a b : EReal) : EReal := a * Ideal.logistic a * b

/-- The gated hidden unit `k` of a normalised row. -/
def hiddenAt (h : Fin 1024 → EReal) (w1 w3 : Fin 1024 → Fin 2816 → EReal) (k : Fin 2816) : EReal :=
  gate (∑ l, h l * w1 l k) (∑ l, h l * w3 l k)

/-- A row plus half its gated feed-forward product. -/
def ffnRow (x g : Fin 1024 → EReal) (w1 w3 : Fin 1024 → Fin 2816 → EReal) (w2 : Fin 2816 → Fin 1024 → EReal) (j : Fin 1024) : EReal :=
  x j + Ideal.ofBits .f32 0x3F000000#32 * ∑ k, hiddenAt (normRow x g) w1 w3 k * w2 k j

/-- A sum over 2816 terms is the sum of its eleven runs of 256, added in order. -/
theorem sum_chunks (f : Fin 2816 → EReal) :
    ∑ k, f k = ∑ s : Fin 11, ∑ t : Fin 256, f ⟨s.val * 256 + t.val, by omega⟩ :=
  Fin.sum_univ_tiles 11 256 rfl f

/-- A sum over eleven terms, written out in order. -/
theorem sum_eleven (c : Fin 11 → EReal) : ∑ s, c s = c 0 + c 1 + c 2 + c 3 + c 4 + c 5 + c 6 + c 7 + c 8 + c 9 + c 10 := by
  simp only [Fin.sum_univ_castSucc, Fin.sum_univ_zero, zero_add]
  rfl

end Cert.Layer

namespace Cert.KernelIdeal.Ffn

open Cert.KernelIdeal.Gen Cert.Layer
open Idealize.ShloMosaic Idealize.ShloMosaic.TcCoe

/-- The normalised block at an entry is its row's normalisation. -/
theorem norm_at (x : FVec Ideal S1024x1024 .f32) (g : FVec Ideal S1x1024 .f32) (r k : Fin 1024) :
    k0_pay28 (F := Ideal) x g (ix2 r k) = normRow (fun l => x (ix2 r l)) (fun l => g (ix2 0 l)) k := by
  pointwise [k0_pay28, k0_pay27, normRow]

/-- A chunk of gated hidden units at an entry. -/
theorem glu_at (h : FVec Ideal S1024x1024 .bf16) (a b : FVec Ideal S1024x256 .bf16) (r : Fin 1024) (k : Fin 256) :
    glu (F := Ideal) h a b (ix2 r k) = gate (∑ l : Fin 1024, h (ix2 r l) * a (ix2 l k)) (∑ l : Fin 1024, h (ix2 r l) * b (ix2 l k)) := by
  pointwise [glu, gate]

/-- One more chunk's product at an entry. -/
theorem accum_at (y : FVec Ideal S1024x1024 .f32) (g : FVec Ideal S1024x256 .bf16) (w : FVec Ideal S256x1024 .bf16) (r j : Fin 1024) :
    accum (F := Ideal) y g w (ix2 r j) = y (ix2 r j) + ∑ k : Fin 256, g (ix2 r k) * w (ix2 k j) := by
  pointwise [accum]

/-- The columns from `o` on, at an entry. -/
theorem colAt_at (W : FVec Ideal S1024x2816 .bf16) (o : ℕ) (h : o + 256 ≤ 2816) (l : Fin 1024) (k : Fin 256) :
    colAt (F := Ideal) W o h (ix2 l k) = W (ix2 l (⟨o + k.val, by omega⟩ : Fin 2816)) := by
  unfold colAt
  congr 1; funext a
  match a with
  | ⟨0, _⟩ => apply Fin.ext; show 0 + 1 * l.val = l.val; omega
  | ⟨1, _⟩ => apply Fin.ext; show o + 1 * k.val = o + k.val; omega

/-- The rows from `o` on, at an entry. -/
theorem rowAt_at (W : FVec Ideal S2816x1024 .bf16) (o : ℕ) (h : o + 256 ≤ 2816) (k : Fin 256) (j : Fin 1024) :
    rowAt (F := Ideal) W o h (ix2 k j) = W (ix2 (⟨o + k.val, by omega⟩ : Fin 2816) j) := by
  unfold rowAt
  congr 1; funext a
  match a with
  | ⟨0, _⟩ => apply Fin.ext; show o + 1 * k.val = o + k.val; omega
  | ⟨1, _⟩ => apply Fin.ext; show 0 + 1 * j.val = j.val; omega

/-- One chunk's contribution to an entry: 256 terms of the down-projection's sum. -/
theorem chunk_at (h : FVec Ideal S1024x1024 .bf16) (W1 W3 : FVec Ideal S1024x2816 .bf16) (W2 : FVec Ideal S2816x1024 .bf16)
    (y : FVec Ideal S1024x1024 .f32) (o : ℕ) (h1 : o + 256 ≤ 2816) (r j : Fin 1024) :
    accum (F := Ideal) y (glu h (colAt W1 o h1) (colAt W3 o h1)) (rowAt W2 o h1) (ix2 r j)
      = y (ix2 r j) + ∑ t : Fin 256, hiddenAt (fun l => h (ix2 r l)) (fun l k => W1 (ix2 l k)) (fun l k => W3 (ix2 l k)) ⟨o + t.val, by omega⟩
          * W2 (ix2 (⟨o + t.val, by omega⟩ : Fin 2816) j) := by
  rw [accum_at]
  refine congrArg (y (ix2 r j) + ·) (Finset.sum_congr rfl fun t _ => ?_)
  rw [glu_at, rowAt_at]
  simp only [colAt_at, hiddenAt]

/-- The accumulator after the last chunk, at an entry: the whole sum over the hidden units. -/
theorem accAll_at (h : FVec Ideal S1024x1024 .bf16) (W1 W3 : FVec Ideal S1024x2816 .bf16) (W2 : FVec Ideal S2816x1024 .bf16) (r j : Fin 1024) :
    accAll (F := Ideal) h W1 W3 W2 (ix2 r j)
      = ∑ k, hiddenAt (fun l => h (ix2 r l)) (fun l k => W1 (ix2 l k)) (fun l k => W3 (ix2 l k)) k * W2 (ix2 k j) := by
  unfold accAll
  have h0 : k0_pay29 (F := Ideal) (ix2 r j) = 0 := by pointwise [k0_pay29]
  simp only [chunk_at, h0]
  rw [sum_chunks]
  rw [sum_eleven, zero_add]
  rfl

/-- A point's block of the first output, at an entry. -/
theorem ffnOut_at (x : FVec Ideal S1024x1024 .f32) (g : FVec Ideal S1x1024 .f32) (W1 W3 : FVec Ideal S1024x2816 .bf16)
    (W2 : FVec Ideal S2816x1024 .bf16) (r j : Fin 1024) :
    ffnOut (F := Ideal) x g W1 W3 W2 (ix2 r j)
      = ffnRow (fun l => x (ix2 r l)) (fun l => g (ix2 0 l)) (fun l k => W1 (ix2 l k)) (fun l k => W3 (ix2 l k)) (fun k j => W2 (ix2 k j)) j := by
  have e : ffnOut (F := Ideal) x g W1 W3 W2 (ix2 r j)
      = x (ix2 r j) + Ideal.ofBits .f32 0x3F000000#32 * accAll (F := Ideal) (k0_pay28 x g) W1 W3 W2 (ix2 r j) := by
    pointwise [ffnOut, k0_pay27]
  rw [e, accAll_at]
  simp only [norm_at]
  rfl

end Cert.KernelIdeal.Ffn
end
-- ==== Proof.RefValue.lean ====
/- The reference's two results at an entry, and its run. -/
module

public import proofs.«01_k».proof.Proof.Row
public import proofs.«01_k».proof.Proof.Gen.ReferenceIdeal.Run
public import Idealize.ShloMosaic.Lib.Claim

@[expose] public section

set_option maxRecDepth 16384

noncomputable section

namespace Cert.ReferenceIdeal.Ffn

open Cert.ReferenceIdeal.Gen Cert.Layer
open Idealize.ShloMosaic Idealize.ShloMosaic.TcCoe Idealize.SL.Sem

/-- The reference's normalised rows. -/
def refNorm (X : FVec Ideal S8x4096x1024 .f32) (G : FVec Ideal S1x1024 .f32) : FVec Ideal S8x4096x1024 .f32 :=
  mulf (mulf X (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf X X) (constant S_ .f32 0x00000000#32) reducesTo_S8x4096x1024_S8x4096_d2 h_S_))
    (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast _ G shapeCasts_S1x1024_S1024)))

/-- The reference's product of rows with an up-projection. -/
def refUp (H : FVec Ideal S8x4096x1024 .f32) (A : FVec Ideal S1x1024x2816 .f32) : FVec Ideal S8x4096x2816 .f32 :=
  Host.dotGeneral dot_S8x4096x1024_S1024x2816_S8x4096x2816_2_0_01_1_n_n none H (shapeCast _ A shapeCasts_S1x1024x2816_S1024x2816)

/-- The reference's gated hidden units. -/
def refGate (a b : FVec Ideal S8x4096x2816 .f32) : FVec Ideal S8x4096x2816 .f32 :=
  mulf (mulf a (Host.divf (broadcastInDim S8x4096x2816 ![] bcast_S_S8x4096x2816 (constant S_ .f32 0x3F800000#32))
    (addf (broadcastInDim S8x4096x2816 ![] bcast_S_S8x4096x2816 (constant S_ .f32 0x3F800000#32)) (Host.exp (Host.negf a))))) b

/-- The reference's first result as a tensor of three axes, from its gated hidden units. -/
def refSum (X : FVec Ideal S8x4096x1024 .f32) (U : FVec Ideal S8x4096x2816 .f32) (A2 : FVec Ideal S1x2816x1024 .f32) : FVec Ideal S8x4096x1024 .f32 :=
  addf X (mulf (broadcastInDim S8x4096x1024 ![] bcast_S_S8x4096x1024 (constant S_ .f32 0x3F000000#32))
    (Host.dotGeneral dot_S8x4096x2816_S2816x1024_S8x4096x1024_2_0_01_1_n_n none U (shapeCast _ A2 shapeCasts_S1x2816x1024_S2816x1024)))

/-- The reference's first result. -/
def refFfn (X : FVec Ideal S8x4096x1024 .f32) (G : FVec Ideal S1x1024 .f32) (A1 A3 : FVec Ideal S1x1024x2816 .f32) (A2 : FVec Ideal S1x2816x1024 .f32) :
    FVec Ideal S32768x1024 .f32 :=
  shapeCast _ (refSum X (refGate (refUp (refNorm X G) A1) (refUp (refNorm X G) A3)) A2) shapeCasts_S8x4096x1024_S32768x1024

/-- The reference's second result. -/
def refSide (W : FVec Ideal S1x1024x8192 .f32) : FVec Ideal S1024x8192 .bf16 :=
  truncf .bf16 (shapeCast _ W shapeCasts_S1x1024x8192_S1024x8192) bitsLt_bf16_f32

/-- The reference's normalised rows at an entry. -/
theorem refNorm_at (X : FVec Ideal S8x4096x1024 .f32) (G : FVec Ideal S1x1024 .f32) (b : Fin 8) (s : Fin 4096) (k : Fin 1024) :
    refNorm X G (ix3 b s k) = normRow (fun l => X (ix3 b s l)) (fun l => G (ix2 0 l)) k := by
  pointwise [refNorm, normRow]
  first | done | rw [zero_add]

/-- A product with an up-projection at an entry. -/
theorem refUp_at (H : FVec Ideal S8x4096x1024 .f32) (A : FVec Ideal S1x1024x2816 .f32) (b : Fin 8) (s : Fin 4096) (k : Fin 2816) :
    refUp H A (ix3 b s k) = ∑ l : Fin 1024, H (ix3 b s l) * A (ix3 0 l k) := by
  pointwise [refUp]

/-- The gated hidden units at an entry. -/
theorem refGate_at (u v : FVec Ideal S8x4096x2816 .f32) (b : Fin 8) (s : Fin 4096) (k : Fin 2816) :
    refGate u v (ix3 b s k) = gate (u (ix3 b s k)) (v (ix3 b s k)) := by
  pointwise [refGate, gate, Ideal.logistic]

/-- The residual sum at an entry. -/
theorem refSum_at (X : FVec Ideal S8x4096x1024 .f32) (U : FVec Ideal S8x4096x2816 .f32) (A2 : FVec Ideal S1x2816x1024 .f32) (b : Fin 8) (s : Fin 4096) (j : Fin 1024) :
    refSum X U A2 (ix3 b s j) = X (ix3 b s j) + Ideal.ofBits .f32 0x3F000000#32 * ∑ k : Fin 2816, U (ix3 b s k) * A2 (ix3 0 k j) := by
  pointwise [refSum]

/-- The reference's first result at an entry is the feed-forward row of that entry's token. -/
theorem refFfn_at (X : FVec Ideal S8x4096x1024 .f32) (G : FVec Ideal S1x1024 .f32) (A1 A3 : FVec Ideal S1x1024x2816 .f32) (A2 : FVec Ideal S1x2816x1024 .f32)
    (i : Fin 32768) (j : Fin 1024) :
    refFfn X G A1 A3 A2 (ix2 i j)
      = ffnRow (fun l => X (ix3 (⟨i.val / 4096, by omega⟩ : Fin 8) (⟨i.val % 4096, by omega⟩ : Fin 4096) l)) (fun l => G (ix2 0 l))
          (fun l k => A1 (ix3 0 l k)) (fun l k => A3 (ix3 0 l k)) (fun k j => A2 (ix3 0 k j)) j := by
  have e : refFfn X G A1 A3 A2 (ix2 i j) = refSum X (refGate (refUp (refNorm X G) A1) (refUp (refNorm X G) A3)) A2
      (ix3 (⟨i.val / 4096, by omega⟩ : Fin 8) (⟨i.val % 4096, by omega⟩ : Fin 4096) j) := by
    pointwise [refFfn]
  rw [e, refSum_at]
  simp only [refGate_at, refUp_at, refNorm_at]
  rfl

/-- The second result at an entry. -/
theorem refSide_at (W : FVec Ideal S1x1024x8192 .f32) (i : Fin 1024) (j : Fin 8192) : refSide W (ix2 i j) = W (ix3 0 i j) := by
  pointwise [refSide]

variable (m : (ℓ : Loc nD τ sig) → Buf (Elt Ideal) ℓ) (ρ : Dev nD → PrngReg)

/-- The reference ends with its two results and its arguments unchanged. -/
theorem run_ref : θ_run defs (onTc (τ := τ) (main (F := Ideal))) ⟨m, fun _ => 0, ρ⟩ fun r => ∀ c : Dev nD,
      r.2.mem ((c.tc : Thread nD τ).loc main_v25) = refFfn (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v27) = refSide (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.ReferenceIdeal.Value.run m ρ

end Cert.ReferenceIdeal.Ffn
end
-- ==== Proof.Final.lean ====
/- The second feed-forward call: its block of output rows, and what its result array holds at the end. -/
module

public import proofs.«01_k».proof.Proof.Row
public import proofs.«01_k».proof.Proof.Gen.Kernel2Ideal.Frame
public import Idealize.ShloMosaic.Lib.Pipeline.ValueKit

@[expose] public section

set_option maxRecDepth 16384

noncomputable section

namespace Cert.Kernel2Ideal.Final

open Cert.Kernel2Ideal.Gen Cert.Layer
open Idealize.ShloMosaic Idealize.ShloMosaic.TcCoe Idealize.SL.Sem
open Idealize.ShloMosaic.Pipeline (Dat)

variable {F : FTy → Type} [FloatOps F]

/-- A block of rows, each divided by its root mean square and scaled by a gain. -/
def normBlock (y : FVec F S1024x1024 .f32) (g : FVec F S1x1024 .f32) : FVec F S1024x1024 .f32 :=
  mulf (mulf y (broadcastTo S1024x1024 (rsqrt (addf (divf (shapeCast S1024x1 (multiReduction .add [1] S1024 (mulf y y) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))) broadcasts_S1024x1_S1024x1024))
    (broadcastTo S1024x1024 g broadcasts_S1x1024_S1024x1024)

/-- What a point leaves in its block of the output: the first call's feed-forward block, normalised. -/
theorem out_eq (x0 : FVec F S1024x1024 .f32) (x1 : FVec F S1x1024 .f32) (x2 x3 : FVec F S1024x2816 .bf16) (x4 : FVec F S2816x1024 .bf16) (x5 : FVec F S1x1024 .f32) :
    out0_6 x0 x1 x2 x3 x4 x5 = normBlock (Cert.KernelIdeal.Ffn.ffnOut x0 x1 x2 x3 x4) (shapeCast S1x1024 x5 shapeCasts_S1x1024_S1x1024) := by
  unfold out0_6
  have hz : (![0, 0] : Fin 2 → ℕ) = fun _ => 0 := by decide
  rw [View.canon_unit_zero hz]
  have h0 : View.ld (Val := Elt F) (e' := .f32) x0 r0_0 = x0 := View.ld_unit_zero (Val := Elt F) (e := .f32) (S := S1024x1024) hz inb_S1024x1024_S1024x1024_0_0 x0
  have h1 : View.ld (Val := Elt F) (e' := .f32) x1 r0_1 = x1 := View.ld_unit_zero (Val := Elt F) (e := .f32) (S := S1x1024) hz inb_S1x1024_S1x1024_0_0 x1
  have h5 : View.ld (Val := Elt F) (e' := .f32) x5 r0_1 = x5 := View.ld_unit_zero (Val := Elt F) (e := .f32) (S := S1x1024) hz inb_S1x1024_S1x1024_0_0 x5
  unfold k0_pay18 k0_pay17 k0_pay16 k0_pay15
  rw [h0, h1, h5]
  simp only [k0_pay1, k0_pay2, k0_pay3, k0_pay4, k0_pay5, k0_pay6, k0_pay7, k0_pay8, k0_pay9, k0_pay10, k0_pay11, k0_pay12, k0_pay13, k0_pay14,
    normBlock, Cert.KernelIdeal.Ffn.ffnOut, Cert.KernelIdeal.Ffn.accAll, Cert.KernelIdeal.Ffn.accum, Cert.KernelIdeal.Ffn.glu,
    Cert.KernelIdeal.Gen.k0_pay27, Cert.KernelIdeal.Gen.k0_pay28, Cert.KernelIdeal.Gen.k0_pay29, shapeCast_self]
  rfl

/-- The normalised block at an entry. -/
theorem normBlock_at (y : FVec Ideal S1024x1024 .f32) (g : FVec Ideal S1x1024 .f32) (r j : Fin 1024) :
    normBlock y g (ix2 r j) = normRow (fun l => y (ix2 r l)) (fun l => g (ix2 0 l)) j := by
  pointwise [normBlock, normRow]

/-- The result's row: a feed-forward row, normalised with the last gain. -/
def lastRow (x g : Fin 1024 → EReal) (w1 w3 : Fin 1024 → Fin 2816 → EReal) (w2 : Fin 2816 → Fin 1024 → EReal) (f : Fin 1024 → EReal) (j : Fin 1024) : EReal :=
  normRow (ffnRow x g w1 w3 w2) f j

/-- A point's block of the output at an entry. -/
theorem out_at (x0 : FVec Ideal S1024x1024 .f32) (x1 : FVec Ideal S1x1024 .f32) (x2 x3 : FVec Ideal S1024x2816 .bf16) (x4 : FVec Ideal S2816x1024 .bf16) (x5 : FVec Ideal S1x1024 .f32) (r j : Fin 1024) :
    out0_6 (F := Ideal) x0 x1 x2 x3 x4 x5 (ix2 r j)
      = lastRow (fun l => x0 (ix2 r l)) (fun l => x1 (ix2 0 l)) (fun l k => x2 (ix2 l k)) (fun l k => x3 (ix2 l k)) (fun k j => x4 (ix2 k j)) (fun l => x5 (ix2 0 l)) j := by
  rw [out_eq, normBlock_at, shapeCast_self]
  have e : (fun l => Cert.KernelIdeal.Ffn.ffnOut (F := Ideal) x0 x1 x2 x3 x4 (ix2 r l))
      = ffnRow (fun l => x0 (ix2 r l)) (fun l => x1 (ix2 0 l)) (fun l k => x2 (ix2 l k)) (fun l k => x3 (ix2 l k)) (fun k j => x4 (ix2 k j)) :=
    funext fun l => Cert.KernelIdeal.Ffn.ffnOut_at _ _ _ _ _ r l
  exact congrArg (fun h => normRow h (fun l => x5 (ix2 0 l)) j) e

variable (m : (ℓ : Loc nD τ sig) → Buf (Elt Ideal) ℓ)

/-- Every window's block index at every point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, _)

/-- The result: the last row of each token. -/
def outRows (X : FVec Ideal S32768x1024 .f32) (G : FVec Ideal S1x1024 .f32) (W1 W3 : FVec Ideal S1024x2816 .bf16) (W2 : FVec Ideal S2816x1024 .bf16) (H : FVec Ideal S1x1024 .f32) :
    FVec Ideal S32768x1024 .f32 :=
  fun i => lastRow (fun l => X (ix2 (i 0) l)) (fun l => G (ix2 0 l)) (fun l k => W1 (ix2 l k)) (fun l k => W3 (ix2 l k)) (fun k j => W2 (ix2 k j)) (fun l => H (ix2 0 l)) (i 1)

/-- The result array after the run. -/
theorem final6 (c : Dev nD) : (dats m 0 c).arrAt 6 (cfgs 0).N
    = outRows (V m c main_v6) (V m c main_v8) (V m c main_v1) (V m c main_v3) (V m c main_v5) (V m c main_v9) := by
  refine (dats m 0 c).arrAt_eq_of_covers 6 _ (by decide +kernel) fun t _ y => ?_
  blk_simp
  rw [after0_6]
  obtain ⟨r, j, rfl⟩ : ∃ (r j : Fin 1024), y = (ix2 r j : S1024x1024.Idx) := ⟨y 0, y 1, eq_ix2 y⟩
  refine (out_at _ _ _ _ _ _ r j).trans ?_
  pointwise [outRows, lastRow, ffnRow, hiddenAt, gate, normRow]
  blk_point [iblk, idx t]

end Cert.Kernel2Ideal.Final
end
-- ==== Proof.FinalRef.lean ====
/- The second feed-forward's reference at an entry, and its run. -/
module

public import proofs.«01_k».proof.Proof.RefValue
public import proofs.«01_k».proof.Proof.Final
public import proofs.«01_k».proof.Proof.Gen.Reference2Ideal.Run
public import Idealize.ShloMosaic.Lib.Claim

@[expose] public section

set_option maxRecDepth 16384

noncomputable section

namespace Cert.Reference2Ideal.Final

open Cert.Reference2Ideal.Gen Cert.Layer Cert.ReferenceIdeal.Ffn Cert.Kernel2Ideal.Final
open Idealize.ShloMosaic Idealize.ShloMosaic.TcCoe Idealize.SL.Sem

/-- Rows divided by their root mean square and scaled by a gain, on three axes. -/
def refLast (Y : FVec Ideal S8x4096x1024 .f32) (H : FVec Ideal S1024 .f32) : FVec Ideal S8x4096x1024 .f32 :=
  mulf (mulf Y (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf Y Y) (constant S_ .f32 0x00000000#32) reducesTo_S8x4096x1024_S8x4096_d2 h_S_))
    (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 H))

/-- The normalised rows at an entry. -/
theorem refLast_at (Y : FVec Ideal S8x4096x1024 .f32) (H : FVec Ideal S1024 .f32) (b : Fin 8) (s : Fin 4096) (k : Fin 1024) :
    refLast Y H (ix3 b s k) = normRow (fun l => Y (ix3 b s l)) (fun l => H (ix1 l)) k := by
  pointwise [refLast, normRow]
  first | done | rw [zero_add]

/-- The reference's feed-forward rows on three axes. -/
def refMid (X : FVec Ideal S8x4096x1024 .f32) (G : FVec Ideal S1x1024 .f32) (A1 A3 : FVec Ideal S1x1024x2816 .f32) (A2 : FVec Ideal S1x2816x1024 .f32) :
    FVec Ideal S8x4096x1024 .f32 :=
  refSum X (refGate (refUp (refNorm X G) A1) (refUp (refNorm X G) A3)) A2

/-- The feed-forward rows at an entry. -/
theorem refMid_at (X : FVec Ideal S8x4096x1024 .f32) (G : FVec Ideal S1x1024 .f32) (A1 A3 : FVec Ideal S1x1024x2816 .f32) (A2 : FVec Ideal S1x2816x1024 .f32)
    (b : Fin 8) (s : Fin 4096) (j : Fin 1024) :
    refMid X G A1 A3 A2 (ix3 b s j)
      = ffnRow (fun l => X (ix3 b s l)) (fun l => G (ix2 0 l)) (fun l k => A1 (ix3 0 l k)) (fun l k => A3 (ix3 0 l k)) (fun k j => A2 (ix3 0 k j)) j := by
  unfold refMid
  rw [refSum_at]
  simp only [refGate_at, refUp_at, refNorm_at]
  rfl

/-- The reference's result. -/
def refOut (X : FVec Ideal S8x4096x1024 .f32) (G : FVec Ideal S1x1024 .f32) (A1 A3 : FVec Ideal S1x1024x2816 .f32) (A2 : FVec Ideal S1x2816x1024 .f32) (H : FVec Ideal S1024 .f32) :
    FVec Ideal S32768x1024 .f32 :=
  shapeCast _ (refLast (refMid X G A1 A3 A2) H) shapeCasts_S8x4096x1024_S32768x1024

/-- The reference's result at an entry is the last row of that entry's token. -/
theorem refOut_at (X : FVec Ideal S8x4096x1024 .f32) (G : FVec Ideal S1x1024 .f32) (A1 A3 : FVec Ideal S1x1024x2816 .f32) (A2 : FVec Ideal S1x2816x1024 .f32) (H : FVec Ideal S1024 .f32)
    (i : Fin 32768) (j : Fin 1024) :
    refOut X G A1 A3 A2 H (ix2 i j)
      = lastRow (fun l => X (ix3 (⟨i.val / 4096, by omega⟩ : Fin 8) (⟨i.val % 4096, by omega⟩ : Fin 4096) l)) (fun l => G (ix2 0 l))
          (fun l k => A1 (ix3 0 l k)) (fun l k => A3 (ix3 0 l k)) (fun k j => A2 (ix3 0 k j)) (fun l => H (ix1 l)) j := by
  have e : refOut X G A1 A3 A2 H (ix2 i j) = refLast (refMid X G A1 A3 A2) H
      (ix3 (⟨i.val / 4096, by omega⟩ : Fin 8) (⟨i.val % 4096, by omega⟩ : Fin 4096) j) := by
    pointwise [refOut]
  rw [e, refLast_at]
  simp only [refMid_at]
  rfl

variable (m : (ℓ : Loc nD τ sig) → Buf (Elt Ideal) ℓ) (ρ : Dev nD → PrngReg)

/-- The reference ends with its result and its arguments unchanged. -/
theorem run_ref : θ_run defs (onTc (τ := τ) (main (F := Ideal))) ⟨m, fun _ => 0, ρ⟩ fun r => ∀ c : Dev nD,
      r.2.mem ((c.tc : Thread nD τ).loc main_v38) = refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by unfold Cert.Reference2Ideal.Value.res_main_v38; rfl), (h c).2⟩) (Cert.Reference2Ideal.Value.run m ρ)

end Cert.Reference2Ideal.Final
end
-- ==== Proof.FinalSame.lean ====
/- The second feed-forward call: its result is the reference's, its run, and its frame at the words. -/
module

public import proofs.«01_k».proof.Defs
public import proofs.«01_k».proof.Proof.FinalRef
public import proofs.«01_k».proof.Proof.Gen.Kernel2

@[expose] public section

set_option maxRecDepth 100000

noncomputable section

namespace Cert.Kernel2Ideal.Final

open Cert.Kernel2Ideal.Gen Cert.Layer
open Idealize.ShloMosaic Idealize.ShloMosaic.TcCoe Idealize.SL.Sem
open Idealize.ShloMosaic.Pipeline (Dat)

section
variable {F : FTy → Type} [FloatOps F] (m : (ℓ : Loc nD τ sig) → Buf (Elt F) ℓ) (ρ : Dev nD → PrngReg)

/-- At any float values, the call ends with its result array as its window left it and its arguments unchanged. -/
theorem run_post : θ_run defs (onTc (τ := τ) (main (F := F))) ⟨m, fun _ => 0, ρ⟩ fun r => ∀ c : Dev nD,
      r.2.mem ((c.tc : Thread nD τ).loc main_v10) = (dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1 6,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end

variable (m : (ℓ : Loc nD τ sig) → Buf (Elt Ideal) ℓ)

/-- The reshaped activations, as the call finds them. -/
theorem V_v6 (c : Dev nD) : V m c main_v6 = shapeCast S32768x1024 (m ((c : Thread nD τ).loc main_arg0)) shapeCasts_S8x4096x1024_S32768x1024 := by
  entry_read <;> rfl

/-- The reshaped first gain, as the call finds it. -/
theorem V_v8 (c : Dev nD) : V m c main_v8 = shapeCast S1x1024 (shapeCast S1024 (m ((c : Thread nD τ).loc main_arg1)) shapeCasts_S1x1024_S1024) shapeCasts_S1024_S1x1024 := by
  entry_read <;> rfl

/-- The first up-projection, as the call finds it. -/
theorem V_v1 (c : Dev nD) : V m c main_v1 = truncf (F := Ideal) .bf16 (shapeCast S1024x2816 (m ((c : Thread nD τ).loc main_arg2)) shapeCasts_S1x1024x2816_S1024x2816) bitsLt_bf16_f32 := by
  entry_read <;> rfl

/-- The second up-projection, as the call finds it. -/
theorem V_v3 (c : Dev nD) : V m c main_v3 = truncf (F := Ideal) .bf16 (shapeCast S1024x2816 (m ((c : Thread nD τ).loc main_arg3)) shapeCasts_S1x1024x2816_S1024x2816) bitsLt_bf16_f32 := by
  entry_read <;> rfl

/-- The down-projection, as the call finds it. -/
theorem V_v5 (c : Dev nD) : V m c main_v5 = truncf (F := Ideal) .bf16 (shapeCast S2816x1024 (m ((c : Thread nD τ).loc main_arg4)) shapeCasts_S1x2816x1024_S2816x1024) bitsLt_bf16_f32 := by
  entry_read <;> rfl

/-- The reshaped last gain, as the call finds it. -/
theorem V_v9 (c : Dev nD) : V m c main_v9 = shapeCast S1x1024 (m ((c : Thread nD τ).loc main_arg5)) shapeCasts_S1024_S1x1024 := by
  entry_read <;> rfl

/-- The last rows of the prepared arguments, at an entry. -/
theorem outRows_at (X : FVec Ideal S8x4096x1024 .f32) (G : FVec Ideal S1x1024 .f32) (A1 A3 : FVec Ideal S1x1024x2816 .f32) (A2 : FVec Ideal S1x2816x1024 .f32)
    (H : FVec Ideal S1024 .f32) (i : Fin 32768) (j : Fin 1024) :
    outRows (shapeCast S32768x1024 X shapeCasts_S8x4096x1024_S32768x1024)
        (shapeCast S1x1024 (shapeCast S1024 G shapeCasts_S1x1024_S1024) shapeCasts_S1024_S1x1024)
        (truncf .bf16 (shapeCast S1024x2816 A1 shapeCasts_S1x1024x2816_S1024x2816) bitsLt_bf16_f32)
        (truncf .bf16 (shapeCast S1024x2816 A3 shapeCasts_S1x1024x2816_S1024x2816) bitsLt_bf16_f32)
        (truncf .bf16 (shapeCast S2816x1024 A2 shapeCasts_S1x2816x1024_S2816x1024) bitsLt_bf16_f32)
        (shapeCast S1x1024 H shapeCasts_S1024_S1x1024) (ix2 i j)
      = lastRow (fun l => X (ix3 (⟨i.val / 4096, by omega⟩ : Fin 8) (⟨i.val % 4096, by omega⟩ : Fin 4096) l)) (fun l => G (ix2 0 l))
          (fun l k => A1 (ix3 0 l k)) (fun l k => A3 (ix3 0 l k)) (fun k j => A2 (ix3 0 k j)) (fun l => H (ix1 l)) j := by
  pointwise [outRows]

/-- The result array is the reference's result of the call's arguments. -/
theorem same6 (c : Dev nD) : (dats m 0 c).arrAt 6 (cfgs 0).N
    = Cert.Reference2Ideal.Final.refOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [final6]
  funext i
  obtain ⟨r, j, rfl⟩ : ∃ (r : Fin 32768) (j : Fin 1024), i = (ix2 r j : S32768x1024.Idx) := ⟨i 0, i 1, eq_ix2 i⟩
  refine Eq.trans ?_ (Cert.Reference2Ideal.Final.refOut_at _ _ _ _ _ _ r j).symm
  rw [V_v6, V_v8, V_v1, V_v3, V_v5, V_v9]
  exact outRows_at _ _ _ _ _ _ r j

end Cert.Kernel2Ideal.Final

namespace Cert.Kernel2.Final

open Idealize.ShloMosaic Idealize.SL.Sem

/-- The two programs' kernel bodies are the same. -/
theorem body_same : @Cert.Kernel2.cc0_ffn_final Bits _ _ = @Cert.Kernel2Ideal.cc0_ffn_final Bits _ _ := rfl

/-- The two programs' tables of definitions are the same. -/
theorem defs_same : Cert.Kernel2.defs (F := Bits) = Cert.Kernel2Ideal.defs (F := Bits) := by
  unfold Cert.Kernel2.defs Cert.Kernel2Ideal.defs
  refine congrArg (Pipeline.defs Cert.Kernel2Ideal.pcfgs) ?_
  unfold Cert.Kernel2.defs₀ Cert.Kernel2Ideal.defs₀
  refine congrArg Defs.onTc (funext fun l => funext fun a => ?_)
  match l, a with
  | 0, (t, s) => dsimp only; rw [body_same]; congr 1

/-- The call terminates with its arguments unchanged and every counter at zero: the idealization's run, at the words. -/
theorem frame : Cert.quiescent_Kernel2 := fun m ρ _ => by
  rw [defs_same]
  exact Cert.Kernel2Ideal.Gen.frame (F := Bits) m ρ

end Cert.Kernel2.Final
end
-- ==== Proof.Point.lean ====
/- The body's triple at the first point and at a later one. -/
module

public import proofs.«01_k».proof.Proof.Body

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The cast of the side weight's block. -/
def castSide (arg7 : Memref sig .tc .vmem S32x8192 .f32) (arg9 : Memref sig .tc .vmem S32x8192 .bf16) (harg9 : arg9.IsWhole) : Prog (TpuEff nD τ sig (Elt F) Λ₀ .tc) PUnit := do
  let v0 : Vec F S32x8192 .f32 ← Prog.lift (.load arg7 (Rect.unit (s := S32x8192) ![0, 0] S32x8192.size inb_S32x8192_S32x8192_0_0).toLoadRect (View.loadsAt_vmem h_S32x8192))
  let v3 : Vec F S32x8192 .bf16 ← Prog.lift (.load arg9 (Rect.unit (s := S32x8192) ![0, 0] S32x8192.size inb_S32x8192_S32x8192_0_0).toLoadRect (View.loadsAt_vmem h_S32x8192))
  Prog.lift (.store arg9 (Rect.unit (s := S32x8192) ![0, 0] S32x8192.size inb_S32x8192_S32x8192_0_0) (k0_pay25 v0) Finset.univ (View.stores_vmem h_S32x8192 (harg9.storeExact_slice rfl _ packedbf16_S32x8192_S32x8192_0_0) (fun _ => rfl)) (.inl rfl))

theorem cc0_first_eq (i : grid0.Coords) (arg1 : Memref sig .tc .vmem S1024x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S32x8192 .f32) (harg7 : arg7.IsWhole) (arg8 : Memref sig .tc .vmem S1024x1024 .f32) (harg8 : arg8.IsWhole) (arg9 : Memref sig .tc .vmem S32x8192 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S4x128x2816 .f32) (halloca_r0 : alloca_r0.IsWhole) (v150_r0 : DmaSems sig S4) (alloca_r1 : Memref sig .tc .vmem S4x128x2816 .f32) (halloca_r1 : alloca_r1.IsWhole) (v150_r1 : DmaSems sig S4) (alloca_r2 : Memref sig .tc .vmem S4x352x1024 .f32) (halloca_r2 : alloca_r2.IsWhole) (v150_r2 : DmaSems sig S4) (hc : cond0_0 i) :
    cc0_ffn (F := F) i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2 =
      (castSide arg7 arg9 harg9 >>= fun _ => loadAll i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2 >>= fun _ => restFfn i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2) := by
  rw [cc0_first (hc := hc)]; unfold castSide; simp only [bind_assoc]

theorem cc0_later_eq (i : grid0.Coords) (arg1 : Memref sig .tc .vmem S1024x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S32x8192 .f32) (harg7 : arg7.IsWhole) (arg8 : Memref sig .tc .vmem S1024x1024 .f32) (harg8 : arg8.IsWhole) (arg9 : Memref sig .tc .vmem S32x8192 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S4x128x2816 .f32) (halloca_r0 : alloca_r0.IsWhole) (v150_r0 : DmaSems sig S4) (alloca_r1 : Memref sig .tc .vmem S4x128x2816 .f32) (halloca_r1 : alloca_r1.IsWhole) (v150_r1 : DmaSems sig S4) (alloca_r2 : Memref sig .tc .vmem S4x352x1024 .f32) (halloca_r2 : alloca_r2.IsWhole) (v150_r2 : DmaSems sig S4) (hc : ¬ cond0_0 i) :
    cc0_ffn (F := F) i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2 =
      (castSide arg7 arg9 harg9 >>= fun _ => restFfn i arg1 harg1 arg2 harg2 arg3 harg3 arg4 harg4 arg5 harg5 arg6 harg6 arg7 harg7 arg8 harg8 arg9 harg9 arg10 harg10 arg11 harg11 arg12 harg12 alloca_r0 halloca_r0 v150_r0 alloca_r1 halloca_r1 v150_r1 alloca_r2 halloca_r2 v150_r2) := by
  rw [cc0_later (hc := hc)]; unfold castSide; simp only [bind_assoc]

/-- The side block ends at its cast, entry by entry. -/
theorem run_side (c : Dev nD) (arg7 : Memref sig .tc .vmem S32x8192 .f32) (arg9 : Memref sig .tc .vmem S32x8192 .bf16) (harg9 : arg9.IsWhole) (x3 : Vec F S32x8192 .f32) (K : PUnit → sProp 𝕄) :
    iprop(owns (c : Thread nD τ) arg7 fullShare x3 ∗ (∃ d, owns (c : Thread nD τ) arg9 fullShare d) ∗ (iprop(owns (c : Thread nD τ) arg7 fullShare x3 ∗ owns (c : Thread nD τ) arg9 fullShare (k0_pay25 x3)) -∗ K ⟨⟩))
      ⊢ wp frame (wpE (defs₀ (F := F)) Variants.none c none) Set.univ (castSide arg7 arg9 harg9) K := by
  unfold castSide owns
  iintro ⟨⟨%f3, %hf3, H3⟩, ⟨%d5, %f5, -, H5⟩, Hk⟩
  have hx (inb) : arg7.view.readAt (Elt F) (Rect.unit (s := S32x8192) ![0, 0] S32x8192.size inb).toLoadRect f3 = x3 :=
    (View.readAt_full arg7.view f3 inb).trans hf3
  sl_exec
  sl_step
  iapply Hk
  isplitl [H3]
  · iexists _; isplitr; · ipureintro; exact hf3
    iexact H3
  · iexists _; isplitr; swap; · iexact H5
    ipureintro
    exact View.read_writes_full _ _ _ _ _

/-- The body at the first point: the outputs at their values, the resident scratch at the three weights rounded. -/
theorem run_first (c : Dev nD) (i : grid0.Coords) (arg1 : Memref sig .tc .vmem S1024x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S32x8192 .f32) (harg7 : arg7.IsWhole) (arg8 : Memref sig .tc .vmem S1024x1024 .f32) (harg8 : arg8.IsWhole) (arg9 : Memref sig .tc .vmem S32x8192 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S4x128x2816 .f32) (halloca_r0 : alloca_r0.IsWhole) (alloca_r1 : Memref sig .tc .vmem S4x128x2816 .f32) (halloca_r1 : alloca_r1.IsWhole) (alloca_r2 : Memref sig .tc .vmem S4x352x1024 .f32) (halloca_r2 : alloca_r2.IsWhole) (hc : cond0_0 i)
    (x0 : Vec F S1024x1024 .f32) (x1 : Vec F S1x1024 .f32) (x2 : Vec F S1x1024 .f32) (x3 : Vec F S32x8192 .f32)
    (fh0 : HbBuf0 (F := F) c hbM0_0) (fh1 : HbBuf0 (F := F) c hbM0_1) (fh2 : HbBuf0 (F := F) c hbM0_2) (W : Waits sig Unit) (K : PUnit → sProp 𝕄) :
    iprop(owns (c : Thread nD τ) arg1 fullShare x0 ∗ owns (c : Thread nD τ) arg2 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) alloca_r0 fullShare d) ∗ (∃ d, owns (c : Thread nD τ) alloca_r1 fullShare d) ∗ (∃ d, owns (c : Thread nD τ) alloca_r2 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ hbPt0 c hbM0_2 fh2 ∗ owes (c : Thread nD τ) 0 W
      ∗ (iprop(owns (c : Thread nD τ) arg1 fullShare x0 ∗ owns (c : Thread nD τ) arg2 fullShare x1 ∗ owns (c : Thread nD τ) arg6 fullShare x2 ∗ owns (c : Thread nD τ) arg7 fullShare x3 ∗ owns (c : Thread nD τ) arg8 fullShare (ffnOut x0 x1 (wb1 c fh0) (wb3 c fh1) (wb2 c fh2)) ∗ owns (c : Thread nD τ) arg9 fullShare (k0_pay25 x3) ∗ owns (c : Thread nD τ) arg10 fullShare (wb1 c fh0) ∗ owns (c : Thread nD τ) arg11 fullShare (wb3 c fh1) ∗ owns (c : Thread nD τ) arg12 fullShare (wb2 c fh2) ∗ (∃ d, owns (c : Thread nD τ) alloca_r0 fullShare d) ∗ (∃ d, owns (c : Thread nD τ) alloca_r1 fullShare d) ∗ (∃ d, owns (c : Thread nD τ) alloca_r2 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ hbPt0 c hbM0_2 fh2 ∗ (∃ W', owes (c : Thread nD τ) 0 W')) -∗ K ⟨⟩))
      ⊢ wp frame (wpE (defs₀ (F := F)) Variants.none c none) Set.univ (cc0_ffn i arg1 harg1 arg2 harg2 (Memref.whole main_v3) (Memref.isWhole_whole _) (Memref.whole main_v4) (Memref.isWhole_whole _) (Memref.whole main_v5) (Memref.isWhole_whole _) arg6 harg6 arg7 harg7 arg8 harg8 arg9 harg9 arg10 harg10 arg11 harg11 arg12 harg12 alloca_r0 halloca_r0 cc0_scoped1 alloca_r1 halloca_r1 cc0_scoped3 alloca_r2 halloca_r2 cc0_scoped5) K := by
  rw [cc0_first_eq _ _ _ _ _ _ _ _ _ _ _ _ _ _ _ _ _ _ _ _ _ _ _ _ _ _ _ _ _ _ _ _ _ _ hc, wp_bind, wp_bind]
  iintro ⟨H0, H1, H2, H3, H4, H5, HS0, HS1, HS2, HS3, HS4, HS5, Hq0, Hq1, Hq2, Hq3, Hq4, Hq5, Hq6, Hq7, Hq8, Hq9, Hq10, Hq11, Hh0, Hh1, Hh2, HW, Hk⟩
  iapply run_side c arg7 arg9 harg9 x3
  isplitl [H3]; · iexact H3
  isplitl [H5]; · iexact H5
  iintro ⟨H3, H5⟩
  iapply run_load c i arg1 harg1 arg2 harg2 arg6 harg6 arg7 harg7 arg8 harg8 arg9 harg9 arg10 harg10 arg11 harg11 arg12 harg12 alloca_r0 halloca_r0 alloca_r1 halloca_r1 alloca_r2 halloca_r2 fh0 fh1 fh2 W _
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hh0]; · iexact Hh0
  isplitl [Hh1]; · iexact Hh1
  isplitl [Hh2]; · iexact Hh2
  isplitl [HW]; · iexact HW
  iintro ⟨HS0, HS1, HS2, HS3, HS4, HS5, Hq0, Hq1, Hq2, Hq3, Hq4, Hq5, Hq6, Hq7, Hq8, Hq9, Hq10, Hq11, Hh0, Hh1, Hh2, HW⟩
  iapply run_rest c i arg1 harg1 arg2 harg2 arg6 harg6 arg7 harg7 arg8 harg8 arg9 harg9 arg10 harg10 arg11 harg11 arg12 harg12 alloca_r0 halloca_r0 alloca_r1 halloca_r1 alloca_r2 halloca_r2 x0 x1 _ _ _ _
  isplitl [H0]; · iexact H0
  isplitl [H1]; · iexact H1
  isplitl [H4]; · iexact H4
  isplitl [HS0]; · iexact HS0
  isplitl [HS1]; · iexact HS1
  isplitl [HS2]; · iexact HS2
  iintro ⟨H0, H1, H4, HS0, HS1, HS2⟩
  iapply Hk
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hh0]; · iexact Hh0
  isplitl [Hh1]; · iexact Hh1
  isplitl [Hh2]; · iexact Hh2
  iexact HW

/-- The body at a later point, entered with the resident weights: the outputs at their values, the weights as they were. -/
theorem run_later (c : Dev nD) (i : grid0.Coords) (arg1 : Memref sig .tc .vmem S1024x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S32x8192 .f32) (harg7 : arg7.IsWhole) (arg8 : Memref sig .tc .vmem S1024x1024 .f32) (harg8 : arg8.IsWhole) (arg9 : Memref sig .tc .vmem S32x8192 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S4x128x2816 .f32) (halloca_r0 : alloca_r0.IsWhole) (alloca_r1 : Memref sig .tc .vmem S4x128x2816 .f32) (halloca_r1 : alloca_r1.IsWhole) (alloca_r2 : Memref sig .tc .vmem S4x352x1024 .f32) (halloca_r2 : alloca_r2.IsWhole) (hc : ¬ cond0_0 i)
    (x0 : Vec F S1024x1024 .f32) (x1 : Vec F S1x1024 .f32) (x2 : Vec F S1x1024 .f32) (x3 : Vec F S32x8192 .f32)
    (fh0 : HbBuf0 (F := F) c hbM0_0) (fh1 : HbBuf0 (F := F) c hbM0_1) (fh2 : HbBuf0 (F := F) c hbM0_2) (W : Waits sig Unit) (K : PUnit → sProp 𝕄) :
    iprop(owns (c : Thread nD τ) arg1 fullShare x0 ∗ owns (c : Thread nD τ) arg2 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ owns (c : Thread nD τ) arg10 fullShare (wb1 c fh0) ∗ owns (c : Thread nD τ) arg11 fullShare (wb3 c fh1) ∗ owns (c : Thread nD τ) arg12 fullShare (wb2 c fh2) ∗ (∃ d, owns (c : Thread nD τ) alloca_r0 fullShare d) ∗ (∃ d, owns (c : Thread nD τ) alloca_r1 fullShare d) ∗ (∃ d, owns (c : Thread nD τ) alloca_r2 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ hbPt0 c hbM0_2 fh2 ∗ owes (c : Thread nD τ) 0 W
      ∗ (iprop(owns (c : Thread nD τ) arg1 fullShare x0 ∗ owns (c : Thread nD τ) arg2 fullShare x1 ∗ owns (c : Thread nD τ) arg6 fullShare x2 ∗ owns (c : Thread nD τ) arg7 fullShare x3 ∗ owns (c : Thread nD τ) arg8 fullShare (ffnOut x0 x1 (wb1 c fh0) (wb3 c fh1) (wb2 c fh2)) ∗ owns (c : Thread nD τ) arg9 fullShare (k0_pay25 x3) ∗ owns (c : Thread nD τ) arg10 fullShare (wb1 c fh0) ∗ owns (c : Thread nD τ) arg11 fullShare (wb3 c fh1) ∗ owns (c : Thread nD τ) arg12 fullShare (wb2 c fh2) ∗ (∃ d, owns (c : Thread nD τ) alloca_r0 fullShare d) ∗ (∃ d, owns (c : Thread nD τ) alloca_r1 fullShare d) ∗ (∃ d, owns (c : Thread nD τ) alloca_r2 fullShare d) ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ hbPt0 c hbM0_0 fh0 ∗ hbPt0 c hbM0_1 fh1 ∗ hbPt0 c hbM0_2 fh2 ∗ (∃ W', owes (c : Thread nD τ) 0 W')) -∗ K ⟨⟩))
      ⊢ wp frame (wpE (defs₀ (F := F)) Variants.none c none) Set.univ (cc0_ffn i arg1 harg1 arg2 harg2 (Memref.whole main_v3) (Memref.isWhole_whole _) (Memref.whole main_v4) (Memref.isWhole_whole _) (Memref.whole main_v5) (Memref.isWhole_whole _) arg6 harg6 arg7 harg7 arg8 harg8 arg9 harg9 arg10 harg10 arg11 harg11 arg12 harg12 alloca_r0 halloca_r0 cc0_scoped1 alloca_r1 halloca_r1 cc0_scoped3 alloca_r2 halloca_r2 cc0_scoped5) K := by
  rw [cc0_later_eq _ _ _ _ _ _ _ _ _ _ _ _ _ _ _ _ _ _ _ _ _ _ _ _ _ _ _ _ _ _ _ _ _ _ hc, wp_bind]
  iintro ⟨H0, H1, H2, H3, H4, H5, HS0, HS1, HS2, HS3, HS4, HS5, Hq0, Hq1, Hq2, Hq3, Hq4, Hq5, Hq6, Hq7, Hq8, Hq9, Hq10, Hq11, Hh0, Hh1, Hh2, HW, Hk⟩
  iapply run_side c arg7 arg9 harg9 x3
  isplitl [H3]; · iexact H3
  isplitl [H5]; · iexact H5
  iintro ⟨H3, H5⟩
  iapply run_rest c i arg1 harg1 arg2 harg2 arg6 harg6 arg7 harg7 arg8 harg8 arg9 harg9 arg10 harg10 arg11 harg11 arg12 harg12 alloca_r0 halloca_r0 alloca_r1 halloca_r1 alloca_r2 halloca_r2 x0 x1 _ _ _ _
  isplitl [H0]; · iexact H0
  isplitl [H1]; · iexact H1
  isplitl [H4]; · iexact H4
  isplitl [HS0]; · iexact HS0
  isplitl [HS1]; · iexact HS1
  isplitl [HS2]; · iexact HS2
  iintro ⟨H0, H1, H4, HS0, HS1, HS2⟩
  iapply Hk
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hh0]; · iexact Hh0
  isplitl [Hh1]; · iexact Hh1
  isplitl [Hh2]; · iexact Hh2
  iexists W; iexact HW

end Cert.KernelIdeal.Ffn

end
-- ==== Proof.Run.lean ====
/- The proof data, the body obligation and the launch. -/
module

public import proofs.«01_k».proof.Proof.Point
public import Idealize.ShloMosaic.Lib.Claim

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The invariant from the second point on: the resident scratch holds the three weights rounded. -/
def PhiW (c : Dev nD) : sProp 𝕄 :=
  iprop(iprop(owns (c : Thread nD τ) scM0_0 fullShare (wb1 c (V m c main_v3)) ∗ owns (c : Thread nD τ) scM0_1 fullShare (wb3 c (V m c main_v4)) ∗ owns (c : Thread nD τ) scM0_2 fullShare (wb2 c (V m c main_v5)) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) ∗ iprop(hbPt0 c hbM0_0 (V m c main_v3) ∗ hbPt0 c hbM0_1 (V m c main_v4) ∗ hbPt0 c hbM0_2 (V m c main_v5)))

/-- The invariant before point `n`: the launch's at the first point, `PhiW` from then on. -/
def PhiN (c : Dev nD) (n : ℕ) : sProp 𝕄 := if n = 0 then Pipeline.ΦD osem0 spec0 H0 (V m) c else PhiW m c

/-- The proof data: each input's staging buffer at its block, the outputs' at the products and at the side block's cast. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => ffnOut (iblk m c 0 t) (iblk m c 1 t) (wb1 c (V m c main_v3)) (wb3 c (V m c main_v4)) (wb2 c (V m c main_v5))
    | ⟨5, _⟩ => k0_pay25 (iblk m c 3 t)
  Φ t := PhiN m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
/-- What the body leaves in the two outputs' staging buffers. -/
theorem after0_4 (c : Dev nD) (t : Fin cfg0.N) : (dats m 0 c).after 4 t
    = ffnOut (iblk m c 0 t) (iblk m c 1 t) (wb1 c (V m c main_v3)) (wb3 c (V m c main_v4)) (wb2 c (V m c main_v5)) := by dsimp only [dats]
theorem after0_5 (c : Dev nD) (t : Fin cfg0.N) : (dats m 0 c).after 5 t = k0_pay25 (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The invariant before and after point `t`. -/
theorem Phi_before (c : Dev nD) (t : Fin cfg0.N) : (dats m 0 c).Φ t.castSucc = PhiN m c t.val := by
  dsimp only [dats]
  exact Pipeline.Dat.Φ_castSucc (fun n _ => PhiN m c n) t
theorem Phi_after (c : Dev nD) (t : Fin cfg0.N) : (dats m 0 c).Φ t.succ = PhiW m c := by
  dsimp only [dats]
  rw [Fin.val_succ]; unfold PhiN; exact if_neg (Nat.succ_ne_zero _)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point takes the invariant, the inputs' blocks and the outputs' buffers to what `bodyPost` lists. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [Phi_after, Phi_before, after0_0, after0_1, after0_2, after0_3, after0_4, after0_5]
  unfold Dat.owesAt Pipeline.owesWithin PhiW
  rw [show (dats m 0 c).owed t.castSucc = 0 from rfl, show (dats m 0 c).owed t.succ = 0 from rfl]
  have hN : t.val < 32 := lt_of_lt_of_eq t.isLt (show cfg0.N = 32 from N_0)
  by_cases h0 : t.val = 0
  · rw [show PhiN m c t.val = Pipeline.ΦD osem0 spec0 H0 (V m) c from if_pos h0, PhiD0_eq]
    iintro ⟨⟨⟨HS0, HS1, HS2, HS3, HS4, HS5⟩, Hg, ⟨Hq0, Hq1, Hq2, Hq3, Hq4, Hq5, Hq6, Hq7, Hq8, Hq9, Hq10, Hq11⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ _ _ _ _ _ _ _ _ _ _ ((hcond0_0 t).mpr (by omega)) (iblk m c 0 t) (iblk m c 1 t) (iblk m c 2 t) (iblk m c 3 t) (V m c main_v3) (V m c main_v4) (V m c main_v5) W _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [HW]; · iexact HW
    iintro ⟨H0, H1, H2, H3, H4, H5, HS0, HS1, HS2, HS3, HS4, HS5, Hq0, Hq1, Hq2, Hq3, Hq4, Hq5, Hq6, Hq7, Hq8, Hq9, Hq10, Hq11, Hh0, Hh1, Hh2, ⟨%W', HW'⟩⟩
    isplitl [HS0 HS1 HS2 HS3 HS4 HS5 Hg Hq0 Hq1 Hq2 Hq3 Hq4 Hq5 Hq6 Hq7 Hq8 Hq9 Hq10 Hq11 Hh0 Hh1 Hh2]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [Hg]
      · iexact Hg
      isplitl [Hq0 Hq1 Hq2 Hq3 Hq4 Hq5 Hq6 Hq7 Hq8 Hq9 Hq10 Hq11]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        iexact Hq11
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · rw [show PhiN m c t.val = PhiW m c from if_neg h0]
    unfold PhiW
    iintro ⟨⟨⟨HS0, HS1, HS2, HS3, HS4, HS5⟩, Hg, ⟨Hq0, Hq1, Hq2, Hq3, Hq4, Hq5, Hq6, Hq7, Hq8, Hq9, Hq10, Hq11⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ _ _ _ _ _ _ _ _ _ _ (fun h => h0 (by have := (hcond0_0 t).mp h; omega)) (iblk m c 0 t) (iblk m c 1 t) (iblk m c 2 t) (iblk m c 3 t) (V m c main_v3) (V m c main_v4) (V m c main_v5) W _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [HW]; · iexact HW
    iintro ⟨H0, H1, H2, H3, H4, H5, HS0, HS1, HS2, HS3, HS4, HS5, Hq0, Hq1, Hq2, Hq3, Hq4, Hq5, Hq6, Hq7, Hq8, Hq9, Hq10, Hq11, Hh0, Hh1, Hh2, ⟨%W', HW'⟩⟩
    isplitl [HS0 HS1 HS2 HS3 HS4 HS5 Hg Hq0 Hq1 Hq2 Hq3 Hq4 Hq5 Hq6 Hq7 Hq8 Hq9 Hq10 Hq11 Hh0 Hh1 Hh2]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      isplitl [Hg]
      · iexact Hg
      isplitl [Hq0 Hq1 Hq2 Hq3 Hq4 Hq5 Hq6 Hq7 Hq8 Hq9 Hq10 Hq11]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        iexact Hq11
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The last invariant gives the launch's back: the scratch's contents are forgotten. -/
theorem Phi_out (c : Dev nD) : (dats m 0 c).Φ (Fin.last cfg0.N) ⊢ Pipeline.ΦD osem0 spec0 H0 (V m) c := by
  have e : (dats m 0 c).Φ (Fin.last cfg0.N) = PhiW m c := by
    dsimp only [dats]
    rw [Fin.val_last]; unfold PhiN; exact if_neg (by rw [show cfg0.N = 32 from N_0]; decide)
  rw [e, PhiD0_eq]; unfold PhiW
  iintro ⟨⟨HS0, HS1, HS2, HS⟩, Hr⟩
  isplitl [HS0 HS1 HS2 HS]
  · isplitl [HS0]; · iexists _; iexact HS0
    isplitl [HS1]; · iexists _; iexact HS1
    isplitl [HS2]; · iexists _; iexact HS2
    iexact HS
  iexact Hr

theorem Phi_in (c : Dev nD) : Pipeline.ΦD osem0 spec0 H0 (V m) c ⊢ (dats m 0 c).Φ 0 := by
  have e : (dats m 0 c).Φ 0 = Pipeline.ΦD osem0 spec0 H0 (V m) c := by
    dsimp only [dats]; exact if_pos rfl
  rw [e]

set_option backward.isDefEq.respectTransparency.types false in
/-- The launch: every execution of @main ends with every array of the pipeline at the proof data's contents after the last
    point, every other unscoped buffer as the region found it, and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

end Cert.KernelIdeal.Ffn

end
-- ==== Proof.Value.lean ====
/- What the kernel's two result arrays hold at the end, entry by entry. -/
module

public import proofs.«01_k».proof.Proof.Run
public import proofs.«01_k».proof.Proof.Row
public import Idealize.ShloMosaic.Lib.Pipeline.ValueKit

@[expose] public section

set_option maxRecDepth 16384

noncomputable section

namespace Cert.KernelIdeal.Ffn

open Cert.KernelIdeal.Gen Cert.Layer
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every window's block index at every point. -/
theorem idx : ∀ t : Fin cfg0.N, win0_0.index t = ![t.val, 0] ∧ win0_1.index t = ![0, 0] ∧ win0_3.index t = ![t.val, 0]
    ∧ win0_4.index t = ![t.val, 0] ∧ win0_5.index t = ![t.val, 0] :=
  (by decide +kernel : ∀ t : Fin grid0.N, _)

/-- The first result: the feed-forward row of each token. -/
def outRows (X : FVec Ideal S32768x1024 .f32) (G : FVec Ideal S1x1024 .f32) (W1 W3 : FVec Ideal S1024x2816 .f32) (W2 : FVec Ideal S2816x1024 .f32) :
    FVec Ideal S32768x1024 .f32 :=
  fun i => ffnRow (fun l => X (ix2 (i 0) l)) (fun l => G (ix2 0 l)) (fun l k => W1 (ix2 l k)) (fun l k => W3 (ix2 l k)) (fun k j => W2 (ix2 k j)) (i 1)

/-- The first result array after the run. -/
theorem final4 (c : Dev nD) : (dats m 0 c).arrAt 4 (cfgs 0).N
    = outRows (V m c main_v0) (V m c main_v2) (V m c main_v3) (V m c main_v4) (V m c main_v5) := by
  refine (dats m 0 c).arrAt_eq_of_covers 4 _ (by decide +kernel) fun t _ y => ?_
  blk_simp
  rw [after0_4]
  obtain ⟨r, j, rfl⟩ : ∃ (r j : Fin 1024), y = (ix2 r j : S1024x1024.Idx) := ⟨y 0, y 1, eq_ix2 y⟩
  refine (ffnOut_at _ _ _ _ _ r j).trans ?_
  pointwise [outRows, ffnRow, hiddenAt, gate, normRow, wb1, wb3, wb2]
  blk_point [iblk, idx t]

/-- The second result array after the run. -/
theorem final5 (c : Dev nD) : (dats m 0 c).arrAt 5 (cfgs 0).N = (V m c main_v7 : FVec Ideal S1024x8192 .f32) := by
  refine (dats m 0 c).arrAt_eq_of_covers 5 _ (by decide +kernel) fun t _ y => ?_
  blk_simp
  rw [after0_5]
  pointwise [k0_pay25]
  blk_point [iblk, idx t]

end Cert.KernelIdeal.Ffn
end
-- ==== Proof.Post.lean ====
/- What the run leaves in the results and in the arguments. -/
module

public import proofs.«01_k».proof.Proof.Run
public import Idealize.ShloMosaic.Lib.Claim

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- At any float values, the kernel ends with its two result arrays as the windows left them, its arguments unchanged, and
    every counter at zero. -/
theorem run_post : θ_run defs (onTc (τ := τ) (main (F := F))) ⟨m, fun _ => 0, ρ⟩ fun r => (∀ c : Dev nD,
      r.2.mem ((c.tc : Thread nD τ).loc main_v8_0) = (dats m 0 c).arrAt 4 (cfgs 0).N
      ∧ r.2.mem ((c.tc : Thread nD τ).loc main_v8_1) = (dats m 0 c).arrAt 5 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run defs _ _).mono (fun r h => ⟨fun c => ⟨(h.1 c).1 4, (h.1 c).1 5,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c)⟩, h.2⟩) (run_main m ρ)

/-- At any float values, the kernel ends with its arguments unchanged and every counter at zero. -/
theorem run_args : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run defs _ _).mono (fun _ h => ⟨fun c => (h.1 c).2.2, h.2⟩) (run_post m ρ)

end Cert.KernelIdeal.Ffn
end
-- ==== Proof.Same.lean ====
/- The kernel's two results are the reference's, over the kernel's arguments. -/
module

public import proofs.«01_k».proof.Proof.Value
public import proofs.«01_k».proof.Proof.RefValue
public import proofs.«01_k».proof.Proof.Post

@[expose] public section

set_option maxRecDepth 16384

noncomputable section

namespace Cert.KernelIdeal.Ffn

open Cert.KernelIdeal.Gen Cert.Layer
open Idealize.ShloMosaic Idealize.ShloMosaic.TcCoe Idealize.SL.Sem

variable (m : (ℓ : Loc nD τ sig) → Buf (Elt Ideal) ℓ)

/-- The reshaped argument `arg0`, as the kernel call finds it. -/
theorem V_v0 (c : Dev nD) : V m c main_v0 = shapeCast S32768x1024 (m ((c : Thread nD τ).loc main_arg0)) shapeCasts_S8x4096x1024_S32768x1024 := by
  entry_read <;> rfl

/-- The reshaped argument `arg1`, as the kernel call finds it. -/
theorem V_v2 (c : Dev nD) : V m c main_v2 = shapeCast S1x1024 (shapeCast S1024 (m ((c : Thread nD τ).loc main_arg1)) shapeCasts_S1x1024_S1024) shapeCasts_S1024_S1x1024 := by
  entry_read <;> rfl

/-- The reshaped argument `arg2`, as the kernel call finds it. -/
theorem V_v3 (c : Dev nD) : V m c main_v3 = shapeCast S1024x2816 (m ((c : Thread nD τ).loc main_arg2)) shapeCasts_S1x1024x2816_S1024x2816 := by
  entry_read <;> rfl

/-- The reshaped argument `arg3`, as the kernel call finds it. -/
theorem V_v4 (c : Dev nD) : V m c main_v4 = shapeCast S1024x2816 (m ((c : Thread nD τ).loc main_arg3)) shapeCasts_S1x1024x2816_S1024x2816 := by
  entry_read <;> rfl

/-- The reshaped argument `arg4`, as the kernel call finds it. -/
theorem V_v5 (c : Dev nD) : V m c main_v5 = shapeCast S2816x1024 (m ((c : Thread nD τ).loc main_arg4)) shapeCasts_S1x2816x1024_S2816x1024 := by
  entry_read <;> rfl

/-- The reshaped argument `arg5`, as the kernel call finds it. -/
theorem V_v7 (c : Dev nD) : V m c main_v7 = shapeCast S1024x8192 (m ((c : Thread nD τ).loc main_arg5)) shapeCasts_S1x1024x8192_S1024x8192 := by
  entry_read <;> rfl

/-- The reshaped side weight, at an entry. -/
theorem sideRows_at (W : FVec Ideal S1x1024x8192 .f32) (i : Fin 1024) (j : Fin 8192) :
    shapeCast S1024x8192 W shapeCasts_S1x1024x8192_S1024x8192 (ix2 i j) = W (ix3 0 i j) := by
  pointwise

/-- The feed-forward rows of the reshaped arguments, at an entry. -/
theorem outRows_at (X : FVec Ideal S8x4096x1024 .f32) (G : FVec Ideal S1x1024 .f32) (A1 A3 : FVec Ideal S1x1024x2816 .f32) (A2 : FVec Ideal S1x2816x1024 .f32)
    (i : Fin 32768) (j : Fin 1024) :
    outRows (shapeCast S32768x1024 X shapeCasts_S8x4096x1024_S32768x1024)
        (shapeCast S1x1024 (shapeCast S1024 G shapeCasts_S1x1024_S1024) shapeCasts_S1024_S1x1024)
        (shapeCast S1024x2816 A1 shapeCasts_S1x1024x2816_S1024x2816) (shapeCast S1024x2816 A3 shapeCasts_S1x1024x2816_S1024x2816)
        (shapeCast S2816x1024 A2 shapeCasts_S1x2816x1024_S2816x1024) (ix2 i j)
      = ffnRow (fun l => X (ix3 (⟨i.val / 4096, by omega⟩ : Fin 8) (⟨i.val % 4096, by omega⟩ : Fin 4096) l)) (fun l => G (ix2 0 l))
          (fun l k => A1 (ix3 0 l k)) (fun l k => A3 (ix3 0 l k)) (fun k j => A2 (ix3 0 k j)) j := by
  pointwise [outRows]

/-- The first result array is the reference's first result of the kernel's arguments. -/
theorem same4 (c : Dev nD) : (dats m 0 c).arrAt 4 (cfgs 0).N
    = Cert.ReferenceIdeal.Ffn.refFfn (m ((c : Thread nD τ).loc main_arg0)) (m ((c : Thread nD τ).loc main_arg1)) (m ((c : Thread nD τ).loc main_arg2))
        (m ((c : Thread nD τ).loc main_arg3)) (m ((c : Thread nD τ).loc main_arg4)) := by
  rw [final4]
  funext i
  obtain ⟨r, j, rfl⟩ : ∃ (r : Fin 32768) (j : Fin 1024), i = (ix2 r j : S32768x1024.Idx) := ⟨i 0, i 1, eq_ix2 i⟩
  refine Eq.trans ?_ (Cert.ReferenceIdeal.Ffn.refFfn_at _ _ _ _ _ r j).symm
  rw [V_v0, V_v2, V_v3, V_v4, V_v5]
  exact outRows_at _ _ _ _ _ r j

/-- The second result array is the reference's second result of the kernel's arguments. -/
theorem same5 (c : Dev nD) : (dats m 0 c).arrAt 5 (cfgs 0).N
    = Cert.ReferenceIdeal.Ffn.refSide (m ((c : Thread nD τ).loc main_arg5)) := by
  rw [final5]
  funext i
  obtain ⟨r, j, rfl⟩ : ∃ (r : Fin 1024) (j : Fin 8192), i = (ix2 r j : S1024x8192.Idx) := ⟨i 0, i 1, eq_ix2 i⟩
  refine Eq.trans ?_ (Cert.ReferenceIdeal.Ffn.refSide_at _ r j).symm
  rw [V_v7]
  exact sideRows_at _ r j

end Cert.KernelIdeal.Ffn
end
-- ==== Proof.Twin.lean ====
/- The kernel and its idealization are one program: the run of the idealization, at the words, is the kernel's. -/
module

public import proofs.«01_k».proof.Defs
public import proofs.«01_k».proof.Proof.Post
public import proofs.«01_k».proof.Proof.Gen.Kernel

@[expose] public section

set_option maxRecDepth 100000

noncomputable section

namespace Cert.Kernel.Ffn

open Idealize.ShloMosaic Idealize.SL.Sem

/-- The two programs' kernel bodies are the same. -/
theorem body_same : @Cert.Kernel.cc0_ffn Bits _ _ = @Cert.KernelIdeal.cc0_ffn Bits _ _ := rfl

/-- The two programs' tables of kernel bodies are the same. -/
theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => dsimp only; rw [body_same]; congr 1

/-- The two programs' tables of definitions are the same. -/
theorem defs_same : Cert.Kernel.defs (F := Bits) = Cert.KernelIdeal.defs (F := Bits) := by
  unfold Cert.Kernel.defs Cert.KernelIdeal.defs
  exact congrArg (Pipeline.defs Cert.KernelIdeal.pcfgs) defs₀_same

/-- The kernel terminates with its arguments unchanged and every counter at zero: the idealization's run, at the words. -/
theorem frame : Cert.quiescent_Kernel := fun m ρ _ => by
  rw [defs_same]
  exact Cert.KernelIdeal.Ffn.run_args (F := Bits) m ρ

end Cert.Kernel.Ffn
end
-- ==== Proof.Attn.lean ====
/- The attention kernel's body as passes over the keys: a pass that stores one head's scores and takes their running maximum,
   and a pass that turns them into weights and stores the head's output. The printed body is these passes. -/
module

public import proofs.«01_k».proof.Proof.Gen.Kernel3Ideal.Frame
public import Idealize.ShloMosaic.Lib.Tactic

@[expose] public section

set_option maxRecDepth 16384

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- A program of the kernel's body with result `α`. -/
abbrev P (F : FTy → Type) (α : Type) := Prog (TpuEff nD τ sig (Elt F) Λ₀ .tc) α

/-! ## The values -/

/-- The scores of 512 keys against a tile of 256 queries. -/
def score (k : Vec F S1x512x128 .bf16) (q : FVec F S256x128 .bf16) : FVec F S512x256 .f32 :=
  matmul dot_S512x128_S256x128_S512x256_1_1_0_0_n_n none (shapeCast S512x128 k shapeCasts_S1x512x128_S512x128) q (constant S512x256 .f32 0x00000000#32)

/-- A query tile scaled and rounded. -/
def scaled (q : Vec F S1x256x128 .f32) : FVec F S256x128 .bf16 :=
  truncf .bf16 (mulf (shapeCast S256x128 q shapeCasts_S1x256x128_S256x128) (broadcast S256x128 (Named.named κ "scale_log2e" 0x3E0293EE#32))) bitsLt_bf16_f32

/-- The running maximum with one more chunk of scores. -/
def maxStep (m : FVec F S8x256 .f32) (s : FVec F S512x256 .f32) : FVec F S8x256 .f32 :=
  maximumf m (multiReduction .maximumf [0] S8x256 (shapeCast S64x8x256 s shapeCasts_S512x256_S64x8x256) 0xFF800000#32 reduces_S64x8x256_S8x256 (.inl rfl) rfl)

/-- Where the running maximum starts. -/
def maxStart : FVec F S8x256 .f32 := broadcast S8x256 (Scalar.ofBits .f32 0xF149F2CA#32)

/-- The maximum over all keys, from the running maximum. -/
def maxRow (m : FVec F S8x256 .f32) : FVec F S1x256 .f32 :=
  shapeCast S1x256 (multiReduction .maximumf [0] S256 m 0xFF800000#32 reduces_S8x256_S256 (.inl rfl) rfl) shapeCasts_S256_S1x256

/-- The weights of 512 keys, not yet divided by their sum. -/
def weight (s : FVec F S512x256 .f32) (mx : FVec F S1x256 .f32) : FVec F S512x256 .f32 :=
  exp2 (subf s (broadcastTo S512x256 mx broadcasts_S1x256_S512x256))

/-- The running sum of the weights with one more chunk. -/
def sumStep (l : FVec F S8x256 .f32) (p : FVec F S512x256 .f32) : FVec F S8x256 .f32 :=
  addf l (multiReduction .add [0] S8x256 (shapeCast S64x8x256 p shapeCasts_S512x256_S64x8x256) 0x00000000#32 reduces_S64x8x256_S8x256 (.inl rfl) rfl)

/-- Where the running sum starts. -/
def sumStart : FVec F S8x256 .f32 := broadcast S8x256 (Scalar.ofBits .f32 0x00000000#32)

/-- The output of one head's tile: the values weighted, divided by the weights' sum, transposed and rounded. -/
def tileOut (vt : Vec F S1x128x4096 .bf16) (p : Vec F S1x4096x256 .bf16) (l : FVec F S8x256 .f32) : FVec F S1x256x128 .bf16 :=
  shapeCast S1x256x128 (truncf .bf16 (transpose S256x128 [1, 0] (divf
    (matmul dot_S128x4096_S4096x256_S128x256_1_0_0_1_n_n none (shapeCast S128x4096 vt shapeCasts_S1x128x4096_S128x4096) (shapeCast S4096x256 p shapeCasts_S1x4096x256_S4096x256) (constant S128x256 .f32 0x00000000#32))
    (broadcastTo S128x256 (shapeCast S1x256 (multiReduction .add [0] S256 l 0x00000000#32 reduces_S8x256_S256 (.inl rfl) rfl) shapeCasts_S256_S1x256) broadcasts_S1x256_S128x256))
    transposes_S128x256_p1_0_S256x128) bitsLt_bf16_f32) shapeCasts_S256x128_S1x256x128

/-! ## The passes -/

theorem inbK (n : ℕ) (h : n + 512 ≤ 4096) : ∀ a, (![0, n, 0] : Fin 3 → ℕ) a + S1x512x128.size a ≤ S1x4096x128.size a := by
  intro a; fin_cases a <;> simp [S1x512x128, S1x4096x128] <;> omega

theorem inbS (g n : ℕ) (hg : g < 4) (h : n + 512 ≤ 4096) : ∀ a, (![g, n, 0] : Fin 3 → ℕ) a + S1x512x256.size a ≤ S4x4096x256.size a := by
  intro a; fin_cases a <;> simp [S1x512x256, S4x4096x256] <;> omega

theorem inbG (g : ℕ) (hg : g < 4) : ∀ a, (![g, 0, 0] : Fin 3 → ℕ) a + S1x4096x256.size a ≤ S4x4096x256.size a := by
  intro a; fin_cases a <;> simp [S1x4096x256, S4x4096x256] <;> omega

variable (arg3 : Memref sig .tc .vmem S1x4096x128 .bf16) (arg4 : Memref sig .tc .vmem S1x128x4096 .bf16)
  (arg11 : Memref sig .tc .vmem S1x4096x512 .bf16) (arg18 : Memref sig .tc .vmem S4x4096x256 .f32) (arg19 : Memref sig .tc .vmem S4x4096x256 .bf16)

/-- One chunk of the score pass: the scores stored, the running maximum raised. -/
def scoreStep (g n : ℕ) (hg : g < 4) (hn : n + 512 ≤ 4096) (q : FVec F S256x128 .bf16) (m : FVec F S8x256 .f32) : P F (FVec F S8x256 .f32) := do
  let k : Vec F S1x512x128 .bf16 ← Prog.lift (.load arg3 (Rect.unit (s := S1x4096x128) ![0, n, 0] S1x512x128.size (inbK n hn)).toLoadRect (View.loadsAt_vmem h_S1x512x128))
  let _ : Vec F S1x512x256 .f32 ← Prog.lift (.load arg18 (Rect.unit (s := S4x4096x256) ![g, n, 0] S1x512x256.size (inbS g n hg hn)).toLoadRect (View.loadsAt_vmem h_S1x512x256))
  Prog.lift (.store arg18 (Rect.unit (s := S4x4096x256) ![g, n, 0] S1x512x256.size (inbS g n hg hn)) (shapeCast S1x512x256 (score k q) shapeCasts_S512x256_S1x512x256 : FVec F S1x512x256 .f32) Finset.univ (View.stores_vmem_bits_univ h_S1x512x256 rfl) (.inl rfl))
  pure (maxStep m (score k q))

/-- The score pass of head `g`: its scores in eight chunks. -/
def scorePass (g : ℕ) (hg : g < 4) (q : FVec F S256x128 .bf16) : P F (FVec F S8x256 .f32) := do
  let m ← scoreStep arg3 arg18 g 0 hg (by decide) q maxStart
  let m ← scoreStep arg3 arg18 g 512 hg (by decide) q m
  let m ← scoreStep arg3 arg18 g 1024 hg (by decide) q m
  let m ← scoreStep arg3 arg18 g 1536 hg (by decide) q m
  let m ← scoreStep arg3 arg18 g 2048 hg (by decide) q m
  let m ← scoreStep arg3 arg18 g 2560 hg (by decide) q m
  let m ← scoreStep arg3 arg18 g 3072 hg (by decide) q m
  scoreStep arg3 arg18 g 3584 hg (by decide) q m

variable (harg11 : arg11.IsWhole) (harg19 : arg19.IsWhole)

/-- One chunk of the value pass: the weights stored, the running sum raised. -/
def weightStep (g n : ℕ) (hg : g < 4) (hn : n + 512 ≤ 4096)
    (hp : (Rect.unit (s := S4x4096x256) ![g, n, 0] S1x512x256.size (inbS g n hg hn)).PackedRows (EltTy.packing .bf16))
    (mx : FVec F S1x256 .f32) (l : FVec F S8x256 .f32) : P F (FVec F S8x256 .f32) := do
  let s : Vec F S1x512x256 .f32 ← Prog.lift (.load arg18 (Rect.unit (s := S4x4096x256) ![g, n, 0] S1x512x256.size (inbS g n hg hn)).toLoadRect (View.loadsAt_vmem h_S1x512x256))
  let _ : Vec F S1x512x256 .bf16 ← Prog.lift (.load arg19 (Rect.unit (s := S4x4096x256) ![g, n, 0] S1x512x256.size (inbS g n hg hn)).toLoadRect (View.loadsAt_vmem h_S1x512x256))
  Prog.lift (.store arg19 (Rect.unit (s := S4x4096x256) ![g, n, 0] S1x512x256.size (inbS g n hg hn)) (shapeCast S1x512x256 (truncf .bf16 (weight (shapeCast S512x256 s shapeCasts_S1x512x256_S512x256) mx) bitsLt_bf16_f32) shapeCasts_S512x256_S1x512x256 : FVec F S1x512x256 .bf16) Finset.univ (View.stores_vmem h_S1x512x256 (harg19.storeExact_slice rfl _ hp) (fun _ => rfl)) (.inl rfl))
  pure (sumStep l (weight (shapeCast S512x256 s shapeCasts_S1x512x256_S512x256) mx))

/-- The value pass of head `g`: its weights in eight chunks, then its output tile stored at `off`. -/
def valuePass (g : ℕ) (hg : g < 4) (off : Fin 3 → ℕ) (hoff : ∀ a, off a + S1x256x128.size a ≤ S1x4096x512.size a)
    (hpo : (Rect.unit (s := S1x4096x512) off S1x256x128.size hoff).PackedRows (EltTy.packing .bf16))
    (hp : ∀ n (hn : n + 512 ≤ 4096), 512 ∣ n → (Rect.unit (s := S4x4096x256) ![g, n, 0] S1x512x256.size (inbS g n hg hn)).PackedRows (EltTy.packing .bf16))
    (m : FVec F S8x256 .f32) : P F PUnit := do
  let l ← weightStep arg18 arg19 harg19 g 0 hg (by decide) (hp 0 (by decide) (by decide)) (maxRow m) sumStart
  let l ← weightStep arg18 arg19 harg19 g 512 hg (by decide) (hp 512 (by decide) (by decide)) (maxRow m) l
  let l ← weightStep arg18 arg19 harg19 g 1024 hg (by decide) (hp 1024 (by decide) (by decide)) (maxRow m) l
  let l ← weightStep arg18 arg19 harg19 g 1536 hg (by decide) (hp 1536 (by decide) (by decide)) (maxRow m) l
  let l ← weightStep arg18 arg19 harg19 g 2048 hg (by decide) (hp 2048 (by decide) (by decide)) (maxRow m) l
  let l ← weightStep arg18 arg19 harg19 g 2560 hg (by decide) (hp 2560 (by decide) (by decide)) (maxRow m) l
  let l ← weightStep arg18 arg19 harg19 g 3072 hg (by decide) (hp 3072 (by decide) (by decide)) (maxRow m) l
  let l ← weightStep arg18 arg19 harg19 g 3584 hg (by decide) (hp 3584 (by decide) (by decide)) (maxRow m) l
  let vt : Vec F S1x128x4096 .bf16 ← Prog.lift (.load arg4 (Rect.unit (s := S1x128x4096) ![0, 0, 0] S1x128x4096.size inb_S1x128x4096_S1x128x4096_0_0_0).toLoadRect (View.loadsAt_vmem h_S1x128x4096))
  let p : Vec F S1x4096x256 .bf16 ← Prog.lift (.load arg19 (Rect.unit (s := S4x4096x256) ![g, 0, 0] S1x4096x256.size (inbG g hg)).toLoadRect (View.loadsAt_vmem h_S1x4096x256))
  let _ : Vec F S1x256x128 .bf16 ← Prog.lift (.load arg11 (Rect.unit (s := S1x4096x512) off S1x256x128.size hoff).toLoadRect (View.loadsAt_vmem h_S1x256x128))
  Prog.lift (.store arg11 (Rect.unit (s := S1x4096x512) off S1x256x128.size hoff) (tileOut vt p l) Finset.univ (View.stores_vmem h_S1x256x128 (harg11.storeExact_slice rfl _ hpo) (fun _ => rfl)) (.inl rfl))

/-- The same at each head and chunk, -/
theorem packed_rows_all : ∀ (g : Fin 4) (k : Fin 8), (Rect.unit (s := S4x4096x256) ![g.val, 512 * k.val, 0] S1x512x256.size
    (inbS g.val (512 * k.val) g.isLt (by omega))).PackedRows (EltTy.packing .bf16) := by
  decide +kernel

/-- the weights' buffer is stored in whole packed rows. -/
theorem packed_rows (g n : ℕ) (hg : g < 4) (hn : n + 512 ≤ 4096) (h : 512 ∣ n) :
    (Rect.unit (s := S4x4096x256) ![g, n, 0] S1x512x256.size (inbS g n hg hn)).PackedRows (EltTy.packing .bf16) := by
  obtain ⟨k, rfl⟩ := h
  exact packed_rows_all ⟨g, hg⟩ ⟨k, by omega⟩

variable (arg2 : Memref sig .tc .vmem S1x4096x512 .f32)

/-- The score pass of head `g` against the query tile at `off`. -/
def scoreAt (g : ℕ) (hg : g < 4) (off : Fin 3 → ℕ) (hoff : ∀ a, off a + S1x256x128.size a ≤ S1x4096x512.size a) : P F (FVec F S8x256 .f32) := do
  let q : Vec F S1x256x128 .f32 ← Prog.lift (.load arg2 (Rect.unit (s := S1x4096x512) off S1x256x128.size hoff).toLoadRect (View.loadsAt_vmem h_S1x256x128))
  scorePass arg3 arg18 g hg (scaled q)

/-- One trip: the four heads of a query tile, each head's values after the next head's scores. -/
def trip (k : Fin k0_t1_loop.trips) (m : FVec F S8x256 .f32) : P F (FVec F S8x256 .f32) := do
  let m1 ← scoreAt arg3 arg18 arg2 1 (by decide) (k0_off1 k) (k0_off1_inb k)
  valuePass arg4 arg11 arg18 arg19 harg11 harg19 0 (by decide) (k0_off2 k) (k0_off2_inb k) (k0_off2_packedbf16 k) (fun n hn h => packed_rows 0 n (by decide) hn h) m
  let m2 ← scoreAt arg3 arg18 arg2 2 (by decide) (k0_off3 k) (k0_off3_inb k)
  valuePass arg4 arg11 arg18 arg19 harg11 harg19 1 (by decide) (k0_off1 k) (k0_off1_inb k) (k0_off1_packedbf16 k) (fun n hn h => packed_rows 1 n (by decide) hn h) m1
  let m3 ← scoreAt arg3 arg18 arg2 3 (by decide) (k0_off4 k) (k0_off4_inb k)
  valuePass arg4 arg11 arg18 arg19 harg11 harg19 2 (by decide) (k0_off3 k) (k0_off3_inb k) (k0_off3_packedbf16 k) (fun n hn h => packed_rows 2 n (by decide) hn h) m2
  let m4 ← scoreAt arg3 arg18 arg2 0 (by decide) (k0_off5 k) (k0_off5_inb k)
  valuePass arg4 arg11 arg18 arg19 harg11 harg19 3 (by decide) (k0_off4 k) (k0_off4_inb k) (k0_off4_packedbf16 k) (fun n hn h => packed_rows 3 n (by decide) hn h) m3
  pure m4

/-- The six side weights' blocks, each cast and stored. -/
def sideCasts (arg5 : Memref sig .tc .vmem S32x1024 .f32) (arg6 : Memref sig .tc .vmem S64x1024 .f32) (arg7 : Memref sig .tc .vmem S64x1024 .f32) (arg8 : Memref sig .tc .vmem S64x2816 .f32) (arg9 : Memref sig .tc .vmem S64x2816 .f32) (arg10 : Memref sig .tc .vmem S176x1024 .f32) (arg12 : Memref sig .tc .vmem S32x1024 .bf16) (harg12 : arg12.IsWhole) (arg13 : Memref sig .tc .vmem S64x1024 .bf16) (harg13 : arg13.IsWhole) (arg14 : Memref sig .tc .vmem S64x1024 .bf16) (harg14 : arg14.IsWhole) (arg15 : Memref sig .tc .vmem S64x2816 .bf16) (harg15 : arg15.IsWhole) (arg16 : Memref sig .tc .vmem S64x2816 .bf16) (harg16 : arg16.IsWhole) (arg17 : Memref sig .tc .vmem S176x1024 .bf16) (harg17 : arg17.IsWhole) : P F PUnit := do
  let v : Vec F S32x1024 .f32 ← Prog.lift (.load arg5 (Rect.unit (s := S32x1024) ![0, 0] S32x1024.size inb_S32x1024_S32x1024_0_0).toLoadRect (View.loadsAt_vmem h_S32x1024))
  let _ : Vec F S32x1024 .bf16 ← Prog.lift (.load arg12 (Rect.unit (s := S32x1024) ![0, 0] S32x1024.size inb_S32x1024_S32x1024_0_0).toLoadRect (View.loadsAt_vmem h_S32x1024))
  Prog.lift (.store arg12 (Rect.unit (s := S32x1024) ![0, 0] S32x1024.size inb_S32x1024_S32x1024_0_0) (truncf .bf16 (shapeCast S32x1024 v shapeCasts_S32x1024_S32x1024) bitsLt_bf16_f32 : FVec F S32x1024 .bf16) Finset.univ (View.stores_vmem h_S32x1024 (harg12.storeExact_slice rfl _ packedbf16_S32x1024_S32x1024_0_0) (fun _ => rfl)) (.inl rfl))
  let v : Vec F S64x1024 .f32 ← Prog.lift (.load arg6 (Rect.unit (s := S64x1024) ![0, 0] S64x1024.size inb_S64x1024_S64x1024_0_0).toLoadRect (View.loadsAt_vmem h_S64x1024))
  let _ : Vec F S64x1024 .bf16 ← Prog.lift (.load arg13 (Rect.unit (s := S64x1024) ![0, 0] S64x1024.size inb_S64x1024_S64x1024_0_0).toLoadRect (View.loadsAt_vmem h_S64x1024))
  Prog.lift (.store arg13 (Rect.unit (s := S64x1024) ![0, 0] S64x1024.size inb_S64x1024_S64x1024_0_0) (truncf .bf16 (shapeCast S64x1024 v shapeCasts_S64x1024_S64x1024) bitsLt_bf16_f32 : FVec F S64x1024 .bf16) Finset.univ (View.stores_vmem h_S64x1024 (harg13.storeExact_slice rfl _ packedbf16_S64x1024_S64x1024_0_0) (fun _ => rfl)) (.inl rfl))
  let v : Vec F S64x1024 .f32 ← Prog.lift (.load arg7 (Rect.unit (s := S64x1024) ![0, 0] S64x1024.size inb_S64x1024_S64x1024_0_0).toLoadRect (View.loadsAt_vmem h_S64x1024))
  let _ : Vec F S64x1024 .bf16 ← Prog.lift (.load arg14 (Rect.unit (s := S64x1024) ![0, 0] S64x1024.size inb_S64x1024_S64x1024_0_0).toLoadRect (View.loadsAt_vmem h_S64x1024))
  Prog.lift (.store arg14 (Rect.unit (s := S64x1024) ![0, 0] S64x1024.size inb_S64x1024_S64x1024_0_0) (truncf .bf16 (shapeCast S64x1024 v shapeCasts_S64x1024_S64x1024) bitsLt_bf16_f32 : FVec F S64x1024 .bf16) Finset.univ (View.stores_vmem h_S64x1024 (harg14.storeExact_slice rfl _ packedbf16_S64x1024_S64x1024_0_0) (fun _ => rfl)) (.inl rfl))
  let v : Vec F S64x2816 .f32 ← Prog.lift (.load arg8 (Rect.unit (s := S64x2816) ![0, 0] S64x2816.size inb_S64x2816_S64x2816_0_0).toLoadRect (View.loadsAt_vmem h_S64x2816))
  let _ : Vec F S64x2816 .bf16 ← Prog.lift (.load arg15 (Rect.unit (s := S64x2816) ![0, 0] S64x2816.size inb_S64x2816_S64x2816_0_0).toLoadRect (View.loadsAt_vmem h_S64x2816))
  Prog.lift (.store arg15 (Rect.unit (s := S64x2816) ![0, 0] S64x2816.size inb_S64x2816_S64x2816_0_0) (truncf .bf16 (shapeCast S64x2816 v shapeCasts_S64x2816_S64x2816) bitsLt_bf16_f32 : FVec F S64x2816 .bf16) Finset.univ (View.stores_vmem h_S64x2816 (harg15.storeExact_slice rfl _ packedbf16_S64x2816_S64x2816_0_0) (fun _ => rfl)) (.inl rfl))
  let v : Vec F S64x2816 .f32 ← Prog.lift (.load arg9 (Rect.unit (s := S64x2816) ![0, 0] S64x2816.size inb_S64x2816_S64x2816_0_0).toLoadRect (View.loadsAt_vmem h_S64x2816))
  let _ : Vec F S64x2816 .bf16 ← Prog.lift (.load arg16 (Rect.unit (s := S64x2816) ![0, 0] S64x2816.size inb_S64x2816_S64x2816_0_0).toLoadRect (View.loadsAt_vmem h_S64x2816))
  Prog.lift (.store arg16 (Rect.unit (s := S64x2816) ![0, 0] S64x2816.size inb_S64x2816_S64x2816_0_0) (truncf .bf16 (shapeCast S64x2816 v shapeCasts_S64x2816_S64x2816) bitsLt_bf16_f32 : FVec F S64x2816 .bf16) Finset.univ (View.stores_vmem h_S64x2816 (harg16.storeExact_slice rfl _ packedbf16_S64x2816_S64x2816_0_0) (fun _ => rfl)) (.inl rfl))
  let v : Vec F S176x1024 .f32 ← Prog.lift (.load arg10 (Rect.unit (s := S176x1024) ![0, 0] S176x1024.size inb_S176x1024_S176x1024_0_0).toLoadRect (View.loadsAt_vmem h_S176x1024))
  let _ : Vec F S176x1024 .bf16 ← Prog.lift (.load arg17 (Rect.unit (s := S176x1024) ![0, 0] S176x1024.size inb_S176x1024_S176x1024_0_0).toLoadRect (View.loadsAt_vmem h_S176x1024))
  Prog.lift (.store arg17 (Rect.unit (s := S176x1024) ![0, 0] S176x1024.size inb_S176x1024_S176x1024_0_0) (truncf .bf16 (shapeCast S176x1024 v shapeCasts_S176x1024_S176x1024) bitsLt_bf16_f32 : FVec F S176x1024 .bf16) Finset.univ (View.stores_vmem h_S176x1024 (harg17.storeExact_slice rfl _ packedbf16_S176x1024_S176x1024_0_0) (fun _ => rfl)) (.inl rfl))

set_option maxHeartbeats 4000000 in
/-- The printed body: the side casts, the first tile's first scores, the sixteen trips. -/
theorem body_eq (i : grid0.Coords) (arg2 : Memref sig .tc .vmem S1x4096x512 .f32) (harg2 : arg2.IsWhole) (arg3 : Memref sig .tc .vmem S1x4096x128 .bf16) (harg3 : arg3.IsWhole) (arg4 : Memref sig .tc .vmem S1x128x4096 .bf16) (harg4 : arg4.IsWhole) (arg5 : Memref sig .tc .vmem S32x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S64x2816 .f32) (harg8 : arg8.IsWhole) (arg9 : Memref sig .tc .vmem S64x2816 .f32) (harg9 : arg9.IsWhole) (arg10 : Memref sig .tc .vmem S176x1024 .f32) (harg10 : arg10.IsWhole) (arg11 : Memref sig .tc .vmem S1x4096x512 .bf16) (harg11 : arg11.IsWhole) (arg12 : Memref sig .tc .vmem S32x1024 .bf16) (harg12 : arg12.IsWhole) (arg13 : Memref sig .tc .vmem S64x1024 .bf16) (harg13 : arg13.IsWhole) (arg14 : Memref sig .tc .vmem S64x1024 .bf16) (harg14 : arg14.IsWhole) (arg15 : Memref sig .tc .vmem S64x2816 .bf16) (harg15 : arg15.IsWhole) (arg16 : Memref sig .tc .vmem S64x2816 .bf16) (harg16 : arg16.IsWhole) (arg17 : Memref sig .tc .vmem S176x1024 .bf16) (harg17 : arg17.IsWhole) (arg18 : Memref sig .tc .vmem S4x4096x256 .f32) (harg18 : arg18.IsWhole) (arg19 : Memref sig .tc .vmem S4x4096x256 .bf16) (harg19 : arg19.IsWhole) :
    cc0_gqa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      = (do
        sideCasts arg5 arg6 arg7 arg8 arg9 arg10 arg12 harg12 arg13 harg13 arg14 harg14 arg15 harg15 arg16 harg16 arg17 harg17
        let m ← scoreAt arg3 arg18 arg2 0 (by decide) ![0, 0, 0] inb_S1x4096x512_S1x256x128_0_0_0
        let _ ← Scf.Loop.for k0_t1_loop k0_t1_ok m fun k m => trip arg3 arg4 arg11 arg18 arg19 harg11 harg19 arg2 k m
        pure ⟨⟩) := by
  unfold cc0_gqa k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26
  unfold sideCasts trip valuePass scoreAt scorePass scoreStep weightStep
  simp (config := { maxSteps := 4000000 }) only [bind_assoc, pure_bind]
  rfl

end Cert.Kernel3Ideal.Attn

end
-- ==== Proof.AttnStep.lean ====
/- One chunk of either pass, run: what it leaves in the scores' and the weights' buffers. -/
module

public import proofs.«01_k».proof.Proof.Attn

@[expose] public section

set_option maxRecDepth 16384

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffer with 512 rows of head `g` from row `n` replaced by `W`'s. -/
def putRows {e : EltTy} (g n : ℕ) (W d : Vec F S4x4096x256 e) : Vec F S4x4096x256 e :=
  fun y => if (y 0).val = g ∧ n ≤ (y 1).val ∧ (y 1).val < n + 512 then W y else d y

/-- Reading a whole buffer after one store of 512 rows. -/
theorem read_put {e : EltTy} (M : Memref sig .tc .vmem S4x4096x256 e) (f : M.view.ty.Contents (Elt F)) (g n : ℕ) (hg : g < 4) (hn : n + 512 ≤ 4096)
    (w : Vec F S1x512x256 e) (W d : Vec F S4x4096x256 e) (hf : M.view.read (Elt F) f = d)
    (hW : ∀ x, w x = W ((Rect.unit (s := S4x4096x256) ![g, n, 0] S1x512x256.size (inbS g n hg hn)).emb x)) :
    M.view.read (Elt F) (M.view.writes (Elt F) f [⟨Rect.unit (s := S4x4096x256) ![g, n, 0] S1x512x256.size (inbS g n hg hn), w⟩]) = putRows g n W d := by
  funext y
  have h2 : (y 2).val < 256 := (y 2).isLt
  unfold putRows
  split
  · rename_i h
    refine View.read_writes_apply_of_pieces (v := M.view) (f := f) W _ ?_ y ?_
    · intro p hp
      simp only [List.mem_cons, List.not_mem_nil, or_false] at hp
      subst hp
      exact hW
    · refine ⟨_, List.mem_cons_self .., ?_⟩
      rw [Rect.mem_set_unit]
      intro a; fin_cases a <;> simp [S1x512x256] <;> omega
  · rename_i h
    rw [View.read_writes_apply_of_forall_not_mem, hf]
    intro p hp
    simp only [List.mem_cons, List.not_mem_nil, or_false] at hp
    subst hp
    rw [Rect.mem_set_unit]
    intro H
    have h0 := H 0; have h1 := H 1
    simp [S1x512x256] at h0 h1
    omega

variable (arg3 : Memref sig .tc .vmem S1x4096x128 .bf16) (arg4 : Memref sig .tc .vmem S1x128x4096 .bf16)
  (arg11 : Memref sig .tc .vmem S1x4096x512 .bf16) (arg18 : Memref sig .tc .vmem S4x4096x256 .f32) (arg19 : Memref sig .tc .vmem S4x4096x256 .bf16)
  (harg11 : arg11.IsWhole) (harg19 : arg19.IsWhole) (arg2 : Memref sig .tc .vmem S1x4096x512 .f32)

/-- The keys' chunk from row `n`. -/
def keys (kk : Vec F S1x4096x128 .bf16) (n : ℕ) (hn : n + 512 ≤ 4096) : Vec F S1x512x128 .bf16 :=
  fun x => kk ((Rect.unit (s := S1x4096x128) ![0, n, 0] S1x512x128.size (inbK n hn)).emb x)

set_option maxHeartbeats 1000000 in
/-- One chunk of the score pass. -/
theorem scoreStep_run (c : Dev nD) (g n : ℕ) (hg : g < 4) (hn : n + 512 ≤ 4096) (q : FVec F S256x128 .bf16) (m : FVec F S8x256 .f32)
    (kk : Vec F S1x4096x128 .bf16) (d W : Vec F S4x4096x256 .f32)
    (hW : ∀ x, (shapeCast S1x512x256 (score (keys kk n hn) q) shapeCasts_S512x256_S1x512x256 : FVec F S1x512x256 .f32) x = W ((Rect.unit (s := S4x4096x256) ![g, n, 0] S1x512x256.size (inbS g n hg hn)).emb x))
    (K : FVec F S8x256 .f32 → sProp 𝕄) :
    iprop(owns (c : Thread nD τ) arg3 fullShare kk ∗ owns (c : Thread nD τ) arg18 fullShare d
      ∗ (iprop(owns (c : Thread nD τ) arg3 fullShare kk ∗ owns (c : Thread nD τ) arg18 fullShare (putRows g n W d)) -∗ K (maxStep m (score (keys kk n hn) q))))
      ⊢ wp frame (wpE (defs₀ (F := F)) Variants.none c none) Set.univ (scoreStep arg3 arg18 g n hg hn q m) K := by
  unfold scoreStep owns
  iintro ⟨⟨%f3, %hf3, H3⟩, ⟨%f18, %hf18, H18⟩, Hk⟩
  have hk : arg3.view.readAt (Elt F) (Rect.unit (s := S1x4096x128) ![0, n, 0] S1x512x128.size (inbK n hn)).toLoadRect f3 = keys kk n hn := by
    rw [← hf3]; rfl
  sl_exec
  sl_step
  iapply Hk
  isplitl [H3]
  · iexists f3; isplitr; · ipureintro; exact hf3
    iexact H3
  iexists _
  isplitr
  · ipureintro; exact read_put arg18 f18 g n hg hn _ W d hf18 hW
  iexact H18

set_option maxHeartbeats 1000000 in
/-- One chunk of the value pass. -/
theorem weightStep_run (c : Dev nD) (g n : ℕ) (hg : g < 4) (hn : n + 512 ≤ 4096)
    (hp : (Rect.unit (s := S4x4096x256) ![g, n, 0] S1x512x256.size (inbS g n hg hn)).PackedRows (EltTy.packing .bf16))
    (mx : FVec F S1x256 .f32) (l : FVec F S8x256 .f32) (d : Vec F S4x4096x256 .f32) (p W : Vec F S4x4096x256 .bf16) (s : FVec F S512x256 .f32)
    (hs : shapeCast S512x256 (fun x => d ((Rect.unit (s := S4x4096x256) ![g, n, 0] S1x512x256.size (inbS g n hg hn)).emb x)) shapeCasts_S1x512x256_S512x256 = s)
    (hW : ∀ x, (shapeCast S1x512x256 (truncf .bf16 (weight s mx) bitsLt_bf16_f32) shapeCasts_S512x256_S1x512x256 : FVec F S1x512x256 .bf16) x = W ((Rect.unit (s := S4x4096x256) ![g, n, 0] S1x512x256.size (inbS g n hg hn)).emb x))
    (K : FVec F S8x256 .f32 → sProp 𝕄) :
    iprop(owns (c : Thread nD τ) arg18 fullShare d ∗ owns (c : Thread nD τ) arg19 fullShare p
      ∗ (iprop(owns (c : Thread nD τ) arg18 fullShare d ∗ owns (c : Thread nD τ) arg19 fullShare (putRows g n W p)) -∗ K (sumStep l (weight s mx))))
      ⊢ wp frame (wpE (defs₀ (F := F)) Variants.none c none) Set.univ (weightStep arg18 arg19 harg19 g n hg hn hp mx l) K := by
  subst hs
  unfold weightStep owns
  iintro ⟨⟨%f18, %hf18, H18⟩, ⟨%f19, %hf19, H19⟩, Hk⟩
  have hd : arg18.view.readAt (Elt F) (Rect.unit (s := S4x4096x256) ![g, n, 0] S1x512x256.size (inbS g n hg hn)).toLoadRect f18
      = fun x => d ((Rect.unit (s := S4x4096x256) ![g, n, 0] S1x512x256.size (inbS g n hg hn)).emb x) := by
    rw [← hf18]; rfl
  sl_exec
  sl_step
  iapply Hk
  isplitl [H18]
  · iexists f18; isplitr; · ipureintro; exact hf18
    iexact H18
  iexists _
  isplitr
  · ipureintro; exact read_put arg19 f19 g n hg hn _ W p hf19 hW
  iexact H19

end Cert.Kernel3Ideal.Attn

end
-- ==== Proof.AttnPass.lean ====
/- The two passes, run: the scores and their maximum; the weights, their sum and the output tile. -/
module

public import proofs.«01_k».proof.Proof.AttnStep
public import Idealize.ShloMosaic.Lib.Pointwise
public import Idealize.ShloMosaic.Lib.VecWindow

@[expose] public section

set_option maxRecDepth 16384

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Whole-buffer values -/

/-- The chunk a row lies in. -/
def chunkOf (r : Fin 4096) : ℕ := 512 * (r.val / 512)

theorem chunkOf_le (r : Fin 4096) : chunkOf r + 512 ≤ 4096 := by have := r.isLt; unfold chunkOf; omega

/-- A row's place in its chunk. -/
def inChunk (r : Fin 4096) : Fin 512 := ⟨r.val % 512, by omega⟩

/-- One head's scores over all keys, in the buffer's shape. -/
def scoreW (kk : Vec F S1x4096x128 .bf16) (q : FVec F S256x128 .bf16) : Vec F S4x4096x256 .f32 := fun y =>
  (shapeCast S1x512x256 (score (keys kk (chunkOf (y 1)) (chunkOf_le _)) q) shapeCasts_S512x256_S1x512x256 : FVec F S1x512x256 .f32) (ix3 0 (inChunk (y 1)) (y 2))

/-- One head's weights over all keys, in the buffer's shape. -/
def weightW (kk : Vec F S1x4096x128 .bf16) (q : FVec F S256x128 .bf16) (mx : FVec F S1x256 .f32) : Vec F S4x4096x256 .bf16 := fun y =>
  (shapeCast S1x512x256 (truncf .bf16 (weight (score (keys kk (chunkOf (y 1)) (chunkOf_le _)) q) mx) bitsLt_bf16_f32) shapeCasts_S512x256_S1x512x256 : FVec F S1x512x256 .bf16)
    (ix3 0 (inChunk (y 1)) (y 2))

theorem chunkOf_emb (g n : ℕ) (hg : g < 4) (hn : n + 512 ≤ 4096) (h : 512 ∣ n) (x : S1x512x256.Idx) :
    chunkOf ((Rect.unit (s := S4x4096x256) ![g, n, 0] S1x512x256.size (inbS g n hg hn)).emb x 1) = n := by
  have h1 : (x 1).val < 512 := (x 1).isLt
  have e : ((Rect.unit (s := S4x4096x256) ![g, n, 0] S1x512x256.size (inbS g n hg hn)).emb x 1).val = n + (x 1).val := by simp
  unfold chunkOf; rw [e]; omega

theorem place_emb (g n : ℕ) (hg : g < 4) (hn : n + 512 ≤ 4096) (h : 512 ∣ n) (x : S1x512x256.Idx) :
    (ix3 0 (inChunk ((Rect.unit (s := S4x4096x256) ![g, n, 0] S1x512x256.size (inbS g n hg hn)).emb x 1))
      ((Rect.unit (s := S4x4096x256) ![g, n, 0] S1x512x256.size (inbS g n hg hn)).emb x 2) : S1x512x256.Idx) = x := by
  have h0 : (x 0).val < 1 := (x 0).isLt
  have h1 : (x 1).val < 512 := (x 1).isLt
  have e : ((Rect.unit (s := S4x4096x256) ![g, n, 0] S1x512x256.size (inbS g n hg hn)).emb x 1).val = n + (x 1).val := by simp
  funext a
  apply Fin.ext
  fin_cases a
  · show 0 = (x 0).val; omega
  · show _ % 512 = (x 1).val; rw [e]; omega
  · show ((Rect.unit (s := S4x4096x256) ![g, n, 0] S1x512x256.size (inbS g n hg hn)).emb x 2).val = (x 2).val; simp

theorem keys_congr (kk : Vec F S1x4096x128 .bf16) {n n' : ℕ} (e : n = n') (h : n + 512 ≤ 4096) (h' : n' + 512 ≤ 4096) : keys kk n h = keys kk n' h' := by
  subst e; rfl

theorem scoreW_emb (kk : Vec F S1x4096x128 .bf16) (q : FVec F S256x128 .bf16) (g n : ℕ) (hg : g < 4) (hn : n + 512 ≤ 4096) (h : 512 ∣ n) (x : S1x512x256.Idx) :
    (shapeCast S1x512x256 (score (keys kk n hn) q) shapeCasts_S512x256_S1x512x256 : FVec F S1x512x256 .f32) x
      = scoreW kk q ((Rect.unit (s := S4x4096x256) ![g, n, 0] S1x512x256.size (inbS g n hg hn)).emb x) := by
  unfold scoreW
  rw [keys_congr kk (chunkOf_emb g n hg hn h x) _ hn]
  exact congrArg (shapeCast S1x512x256 (score (keys kk n hn) q) shapeCasts_S512x256_S1x512x256 : FVec F S1x512x256 .f32) (place_emb g n hg hn h x).symm

theorem weightW_emb (kk : Vec F S1x4096x128 .bf16) (q : FVec F S256x128 .bf16) (mx : FVec F S1x256 .f32) (g n : ℕ) (hg : g < 4) (hn : n + 512 ≤ 4096) (h : 512 ∣ n) (x : S1x512x256.Idx) :
    (shapeCast S1x512x256 (truncf .bf16 (weight (score (keys kk n hn) q) mx) bitsLt_bf16_f32) shapeCasts_S512x256_S1x512x256 : FVec F S1x512x256 .bf16) x
      = weightW kk q mx ((Rect.unit (s := S4x4096x256) ![g, n, 0] S1x512x256.size (inbS g n hg hn)).emb x) := by
  unfold weightW
  rw [keys_congr kk (chunkOf_emb g n hg hn h x) _ hn]
  exact congrArg (shapeCast S1x512x256 (truncf .bf16 (weight (score (keys kk n hn) q) mx) bitsLt_bf16_f32) shapeCasts_S512x256_S1x512x256 : FVec F S1x512x256 .bf16) (place_emb g n hg hn h x).symm

/-- The buffer with head `g` replaced by `W`'s. -/
def putHead {e : EltTy} (g : ℕ) (W d : Vec F S4x4096x256 e) : Vec F S4x4096x256 e := fun y => if (y 0).val = g then W y else d y

/-- Eight chunks of 512 rows are the head. -/
theorem putRows_all {e : EltTy} (g : ℕ) (W d : Vec F S4x4096x256 e) :
    putRows g 3584 W (putRows g 3072 W (putRows g 2560 W (putRows g 2048 W (putRows g 1536 W (putRows g 1024 W (putRows g 512 W (putRows g 0 W d)))))))
      = putHead g W d := by
  funext y
  have h1 : (y 1).val < 4096 := (y 1).isLt
  by_cases hg : (y 0).val = g
  · simp only [putRows, putHead, hg, true_and, if_true]
    split_ifs <;> first | rfl | omega
  · simp only [putRows, putHead, hg, false_and, if_false]

/-- The head's running maximum over all keys. -/
def maxAll (kk : Vec F S1x4096x128 .bf16) (q : FVec F S256x128 .bf16) : FVec F S8x256 .f32 :=
  maxStep (maxStep (maxStep (maxStep (maxStep (maxStep (maxStep (maxStep maxStart
    (score (keys kk 0 (by decide)) q)) (score (keys kk 512 (by decide)) q)) (score (keys kk 1024 (by decide)) q)) (score (keys kk 1536 (by decide)) q))
    (score (keys kk 2048 (by decide)) q)) (score (keys kk 2560 (by decide)) q)) (score (keys kk 3072 (by decide)) q)) (score (keys kk 3584 (by decide)) q)

/-- The head's running sum of weights over all keys. -/
def sumAll (kk : Vec F S1x4096x128 .bf16) (q : FVec F S256x128 .bf16) (mx : FVec F S1x256 .f32) : FVec F S8x256 .f32 :=
  sumStep (sumStep (sumStep (sumStep (sumStep (sumStep (sumStep (sumStep sumStart
    (weight (score (keys kk 0 (by decide)) q) mx)) (weight (score (keys kk 512 (by decide)) q) mx)) (weight (score (keys kk 1024 (by decide)) q) mx)) (weight (score (keys kk 1536 (by decide)) q) mx))
    (weight (score (keys kk 2048 (by decide)) q) mx)) (weight (score (keys kk 2560 (by decide)) q) mx)) (weight (score (keys kk 3072 (by decide)) q) mx)) (weight (score (keys kk 3584 (by decide)) q) mx)

/-- The head's weights as one block of all keys. -/
def weightB (kk : Vec F S1x4096x128 .bf16) (q : FVec F S256x128 .bf16) (mx : FVec F S1x256 .f32) : Vec F S1x4096x256 .bf16 :=
  fun x => weightW kk q mx (ix3 0 (x 1) (x 2))

theorem weightW_congr (kk : Vec F S1x4096x128 .bf16) (q : FVec F S256x128 .bf16) (mx : FVec F S1x256 .f32) (y z : S4x4096x256.Idx)
    (h1 : (y 1).val = (z 1).val) (h2 : (y 2).val = (z 2).val) : weightW kk q mx y = weightW kk q mx z := by
  have : weightW kk q mx y = weightW kk q mx (ix3 (y 0) (z 1) (z 2)) := by
    rw [← Fin.ext h1 (a := y 1) (b := z 1), ← Fin.ext h2 (a := y 2) (b := z 2)]
    rfl
  exact this

/-- The head's output tile from the keys, the values, and its query tile. -/
def tile (kk : Vec F S1x4096x128 .bf16) (vt : Vec F S1x128x4096 .bf16) (q : FVec F S256x128 .bf16) : FVec F S1x256x128 .bf16 :=
  tileOut vt (weightB kk q (maxRow (maxAll kk q))) (sumAll kk q (maxRow (maxAll kk q)))

variable (arg3 : Memref sig .tc .vmem S1x4096x128 .bf16) (arg4 : Memref sig .tc .vmem S1x128x4096 .bf16)
  (arg11 : Memref sig .tc .vmem S1x4096x512 .bf16) (arg18 : Memref sig .tc .vmem S4x4096x256 .f32) (arg19 : Memref sig .tc .vmem S4x4096x256 .bf16)
  (harg11 : arg11.IsWhole) (harg19 : arg19.IsWhole) (arg2 : Memref sig .tc .vmem S1x4096x512 .f32)

/-- The score pass leaves the head's scores and yields their running maximum. -/
theorem scorePass_run (c : Dev nD) (g : ℕ) (hg : g < 4) (q : FVec F S256x128 .bf16)
    (kk : Vec F S1x4096x128 .bf16) (d : Vec F S4x4096x256 .f32) (K : FVec F S8x256 .f32 → sProp 𝕄) :
    iprop(owns (c : Thread nD τ) arg3 fullShare kk ∗ owns (c : Thread nD τ) arg18 fullShare d
      ∗ (iprop(owns (c : Thread nD τ) arg3 fullShare kk ∗ owns (c : Thread nD τ) arg18 fullShare (putHead g (scoreW kk q) d)) -∗ K (maxAll kk q)))
      ⊢ wp frame (wpE (defs₀ (F := F)) Variants.none c none) Set.univ (scorePass arg3 arg18 g hg q) K := by
  unfold scorePass maxAll
  iintro ⟨H3, H18, Hk⟩
  rw [wp_bind]
  iapply (scoreStep_run arg3 arg18 c g 0 hg _ q _ kk _ (scoreW kk q) (scoreW_emb kk q g 0 hg _ (by decide)) _)
  isplitl [H3]; · iexact H3
  isplitl [H18]; · iexact H18
  iintro ⟨H3, H18⟩
  rw [wp_bind]
  iapply (scoreStep_run arg3 arg18 c g 512 hg _ q _ kk _ (scoreW kk q) (scoreW_emb kk q g 512 hg _ (by decide)) _)
  isplitl [H3]; · iexact H3
  isplitl [H18]; · iexact H18
  iintro ⟨H3, H18⟩
  rw [wp_bind]
  iapply (scoreStep_run arg3 arg18 c g 1024 hg _ q _ kk _ (scoreW kk q) (scoreW_emb kk q g 1024 hg _ (by decide)) _)
  isplitl [H3]; · iexact H3
  isplitl [H18]; · iexact H18
  iintro ⟨H3, H18⟩
  rw [wp_bind]
  iapply (scoreStep_run arg3 arg18 c g 1536 hg _ q _ kk _ (scoreW kk q) (scoreW_emb kk q g 1536 hg _ (by decide)) _)
  isplitl [H3]; · iexact H3
  isplitl [H18]; · iexact H18
  iintro ⟨H3, H18⟩
  rw [wp_bind]
  iapply (scoreStep_run arg3 arg18 c g 2048 hg _ q _ kk _ (scoreW kk q) (scoreW_emb kk q g 2048 hg _ (by decide)) _)
  isplitl [H3]; · iexact H3
  isplitl [H18]; · iexact H18
  iintro ⟨H3, H18⟩
  rw [wp_bind]
  iapply (scoreStep_run arg3 arg18 c g 2560 hg _ q _ kk _ (scoreW kk q) (scoreW_emb kk q g 2560 hg _ (by decide)) _)
  isplitl [H3]; · iexact H3
  isplitl [H18]; · iexact H18
  iintro ⟨H3, H18⟩
  rw [wp_bind]
  iapply (scoreStep_run arg3 arg18 c g 3072 hg _ q _ kk _ (scoreW kk q) (scoreW_emb kk q g 3072 hg _ (by decide)) _)
  isplitl [H3]; · iexact H3
  isplitl [H18]; · iexact H18
  iintro ⟨H3, H18⟩
  iapply (scoreStep_run arg3 arg18 c g 3584 hg _ q _ kk _ (scoreW kk q) (scoreW_emb kk q g 3584 hg _ (by decide)) _)
  isplitl [H3]; · iexact H3
  isplitl [H18]; · iexact H18
  iintro ⟨H3, H18⟩
  iapply Hk
  rw [putRows_all]
  isplitl [H3]; · iexact H3
  iexact H18

theorem chunk_read (kk : Vec F S1x4096x128 .bf16) (q : FVec F S256x128 .bf16) (d : Vec F S4x4096x256 .f32) (g n : ℕ) (hg : g < 4) (hn : n + 512 ≤ 4096) (h : 512 ∣ n)
    (hd : ∀ y, (y 0).val = g → d y = scoreW kk q y) :
    shapeCast S512x256 (fun x => d ((Rect.unit (s := S4x4096x256) ![g, n, 0] S1x512x256.size (inbS g n hg hn)).emb x)) shapeCasts_S1x512x256_S512x256
      = score (keys kk n hn) q := by
  have e : (fun x => d ((Rect.unit (s := S4x4096x256) ![g, n, 0] S1x512x256.size (inbS g n hg hn)).emb x))
      = (shapeCast S1x512x256 (score (keys kk n hn) q) shapeCasts_S512x256_S1x512x256 : FVec F S1x512x256 .f32) := by
    funext x
    have h0 : (x 0).val < 1 := (x 0).isLt
    rw [scoreW_emb kk q g n hg hn h x]
    exact hd _ (by simp; omega)
  rw [e]
  exact shapeCast_shapeCast _ _ _

/-- The output block with the tile at rows `r` and columns `s` replaced by `T`. -/
def putTile (r s : ℕ) (T : FVec F S1x256x128 .bf16) (o : Vec F S1x4096x512 .bf16) : Vec F S1x4096x512 .bf16 := fun y =>
  if r ≤ (y 1).val ∧ (y 1).val < r + 256 ∧ s ≤ (y 2).val ∧ (y 2).val < s + 128 then
    T (ix3 0 ⟨((y 1).val - r) % 256, Nat.mod_lt _ (by decide)⟩ ⟨((y 2).val - s) % 128, Nat.mod_lt _ (by decide)⟩) else o y

/-- Reading the output block after one tile is stored. -/
theorem read_tile (M : Memref sig .tc .vmem S1x4096x512 .bf16) (f : M.view.ty.Contents (Elt F)) (off : Fin 3 → ℕ) (r s : ℕ)
    (hoff : ∀ a, off a + S1x256x128.size a ≤ S1x4096x512.size a) (he : off = ![0, r, s])
    (T : FVec F S1x256x128 .bf16) (o : Vec F S1x4096x512 .bf16) (hf : M.view.read (Elt F) f = o) :
    M.view.read (Elt F) (M.view.writes (Elt F) f [⟨Rect.unit (s := S1x4096x512) off S1x256x128.size hoff, T⟩]) = putTile r s T o := by
  subst he
  funext y
  have h0 : (y 0).val < 1 := (y 0).isLt
  unfold putTile
  split
  · rename_i h
    refine View.read_writes_cons_hit_of_coords _ _ _ _ _ _ _ ?_
    intro a
    fin_cases a
    · show (y 0).val = 0 + 1 * 0; omega
    · show (y 1).val = r + 1 * (((y 1).val - r) % 256); omega
    · show (y 2).val = s + 1 * (((y 2).val - s) % 128); omega
  · rename_i h
    rw [View.read_writes_apply_of_forall_not_mem, hf]
    intro p hp
    simp only [List.mem_cons, List.not_mem_nil, _root_.or_false] at hp
    subst hp
    rw [Rect.mem_set_unit]
    intro H
    have h1 := H 1; have h2 := H 2
    simp at h1 h2
    omega

/-- The values, the weights and the output's tile: what the value pass ends with. -/
theorem valuePass_run (c : Dev nD) (g : ℕ) (hg : g < 4) (off : Fin 3 → ℕ) (hoff : ∀ a, off a + S1x256x128.size a ≤ S1x4096x512.size a) (r s : ℕ) (he : off = ![0, r, s])
    (hpo : (Rect.unit (s := S1x4096x512) off S1x256x128.size hoff).PackedRows (EltTy.packing .bf16))
    (hp : ∀ n (hn : n + 512 ≤ 4096), 512 ∣ n → (Rect.unit (s := S4x4096x256) ![g, n, 0] S1x512x256.size (inbS g n hg hn)).PackedRows (EltTy.packing .bf16))
    (kk : Vec F S1x4096x128 .bf16) (q : FVec F S256x128 .bf16) (vt : Vec F S1x128x4096 .bf16)
    (d : Vec F S4x4096x256 .f32) (hd : ∀ y, (y 0).val = g → d y = scoreW kk q y) (o : Vec F S1x4096x512 .bf16) (K : PUnit → sProp 𝕄) :
    iprop(owns (c : Thread nD τ) arg4 fullShare vt ∗ owns (c : Thread nD τ) arg18 fullShare d ∗ (∃ p, owns (c : Thread nD τ) arg19 fullShare p) ∗ owns (c : Thread nD τ) arg11 fullShare o
      ∗ (iprop(owns (c : Thread nD τ) arg4 fullShare vt ∗ owns (c : Thread nD τ) arg18 fullShare d ∗ (∃ p, owns (c : Thread nD τ) arg19 fullShare p)
        ∗ owns (c : Thread nD τ) arg11 fullShare (putTile r s (tile kk vt q) o)) -∗ K ⟨⟩))
      ⊢ wp frame (wpE (defs₀ (F := F)) Variants.none c none) Set.univ (valuePass arg4 arg11 arg18 arg19 harg11 harg19 g hg off hoff hpo hp (maxAll kk q)) K := by
  unfold valuePass tile sumAll
  iintro ⟨H4, H18, ⟨%p, H19⟩, H11, Hk⟩
  rw [wp_bind]
  iapply (weightStep_run arg18 arg19 harg19 c g 0 hg _ (hp 0 (by decide) (by decide)) (maxRow (maxAll kk q)) _ d _ (weightW kk q (maxRow (maxAll kk q))) (score (keys kk 0 (by decide)) q)
    (chunk_read kk q d g 0 hg (by decide) (by decide) hd) (weightW_emb kk q (maxRow (maxAll kk q)) g 0 hg (by decide) (by decide)) _)
  isplitl [H18]; · iexact H18
  isplitl [H19]; · iexact H19
  iintro ⟨H18, H19⟩
  rw [wp_bind]
  iapply (weightStep_run arg18 arg19 harg19 c g 512 hg _ (hp 512 (by decide) (by decide)) (maxRow (maxAll kk q)) _ d _ (weightW kk q (maxRow (maxAll kk q))) (score (keys kk 512 (by decide)) q)
    (chunk_read kk q d g 512 hg (by decide) (by decide) hd) (weightW_emb kk q (maxRow (maxAll kk q)) g 512 hg (by decide) (by decide)) _)
  isplitl [H18]; · iexact H18
  isplitl [H19]; · iexact H19
  iintro ⟨H18, H19⟩
  rw [wp_bind]
  iapply (weightStep_run arg18 arg19 harg19 c g 1024 hg _ (hp 1024 (by decide) (by decide)) (maxRow (maxAll kk q)) _ d _ (weightW kk q (maxRow (maxAll kk q))) (score (keys kk 1024 (by decide)) q)
    (chunk_read kk q d g 1024 hg (by decide) (by decide) hd) (weightW_emb kk q (maxRow (maxAll kk q)) g 1024 hg (by decide) (by decide)) _)
  isplitl [H18]; · iexact H18
  isplitl [H19]; · iexact H19
  iintro ⟨H18, H19⟩
  rw [wp_bind]
  iapply (weightStep_run arg18 arg19 harg19 c g 1536 hg _ (hp 1536 (by decide) (by decide)) (maxRow (maxAll kk q)) _ d _ (weightW kk q (maxRow (maxAll kk q))) (score (keys kk 1536 (by decide)) q)
    (chunk_read kk q d g 1536 hg (by decide) (by decide) hd) (weightW_emb kk q (maxRow (maxAll kk q)) g 1536 hg (by decide) (by decide)) _)
  isplitl [H18]; · iexact H18
  isplitl [H19]; · iexact H19
  iintro ⟨H18, H19⟩
  rw [wp_bind]
  iapply (weightStep_run arg18 arg19 harg19 c g 2048 hg _ (hp 2048 (by decide) (by decide)) (maxRow (maxAll kk q)) _ d _ (weightW kk q (maxRow (maxAll kk q))) (score (keys kk 2048 (by decide)) q)
    (chunk_read kk q d g 2048 hg (by decide) (by decide) hd) (weightW_emb kk q (maxRow (maxAll kk q)) g 2048 hg (by decide) (by decide)) _)
  isplitl [H18]; · iexact H18
  isplitl [H19]; · iexact H19
  iintro ⟨H18, H19⟩
  rw [wp_bind]
  iapply (weightStep_run arg18 arg19 harg19 c g 2560 hg _ (hp 2560 (by decide) (by decide)) (maxRow (maxAll kk q)) _ d _ (weightW kk q (maxRow (maxAll kk q))) (score (keys kk 2560 (by decide)) q)
    (chunk_read kk q d g 2560 hg (by decide) (by decide) hd) (weightW_emb kk q (maxRow (maxAll kk q)) g 2560 hg (by decide) (by decide)) _)
  isplitl [H18]; · iexact H18
  isplitl [H19]; · iexact H19
  iintro ⟨H18, H19⟩
  rw [wp_bind]
  iapply (weightStep_run arg18 arg19 harg19 c g 3072 hg _ (hp 3072 (by decide) (by decide)) (maxRow (maxAll kk q)) _ d _ (weightW kk q (maxRow (maxAll kk q))) (score (keys kk 3072 (by decide)) q)
    (chunk_read kk q d g 3072 hg (by decide) (by decide) hd) (weightW_emb kk q (maxRow (maxAll kk q)) g 3072 hg (by decide) (by decide)) _)
  isplitl [H18]; · iexact H18
  isplitl [H19]; · iexact H19
  iintro ⟨H18, H19⟩
  rw [wp_bind]
  iapply (weightStep_run arg18 arg19 harg19 c g 3584 hg _ (hp 3584 (by decide) (by decide)) (maxRow (maxAll kk q)) _ d _ (weightW kk q (maxRow (maxAll kk q))) (score (keys kk 3584 (by decide)) q)
    (chunk_read kk q d g 3584 hg (by decide) (by decide) hd) (weightW_emb kk q (maxRow (maxAll kk q)) g 3584 hg (by decide) (by decide)) _)
  isplitl [H18]; · iexact H18
  isplitl [H19]; · iexact H19
  iintro ⟨H18, H19⟩
  rw [putRows_all]
  unfold owns
  icases H4 with ⟨%f4, %hf4, H4⟩
  icases H18 with ⟨%f18, %hf18, H18⟩
  icases H19 with ⟨%f19, %hf19, H19⟩
  icases H11 with ⟨%f11, %hf11, H11⟩
  have hv : arg4.view.readAt (Elt F) (Rect.unit (s := S1x128x4096) ![0, 0, 0] S1x128x4096.size inb_S1x128x4096_S1x128x4096_0_0_0).toLoadRect f4 = vt :=
    (View.readAt_full arg4.view f4 _).trans hf4
  have hw : arg19.view.readAt (Elt F) (Rect.unit (s := S4x4096x256) ![g, 0, 0] S1x4096x256.size (inbG g hg)).toLoadRect f19 = weightB kk q (maxRow (maxAll kk q)) := by
    have e : arg19.view.readAt (Elt F) (Rect.unit (s := S4x4096x256) ![g, 0, 0] S1x4096x256.size (inbG g hg)).toLoadRect f19
        = fun x => arg19.view.read (Elt F) f19 ((Rect.unit (s := S4x4096x256) ![g, 0, 0] S1x4096x256.size (inbG g hg)).emb x) := rfl
    rw [e, hf19]
    funext x
    have h0 : (x 0).val < 1 := (x 0).isLt
    have e0 : ((Rect.unit (s := S4x4096x256) ![g, 0, 0] S1x4096x256.size (inbG g hg)).emb x 0).val = g := by simp; omega
    unfold putHead
    rw [if_pos e0]
    unfold weightB
    exact weightW_congr kk q _ _ _ (by simp) (by simp)
  sl_exec
  sl_step
  iapply Hk
  isplitl [H4]
  · iexists f4; isplitr; · ipureintro; exact hf4
    iexact H4
  isplitl [H18]
  · iexists f18; isplitr; · ipureintro; exact hf18
    iexact H18
  isplitl [H19]
  · iexists _; iexists f19; isplitr; · ipureintro; exact hf19
    iexact H19
  iexists _
  isplitr
  · ipureintro; exact read_tile arg11 f11 off r s hoff he _ o hf11
  iexact H11

end Cert.Kernel3Ideal.Attn

end
-- ==== Proof.AttnTrip.lean ====
/- One trip of the loop: four heads of a tile of 256 queries, and the first head's scores of the next tile. -/
module

public import proofs.«01_k».proof.Proof.AttnPass

@[expose] public section

set_option maxRecDepth 16384

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem off1_eq : ∀ k : Fin k0_t1_loop.trips, k0_off1 k = ![0, 256 * k.val, 128] := by decide +kernel
theorem off2_eq : ∀ k : Fin k0_t1_loop.trips, k0_off2 k = ![0, 256 * k.val, 0] := by decide +kernel
theorem off3_eq : ∀ k : Fin k0_t1_loop.trips, k0_off3 k = ![0, 256 * k.val, 256] := by decide +kernel
theorem off4_eq : ∀ k : Fin k0_t1_loop.trips, k0_off4 k = ![0, 256 * k.val, 384] := by decide +kernel
theorem off5_eq : ∀ k : Fin k0_t1_loop.trips, k0_off5 k = ![0, 256 * min (k.val + 1) 15, 0] := by decide +kernel
theorem trips_eq : k0_t1_loop.trips = 16 := by decide +kernel

theorem inbQ (k : Fin 16) (h : Fin 4) : ∀ a, (![0, 256 * k.val, 128 * h.val] : Fin 3 → ℕ) a + S1x256x128.size a ≤ S1x4096x512.size a := by
  have := k.isLt; have := h.isLt
  intro a; fin_cases a <;> simp [S1x256x128, S1x4096x512] <;> omega

/-- Tile `k` of head `h`'s queries. -/
def qTile (qq : Vec F S1x4096x512 .f32) (k : Fin 16) (h : Fin 4) : FVec F S256x128 .bf16 :=
  scaled (fun x => qq ((Rect.unit (s := S1x4096x512) ![0, 256 * k.val, 128 * h.val] S1x256x128.size (inbQ k h)).emb x))

/-- The output block: row `y 1` of head `y 2 / 128` is a row of the tile of its 256 queries. -/
def outB (qq : Vec F S1x4096x512 .f32) (kk : Vec F S1x4096x128 .bf16) (vt : Vec F S1x128x4096 .bf16) : Vec F S1x4096x512 .bf16 := fun y =>
  tile kk vt (qTile qq ⟨(y 1).val / 256, by have : (y 1).val < 4096 := (y 1).isLt; omega⟩ ⟨(y 2).val / 128, by have : (y 2).val < 512 := (y 2).isLt; omega⟩)
    (ix3 0 ⟨(y 1).val % 256, Nat.mod_lt _ (by decide)⟩ ⟨(y 2).val % 128, Nat.mod_lt _ (by decide)⟩)

/-- An element of the output block, its row and column written as tile and place in the tile. -/
theorem outB_at (qq : Vec F S1x4096x512 .f32) (kk : Vec F S1x4096x128 .bf16) (vt : Vec F S1x128x4096 .bf16) (y : S1x4096x512.Idx) (k : Fin 16) (h : Fin 4)
    (a : Fin 256) (b : Fin 128) (ha : (y 1).val = 256 * k.val + a.val) (hb : (y 2).val = 128 * h.val + b.val) :
    outB qq kk vt y = tile kk vt (qTile qq k h) (ix3 0 a b) := by
  have e1 : (⟨(y 1).val / 256, by have : (y 1).val < 4096 := (y 1).isLt; omega⟩ : Fin 16) = k := Fin.ext (by show (y 1).val / 256 = k.val; omega)
  have e2 : (⟨(y 2).val / 128, by have : (y 2).val < 512 := (y 2).isLt; omega⟩ : Fin 4) = h := Fin.ext (by show (y 2).val / 128 = h.val; omega)
  have e3 : (⟨(y 1).val % 256, Nat.mod_lt _ (by decide)⟩ : Fin 256) = a := Fin.ext (by show (y 1).val % 256 = a.val; omega)
  have e4 : (⟨(y 2).val % 128, Nat.mod_lt _ (by decide)⟩ : Fin 128) = b := Fin.ext (by show (y 2).val % 128 = b.val; omega)
  unfold outB
  rw [e1, e2, e3, e4]

/-- Storing tile `(k, h)` keeps what was right and puts the tile right. -/
theorem putTile_good (qq : Vec F S1x4096x512 .f32) (kk : Vec F S1x4096x128 .bf16) (vt : Vec F S1x128x4096 .bf16) (o : Vec F S1x4096x512 .bf16) (k : Fin 16) (h : Fin 4)
    (y : S1x4096x512.Idx) (hy : o y = outB qq kk vt y ∨ (256 * k.val ≤ (y 1).val ∧ (y 1).val < 256 * k.val + 256 ∧ 128 * h.val ≤ (y 2).val ∧ (y 2).val < 128 * h.val + 128)) :
    putTile (256 * k.val) (128 * h.val) (tile kk vt (qTile qq k h)) o y = outB qq kk vt y := by
  unfold putTile
  split
  · rename_i H
    refine (outB_at qq kk vt y k h _ _ ?_ ?_).symm
    · show (y 1).val = 256 * k.val + ((y 1).val - 256 * k.val) % 256; omega
    · show (y 2).val = 128 * h.val + ((y 2).val - 128 * h.val) % 128; omega
  · rename_i H
    rcases hy with hy | hy
    · exact hy
    · exact absurd hy H

variable (arg3 : Memref sig .tc .vmem S1x4096x128 .bf16) (arg4 : Memref sig .tc .vmem S1x128x4096 .bf16)
  (arg11 : Memref sig .tc .vmem S1x4096x512 .bf16) (arg18 : Memref sig .tc .vmem S4x4096x256 .f32) (arg19 : Memref sig .tc .vmem S4x4096x256 .bf16)
  (harg11 : arg11.IsWhole) (harg19 : arg19.IsWhole) (arg2 : Memref sig .tc .vmem S1x4096x512 .f32)

/-- A query tile loaded. -/
theorem loadTile_run (c : Dev nD) (k : Fin 16) (h : Fin 4) (hoff : ∀ a, (![0, 256 * k.val, 128 * h.val] : Fin 3 → ℕ) a + S1x256x128.size a ≤ S1x4096x512.size a)
    (qq : Vec F S1x4096x512 .f32) (K : Vec F S1x256x128 .f32 → sProp 𝕄) :
    iprop(owns (c : Thread nD τ) arg2 fullShare qq ∗ (owns (c : Thread nD τ) arg2 fullShare qq
        -∗ K (fun x => qq ((Rect.unit (s := S1x4096x512) ![0, 256 * k.val, 128 * h.val] S1x256x128.size (inbQ k h)).emb x))))
      ⊢ wp frame (wpE (defs₀ (F := F)) Variants.none c none) Set.univ
        (Prog.lift (.load arg2 (Rect.unit (s := S1x4096x512) ![0, 256 * k.val, 128 * h.val] S1x256x128.size hoff).toLoadRect (View.loadsAt_vmem h_S1x256x128)) : P F (Vec F S1x256x128 .f32)) K := by
  unfold owns
  iintro ⟨⟨%f2, %hf2, H2⟩, Hk⟩
  have hq : arg2.view.readAt (Elt F) (Rect.unit (s := S1x4096x512) ![0, 256 * k.val, 128 * h.val] S1x256x128.size hoff).toLoadRect f2
      = (fun x : S1x256x128.Idx => qq ((Rect.unit (s := S1x4096x512) ![0, 256 * k.val, 128 * h.val] S1x256x128.size (inbQ k h)).emb x) : Vec F S1x256x128 .f32) := by
    rw [← hf2]; rfl
  sl_exec
  sl_step
  iapply Hk
  iexists f2; isplitr; · ipureintro; exact hf2
  iexact H2

/-- A query tile loaded and its score pass. -/
theorem scoreAt_run (c : Dev nD) (g : ℕ) (hg : g < 4) (off : Fin 3 → ℕ) (hoff : ∀ a, off a + S1x256x128.size a ≤ S1x4096x512.size a) (k : Fin 16) (h : Fin 4)
    (he : off = ![0, 256 * k.val, 128 * h.val]) (qq : Vec F S1x4096x512 .f32) (kk : Vec F S1x4096x128 .bf16) (d : Vec F S4x4096x256 .f32) (K : FVec F S8x256 .f32 → sProp 𝕄) :
    iprop(owns (c : Thread nD τ) arg2 fullShare qq ∗ owns (c : Thread nD τ) arg3 fullShare kk ∗ owns (c : Thread nD τ) arg18 fullShare d
      ∗ (iprop(owns (c : Thread nD τ) arg2 fullShare qq ∗ owns (c : Thread nD τ) arg3 fullShare kk ∗ owns (c : Thread nD τ) arg18 fullShare (putHead g (scoreW kk (qTile qq k h)) d))
        -∗ K (maxAll kk (qTile qq k h))))
      ⊢ wp frame (wpE (defs₀ (F := F)) Variants.none c none) Set.univ (scoreAt arg3 arg18 arg2 g hg off hoff) K := by
  subst he
  unfold scoreAt
  iintro ⟨H2, H3, H18, Hk⟩
  rw [wp_bind]
  iapply (loadTile_run arg2 c k h hoff qq _)
  isplitl [H2]; · iexact H2
  iintro H2
  iapply (scorePass_run arg3 arg18 c g hg (qTile qq k h) kk d _)
  isplitl [H3]; · iexact H3
  isplitl [H18]; · iexact H18
  iintro ⟨H3, H18⟩
  iapply Hk
  isplitl [H2]; · iexact H2
  isplitl [H3]; · iexact H3
  iexact H18

/-- What holds before trip `n`: slot 0 holds the scores of tile `n`'s first head and `m` their maximum, and the rows before the tile are right. -/
def Good (qq : Vec F S1x4096x512 .f32) (kk : Vec F S1x4096x128 .bf16) (vt : Vec F S1x128x4096 .bf16) (n : ℕ) (m : FVec F S8x256 .f32)
    (d : Vec F S4x4096x256 .f32) (o : Vec F S1x4096x512 .bf16) : Prop :=
  (∀ y, (y 0).val = 0 → d y = scoreW kk (qTile qq ⟨min n 15, by omega⟩ 0) y) ∧ m = maxAll kk (qTile qq ⟨min n 15, by omega⟩ 0)
    ∧ ∀ y, (y 1).val < 256 * n → o y = outB qq kk vt y

/-- The loop's invariant. -/
def Inv (c : Dev nD) (qq : Vec F S1x4096x512 .f32) (kk : Vec F S1x4096x128 .bf16) (vt : Vec F S1x128x4096 .bf16) (n : ℕ) (m : FVec F S8x256 .f32) : sProp 𝕄 :=
  iprop(owns (c : Thread nD τ) arg2 fullShare qq ∗ owns (c : Thread nD τ) arg3 fullShare kk ∗ owns (c : Thread nD τ) arg4 fullShare vt
    ∗ (∃ p, owns (c : Thread nD τ) arg19 fullShare p)
    ∗ ∃ d, ∃ o, ⌜Good qq kk vt n m d o⌝ ∗ owns (c : Thread nD τ) arg18 fullShare d ∗ owns (c : Thread nD τ) arg11 fullShare o)

/-- A trip takes the invariant at its number to the invariant at the next. -/
theorem trip_run (c : Dev nD) (qq : Vec F S1x4096x512 .f32) (kk : Vec F S1x4096x128 .bf16) (vt : Vec F S1x128x4096 .bf16) (k : Fin k0_t1_loop.trips) (m : FVec F S8x256 .f32) :
    Inv arg3 arg4 arg11 arg18 arg19 arg2 c qq kk vt k.val m
      ⊢ wp frame (wpE (defs₀ (F := F)) Variants.none c none) Set.univ (trip arg3 arg4 arg11 arg18 arg19 harg11 harg19 arg2 k m)
        (Inv arg3 arg4 arg11 arg18 arg19 arg2 c qq kk vt (k.val + 1)) := by
  have hk : k.val < 16 := trips_eq ▸ k.isLt
  unfold trip
  rw [Inv]
  iintro ⟨H2, H3, H4, H19, ⟨%d, %o, %hG, H18, H11⟩⟩
  obtain ⟨hd, hm, ho⟩ := hG
  obtain ⟨j, rfl⟩ : ∃ j : Fin 16, j = (⟨min k.val 15, by omega⟩ : Fin 16) := ⟨_, rfl⟩
  have hj : (⟨min k.val 15, by omega⟩ : Fin 16) = ⟨k.val, hk⟩ := Fin.ext (by show min k.val 15 = k.val; omega)
  rw [hj] at hd hm
  subst hm
  rw [wp_bind]
  iapply (scoreAt_run arg3 arg18 arg2 c 1 _ (k0_off1 k) (k0_off1_inb k) ⟨k.val, hk⟩ 1 (off1_eq k) qq kk _ _)
  isplitl [H2]; · iexact H2
  isplitl [H3]; · iexact H3
  isplitl [H18]; · iexact H18
  iintro ⟨H2, H3, H18⟩
  rw [wp_bind]
  iapply (valuePass_run arg4 arg11 arg18 arg19 harg11 harg19 c 0 _ (k0_off2 k) (k0_off2_inb k) (256 * k.val) (128 * 0) (off2_eq k) (k0_off2_packedbf16 k)
    (fun n hn h => packed_rows 0 n (by decide) hn h) kk (qTile qq ⟨k.val, hk⟩ 0) vt (putHead 1 (scoreW kk (qTile qq ⟨k.val, hk⟩ 1)) d)
    (fun y hy => by simp [putHead, hy, hd y hy]) _ _)
  isplitl [H4]; · iexact H4
  isplitl [H18]; · iexact H18
  isplitl [H19]; · iexact H19
  isplitl [H11]; · iexact H11
  iintro ⟨H4, H18, H19, H11⟩
  rw [wp_bind]
  iapply (scoreAt_run arg3 arg18 arg2 c 2 _ (k0_off3 k) (k0_off3_inb k) ⟨k.val, hk⟩ 2 (off3_eq k) qq kk _ _)
  isplitl [H2]; · iexact H2
  isplitl [H3]; · iexact H3
  isplitl [H18]; · iexact H18
  iintro ⟨H2, H3, H18⟩
  rw [wp_bind]
  iapply (valuePass_run arg4 arg11 arg18 arg19 harg11 harg19 c 1 _ (k0_off1 k) (k0_off1_inb k) (256 * k.val) (128 * 1) (off1_eq k) (k0_off1_packedbf16 k)
    (fun n hn h => packed_rows 1 n (by decide) hn h) kk (qTile qq ⟨k.val, hk⟩ 1) vt (putHead 2 (scoreW kk (qTile qq ⟨k.val, hk⟩ 2)) (putHead 1 (scoreW kk (qTile qq ⟨k.val, hk⟩ 1)) d))
    (fun y hy => by simp [putHead, hy]) _ _)
  isplitl [H4]; · iexact H4
  isplitl [H18]; · iexact H18
  isplitl [H19]; · iexact H19
  isplitl [H11]; · iexact H11
  iintro ⟨H4, H18, H19, H11⟩
  rw [wp_bind]
  iapply (scoreAt_run arg3 arg18 arg2 c 3 _ (k0_off4 k) (k0_off4_inb k) ⟨k.val, hk⟩ 3 (off4_eq k) qq kk _ _)
  isplitl [H2]; · iexact H2
  isplitl [H3]; · iexact H3
  isplitl [H18]; · iexact H18
  iintro ⟨H2, H3, H18⟩
  rw [wp_bind]
  iapply (valuePass_run arg4 arg11 arg18 arg19 harg11 harg19 c 2 _ (k0_off3 k) (k0_off3_inb k) (256 * k.val) (128 * 2) (off3_eq k) (k0_off3_packedbf16 k)
    (fun n hn h => packed_rows 2 n (by decide) hn h) kk (qTile qq ⟨k.val, hk⟩ 2) vt (putHead 3 (scoreW kk (qTile qq ⟨k.val, hk⟩ 3)) (putHead 2 (scoreW kk (qTile qq ⟨k.val, hk⟩ 2)) (putHead 1 (scoreW kk (qTile qq ⟨k.val, hk⟩ 1)) d)))
    (fun y hy => by simp [putHead, hy]) _ _)
  isplitl [H4]; · iexact H4
  isplitl [H18]; · iexact H18
  isplitl [H19]; · iexact H19
  isplitl [H11]; · iexact H11
  iintro ⟨H4, H18, H19, H11⟩
  rw [wp_bind]
  iapply (scoreAt_run arg3 arg18 arg2 c 0 _ (k0_off5 k) (k0_off5_inb k) ⟨min (k.val + 1) 15, by omega⟩ 0 (off5_eq k) qq kk _ _)
  isplitl [H2]; · iexact H2
  isplitl [H3]; · iexact H3
  isplitl [H18]; · iexact H18
  iintro ⟨H2, H3, H18⟩
  rw [wp_bind]
  iapply (valuePass_run arg4 arg11 arg18 arg19 harg11 harg19 c 3 _ (k0_off4 k) (k0_off4_inb k) (256 * k.val) (128 * 3) (off4_eq k) (k0_off4_packedbf16 k)
    (fun n hn h => packed_rows 3 n (by decide) hn h) kk (qTile qq ⟨k.val, hk⟩ 3) vt (putHead 0 (scoreW kk (qTile qq ⟨min (k.val + 1) 15, by omega⟩ 0)) (putHead 3 (scoreW kk (qTile qq ⟨k.val, hk⟩ 3)) (putHead 2 (scoreW kk (qTile qq ⟨k.val, hk⟩ 2)) (putHead 1 (scoreW kk (qTile qq ⟨k.val, hk⟩ 1)) d))))
    (fun y hy => by simp [putHead, hy]) _ _)
  isplitl [H4]; · iexact H4
  isplitl [H18]; · iexact H18
  isplitl [H19]; · iexact H19
  isplitl [H11]; · iexact H11
  iintro ⟨H4, H18, H19, H11⟩
  rw [wp_pure]
  unfold Inv
  isplitl [H2]; · iexact H2
  isplitl [H3]; · iexact H3
  isplitl [H4]; · iexact H4
  isplitl [H19]; · iexact H19
  iexists _; iexists _
  isplitr
  swap
  · isplitl [H18]; · iexact H18
    iexact H11
  ipureintro
  refine ⟨?_, ?_, ?_⟩
  · intro y hy; simp [putHead, hy]
  · rfl
  · intro y hy
    have h2 : (y 2).val < 512 := (y 2).isLt
    refine putTile_good qq kk vt _ ⟨k.val, hk⟩ 3 y ?_
    by_cases h3 : 384 ≤ (y 2).val ∧ 256 * k.val ≤ (y 1).val
    · right; show 256 * k.val ≤ (y 1).val ∧ (y 1).val < 256 * k.val + 256 ∧ 128 * 3 ≤ (y 2).val ∧ (y 2).val < 128 * 3 + 128; omega
    left
    refine putTile_good qq kk vt _ ⟨k.val, hk⟩ 2 y ?_
    by_cases h3 : 256 ≤ (y 2).val ∧ 256 * k.val ≤ (y 1).val
    · right; show 256 * k.val ≤ (y 1).val ∧ (y 1).val < 256 * k.val + 256 ∧ 128 * 2 ≤ (y 2).val ∧ (y 2).val < 128 * 2 + 128; omega
    left
    refine putTile_good qq kk vt _ ⟨k.val, hk⟩ 1 y ?_
    by_cases h3 : 128 ≤ (y 2).val ∧ 256 * k.val ≤ (y 1).val
    · right; show 256 * k.val ≤ (y 1).val ∧ (y 1).val < 256 * k.val + 256 ∧ 128 * 1 ≤ (y 2).val ∧ (y 2).val < 128 * 1 + 128; omega
    left
    refine putTile_good qq kk vt _ ⟨k.val, hk⟩ 0 y ?_
    by_cases h3 : 256 * k.val ≤ (y 1).val
    · right; show 256 * k.val ≤ (y 1).val ∧ (y 1).val < 256 * k.val + 256 ∧ 128 * 0 ≤ (y 2).val ∧ (y 2).val < 128 * 0 + 128; omega
    left
    exact ho y (by omega)

end Cert.Kernel3Ideal.Attn

end
-- ==== Proof.AttnRun.lean ====
/- The attention call, run: the side casts, the body, the pipeline, the frame. -/
module

public import proofs.«01_k».proof.Proof.AttnTrip
public import Idealize.ShloMosaic.Lib.Claim

@[expose] public section

set_option maxRecDepth 16384

noncomputable section

namespace Cert.Kernel3Ideal.Attn

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A side weight's block, cast. -/
def castB {s : Shape} (x : Vec F s .f32) : Vec F s .bf16 := truncf .bf16 x bitsLt_bf16_f32

set_option maxHeartbeats 1000000 in
/-- The side casts, run. -/
theorem sideCasts_run (c : Dev nD) (arg5 : Memref sig .tc .vmem S32x1024 .f32) (arg6 : Memref sig .tc .vmem S64x1024 .f32) (arg7 : Memref sig .tc .vmem S64x1024 .f32) (arg8 : Memref sig .tc .vmem S64x2816 .f32) (arg9 : Memref sig .tc .vmem S64x2816 .f32) (arg10 : Memref sig .tc .vmem S176x1024 .f32) (arg12 : Memref sig .tc .vmem S32x1024 .bf16) (harg12 : arg12.IsWhole) (arg13 : Memref sig .tc .vmem S64x1024 .bf16) (harg13 : arg13.IsWhole) (arg14 : Memref sig .tc .vmem S64x1024 .bf16) (harg14 : arg14.IsWhole) (arg15 : Memref sig .tc .vmem S64x2816 .bf16) (harg15 : arg15.IsWhole) (arg16 : Memref sig .tc .vmem S64x2816 .bf16) (harg16 : arg16.IsWhole) (arg17 : Memref sig .tc .vmem S176x1024 .bf16) (harg17 : arg17.IsWhole)
    (x5 : Vec F S32x1024 .f32) (x6 : Vec F S64x1024 .f32) (x7 : Vec F S64x1024 .f32) (x8 : Vec F S64x2816 .f32) (x9 : Vec F S64x2816 .f32) (x10 : Vec F S176x1024 .f32) (K : PUnit → sProp 𝕄) :
    iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
      ∗ (iprop(owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg12 fullShare (castB x5) ∗ owns (c : Thread nD τ) arg13 fullShare (castB x6) ∗ owns (c : Thread nD τ) arg14 fullShare (castB x7) ∗ owns (c : Thread nD τ) arg15 fullShare (castB x8) ∗ owns (c : Thread nD τ) arg16 fullShare (castB x9) ∗ owns (c : Thread nD τ) arg17 fullShare (castB x10)) -∗ K ⟨⟩))
      ⊢ wp frame (wpE (defs₀ (F := F)) Variants.none c none) Set.univ (sideCasts arg5 arg6 arg7 arg8 arg9 arg10 arg12 harg12 arg13 harg13 arg14 harg14 arg15 harg15 arg16 harg16 arg17 harg17) K := by
  unfold sideCasts owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, Hk⟩
  have h5 : arg5.view.readAt (Elt F) (Rect.unit (s := S32x1024) ![0, 0] S32x1024.size inb_S32x1024_S32x1024_0_0).toLoadRect f5 = x5 := (View.readAt_full arg5.view f5 _).trans hf5
  have h6 : arg6.view.readAt (Elt F) (Rect.unit (s := S64x1024) ![0, 0] S64x1024.size inb_S64x1024_S64x1024_0_0).toLoadRect f6 = x6 := (View.readAt_full arg6.view f6 _).trans hf6
  have h7 : arg7.view.readAt (Elt F) (Rect.unit (s := S64x1024) ![0, 0] S64x1024.size inb_S64x1024_S64x1024_0_0).toLoadRect f7 = x7 := (View.readAt_full arg7.view f7 _).trans hf7
  have h8 : arg8.view.readAt (Elt F) (Rect.unit (s := S64x2816) ![0, 0] S64x2816.size inb_S64x2816_S64x2816_0_0).toLoadRect f8 = x8 := (View.readAt_full arg8.view f8 _).trans hf8
  have h9 : arg9.view.readAt (Elt F) (Rect.unit (s := S64x2816) ![0, 0] S64x2816.size inb_S64x2816_S64x2816_0_0).toLoadRect f9 = x9 := (View.readAt_full arg9.view f9 _).trans hf9
  have h10 : arg10.view.readAt (Elt F) (Rect.unit (s := S176x1024) ![0, 0] S176x1024.size inb_S176x1024_S176x1024_0_0).toLoadRect f10 = x10 := (View.readAt_full arg10.view f10 _).trans hf10
  simp only [shapeCast_self]
  sl_exec
  sl_step
  iapply Hk
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H12]
  · iexists _; isplitr
    swap; · iexact H12
    ipureintro; exact View.read_writes_full _ _ _ _ _
  isplitl [H13]
  · iexists _; isplitr
    swap; · iexact H13
    ipureintro; exact View.read_writes_full _ _ _ _ _
  isplitl [H14]
  · iexists _; isplitr
    swap; · iexact H14
    ipureintro; exact View.read_writes_full _ _ _ _ _
  isplitl [H15]
  · iexists _; isplitr
    swap; · iexact H15
    ipureintro; exact View.read_writes_full _ _ _ _ _
  isplitl [H16]
  · iexists _; isplitr
    swap; · iexact H16
    ipureintro; exact View.read_writes_full _ _ _ _ _
  iexists _; isplitr
  swap; · iexact H17
  ipureintro; exact View.read_writes_full _ _ _ _ _

/-- The body, run: the output block from the queries, keys and values, the side blocks cast. -/
theorem body_run (c : Dev nD) (i : grid0.Coords) (arg2 : Memref sig .tc .vmem S1x4096x512 .f32) (harg2 : arg2.IsWhole) (arg3 : Memref sig .tc .vmem S1x4096x128 .bf16) (harg3 : arg3.IsWhole) (arg4 : Memref sig .tc .vmem S1x128x4096 .bf16) (harg4 : arg4.IsWhole) (arg5 : Memref sig .tc .vmem S32x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S64x2816 .f32) (harg8 : arg8.IsWhole) (arg9 : Memref sig .tc .vmem S64x2816 .f32) (harg9 : arg9.IsWhole) (arg10 : Memref sig .tc .vmem S176x1024 .f32) (harg10 : arg10.IsWhole) (arg11 : Memref sig .tc .vmem S1x4096x512 .bf16) (harg11 : arg11.IsWhole) (arg12 : Memref sig .tc .vmem S32x1024 .bf16) (harg12 : arg12.IsWhole) (arg13 : Memref sig .tc .vmem S64x1024 .bf16) (harg13 : arg13.IsWhole) (arg14 : Memref sig .tc .vmem S64x1024 .bf16) (harg14 : arg14.IsWhole) (arg15 : Memref sig .tc .vmem S64x2816 .bf16) (harg15 : arg15.IsWhole) (arg16 : Memref sig .tc .vmem S64x2816 .bf16) (harg16 : arg16.IsWhole) (arg17 : Memref sig .tc .vmem S176x1024 .bf16) (harg17 : arg17.IsWhole) (arg18 : Memref sig .tc .vmem S4x4096x256 .f32) (harg18 : arg18.IsWhole) (arg19 : Memref sig .tc .vmem S4x4096x256 .bf16) (harg19 : arg19.IsWhole)
    (x2 : Vec F S1x4096x512 .f32) (x3 : Vec F S1x4096x128 .bf16) (x4 : Vec F S1x128x4096 .bf16) (x5 : Vec F S32x1024 .f32) (x6 : Vec F S64x1024 .f32) (x7 : Vec F S64x1024 .f32) (x8 : Vec F S64x2816 .f32) (x9 : Vec F S64x2816 .f32) (x10 : Vec F S176x1024 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outB x2 x3 x4) ∗ owns (c : Thread nD τ) arg12 fullShare (castB x5) ∗ owns (c : Thread nD τ) arg13 fullShare (castB x6) ∗ owns (c : Thread nD τ) arg14 fullShare (castB x7) ∗ owns (c : Thread nD τ) arg15 fullShare (castB x8) ∗ owns (c : Thread nD τ) arg16 fullShare (castB x9) ∗ owns (c : Thread nD τ) arg17 fullShare (castB x10) ∗ (∃ d, owns (c : Thread nD τ) arg18 fullShare d) ∗ (∃ d, owns (c : Thread nD τ) arg19 fullShare d)) -∗ K ⟨⟩))
      ⊢ wp frame (wpE (defs₀ (F := F)) Variants.none c none) Set.univ (cc0_gqa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rw [body_eq]
  iintro ⟨H2, H3, H4, H5, H6, H7, H8, H9, H10, ⟨%o, H11⟩, H12, H13, H14, H15, H16, H17, ⟨%d, H18⟩, H19, Hk⟩
  rw [wp_bind]
  iapply (sideCasts_run c arg5 arg6 arg7 arg8 arg9 arg10 arg12 harg12 arg13 harg13 arg14 harg14 arg15 harg15 arg16 harg16 arg17 harg17 x5 x6 x7 x8 x9 x10 _)
  isplitl [H5]; · iexact H5
  isplitl [H6]; · iexact H6
  isplitl [H7]; · iexact H7
  isplitl [H8]; · iexact H8
  isplitl [H9]; · iexact H9
  isplitl [H10]; · iexact H10
  isplitl [H12]; · iexact H12
  isplitl [H13]; · iexact H13
  isplitl [H14]; · iexact H14
  isplitl [H15]; · iexact H15
  isplitl [H16]; · iexact H16
  isplitl [H17]; · iexact H17
  iintro ⟨H5, H6, H7, H8, H9, H10, H12, H13, H14, H15, H16, H17⟩
  rw [wp_bind]
  iapply (scoreAt_run arg3 arg18 arg2 c 0 _ ![0, 0, 0] _ 0 0 rfl x2 x3 d _)
  isplitl [H2]; · iexact H2
  isplitl [H3]; · iexact H3
  isplitl [H18]; · iexact H18
  iintro ⟨H2, H3, H18⟩
  rw [wp_bind]
  iapply (Scf.wp_for frame (wpE (defs₀ (F := F)) Variants.none c none) Set.univ _ _ _ k0_t1_ok (maxAll x3 (qTile x2 0 0)) (fun k m => trip arg3 arg4 arg11 arg18 arg19 harg11 harg19 arg2 k m)
    (Inv arg3 arg4 arg11 arg18 arg19 arg2 c x2 x3 x4) (fun k m => trip_run arg3 arg4 arg11 arg18 arg19 harg11 harg19 arg2 c x2 x3 x4 k m))
  isplitl [H2 H3 H4 H19 H11 H18]
  · unfold Inv
    isplitl [H2]; · iexact H2
    isplitl [H3]; · iexact H3
    isplitl [H4]; · iexact H4
    isplitl [H19]; · iexact H19
    iexists _; iexists _
    isplitr
    swap
    · isplitl [H18]; · iexact H18
      iexact H11
    ipureintro
    refine ⟨?_, rfl, ?_⟩
    · intro y hy; unfold putHead; rw [if_pos hy]; rfl
    · intro y hy; omega
  iintro %m' HI
  unfold Inv
  icases HI with ⟨H2, H3, H4, H19, ⟨%d', %o', %hG, H18, H11⟩⟩
  obtain ⟨-, -, hG⟩ := hG
  have ho : o' = outB x2 x3 x4 := funext fun y => hG y (by
    have h : (y 1).val < 4096 := (y 1).isLt
    have e : Scf.trips k0_t1_loop.lb k0_t1_loop.ub k0_t1_loop.st = 16 := trips_eq
    omega)
  subst ho
  rw [wp_pure]
  imodintro
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists d'; iexact H18
  iexact H19

variable (m : (ℓ : Loc nD τ sig) → Buf (Elt F) ℓ) (ρ : Dev nD → PrngReg)

/-! ## The pipeline's proof data -/

/-- The proof data on core `c`: after the body each input's buffer at its block, the output's at the attention of
    the blocks, the side outputs' at the casts; the invariant the scratch and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outB (iblk m c 0 t) (iblk m c 1 t) (iblk m c 2 t)
    | ⟨10, _⟩ => castB (iblk m c 3 t)
    | ⟨11, _⟩ => castB (iblk m c 4 t)
    | ⟨12, _⟩ => castB (iblk m c 5 t)
    | ⟨13, _⟩ => castB (iblk m c 6 t)
    | ⟨14, _⟩ => castB (iblk m c 7 t)
    | ⟨15, _⟩ => castB (iblk m c 8 t)
    | ⟨n + 16, h⟩ => False.elim (Nat.not_lt.mpr (Nat.le_add_left 16 n) h)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outB (iblk m c 0 t) (iblk m c 1 t) (iblk m c 2 t) := by dsimp only [dats]
theorem after0_10 (c : Dev nD) (t : Fin cfg0.N) : (dats m 0 c).after 10 t = castB (iblk m c 3 t) := by dsimp only [dats]
theorem after0_11 (c : Dev nD) (t : Fin cfg0.N) : (dats m 0 c).after 11 t = castB (iblk m c 4 t) := by dsimp only [dats]
theorem after0_12 (c : Dev nD) (t : Fin cfg0.N) : (dats m 0 c).after 12 t = castB (iblk m c 5 t) := by dsimp only [dats]
theorem after0_13 (c : Dev nD) (t : Fin cfg0.N) : (dats m 0 c).after 13 t = castB (iblk m c 6 t) := by dsimp only [dats]
theorem after0_14 (c : Dev nD) (t : Fin cfg0.N) : (dats m 0 c).after 14 t = castB (iblk m c 7 t) := by dsimp only [dats]
theorem after0_15 (c : Dev nD) (t : Fin cfg0.N) : (dats m 0 c).after 15 t = castB (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15,
    show (dats m 0 c).Φ t.castSucc = Pipeline.ΦA spec0 c from rfl]
  unfold Pipeline.ΦA
  rw [scopedRest0_eq]
  iintro ⟨⟨⟨⟨%s0, Hs0⟩, ⟨%s1, Hs1⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_run c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [Hs0]; · iexists s0; rw [owns_whole]; iexact Hs0
  isplitl [Hs1]; · iexists s1; rw [owns_whole]; iexact Hs1
  iintro ⟨H0, H1, H2, H3, H4, H5, H6, H7, H8, H9, H10, H11, H12, H13, H14, H15, ⟨%u0, Hs0⟩, ⟨%u1, Hs1⟩⟩
  isplitl [Hs0 Hs1 Hp]
  · isplitl [Hs0 Hs1]
    · isplitl [Hs0]; · iexists u0; rw [← owns_whole]; iexact Hs0
      iexists u1; rw [← owns_whole]; iexact Hs1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The run of @main: every array at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of @main: every array at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end as they began and the counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.Kernel3Ideal.Attn

end
-- ==== Proof.AttnSame.lean ====
/- The attention call's frame at the words: its text is its idealization's, each named constant read from its bits. -/
module

public import proofs.«01_k».proof.Defs
public import proofs.«01_k».proof.Proof.AttnRun
public import proofs.«01_k».proof.Proof.Gen.Kernel3
public import proofs.«01_k».proof.Proof.Gen.Kernel3Ideal

@[expose] public section

set_option maxRecDepth 100000

noncomputable section

namespace Cert.Kernel3.Attn

open Idealize.ShloMosaic Idealize.SL.Sem

/-- At the words a named constant is the word it is printed with. -/
abbrev wordNamed : Named Bits := ⟨fun _ _ {φ} b => Scalar.ofBits (F := Bits) φ b⟩

attribute [local instance] wordNamed

/-- The two programs' kernel bodies are the same. -/
theorem body_same : @Cert.Kernel3.cc0_gqa Bits _ _ = @Cert.Kernel3Ideal.cc0_gqa Bits _ wordNamed _ := rfl

set_option maxHeartbeats 4000000 in
/-- The two programs' tables of definitions are the same. -/
theorem defs_same : Cert.Kernel3.defs (F := Bits) = Cert.Kernel3Ideal.defs (F := Bits) := by
  unfold Cert.Kernel3.defs Cert.Kernel3Ideal.defs
  refine congrArg (Pipeline.defs Cert.Kernel3Ideal.pcfgs) ?_
  unfold Cert.Kernel3.defs₀ Cert.Kernel3Ideal.defs₀
  refine congrArg Defs.onTc (funext fun l => funext fun a => ?_)
  match l, a with
  | 0, (t, s) => dsimp only; rw [body_same]; congr 1

/-- The call terminates with its arguments unchanged and every counter at zero: the idealization's run, at the words. -/
theorem frame : Cert.quiescent_Kernel3 := fun m ρ _ => by
  rw [defs_same]
  exact Cert.Kernel3Ideal.Attn.frame (F := Bits) m ρ

end Cert.Kernel3.Attn
-- ==== Proof.AttnMath.lean ====
/- Softmax over the extended reals: where the scores are finite, dividing by the weights' sum may come before or after the sum over the values, and in either base. -/
module

public import Idealize.ShloMosaic.PureOps.Ideal
public import Idealize.ShloMosaic.PureOps.Ideal.Laws
public import Idealize.ShloMosaic.Lib.IdealHost

@[expose] public section

noncomputable section

namespace Cert.Soft

open Idealize.ShloMosaic

/-- Neither infinity. -/
def Fin' (x : EReal) : Prop := ⊥ < x ∧ x < ⊤

theorem Fin'.real {x : EReal} (h : Fin' x) : ∃ r : ℝ, x = r :=
  ⟨x.toReal, (EReal.coe_toReal (ne_of_lt h.2) (ne_of_gt h.1)).symm⟩

theorem fin_coe (r : ℝ) : Fin' (r : EReal) := ⟨EReal.bot_lt_coe r, EReal.coe_lt_top r⟩

/-- The word the maxima start from is minus infinity. -/
theorem negInf : Ideal.ofBits .f32 0xFF800000#32 = ⊥ := by simp [Ideal.ofBits, Ideal.ieee]

/-- A maximum of finite numbers is finite. -/
theorem fold_fin {ι : Type} [Fintype ι] [Nonempty ι] (f : ι → EReal) (h : ∀ i, Fin' (f i)) : Fin' (Finset.univ.fold max ⊥ f) :=
  ⟨(Finset.lt_fold_max ⊥).2 (.inr ⟨Classical.arbitrary ι, Finset.mem_univ _, (h _).1⟩),
    (Finset.fold_max_lt ⊤).2 ⟨bot_lt_top, fun i _ => (h i).2⟩⟩

theorem max_fin {x y : EReal} (hx : Fin' x) (hy : Fin' y) : Fin' (max x y) := ⟨lt_max_of_lt_left hx.1, max_lt hx.2 hy.2⟩

/-- A maximum taken along an axis is finite where its operand is. -/
theorem reduce_fin {s t u : Shape} {a : Fin s.rank} (S : FVec Ideal s .f32) (init : FVec Ideal u .f32) (h' : s.ReducesTo [a] t) (h : s.Reduces [a] t) (hu : 0 < u.numel)
    (hi : init (Shape.Idx.first hu) = ⊥) (ha : 0 < s.size a) (hS : ∀ y, Fin' (S y)) (z : t.Idx) :
    Fin' (Host.reduce (FloatOps.maximumf (F := Ideal) (φ := .f32)) S init h' hu z) := by
  haveI : Nonempty (Fin (s.size a)) := ⟨⟨0, ha⟩⟩
  rw [Host.reduce_eq_fold_single _ S init h' h hu z, hi]
  exact fold_fin _ fun j => hS _

/-- The maximum with minus infinity is finite where the other is. -/
theorem max_bot_fin {s u : Shape} {φ : FTy} (y : FVec Ideal s φ) (d : Fin u.rank → Fin s.rank) (h : u.BroadcastsInDim s d) (w : BitVec φ.bits) (hw : Ideal.ofBits φ w = ⊥)
    (z : s.Idx) (hy : Fin' (y z)) : Fin' (maximumf (broadcastInDim s d h (constant (F := Ideal) u φ w)) y z) := by
  have e : maximumf (broadcastInDim s d h (constant (F := Ideal) u φ w)) y z = max (Ideal.ofBits φ w) (y z) := rfl
  rw [e, hw, max_bot_left]; exact hy

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum times a nonnegative real is the sum of the products, the terms any extended reals. -/
theorem sum_mul {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.2 hr) (EReal.coe_ne_top r), ih]

/-- A sum over 4096 keys, in eight chunks of 64 groups of eight. -/
theorem sum_chunks (P : Fin 4096 → EReal) :
    ∑ j, P j = ∑ c : Fin 8, ∑ u : Fin 8, ∑ a : Fin 64, P ⟨512 * c.val + (a.val * 8 + u.val), by omega⟩ := by
  have e1 : ∀ Q : Fin 512 → EReal, ∑ j, Q j = ∑ u : Fin 8, ∑ a : Fin 64, Q ⟨a.val * 8 + u.val, by omega⟩ := fun Q => by
    rw [Finset.sum_comm, ← Fintype.sum_prod_type', ← (finProdFinEquiv (m := 64) (n := 8)).sum_comp]
    refine Finset.sum_congr rfl fun x _ => congrArg Q (Fin.ext ?_)
    simp [finProdFinEquiv]; omega
  have e2 : ∑ j, P j = ∑ c : Fin 8, ∑ j : Fin 512, P ⟨512 * c.val + j.val, by omega⟩ := by
    rw [← Fintype.sum_prod_type', ← (finProdFinEquiv (m := 8) (n := 512)).sum_comp]
    refine Finset.sum_congr rfl fun x _ => congrArg P (Fin.ext ?_)
    simp [finProdFinEquiv]; omega
  rw [e2]
  exact Finset.sum_congr rfl fun c _ => e1 _

/-- The same sum, its eight chunks written out. -/
theorem sum_chunks_eight (P : Fin 4096 → EReal) :
    (∑ u : Fin 8, ∑ a : Fin 64, P ⟨0 + (a.val * 8 + u.val), by omega⟩) + (∑ u : Fin 8, ∑ a : Fin 64, P ⟨512 + (a.val * 8 + u.val), by omega⟩) + (∑ u : Fin 8, ∑ a : Fin 64, P ⟨1024 + (a.val * 8 + u.val), by omega⟩) + (∑ u : Fin 8, ∑ a : Fin 64, P ⟨1536 + (a.val * 8 + u.val), by omega⟩) + (∑ u : Fin 8, ∑ a : Fin 64, P ⟨2048 + (a.val * 8 + u.val), by omega⟩) + (∑ u : Fin 8, ∑ a : Fin 64, P ⟨2560 + (a.val * 8 + u.val), by omega⟩) + (∑ u : Fin 8, ∑ a : Fin 64, P ⟨3072 + (a.val * 8 + u.val), by omega⟩) + (∑ u : Fin 8, ∑ a : Fin 64, P ⟨3584 + (a.val * 8 + u.val), by omega⟩)
      = ∑ j, P j := by
  rw [sum_chunks]
  exact (Fin.sum_univ_eight fun c : Fin 8 => ∑ u : Fin 8, ∑ a : Fin 64, P ⟨512 * c.val + (a.val * 8 + u.val), by omega⟩).symm

/-- The weighted values divided by the weights' sum, in base two with the scores scaled by the logarithm of `e`, are the values
    weighted by the softmax of the scores: each maximum subtracted may be any real. -/
theorem soft {n : ℕ} (hn : 0 < n) (V : Fin n → EReal) (x : Fin n → ℝ) (c M M' : ℝ) :
    Ideal.div (∑ j, V j * Ideal.exp2 (((x j * (c * (Real.log 2)⁻¹) : ℝ) : EReal) - (M : EReal))) (∑ j, Ideal.exp2 (((x j * (c * (Real.log 2)⁻¹) : ℝ) : EReal) - (M : EReal)))
      = ∑ j, V j * Ideal.div (Ideal.exp (((x j * c : ℝ) : EReal) - (M' : EReal))) (∑ j, Ideal.exp (((x j * c : ℝ) : EReal) - (M' : EReal))) := by
  have hl : Real.log 2 ≠ 0 := ne_of_gt (Real.log_pos (by norm_num))
  have h2 : ∀ j, Ideal.exp2 (((x j * (c * (Real.log 2)⁻¹) : ℝ) : EReal) - (M : EReal)) = ((Real.exp (M' - M * Real.log 2) * Real.exp (x j * c - M') : ℝ) : EReal) := fun j => by
    rw [← EReal.coe_sub, Ideal.exp2_coe]
    refine congrArg _ ?_
    show (2 : ℝ) ^ (x j * (c * (Real.log 2)⁻¹) - M) = _
    rw [Real.rpow_def_of_pos (by norm_num), ← Real.exp_add]
    refine congrArg Real.exp ?_
    field_simp
    ring
  have h1 : ∀ j, Ideal.exp (((x j * c : ℝ) : EReal) - (M' : EReal)) = ((Real.exp (x j * c - M') : ℝ) : EReal) := fun j => by
    rw [← EReal.coe_sub, Ideal.exp_coe]
  simp only [h1, h2]
  have hs : 0 < ∑ j : Fin n, Real.exp (x j * c - M') := Finset.sum_pos (fun j _ => Real.exp_pos _) ⟨⟨0, hn⟩, Finset.mem_univ _⟩
  have hk : 0 < Real.exp (M' - M * Real.log 2) := Real.exp_pos _
  rw [← coe_sum, ← coe_sum, ← Finset.mul_sum, Ideal.div_coe (ne_of_gt (mul_pos hk hs)), sum_mul _ _ _ (le_of_lt (one_div_pos.2 (mul_pos hk hs)))]
  refine Finset.sum_congr rfl fun j _ => ?_
  rw [Ideal.div_coe (ne_of_gt hs), mul_assoc, ← EReal.coe_mul, ← EReal.coe_mul]
  refine congrArg (fun r : ℝ => V j * (r : EReal)) ?_
  field_simp

end Cert.Soft

end
-- ==== Proof.AttnAt.lean ====
/- The attention call's values at an entry, over the extended reals. -/
module

public import proofs.«01_k».proof.Proof.AttnTrip
public import proofs.«01_k».proof.Proof.AttnMath
public import Idealize.ShloMosaic.Lib.Pipeline.ValueKit

@[expose] public section

set_option maxRecDepth 16384

noncomputable section

namespace Cert.Kernel3Ideal.Attn

open Cert.Kernel3Ideal.Gen Cert.Soft
open Idealize.ShloMosaic Idealize.ShloMosaic.TcCoe Idealize.SL.Sem

/-- The factor on the queries: the square root of the head's size inverted, times the logarithm of `e` in base two. -/
def factor : ℝ := (11863283 / 134217728) * (Real.log 2)⁻¹

/-- The score of a key against a query of the tile. -/
def sc (kk : Vec Ideal S1x4096x128 .bf16) (q : FVec Ideal S256x128 .bf16) (j : Fin 4096) (i : Fin 256) : EReal :=
  ∑ d : Fin 128, kk (ix3 0 j d) * q (ix2 i d)

/-- A scaled query tile at an entry. -/
theorem scaled_at (x : Vec Ideal S1x256x128 .f32) (i : Fin 256) (d : Fin 128) : scaled x (ix2 i d) = x (ix3 0 i d) * (factor : EReal) := by
  pointwise [scaled]
  rfl

/-- The scores of 512 keys at an entry. -/
theorem score_at (k : Vec Ideal S1x512x128 .bf16) (q : FVec Ideal S256x128 .bf16) (j : Fin 512) (i : Fin 256) :
    score k q (ix2 j i) = ∑ d : Fin 128, k (ix3 0 j d) * q (ix2 i d) := by
  pointwise [score]

theorem keys_at (kk : Vec Ideal S1x4096x128 .bf16) (n : ℕ) (hn : n + 512 ≤ 4096) (j : Fin 512) (d : Fin 128) :
    keys kk n hn (ix3 0 j d) = kk (ix3 0 ⟨n + j.val, by omega⟩ d) := by
  unfold keys
  refine congrArg kk (funext fun a => Fin.ext ?_)
  fin_cases a <;> simp

/-- The running maximum's step at an entry. -/
theorem maxStep_at (m : FVec Ideal S8x256 .f32) (s : FVec Ideal S512x256 .f32) (u : Fin 8) (i : Fin 256) :
    maxStep m s (ix2 u i) = max (m (ix2 u i)) (Finset.univ.fold max ⊥ fun a : Fin 64 => s (ix2 ⟨a.val * 8 + u.val, by omega⟩ i)) := by
  pointwise [maxStep]
  try rw [negInf]

theorem maxRow_at (m : FVec Ideal S8x256 .f32) (i : Fin 256) :
    maxRow m (ix2 0 i) = (Finset.univ.fold max ⊥ fun u : Fin 8 => m (ix2 u i)) := by
  pointwise [maxRow]
  try rw [negInf]

theorem weight_at (s : FVec Ideal S512x256 .f32) (mx : FVec Ideal S1x256 .f32) (j : Fin 512) (i : Fin 256) :
    weight s mx (ix2 j i) = Ideal.exp2 (s (ix2 j i) - mx (ix2 0 i)) := by
  pointwise [weight]
  rfl

theorem sumStep_at (l : FVec Ideal S8x256 .f32) (p : FVec Ideal S512x256 .f32) (u : Fin 8) (i : Fin 256) :
    sumStep l p (ix2 u i) = l (ix2 u i) + ∑ a : Fin 64, p (ix2 ⟨a.val * 8 + u.val, by omega⟩ i) := by
  pointwise [sumStep]
  try rw [negInf]

theorem tileOut_at (vt : Vec Ideal S1x128x4096 .bf16) (p : Vec Ideal S1x4096x256 .bf16) (l : FVec Ideal S8x256 .f32) (i : Fin 256) (d : Fin 128) :
    tileOut vt p l (ix3 0 i d) = Ideal.div (∑ j : Fin 4096, vt (ix3 0 d j) * p (ix3 0 j i)) (∑ u : Fin 8, l (ix2 u i)) := by
  pointwise [tileOut]

/-- The running maximum starts from a finite number. -/
theorem maxStart_fin (u : Fin 8) (i : Fin 256) : Fin' (maxStart (F := Ideal) (ix2 u i)) := by
  have e : maxStart (F := Ideal) (ix2 u i) = Ideal.ofBits .f32 0xF149F2CA#32 := by pointwise [maxStart]
  rw [e]
  have : ∃ r : ℝ, Ideal.ofBits .f32 0xF149F2CA#32 = (r : EReal) := ⟨_, by simp [Ideal.ofBits, Ideal.ieee, -EReal.coe_mul]; rfl⟩
  obtain ⟨r, hr⟩ := this
  rw [hr]; exact fin_coe r

/-- The scores of a chunk of keys at an entry. -/
theorem score_keys (kk : Vec Ideal S1x4096x128 .bf16) (q : FVec Ideal S256x128 .bf16) (n : ℕ) (hn : n + 512 ≤ 4096) (j : Fin 512) (i : Fin 256) :
    score (keys kk n hn) q (ix2 j i) = sc kk q ⟨n + j.val, by omega⟩ i := by
  rw [score_at]
  exact Finset.sum_congr rfl fun d _ => by rw [keys_at]

/-- With finite scores the maximum is finite. -/
theorem maxRow_fin (kk : Vec Ideal S1x4096x128 .bf16) (q : FVec Ideal S256x128 .bf16) (i : Fin 256) (h : ∀ j, Fin' (sc kk q j i)) :
    Fin' (maxRow (maxAll kk q) (ix2 0 i)) := by
  have step : ∀ (m : FVec Ideal S8x256 .f32) (n : ℕ) (hn : n + 512 ≤ 4096), (∀ u, Fin' (m (ix2 u i))) →
      ∀ u, Fin' (maxStep m (score (keys kk n hn) q) (ix2 u i)) := fun m n hn hm u => by
    rw [maxStep_at]
    exact max_fin (hm u) (fold_fin _ fun a => by rw [score_keys]; exact h _)
  rw [maxRow_at]
  refine fold_fin _ fun u => ?_
  unfold maxAll
  exact step _ _ _ (step _ _ _ (step _ _ _ (step _ _ _ (step _ _ _ (step _ _ _ (step _ _ _ (step _ _ _ fun u => maxStart_fin u i))))))) u

/-- The weights' sum over all keys. -/
theorem sumAll_at (kk : Vec Ideal S1x4096x128 .bf16) (q : FVec Ideal S256x128 .bf16) (mx : FVec Ideal S1x256 .f32) (i : Fin 256) :
    ∑ u : Fin 8, sumAll kk q mx (ix2 u i) = ∑ j, Ideal.exp2 (sc kk q j i - mx (ix2 0 i)) := by
  have z : ∀ u, sumStart (F := Ideal) (ix2 u i) = 0 := fun u => by pointwise [sumStart]
  unfold sumAll
  simp only [sumStep_at, weight_at, score_keys, z, zero_add, Finset.sum_add_distrib]
  have e := sum_chunks_eight fun j => Ideal.exp2 (sc kk q j i - mx (ix2 0 i))
  simp only [zero_add] at e
  exact e

/-- A head's weight of a key at a query. -/
theorem weightB_at (kk : Vec Ideal S1x4096x128 .bf16) (q : FVec Ideal S256x128 .bf16) (mx : FVec Ideal S1x256 .f32) (j : Fin 4096) (i : Fin 256) :
    weightB kk q mx (ix3 0 j i) = Ideal.exp2 (sc kk q j i - mx (ix2 0 i)) := by
  have e : weightB kk q mx (ix3 0 j i) = weight (score (keys kk (chunkOf j) (chunkOf_le _)) q) mx (ix2 (inChunk j) i) := by
    unfold weightB
    pointwise [weightW]
  rw [e, weight_at, score_keys]
  refine congrArg (fun y => Ideal.exp2 (sc kk q y i - mx (ix2 0 i))) (Fin.ext ?_)
  show chunkOf j + j.val % 512 = j.val
  unfold chunkOf; omega

/-- An entry of a tile, from the scores and the maximum. -/
theorem tile_at (kk : Vec Ideal S1x4096x128 .bf16) (vt : Vec Ideal S1x128x4096 .bf16) (q : FVec Ideal S256x128 .bf16) (i : Fin 256) (d : Fin 128) :
    tile kk vt q (ix3 0 i d)
      = Ideal.div (∑ j : Fin 4096, vt (ix3 0 d j) * Ideal.exp2 (sc kk q j i - maxRow (maxAll kk q) (ix2 0 i)))
          (∑ j : Fin 4096, Ideal.exp2 (sc kk q j i - maxRow (maxAll kk q) (ix2 0 i))) := by
  unfold tile
  rw [tileOut_at, sumAll_at]
  simp only [weightB_at]

end Cert.Kernel3Ideal.Attn
end
-- ==== Proof.AttnValue.lean ====
/- The attention call's result arrays at the end of the run. -/
module

public import proofs.«01_k».proof.Proof.AttnAt
public import proofs.«01_k».proof.Proof.AttnRun
public import Idealize.ShloMosaic.Lib.Pipeline.ValueKit

@[expose] public section

set_option maxRecDepth 16384

noncomputable section

namespace Cert.Kernel3Ideal.Attn

open Cert.Kernel3Ideal.Gen Cert.Soft
open Idealize.ShloMosaic Idealize.ShloMosaic.TcCoe Idealize.SL.Sem
open Idealize.ShloMosaic.Pipeline (Dat)

/-- A query tile at an entry. -/
theorem qTile_at (qq : Vec Ideal S1x4096x512 .f32) (k : Fin 16) (h : Fin 4) (i : Fin 256) (d : Fin 128) :
    qTile qq k h (ix2 i d) = qq (ix3 0 ⟨256 * k.val + i.val, by omega⟩ ⟨128 * h.val + d.val, by omega⟩) * (factor : EReal) := by
  unfold qTile
  rw [scaled_at]
  refine congrArg (fun z => qq z * (factor : EReal)) (funext fun a => Fin.ext ?_)
  fin_cases a <;> simp

/-- The score of key `j` against the query at row `s` of the head of column `z`. -/
def scAt (qq : Vec Ideal S1x4096x512 .f32) (kk : Vec Ideal S1x4096x128 .bf16) (s : Fin 4096) (z : Fin 512) (j : Fin 4096) : EReal :=
  ∑ d : Fin 128, kk (ix3 0 j d) * (qq (ix3 0 s ⟨128 * (z.val / 128) + d.val, by omega⟩) * (factor : EReal))

/-- An entry of a point's output block, where the scores are finite: the values weighted, divided by the weights' sum. -/
theorem outB_val (qq : Vec Ideal S1x4096x512 .f32) (kk : Vec Ideal S1x4096x128 .bf16) (vt : Vec Ideal S1x128x4096 .bf16) (s : Fin 4096) (z : Fin 512)
    (h : ∀ j, Fin' (scAt qq kk s z j)) :
    ∃ M : ℝ, outB qq kk vt (ix3 0 s z)
      = Ideal.div (∑ j : Fin 4096, vt (ix3 0 ⟨z.val % 128, Nat.mod_lt _ (by decide)⟩ j) * Ideal.exp2 (scAt qq kk s z j - (M : EReal)))
          (∑ j : Fin 4096, Ideal.exp2 (scAt qq kk s z j - (M : EReal))) := by
  have e := outB_at qq kk vt (ix3 0 s z) ⟨s.val / 256, by omega⟩ ⟨z.val / 128, by omega⟩ ⟨s.val % 256, Nat.mod_lt _ (by decide)⟩ ⟨z.val % 128, Nat.mod_lt _ (by decide)⟩
    (by show s.val = 256 * (s.val / 256) + s.val % 256; omega) (by show z.val = 128 * (z.val / 128) + z.val % 128; omega)
  have es : ∀ j, sc kk (qTile qq ⟨s.val / 256, by omega⟩ ⟨z.val / 128, by omega⟩) j ⟨s.val % 256, Nat.mod_lt _ (by decide)⟩ = scAt qq kk s z j := fun j => by
    unfold sc scAt
    refine Finset.sum_congr rfl fun d _ => ?_
    rw [qTile_at]
    refine congrArg (fun r : Fin 4096 => kk (ix3 0 j d) * (qq (ix3 0 r ⟨128 * (z.val / 128) + d.val, by omega⟩) * (factor : EReal))) (Fin.ext ?_)
    show 256 * (s.val / 256) + s.val % 256 = s.val
    omega
  obtain ⟨M, hM⟩ := (maxRow_fin kk (qTile qq ⟨s.val / 256, by omega⟩ ⟨z.val / 128, by omega⟩) ⟨s.val % 256, Nat.mod_lt _ (by decide)⟩ fun j => by rw [es]; exact h j).real
  refine ⟨M, ?_⟩
  rw [e, tile_at, hM]
  simp only [es]

variable (m : (ℓ : Loc nD τ sig) → Buf (Elt Ideal) ℓ)

/-- Every window's block index at every point. -/
theorem idx : ∀ t : Fin cfg0.N, win0_0.index t = ![t.val / 2, 0, t.val % 2] ∧ win0_1.index t = ![t.val / 2, 0, t.val % 2] ∧ win0_2.index t = ![t.val / 2, t.val % 2, 0]
    ∧ win0_9.index t = ![t.val / 2, 0, t.val % 2]
    ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0]
    ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

/-- The queries of a batch and a key-value head. -/
def qPart (Q : FVec Ideal S8x4096x1024 .f32) (b : Fin 8) (h : Fin 2) : Vec Ideal S1x4096x512 .f32 := fun y =>
  Q (ix3 b (y 1) ⟨512 * h.val + (y 2).val, by have : (y 2).val < 512 := (y 2).isLt; omega⟩)

/-- The keys of a batch and a key-value head. -/
def kPart (K : FVec Ideal S8x4096x256 .bf16) (b : Fin 8) (h : Fin 2) : Vec Ideal S1x4096x128 .bf16 := fun y =>
  K (ix3 b (y 1) ⟨128 * h.val + (y 2).val, by have : (y 2).val < 128 := (y 2).isLt; omega⟩)

/-- The transposed values of a batch and a key-value head. -/
def vPart (W : FVec Ideal S8x256x4096 .bf16) (b : Fin 8) (h : Fin 2) : Vec Ideal S1x128x4096 .bf16 := fun y =>
  W (ix3 b ⟨128 * h.val + (y 1).val, by have : (y 1).val < 128 := (y 1).isLt; omega⟩ (y 2))

/-- The first result array. -/
def outArr (Q : FVec Ideal S8x4096x1024 .f32) (K : FVec Ideal S8x4096x256 .bf16) (W : FVec Ideal S8x256x4096 .bf16) : FVec Ideal S8x4096x1024 .bf16 := fun i =>
  outB (qPart Q (i 0) ⟨(i 2).val / 512, by have : (i 2).val < 1024 := (i 2).isLt; omega⟩) (kPart K (i 0) ⟨(i 2).val / 512, by have : (i 2).val < 1024 := (i 2).isLt; omega⟩)
    (vPart W (i 0) ⟨(i 2).val / 512, by have : (i 2).val < 1024 := (i 2).isLt; omega⟩) (ix3 0 (i 1) ⟨(i 2).val % 512, Nat.mod_lt _ (by decide)⟩)

/-- A point's block of the queries. -/
theorem iblk0 (c : Dev nD) (t : Fin cfg0.N) (b : Fin 8) (h : Fin 2) (hb : t.val / 2 = b.val) (hh : t.val % 2 = h.val) : iblk m c 0 t = qPart (V m c main_v0) b h := by
  funext y
  obtain ⟨r, z, rfl⟩ : ∃ (r : Fin 4096) (z : Fin 512), y = (ix3 0 r z : S1x4096x512.Idx) := ⟨y 1, y 2, by
    funext a; fin_cases a
    · exact Fin.ext (by have : (y 0).val < 1 := (y 0).isLt; show (y 0).val = 0; omega)
    · rfl
    · rfl⟩
  unfold qPart
  blk_point [iblk, idx t]

/-- A point's block of the keys. -/
theorem iblk1 (c : Dev nD) (t : Fin cfg0.N) (b : Fin 8) (h : Fin 2) (hb : t.val / 2 = b.val) (hh : t.val % 2 = h.val) : iblk m c 1 t = kPart (V m c main_v2) b h := by
  funext y
  obtain ⟨r, z, rfl⟩ : ∃ (r : Fin 4096) (z : Fin 128), y = (ix3 0 r z : S1x4096x128.Idx) := ⟨y 1, y 2, by
    funext a; fin_cases a
    · exact Fin.ext (by have : (y 0).val < 1 := (y 0).isLt; show (y 0).val = 0; omega)
    · rfl
    · rfl⟩
  unfold kPart
  blk_point [iblk, idx t]

/-- A point's block of the values. -/
theorem iblk2 (c : Dev nD) (t : Fin cfg0.N) (b : Fin 8) (h : Fin 2) (hb : t.val / 2 = b.val) (hh : t.val % 2 = h.val) : iblk m c 2 t = vPart (V m c main_v5) b h := by
  funext y
  obtain ⟨r, z, rfl⟩ : ∃ (r : Fin 128) (z : Fin 4096), y = (ix3 0 r z : S1x128x4096.Idx) := ⟨y 1, y 2, by
    funext a; fin_cases a
    · exact Fin.ext (by have : (y 0).val < 1 := (y 0).isLt; show (y 0).val = 0; omega)
    · rfl
    · rfl⟩
  unfold vPart
  blk_point [iblk, idx t]

/-- The first result array after the run. -/
theorem final9 (c : Dev nD) : (dats m 0 c).arrAt 9 (cfgs 0).N = outArr (V m c main_v0) (V m c main_v2) (V m c main_v5) := by
  refine (dats m 0 c).arrAt_eq_of_covers 9 _ (by decide +kernel) fun t _ y => ?_
  blk_simp
  rw [after0_9]
  have ht : t.val < 16 := t.isLt
  obtain ⟨r, z, rfl⟩ : ∃ (r : Fin 4096) (z : Fin 512), y = (ix3 0 r z : S1x4096x512.Idx) := ⟨y 1, y 2, by
    funext a; fin_cases a
    · exact Fin.ext (by have : (y 0).val < 1 := (y 0).isLt; show (y 0).val = 0; omega)
    · rfl
    · rfl⟩
  rw [iblk0 m c t ⟨t.val / 2, by omega⟩ ⟨t.val % 2, by omega⟩ rfl rfl, iblk1 m c t ⟨t.val / 2, by omega⟩ ⟨t.val % 2, by omega⟩ rfl rfl,
    iblk2 m c t ⟨t.val / 2, by omega⟩ ⟨t.val % 2, by omega⟩ rfl rfl]
  have e : ∀ G : FVec Ideal S8x4096x1024 .bf16, G ((win0_9.blk t).view.emb (ix3 0 r z))
      = G (ix3 (⟨t.val / 2, by omega⟩ : Fin 8) r (⟨512 * (t.val % 2) + z.val, by omega⟩ : Fin 1024)) := fun G => by
    blk_point [idx t]
  refine Eq.trans ?_ (e _).symm
  have e1 : (⟨(512 * (t.val % 2) + z.val) / 512, by omega⟩ : Fin 2) = ⟨t.val % 2, by omega⟩ := Fin.ext (by show (512 * (t.val % 2) + z.val) / 512 = t.val % 2; omega)
  have e2 : (⟨(512 * (t.val % 2) + z.val) % 512, Nat.mod_lt _ (by decide)⟩ : Fin 512) = z := Fin.ext (by show (512 * (t.val % 2) + z.val) % 512 = z.val; omega)
  show _ = outB (qPart _ _ ⟨(512 * (t.val % 2) + z.val) / 512, _⟩) (kPart _ _ ⟨(512 * (t.val % 2) + z.val) / 512, _⟩) (vPart _ _ ⟨(512 * (t.val % 2) + z.val) / 512, _⟩)
    (ix3 0 r ⟨(512 * (t.val % 2) + z.val) % 512, _⟩)
  rw [e1, e2]
  rfl

/-- Side result 1 after the run. -/
theorem final10 (c : Dev nD) : (dats m 0 c).arrAt 10 (cfgs 0).N = castB (V m c main_v6) := by
  refine (dats m 0 c).arrAt_eq_of_covers 10 _ (by decide +kernel) fun t _ y => ?_
  blk_simp
  rw [after0_10]
  pointwise [castB]
  blk_point [iblk, idx t]

/-- Side result 2 after the run. -/
theorem final11 (c : Dev nD) : (dats m 0 c).arrAt 11 (cfgs 0).N = castB (V m c main_v7) := by
  refine (dats m 0 c).arrAt_eq_of_covers 11 _ (by decide +kernel) fun t _ y => ?_
  blk_simp
  rw [after0_11]
  pointwise [castB]
  blk_point [iblk, idx t]

/-- Side result 3 after the run. -/
theorem final12 (c : Dev nD) : (dats m 0 c).arrAt 12 (cfgs 0).N = castB (V m c main_v8) := by
  refine (dats m 0 c).arrAt_eq_of_covers 12 _ (by decide +kernel) fun t _ y => ?_
  blk_simp
  rw [after0_12]
  pointwise [castB]
  blk_point [iblk, idx t]

/-- Side result 4 after the run. -/
theorem final13 (c : Dev nD) : (dats m 0 c).arrAt 13 (cfgs 0).N = castB (V m c main_v9) := by
  refine (dats m 0 c).arrAt_eq_of_covers 13 _ (by decide +kernel) fun t _ y => ?_
  blk_simp
  rw [after0_13]
  pointwise [castB]
  blk_point [iblk, idx t]

/-- Side result 5 after the run. -/
theorem final14 (c : Dev nD) : (dats m 0 c).arrAt 14 (cfgs 0).N = castB (V m c main_v10) := by
  refine (dats m 0 c).arrAt_eq_of_covers 14 _ (by decide +kernel) fun t _ y => ?_
  blk_simp
  rw [after0_14]
  pointwise [castB]
  blk_point [iblk, idx t]

/-- Side result 6 after the run. -/
theorem final15 (c : Dev nD) : (dats m 0 c).arrAt 15 (cfgs 0).N = castB (V m c main_v11) := by
  refine (dats m 0 c).arrAt_eq_of_covers 15 _ (by decide +kernel) fun t _ y => ?_
  blk_simp
  rw [after0_15]
  pointwise [castB]
  blk_point [iblk, idx t]

end Cert.Kernel3Ideal.Attn
end
-- ==== Proof.AttnRef.lean ====
/- The attention reference at an entry, and its run. -/
module

public import proofs.«01_k».proof.Proof.AttnMath
public import proofs.«01_k».proof.Proof.Gen.Reference3Ideal.Run
public import Idealize.ShloMosaic.Lib.Pipeline.ValueKit
public import Idealize.ShloMosaic.Lib.Claim

@[expose] public section

set_option maxRecDepth 16384

noncomputable section

namespace Cert.Reference3Ideal.Attn

open Cert.Reference3Ideal.Gen Cert.Soft
open Idealize.ShloMosaic Idealize.ShloMosaic.TcCoe Idealize.SL.Sem

/-- The reference's scores. -/
def refScore (Q : FVec Ideal S8x4096x8x128 .f32) (K : FVec Ideal S8x4096x2x128 .f32) : FVec Ideal S8x2x4x4096x4096 .f32 :=
  mulf (transpose S8x2x4x4096x4096 [0, 1, 4, 3, 2] (Host.dotGeneral dot_S8x4096x2x128_S8x4096x2x4x128_S8x2x4096x4096x4_3_4_1_13_02_02 none K (shapeCast _ Q shapeCasts_S8x4096x8x128_S8x4096x2x4x128))
      transposes_S8x2x4096x4096x4_S8x2x4x4096x4096_0_1_4_3_2)
    (broadcastInDim S8x2x4x4096x4096 ![] bcast_S_S8x2x4x4096x4096 (constant S_ .f32 0x3DB504F3#32))

/-- The reference's maximum of a query's scores. -/
def refMax (S : FVec Ideal S8x2x4x4096x4096 .f32) : FVec Ideal S8x2x4x4096 .f32 :=
  maximumf (broadcastInDim S8x2x4x4096 ![] bcast_S_S8x2x4x4096 (constant S_ .f32 0xFF800000#32))
    (Host.reduce FloatOps.maximumf S (constant S_ .f32 0xFF800000#32) reducesTo_S8x2x4x4096x4096_S8x2x4x4096_d4 h_S_)

/-- The reference's exponentials. -/
def refExp (S : FVec Ideal S8x2x4x4096x4096 .f32) : FVec Ideal S8x2x4x4096x4096 .f32 :=
  Host.exp (subf S (broadcastInDim S8x2x4x4096x4096 ![0, 1, 2, 3, 4] bcast_S8x2x4x4096x1_S8x2x4x4096x4096_0_1_2_3_4
    (broadcastInDim S8x2x4x4096x1 ![0, 1, 2, 3] bcast_S8x2x4x4096_S8x2x4x4096x1_0_1_2_3 (refMax S))))

/-- The reference's weights. -/
def refWeight (E : FVec Ideal S8x2x4x4096x4096 .f32) : FVec Ideal S8x2x4x4096x4096 .f32 :=
  Host.divf E (broadcastInDim S8x2x4x4096x4096 ![0, 1, 2, 3, 4] bcast_S8x2x4x4096x1_S8x2x4x4096x4096_0_1_2_3_4
    (broadcastInDim S8x2x4x4096x1 ![0, 1, 2, 3] bcast_S8x2x4x4096_S8x2x4x4096x1_0_1_2_3
      (Host.reduceAdd E (constant S_ .f32 0x00000000#32) reducesTo_S8x2x4x4096x4096_S8x2x4x4096_d4 h_S_)))

/-- The reference's first result, from its weights. -/
def refMix (V : FVec Ideal S8x4096x2x128 .f32) (W : FVec Ideal S8x2x4x4096x4096 .f32) : FVec Ideal S8x4096x1024 .bf16 :=
  truncf .bf16 (shapeCast S8x4096x1024 (transpose S8x4096x2x4x128 [0, 4, 1, 3, 2] (Host.dotGeneral dot_S8x4096x2x128_S8x2x4x4096x4096_S8x2x128x4x4096_1_4_3_23_02_01 none V W)
    transposes_S8x2x128x4x4096_S8x4096x2x4x128_0_4_1_3_2) shapeCasts_S8x4096x2x4x128_S8x4096x1024) bitsLt_bf16_f32

/-- The reference's first result. -/
def refOut (Q : FVec Ideal S8x4096x8x128 .f32) (K V : FVec Ideal S8x4096x2x128 .f32) : FVec Ideal S8x4096x1024 .bf16 :=
  refMix V (refWeight (refExp (refScore Q K)))

theorem refScore_at (Q : FVec Ideal S8x4096x8x128 .f32) (K : FVec Ideal S8x4096x2x128 .f32) (b : Fin 8) (h : Fin 2) (g : Fin 4) (s j : Fin 4096) :
    refScore Q K (ix5 b h g s j) = (∑ d : Fin 128, K (ix4 b j h d) * Q (ix4 b s ⟨h.val * 4 + g.val, by omega⟩ d)) * (((11863283 / 134217728 : ℝ)) : EReal) := by
  pointwise [refScore]
  refine congrArg _ ?_
  simp [Ideal.ofBits, Ideal.ieee, -EReal.coe_mul]
  norm_num

theorem ref_reduces : S8x2x4x4096x4096.Reduces [4] S8x2x4x4096 := by decide +kernel

/-- With finite scores the reference's maximum is finite. -/
theorem refMax_fin (S : FVec Ideal S8x2x4x4096x4096 .f32) (hS : ∀ y, Fin' (S y)) (z : S8x2x4x4096.Idx) : Fin' (refMax S z) :=
  max_bot_fin _ _ _ _ negInf z (reduce_fin S _ _ ref_reduces _ negInf (by decide) hS z)

theorem refExp_at (S : FVec Ideal S8x2x4x4096x4096 .f32) (b : Fin 8) (h : Fin 2) (g : Fin 4) (s j : Fin 4096) :
    refExp S (ix5 b h g s j) = Ideal.exp (S (ix5 b h g s j) - refMax S (ix4 b h g s)) := by
  pointwise [refExp]
  try rfl

theorem refWeight_at (E : FVec Ideal S8x2x4x4096x4096 .f32) (b : Fin 8) (h : Fin 2) (g : Fin 4) (s j : Fin 4096) :
    refWeight E (ix5 b h g s j) = Ideal.div (E (ix5 b h g s j)) (∑ j, E (ix5 b h g s j)) := by
  pointwise [refWeight]
  try rw [zero_add]

theorem refMix_at (V : FVec Ideal S8x4096x2x128 .f32) (W : FVec Ideal S8x2x4x4096x4096 .f32) (b : Fin 8) (s : Fin 4096) (y : Fin 1024) :
    refMix V W (ix3 b s y) = ∑ j : Fin 4096, V (ix4 b j (⟨y.val / 512, by omega⟩ : Fin 2) (⟨y.val % 128, by omega⟩ : Fin 128))
      * W (ix5 b (⟨y.val / 512, by omega⟩ : Fin 2) (⟨y.val / 128 % 4, by omega⟩ : Fin 4) s j) := by
  pointwise [refMix]

end Cert.Reference3Ideal.Attn
end
-- ==== Proof.AttnEq.lean ====
/- The attention call's first result is its reference's where the queries and keys are finite. -/
module

public import proofs.«01_k».proof.Proof.AttnValue
public import proofs.«01_k».proof.Proof.AttnRef

@[expose] public section

set_option maxRecDepth 16384

noncomputable section

namespace Cert.Kernel3Ideal.Attn

open Cert.Kernel3Ideal.Gen Cert.Soft Cert.Reference3Ideal.Attn
open Idealize.ShloMosaic Idealize.ShloMosaic.TcCoe Idealize.SL.Sem

/-- The queries as the call takes them. -/
def castQ (Q : FVec Ideal S8x4096x8x128 .f32) : FVec Ideal S8x4096x1024 .f32 := shapeCast S8x4096x1024 Q shapeCasts_S8x4096x8x128_S8x4096x1024

/-- The keys as the call takes them. -/
def castK (K : FVec Ideal S8x4096x2x128 .f32) : FVec Ideal S8x4096x256 .bf16 :=
  truncf .bf16 (shapeCast S8x4096x256 K shapeCasts_S8x4096x2x128_S8x4096x256) bitsLt_bf16_f32

/-- The values as the call takes them. -/
def castV (W : FVec Ideal S8x4096x2x128 .f32) : FVec Ideal S8x256x4096 .bf16 :=
  truncf .bf16 (transpose S8x256x4096 [0, 2, 1] (shapeCast S8x4096x256 W shapeCasts_S8x4096x2x128_S8x4096x256) transposes_S8x4096x256_S8x256x4096_0_2_1) bitsLt_bf16_f32

theorem castQ_at (Q : FVec Ideal S8x4096x8x128 .f32) (b : Fin 8) (s : Fin 4096) (y : Fin 1024) :
    castQ Q (ix3 b s y) = Q (ix4 b s (⟨y.val / 128, by omega⟩ : Fin 8) (⟨y.val % 128, by omega⟩ : Fin 128)) := by
  pointwise [castQ]

theorem castK_at (K : FVec Ideal S8x4096x2x128 .f32) (b : Fin 8) (s : Fin 4096) (y : Fin 256) :
    castK K (ix3 b s y) = K (ix4 b s (⟨y.val / 128, by omega⟩ : Fin 2) (⟨y.val % 128, by omega⟩ : Fin 128)) := by
  pointwise [castK]

theorem castV_at (W : FVec Ideal S8x4096x2x128 .f32) (b : Fin 8) (s : Fin 4096) (y : Fin 256) :
    castV W (ix3 b y s) = W (ix4 b s (⟨y.val / 128, by omega⟩ : Fin 2) (⟨y.val % 128, by omega⟩ : Fin 128)) := by
  pointwise [castV]

/-- The key of a head at an entry. -/
theorem kPart_at (K : FVec Ideal S8x4096x2x128 .f32) (b : Fin 8) (h : Fin 2) (j : Fin 4096) (d : Fin 128) : kPart (castK K) b h (ix3 0 j d) = K (ix4 b j h d) := by
  have e1 : (⟨(128 * h.val + d.val) / 128, by omega⟩ : Fin 2) = h := Fin.ext (by show (128 * h.val + d.val) / 128 = h.val; omega)
  have e2 : (⟨(128 * h.val + d.val) % 128, by omega⟩ : Fin 128) = d := Fin.ext (by show (128 * h.val + d.val) % 128 = d.val; omega)
  refine (castK_at K b j ⟨128 * h.val + d.val, by omega⟩).trans ?_
  rw [e1, e2]

/-- The value of a head at an entry. -/
theorem vPart_at (W : FVec Ideal S8x4096x2x128 .f32) (b : Fin 8) (h : Fin 2) (j : Fin 4096) (d : Fin 128) : vPart (castV W) b h (ix3 0 d j) = W (ix4 b j h d) := by
  have e1 : (⟨(128 * h.val + d.val) / 128, by omega⟩ : Fin 2) = h := Fin.ext (by show (128 * h.val + d.val) / 128 = h.val; omega)
  have e2 : (⟨(128 * h.val + d.val) % 128, by omega⟩ : Fin 128) = d := Fin.ext (by show (128 * h.val + d.val) % 128 = d.val; omega)
  refine (castV_at W b j ⟨128 * h.val + d.val, by omega⟩).trans ?_
  rw [e1, e2]

/-- The query of a head at an entry. -/
theorem qPart_at (Q : FVec Ideal S8x4096x8x128 .f32) (b : Fin 8) (h : Fin 2) (g : Fin 4) (s : Fin 4096) (d : Fin 128) :
    qPart (castQ Q) b h (ix3 0 s ⟨128 * g.val + d.val, by omega⟩) = Q (ix4 b s ⟨h.val * 4 + g.val, by omega⟩ d) := by
  have e1 : (⟨(512 * h.val + (128 * g.val + d.val)) / 128, by omega⟩ : Fin 8) = ⟨h.val * 4 + g.val, by omega⟩ := Fin.ext (by show (512 * h.val + (128 * g.val + d.val)) / 128 = h.val * 4 + g.val; omega)
  have e2 : (⟨(512 * h.val + (128 * g.val + d.val)) % 128, by omega⟩ : Fin 128) = d := Fin.ext (by show (512 * h.val + (128 * g.val + d.val)) % 128 = d.val; omega)
  refine (castQ_at Q b s ⟨512 * h.val + (128 * g.val + d.val), by omega⟩).trans ?_
  rw [e1, e2]

/-- A query's score against a key, real, from real queries and keys. -/
def score' (Q : S8x4096x8x128.Idx → ℝ) (K : S8x4096x2x128.Idx → ℝ) (b : Fin 8) (h : Fin 2) (g : Fin 4) (s j : Fin 4096) : ℝ :=
  ∑ d : Fin 128, K (ix4 b j h d) * Q (ix4 b s ⟨h.val * 4 + g.val, by omega⟩ d)

/-- The kernel's score is real. -/
theorem scAt_real (Q : S8x4096x8x128.Idx → ℝ) (K : S8x4096x2x128.Idx → ℝ) (b : Fin 8) (h : Fin 2) (g : Fin 4) (s j : Fin 4096) (z : Fin 512) (hz : z.val / 128 = g.val) :
    scAt (qPart (castQ fun y => (Q y : EReal)) b h) (kPart (castK fun y => (K y : EReal)) b h) s z j
      = ((score' Q K b h g s j * ((11863283 / 134217728) * (Real.log 2)⁻¹) : ℝ) : EReal) := by
  unfold scAt score'
  rw [Finset.sum_mul, coe_sum]
  refine Finset.sum_congr rfl fun d _ => ?_
  have e : (⟨128 * (z.val / 128) + d.val, by omega⟩ : Fin 512) = ⟨128 * g.val + d.val, by omega⟩ := Fin.ext (by show 128 * (z.val / 128) + d.val = 128 * g.val + d.val; omega)
  rw [e, kPart_at, qPart_at, ← EReal.coe_mul, ← EReal.coe_mul, mul_assoc]
  rfl

/-- The reference's score is real. -/
theorem refScore_real (Q : S8x4096x8x128.Idx → ℝ) (K : S8x4096x2x128.Idx → ℝ) (b : Fin 8) (h : Fin 2) (g : Fin 4) (s j : Fin 4096) :
    refScore (fun y => (Q y : EReal)) (fun y => (K y : EReal)) (ix5 b h g s j) = ((score' Q K b h g s j * (11863283 / 134217728) : ℝ) : EReal) := by
  rw [refScore_at, EReal.coe_mul]
  refine congrArg (· * _) ?_
  unfold score'
  rw [coe_sum]
  exact Finset.sum_congr rfl fun d _ => (EReal.coe_mul _ _).symm

/-- Where the queries and keys are real the call's first result is the reference's. -/
theorem out_real (Q : S8x4096x8x128.Idx → ℝ) (K : S8x4096x2x128.Idx → ℝ) (W : FVec Ideal S8x4096x2x128 .f32) :
    outArr (castQ fun y => (Q y : EReal)) (castK fun y => (K y : EReal)) (castV W) = refOut (fun y => (Q y : EReal)) (fun y => (K y : EReal)) W := by
  funext i
  obtain ⟨b, s, y, rfl⟩ : ∃ (b : Fin 8) (s : Fin 4096) (y : Fin 1024), i = (ix3 b s y : S8x4096x1024.Idx) := ⟨i 0, i 1, i 2, eq_ix3 i⟩
  have hS : ∀ w, Fin' (refScore (fun y => (Q y : EReal)) (fun y => (K y : EReal)) w) := fun w => by
    obtain ⟨b, h, g, s, j, rfl⟩ : ∃ (b : Fin 8) (h : Fin 2) (g : Fin 4) (s j : Fin 4096), w = (ix5 b h g s j : Cert.Reference3Ideal.S8x2x4x4096x4096.Idx) :=
      ⟨w 0, w 1, w 2, w 3, w 4, by funext a; fin_cases a <;> rfl⟩
    rw [refScore_real]; exact fin_coe _
  obtain ⟨M', hM'⟩ := (refMax_fin _ hS (ix4 b (⟨y.val / 512, by omega⟩ : Fin 2) (⟨y.val / 128 % 4, by omega⟩ : Fin 4) s)).real
  have hz : y.val % 512 / 128 = y.val / 128 % 4 := by omega
  have hk : ∀ j, scAt (qPart (castQ fun y => (Q y : EReal)) b ⟨y.val / 512, by omega⟩) (kPart (castK fun y => (K y : EReal)) b ⟨y.val / 512, by omega⟩) s ⟨y.val % 512, Nat.mod_lt _ (by decide)⟩ j
      = ((score' Q K b ⟨y.val / 512, by omega⟩ ⟨y.val / 128 % 4, by omega⟩ s j * ((11863283 / 134217728) * (Real.log 2)⁻¹) : ℝ) : EReal) := fun j =>
    scAt_real Q K b _ ⟨y.val / 128 % 4, by omega⟩ s j _ hz
  obtain ⟨M, hM⟩ := outB_val (qPart (castQ fun y => (Q y : EReal)) b ⟨y.val / 512, by omega⟩) (kPart (castK fun y => (K y : EReal)) b ⟨y.val / 512, by omega⟩)
    (vPart (castV W) b ⟨y.val / 512, by omega⟩) s ⟨y.val % 512, Nat.mod_lt _ (by decide)⟩ fun j => by rw [hk]; exact fin_coe _
  refine Eq.trans hM ?_
  unfold refOut
  rw [refMix_at]
  simp only [refWeight_at, refExp_at, refScore_real, hM', hk, vPart_at]
  have e : (⟨y.val % 512 % 128, Nat.mod_lt _ (by decide)⟩ : Fin 128) = ⟨y.val % 128, by omega⟩ := Fin.ext (by show y.val % 512 % 128 = y.val % 128; omega)
  rw [e]
  exact soft (by decide) (fun j => W (ix4 b j ⟨y.val / 512, by omega⟩ ⟨y.val % 128, by omega⟩)) (fun j => score' Q K b ⟨y.val / 512, by omega⟩ ⟨y.val / 128 % 4, by omega⟩ s j) _ M M'

/-- Where the queries and keys are finite the call's first result is the reference's. -/
theorem out_eq (Q : FVec Ideal S8x4096x8x128 .f32) (K W : FVec Ideal S8x4096x2x128 .f32) (hQ : ∀ y, Fin' (Q y)) (hK : ∀ y, Fin' (K y)) :
    outArr (castQ Q) (castK K) (castV W) = refOut Q K W := by
  have eQ : Q = fun y => (((Q y).toReal : ℝ) : EReal) := funext fun y => (EReal.coe_toReal (ne_of_lt (hQ y).2) (ne_of_gt (hQ y).1)).symm
  have eK : K = fun y => (((K y).toReal : ℝ) : EReal) := funext fun y => (EReal.coe_toReal (ne_of_lt (hK y).2) (ne_of_gt (hK y).1)).symm
  rw [eQ, eK]
  exact out_real _ _ W

end Cert.Kernel3Ideal.Attn
end
-- ==== Proof.AttnFinal.lean ====
/- The attention call's runs and results: its seven results are its reference's where the queries and keys are finite. -/
module

public import proofs.«01_k».proof.Defs
public import proofs.«01_k».proof.Proof.AttnEq
public import proofs.«01_k».proof.Proof.AttnRun
public import proofs.«01_k».proof.Proof.Gen.Kernel3Ideal
public import proofs.«01_k».proof.Proof.Gen.Reference3Ideal
public import proofs.«01_k».proof.Pre_finite_queries_keys
public import Idealize.ShloMosaic.Lib.ReduceAll
public import Idealize.ShloMosaic.Lib.Claim

@[expose] public section

set_option maxRecDepth 16384

noncomputable section

namespace Cert.Pre_finite_queries_keys

/-- The precondition's side conditions. -/
theorem facts : Facts := ⟨by decide, by decide, by decide, by decide, by decide⟩

end Cert.Pre_finite_queries_keys

namespace Cert.Kernel3Ideal.Attn

open Cert.Kernel3Ideal.Gen Cert.Soft
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The call ends with its result arrays as its windows left them and its arguments unchanged. -/
theorem run_post : θ_run defs (onTc (τ := τ) (main (F := Ideal))) ⟨m, fun _ => 0, ρ⟩ fun r => ∀ c : Dev nD,
      r.2.mem ((c.tc : Thread nD τ).loc main_v12_0) = (dats m 0 c).arrAt 9 (cfgs 0).N
      ∧ r.2.mem ((c.tc : Thread nD τ).loc main_v12_1) = (dats m 0 c).arrAt 10 (cfgs 0).N
      ∧ r.2.mem ((c.tc : Thread nD τ).loc main_v12_2) = (dats m 0 c).arrAt 11 (cfgs 0).N
      ∧ r.2.mem ((c.tc : Thread nD τ).loc main_v12_3) = (dats m 0 c).arrAt 12 (cfgs 0).N
      ∧ r.2.mem ((c.tc : Thread nD τ).loc main_v12_4) = (dats m 0 c).arrAt 13 (cfgs 0).N
      ∧ r.2.mem ((c.tc : Thread nD τ).loc main_v12_5) = (dats m 0 c).arrAt 14 (cfgs 0).N
      ∧ r.2.mem ((c.tc : Thread nD τ).loc main_v12_6) = (dats m 0 c).arrAt 15 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1 9, (h c).1 10, (h c).1 11, (h c).1 12, (h c).1 13, (h c).1 14, (h c).1 15,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c)⟩) (run_main m ρ)

/-- The queries, as the call finds them. -/
theorem V_v0 (c : Dev nD) : V m c main_v0 = castQ (m ((c : Thread nD τ).loc main_arg0)) := by
  entry_read <;> rfl

/-- The keys, as the call finds them. -/
theorem V_v2 (c : Dev nD) : V m c main_v2 = castK (m ((c : Thread nD τ).loc main_arg1)) := by
  entry_read <;> rfl

/-- The values, as the call finds them. -/
theorem V_v5 (c : Dev nD) : V m c main_v5 = castV (m ((c : Thread nD τ).loc main_arg2)) := by
  entry_read <;> rfl

/-- A side weight, as the call finds it. -/
theorem V_v6 (c : Dev nD) : V m c main_v6 = shapeCast S512x1024 (m ((c : Thread nD τ).loc main_arg3)) shapeCasts_S1x512x1024_S512x1024 := by
  entry_read <;> rfl

/-- A side weight, as the call finds it. -/
theorem V_v7 (c : Dev nD) : V m c main_v7 = shapeCast S1024x1024 (m ((c : Thread nD τ).loc main_arg4)) shapeCasts_S1x1024x1024_S1024x1024 := by
  entry_read <;> rfl

/-- A side weight, as the call finds it. -/
theorem V_v8 (c : Dev nD) : V m c main_v8 = shapeCast S1024x1024 (m ((c : Thread nD τ).loc main_arg5)) shapeCasts_S1x1024x1024_S1024x1024 := by
  entry_read <;> rfl

/-- A side weight, as the call finds it. -/
theorem V_v9 (c : Dev nD) : V m c main_v9 = shapeCast S1024x2816 (m ((c : Thread nD τ).loc main_arg6)) shapeCasts_S1x1024x2816_S1024x2816 := by
  entry_read <;> rfl

/-- A side weight, as the call finds it. -/
theorem V_v10 (c : Dev nD) : V m c main_v10 = shapeCast S1024x2816 (m ((c : Thread nD τ).loc main_arg7)) shapeCasts_S1x1024x2816_S1024x2816 := by
  entry_read <;> rfl

/-- A side weight, as the call finds it. -/
theorem V_v11 (c : Dev nD) : V m c main_v11 = shapeCast S2816x1024 (m ((c : Thread nD τ).loc main_arg8)) shapeCasts_S1x2816x1024_S2816x1024 := by
  entry_read <;> rfl

/-- The first result array is the reference's first result of the call's arguments, where the queries and keys are finite. -/
theorem same0 (c : Dev nD) (hQ : ∀ y, Fin' (m ((c : Thread nD τ).loc main_arg0) y)) (hK : ∀ y, Fin' (m ((c : Thread nD τ).loc main_arg1) y)) :
    (dats m 0 c).arrAt 9 (cfgs 0).N
      = Cert.Reference3Ideal.Attn.refOut (m ((c : Thread nD τ).loc main_arg0)) (m ((c : Thread nD τ).loc main_arg1)) (m ((c : Thread nD τ).loc main_arg2)) := by
  rw [final9, V_v0, V_v2, V_v5]
  exact out_eq _ _ _ hQ hK

/-- Side result 1 is its weight rounded. -/
theorem same1 (c : Dev nD) : (dats m 0 c).arrAt 10 (cfgs 0).N
    = truncf (F := Ideal) .bf16 (shapeCast S512x1024 (m ((c : Thread nD τ).loc main_arg3)) shapeCasts_S1x512x1024_S512x1024) bitsLt_bf16_f32 := by
  rw [final10, V_v6]
  rfl

/-- Side result 2 is its weight rounded. -/
theorem same2 (c : Dev nD) : (dats m 0 c).arrAt 11 (cfgs 0).N
    = truncf (F := Ideal) .bf16 (shapeCast S1024x1024 (m ((c : Thread nD τ).loc main_arg4)) shapeCasts_S1x1024x1024_S1024x1024) bitsLt_bf16_f32 := by
  rw [final11, V_v7]
  rfl

/-- Side result 3 is its weight rounded. -/
theorem same3 (c : Dev nD) : (dats m 0 c).arrAt 12 (cfgs 0).N
    = truncf (F := Ideal) .bf16 (shapeCast S1024x1024 (m ((c : Thread nD τ).loc main_arg5)) shapeCasts_S1x1024x1024_S1024x1024) bitsLt_bf16_f32 := by
  rw [final12, V_v8]
  rfl

/-- Side result 4 is its weight rounded. -/
theorem same4 (c : Dev nD) : (dats m 0 c).arrAt 13 (cfgs 0).N
    = truncf (F := Ideal) .bf16 (shapeCast S1024x2816 (m ((c : Thread nD τ).loc main_arg6)) shapeCasts_S1x1024x2816_S1024x2816) bitsLt_bf16_f32 := by
  rw [final13, V_v9]
  rfl

/-- Side result 5 is its weight rounded. -/
theorem same5 (c : Dev nD) : (dats m 0 c).arrAt 14 (cfgs 0).N
    = truncf (F := Ideal) .bf16 (shapeCast S1024x2816 (m ((c : Thread nD τ).loc main_arg7)) shapeCasts_S1x1024x2816_S1024x2816) bitsLt_bf16_f32 := by
  rw [final14, V_v10]
  rfl

/-- Side result 6 is its weight rounded. -/
theorem same6 (c : Dev nD) : (dats m 0 c).arrAt 15 (cfgs 0).N
    = truncf (F := Ideal) .bf16 (shapeCast S2816x1024 (m ((c : Thread nD τ).loc main_arg8)) shapeCasts_S1x2816x1024_S2816x1024) bitsLt_bf16_f32 := by
  rw [final15, V_v11]
  rfl

/-- A number whose absolute value is less than infinity is finite. -/
theorem fin_of_abs (x : EReal) (h : Ideal.cmp .olt (max x (-x)) ⊤ = 1#1) : Fin' x := by
  unfold Ideal.cmp at h
  have h' : max x (-x) < ⊤ := by
    by_contra hn
    simp [hn] at h
  refine ⟨?_, lt_of_le_of_lt (le_max_left _ _) h'⟩
  rcases eq_or_ne x ⊥ with hx | hx
  · subst hx
    simp at h'
  · exact bot_lt_iff_ne_bot.2 hx

/-- The precondition read: the queries and keys are finite. -/
theorem finite_of_pre [Cert.Pre_finite_queries_keys.Facts] (h : Cert.Pre_Kernel3Ideal_finite_queries_keys m) (c : Dev nD) :
    (∀ y, Fin' (m ((c : Thread nD τ).loc main_arg0) y)) ∧ ∀ y, Fin' (m ((c : Thread nD τ).loc main_arg1) y) := by
  have e := congrFun (h c) (fun a => Fin.elim0 a)
  dsimp only [Cert.Pre_finite_queries_keys.fn] at e
  obtain ⟨e0, e1⟩ := IntOp.andi_eq_one.1 e
  have hs : Subsingleton Cert.Pre_finite_queries_keys.S_.Idx := ⟨fun a b => funext fun i => i.elim0⟩
  have inf : (Ideal.ofBits .f32 0x7F800000#32 : EReal) = ⊤ := by simp [Ideal.ofBits, Ideal.ieee]
  have one : ∀ x : EReal, Ideal.cmp .olt (max x (-x)) (Ideal.ofBits .f32 0x7F800000#32) = 1#1 → Fin' x := fun x hx => by
    rw [inf] at hx
    exact fin_of_abs x hx
  exact ⟨fun y => one _ (Host.reduce_andi_all _ _ _ _ _ e0 y), fun y => one _ (Host.reduce_andi_all _ _ _ _ _ e1 y)⟩

end Cert.Kernel3Ideal.Attn

namespace Cert.Reference3Ideal.Attn

open Cert.Reference3Ideal.Gen
open Idealize.ShloMosaic Idealize.ShloMosaic.TcCoe Idealize.SL.Sem

variable (m : (ℓ : Loc nD τ sig) → Buf (Elt Ideal) ℓ) (ρ : Dev nD → PrngReg)

/-- The reference ends with its results and its arguments unchanged. -/
theorem run_ref : θ_run defs (onTc (τ := τ) (main (F := Ideal))) ⟨m, fun _ => 0, ρ⟩ fun r => ∀ c : Dev nD,
      r.2.mem ((c.tc : Thread nD τ).loc main_v31) = refOut (m ((c.tc : Thread nD τ).loc main_arg0)) (m ((c.tc : Thread nD τ).loc main_arg1)) (m ((c.tc : Thread nD τ).loc main_arg2))
      ∧ r.2.mem ((c.tc : Thread nD τ).loc main_v19) = truncf (F := Ideal) .bf16 (shapeCast S512x1024 (m ((c.tc : Thread nD τ).loc main_arg3)) shapeCasts_S1x512x1024_S512x1024) bitsLt_bf16_f32
      ∧ r.2.mem ((c.tc : Thread nD τ).loc main_v21) = truncf (F := Ideal) .bf16 (shapeCast S1024x1024 (m ((c.tc : Thread nD τ).loc main_arg4)) shapeCasts_S1x1024x1024_S1024x1024) bitsLt_bf16_f32
      ∧ r.2.mem ((c.tc : Thread nD τ).loc main_v23) = truncf (F := Ideal) .bf16 (shapeCast S1024x1024 (m ((c.tc : Thread nD τ).loc main_arg5)) shapeCasts_S1x1024x1024_S1024x1024) bitsLt_bf16_f32
      ∧ r.2.mem ((c.tc : Thread nD τ).loc main_v25) = truncf (F := Ideal) .bf16 (shapeCast S1024x2816 (m ((c.tc : Thread nD τ).loc main_arg6)) shapeCasts_S1x1024x2816_S1024x2816) bitsLt_bf16_f32
      ∧ r.2.mem ((c.tc : Thread nD τ).loc main_v27) = truncf (F := Ideal) .bf16 (shapeCast S1024x2816 (m ((c.tc : Thread nD τ).loc main_arg7)) shapeCasts_S1x1024x2816_S1024x2816) bitsLt_bf16_f32
      ∧ r.2.mem ((c.tc : Thread nD τ).loc main_v29) = truncf (F := Ideal) .bf16 (shapeCast S2816x1024 (m ((c.tc : Thread nD τ).loc main_arg8)) shapeCasts_S1x2816x1024_S2816x1024) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans rfl, (h c).2⟩) (Cert.Reference3Ideal.Value.run m ρ)

end Cert.Reference3Ideal.Attn
end
-- ==== Proof.ProjSame.lean ====
/- The projection's frame at the words: its text is its idealization's. -/
module

public import proofs.«01_k».proof.Defs
public import proofs.«01_k».proof.Proof.Gen.Kernel4Ideal.Frame
public import proofs.«01_k».proof.Proof.Gen.Kernel4

@[expose] public section

set_option maxRecDepth 100000

noncomputable section

namespace Cert.Kernel4.Proj

open Idealize.ShloMosaic Idealize.SL.Sem

/-- The two programs' kernel bodies are the same. -/
theorem body_same : @Cert.Kernel4.cc0_proj Bits _ _ = @Cert.Kernel4Ideal.cc0_proj Bits _ _ := rfl

set_option maxHeartbeats 4000000 in
/-- The two programs' tables of kernel bodies are the same. -/
theorem defs₀_same : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | 0, (t, s) => dsimp only; rw [body_same]; congr 1

/-- The two programs' tables of definitions are the same. -/
theorem defs_same : Cert.Kernel4.defs (F := Bits) = Cert.Kernel4Ideal.defs (F := Bits) := by
  unfold Cert.Kernel4.defs Cert.Kernel4Ideal.defs
  exact congrArg (Pipeline.defs Cert.Kernel4Ideal.pcfgs) defs₀_same

/-- The call terminates with its arguments unchanged and every counter at zero: the idealization's run, at the words. -/
theorem frame : Cert.quiescent_Kernel4 := fun m ρ _ => by
  rw [defs_same]
  exact Cert.Kernel4Ideal.Gen.frame (F := Bits) m ρ

end Cert.Kernel4.Proj

end
-- ==== Proof.ProjRows.lean ====
/- The projection's two row buffers: the normalized rows in the three orders of the rows. -/
module

public import proofs.«01_k».proof.Proof.Gen.Kernel4Ideal.Frame.RunA
public import Idealize.ShloMosaic.Lib.Pipeline.ValueKit

@[expose] public section

set_option maxRecDepth 16384

noncomputable section

namespace Cert.Kernel4Ideal.Proj

open Cert.Kernel4Ideal.Gen
open Idealize.ShloMosaic Idealize.ShloMosaic.TcCoe Idealize.SL.Sem
open Idealize.ShloMosaic.Pipeline (Dat)

/-- The row of the block that stands at position `t` when every fourth row is put together. -/
def rowA (t : ℕ) : ℕ := t / 128 + 4 * (t % 128)

/-- The row of the block that stands at position `t` when every sixteenth row is put together. -/
def rowB (t : ℕ) : ℕ := t / 32 + 16 * (t % 32)

theorem rowA_lt {t : ℕ} (h : t < 512) : rowA t < 512 := by unfold rowA; omega
theorem rowB_lt {t : ℕ} (h : t < 512) : rowB t < 512 := by unfold rowB; omega

/-- The 32-bit buffer: the normalized rows `h` by lane tile, in order, then every fourth row together. -/
def big (h : FVec Ideal S512x1024 .f32) : Vec Ideal S2x8x512x128 .f32 := fun y =>
  h (ix2 (if (y 0).val = 0 then ⟨(y 2).val, (y 2).isLt⟩ else ⟨rowA (y 2).val, rowA_lt (y 2).isLt⟩)
    ⟨128 * (y 1).val + (y 3).val, by have h1 : (y 1).val < 8 := (y 1).isLt; have h3 : (y 3).val < 128 := (y 3).isLt; omega⟩)

/-- The 16-bit buffer: the rounded rows in order, every fourth row together, every sixteenth row together. -/
def half (h : FVec Ideal S512x1024 .f32) : Vec Ideal S3x512x1024 .bf16 := fun y =>
  h (ix2 (if (y 0).val = 0 then ⟨(y 1).val, (y 1).isLt⟩ else if (y 0).val = 1 then ⟨rowA (y 1).val, rowA_lt (y 1).isLt⟩ else ⟨rowB (y 1).val, rowB_lt (y 1).isLt⟩) (y 2))

/-- Where a position of the 32-bit buffer stands in the order of the stores. -/
def keyBig (y : S2x8x512x128.Idx) : ℕ := if (y 0).val = 0 then (y 1).val else 8 + ((y 2).val / 128 * 8 + (y 1).val)

/-- Where a position of the 16-bit buffer stands in the order of the stores. -/
def keyHalf (y : S3x512x1024.Idx) : ℕ :=
  if (y 0).val = 0 then 0 else if (y 0).val = 1 then 1 + ((y 1).val / 128 * 8 + (y 2).val / 128)
  else 33 + (((y 1).val / 32 % 4 * 4 + (y 1).val / 32 / 4) * 8 + (y 2).val / 128)

/-- The first `n` stores into the 32-bit buffer wrote `big h`'s values and everything up to their place. -/
def GoodBig (h : FVec Ideal S512x1024 .f32) (n : ℕ) (L : List (View.Piece (Elt Ideal) S2x8x512x128 .f32)) : Prop :=
  (∀ p ∈ L, ∀ x, p.2 x = big h (p.1.emb x)) ∧ ∀ y, keyBig y < n → ∃ p ∈ L, y ∈ p.1.set

/-- The first `n` stores into the 16-bit buffer wrote `half h`'s values and everything up to their place. -/
def GoodHalf (h : FVec Ideal S512x1024 .f32) (n : ℕ) (L : List (View.Piece (Elt Ideal) S3x512x1024 .bf16)) : Prop :=
  (∀ p ∈ L, ∀ x, p.2 x = half h (p.1.emb x)) ∧ ∀ y, keyHalf y < n → ∃ p ∈ L, y ∈ p.1.set

theorem goodBig_nil (h : FVec Ideal S512x1024 .f32) : GoodBig h 0 [] :=
  ⟨fun p hp => absurd hp List.not_mem_nil, fun y hy => absurd hy (Nat.not_lt_zero _)⟩

theorem goodHalf_nil (h : FVec Ideal S512x1024 .f32) : GoodHalf h 0 [] :=
  ⟨fun p hp => absurd hp List.not_mem_nil, fun y hy => absurd hy (Nat.not_lt_zero _)⟩

theorem GoodBig.cons {h : FVec Ideal S512x1024 .f32} {n : ℕ} {L : List (View.Piece (Elt Ideal) S2x8x512x128 .f32)} (g : GoodBig h n L)
    (p : View.Piece (Elt Ideal) S2x8x512x128 .f32) (hp : ∀ x, p.2 x = big h (p.1.emb x)) (hs : ∀ y, keyBig y = n → y ∈ p.1.set) : GoodBig h (n + 1) (p :: L) := by
  refine ⟨fun q hq => ?_, fun y hy => ?_⟩
  · rcases List.mem_cons.1 hq with rfl | hq
    · exact hp
    · exact g.1 q hq
  · by_cases e : keyBig y = n
    · exact ⟨p, List.mem_cons_self .., hs y e⟩
    · obtain ⟨q, hq, hy⟩ := g.2 y (by omega)
      exact ⟨q, List.mem_cons_of_mem _ hq, hy⟩

theorem GoodHalf.cons {h : FVec Ideal S512x1024 .f32} {n : ℕ} {L : List (View.Piece (Elt Ideal) S3x512x1024 .bf16)} (g : GoodHalf h n L)
    (p : View.Piece (Elt Ideal) S3x512x1024 .bf16) (hp : ∀ x, p.2 x = half h (p.1.emb x)) (hs : ∀ y, keyHalf y = n → y ∈ p.1.set) : GoodHalf h (n + 1) (p :: L) := by
  refine ⟨fun q hq => ?_, fun y hy => ?_⟩
  · rcases List.mem_cons.1 hq with rfl | hq
    · exact hp
    · exact g.1 q hq
  · by_cases e : keyHalf y = n
    · exact ⟨p, List.mem_cons_self .., hs y e⟩
    · obtain ⟨q, hq, hy⟩ := g.2 y (by omega)
      exact ⟨q, List.mem_cons_of_mem _ hq, hy⟩

/-- A load of the 32-bit buffer whose places are all written reads `big h`. -/
theorem GoodBig.read {h : FVec Ideal S512x1024 .f32} {n : ℕ} {L : List (View.Piece (Elt Ideal) S2x8x512x128 .f32)} (g : GoodBig h n L)
    (M : Memref sig .tc .vmem S2x8x512x128 .f32) (B : LoadRect S2x8x512x128) (hB : ∀ j, keyBig (B.idx j) < n) (j : B.shape.Idx) :
    M.view.readCov (Val := Elt Ideal) L B j = big h (B.idx j) :=
  View.read_writes_apply_of_pieces (v := M.view) (f := M.view.junk) (big h) L g.1 _ (g.2 _ (hB j))

/-- A load of the 16-bit buffer whose places are all written reads `half h`. -/
theorem GoodHalf.read {h : FVec Ideal S512x1024 .f32} {n : ℕ} {L : List (View.Piece (Elt Ideal) S3x512x1024 .bf16)} (g : GoodHalf h n L)
    (M : Memref sig .tc .vmem S3x512x1024 .bf16) (B : LoadRect S3x512x1024) (hB : ∀ j, keyHalf (B.idx j) < n) (j : B.shape.Idx) :
    M.view.readCov (Val := Elt Ideal) L B j = half h (B.idx j) :=
  View.read_writes_apply_of_pieces (v := M.view) (f := M.view.junk) (half h) L g.1 _ (g.2 _ (hB j))

theorem big_eq (h : FVec Ideal S512x1024 .f32) (y : S2x8x512x128.Idx) (r : Fin 512) (c : Fin 1024) (hr : r.val = if (y 0).val = 0 then (y 2).val else rowA (y 2).val)
    (hc : c.val = 128 * (y 1).val + (y 3).val) : big h y = h (ix2 r c) := by
  unfold big
  refine congrArg₂ (fun r c => h (ix2 r c)) (Fin.ext ?_) (Fin.ext hc.symm)
  rw [hr]; split <;> rfl

theorem half_eq (h : FVec Ideal S512x1024 .f32) (y : S3x512x1024.Idx) (r : Fin 512) (c : Fin 1024)
    (hr : r.val = if (y 0).val = 0 then (y 1).val else if (y 0).val = 1 then rowA (y 1).val else rowB (y 1).val) (hc : c.val = (y 2).val) :
    half h y = h (ix2 r c) := by
  unfold half
  refine congrArg₂ (fun r c => h (ix2 r c)) (Fin.ext ?_) (Fin.ext hc.symm)
  rw [hr]; split
  · rfl
  · split <;> rfl

/-- A lane tile's store. -/
theorem GoodBig.lanes {h : FVec Ideal S512x1024 .f32} {s : ℕ} (hs : s < 8) {L : List (View.Piece (Elt Ideal) S2x8x512x128 .f32)} (g : GoodBig h s L)
    (inb : ∀ a, ![0, s, 0, 0] a + S1x1x512x128.size a ≤ S2x8x512x128.size a) (sl : S512x1024.Slices ![0, 128 * s] S512x128)
    (v : FVec Ideal S1x1x512x128 .f32) (hv : v = shapeCast S1x1x512x128 (extractStridedSlice S512x128 ![0, 128 * s] h sl) shapeCasts_S512x128_S1x1x512x128) :
    GoodBig h (s + 1) (⟨Rect.unit (s := S2x8x512x128) ![0, s, 0, 0] S1x1x512x128.size inb, v⟩ :: L) := by
  subst hv
  refine g.cons _ (fun x => ?_) (fun y hy => ?_)
  · obtain ⟨r, l, rfl⟩ : ∃ (r : Fin 512) (l : Fin 128), x = (ix4 0 0 r l : S1x1x512x128.Idx) := ⟨x 2, x 3, by
      funext a; fin_cases a
      · exact Fin.ext (by have : (x 0).val < 1 := (x 0).isLt; show (x 0).val = 0; omega)
      · exact Fin.ext (by have : (x 1).val < 1 := (x 1).isLt; show (x 1).val = 0; omega)
      · rfl
      · rfl⟩
    rw [big_eq h _ r ⟨128 * s + l.val, by omega⟩ (by simp) (by simp)]
    pointwise
  · have h2 : (y 2).val < 512 := (y 2).isLt
    have h3 : (y 3).val < 128 := (y 3).isLt
    have h0 : (y 0).val < 2 := (y 0).isLt
    unfold keyBig at hy
    show y ∈ (Rect.unit (s := S2x8x512x128) _ _ inb).set
    rw [Rect.mem_set_unit]
    intro a; split at hy <;> fin_cases a <;> simp [S1x1x512x128] <;> omega

/-- The load of every fourth row from row `q`, lane tile `s`. -/
theorem loadA {h : FVec Ideal S512x1024 .f32} {n : ℕ} {L : List (View.Piece (Elt Ideal) S2x8x512x128 .f32)} (g : GoodBig h n L) (hn : 8 ≤ n)
    (M : Memref sig .tc .vmem S2x8x512x128 .f32) (s q : ℕ) (hs : s < 8) (hq : q < 4) (inb) (r l : Fin 128) :
    M.view.readCov (Val := Elt Ideal) L ⟨![0, s, q, 0], S1x1x128x128.size, ![1, 1, 4, 1], inb⟩ (ix4 0 0 r l)
      = h (ix2 ⟨q + 4 * r.val, by omega⟩ ⟨128 * s + l.val, by omega⟩) := by
  rw [g.read]
  · exact big_eq h _ _ _ (by simp [LoadRect.idx]) (by simp [LoadRect.idx])
  · intro j
    have h1 : (j 1).val < 1 := (j 1).isLt
    have h0 : (j 0).val < 1 := (j 0).isLt
    unfold keyBig
    simp [LoadRect.idx]
    omega

/-- The load of every fourth row of the rows already put together, from row `128 p + q`, lane tile `s`. -/
theorem loadB {h : FVec Ideal S512x1024 .f32} {L : List (View.Piece (Elt Ideal) S2x8x512x128 .f32)} (g : GoodBig h 40 L)
    (M : Memref sig .tc .vmem S2x8x512x128 .f32) (s p q o : ℕ) (ho : o = 128 * p + q) (hs : s < 8) (hp : p < 4) (hq : q < 4) (inb) (r : Fin 32) (l : Fin 128) :
    M.view.readCov (Val := Elt Ideal) L ⟨![1, s, o, 0], S1x1x32x128.size, ![1, 1, 4, 1], inb⟩ (ix4 0 0 r l)
      = h (ix2 ⟨p + 4 * q + 16 * r.val, by omega⟩ ⟨128 * s + l.val, by omega⟩) := by
  subst ho
  rw [g.read]
  · exact big_eq h _ _ _ (by simp [LoadRect.idx, rowA]; omega) (by simp [LoadRect.idx])
  · intro j
    have h1 : (j 1).val < 1 := (j 1).isLt
    have h0 : (j 0).val < 1 := (j 0).isLt
    have h2 : (j 2).val < 32 := (j 2).isLt
    unfold keyBig
    simp [LoadRect.idx]
    omega

/-- The store of a lane tile of every fourth row into the 32-bit buffer. -/
theorem GoodBig.tile {h : FVec Ideal S512x1024 .f32} (q s b : ℕ) (hb : b = 128 * q) (hs : s < 8) (hq : q < 4) {L : List (View.Piece (Elt Ideal) S2x8x512x128 .f32)}
    (g : GoodBig h (8 + (8 * q + s)) L) (inb : ∀ a, ![1, s, b, 0] a + S1x1x128x128.size a ≤ S2x8x512x128.size a) (V : Vec Ideal S1x1x128x128 .f32)
    (hV : ∀ r l, V (ix4 0 0 r l) = h (ix2 ⟨q + 4 * r.val, by omega⟩ ⟨128 * s + l.val, by omega⟩)) (v : FVec Ideal S1x1x128x128 .f32)
    (hv : v = shapeCast S1x1x128x128 (shapeCast S128x128 V shapeCasts_S1x1x128x128_S128x128) shapeCasts_S128x128_S1x1x128x128) :
    GoodBig h (8 + (8 * q + s) + 1) (⟨Rect.unit (s := S2x8x512x128) ![1, s, b, 0] S1x1x128x128.size inb, v⟩ :: L) := by
  subst hv; subst hb
  refine g.cons _ (fun x => ?_) (fun y hy => ?_)
  · obtain ⟨r, l, rfl⟩ : ∃ (r : Fin 128) (l : Fin 128), x = (ix4 0 0 r l : S1x1x128x128.Idx) := ⟨x 2, x 3, by
      funext a; fin_cases a
      · exact Fin.ext (by have : (x 0).val < 1 := (x 0).isLt; show (x 0).val = 0; omega)
      · exact Fin.ext (by have : (x 1).val < 1 := (x 1).isLt; show (x 1).val = 0; omega)
      · rfl
      · rfl⟩
    rw [big_eq h _ ⟨q + 4 * r.val, by omega⟩ ⟨128 * s + l.val, by omega⟩ (by simp [rowA]; omega) (by simp), ← hV]
    pointwise
  · have h2 : (y 2).val < 512 := (y 2).isLt
    have h3 : (y 3).val < 128 := (y 3).isLt
    have h1 : (y 1).val < 8 := (y 1).isLt
    have h0 : (y 0).val < 2 := (y 0).isLt
    unfold keyBig at hy
    show y ∈ (Rect.unit (s := S2x8x512x128) _ _ inb).set
    rw [Rect.mem_set_unit]
    intro a; split at hy <;> fin_cases a <;> simp [S1x1x128x128] <;> omega

/-- The store of a lane tile of every fourth row into the 16-bit buffer. -/
theorem GoodHalf.tileA {h : FVec Ideal S512x1024 .f32} (q s b d : ℕ) (hb : b = 128 * q) (hd : d = 128 * s) (hs : s < 8) (hq : q < 4)
    {L : List (View.Piece (Elt Ideal) S3x512x1024 .bf16)}
    (g : GoodHalf h (1 + (8 * q + s)) L) (inb : ∀ a, ![1, b, d] a + S1x128x128.size a ≤ S3x512x1024.size a) (V : Vec Ideal S1x1x128x128 .f32)
    (hV : ∀ r l, V (ix4 0 0 r l) = h (ix2 ⟨q + 4 * r.val, by omega⟩ ⟨128 * s + l.val, by omega⟩)) (v : FVec Ideal S1x128x128 .bf16)
    (hv : v = shapeCast S1x128x128 (truncf (F := Ideal) .bf16 (shapeCast S128x128 V shapeCasts_S1x1x128x128_S128x128 : FVec Ideal S128x128 .f32) bitsLt_bf16_f32) shapeCasts_S128x128_S1x128x128) :
    GoodHalf h (1 + (8 * q + s) + 1) (⟨Rect.unit (s := S3x512x1024) ![1, b, d] S1x128x128.size inb, v⟩ :: L) := by
  subst hv; subst hb; subst hd
  refine g.cons _ (fun x => ?_) (fun y hy => ?_)
  · obtain ⟨r, l, rfl⟩ : ∃ (r : Fin 128) (l : Fin 128), x = (ix3 0 r l : S1x128x128.Idx) := ⟨x 1, x 2, by
      funext a; fin_cases a
      · exact Fin.ext (by have : (x 0).val < 1 := (x 0).isLt; show (x 0).val = 0; omega)
      · rfl
      · rfl⟩
    rw [half_eq h _ ⟨q + 4 * r.val, by omega⟩ ⟨128 * s + l.val, by omega⟩ (by simp [rowA]; omega) (by simp), ← hV]
    pointwise
  · have h1 : (y 1).val < 512 := (y 1).isLt
    have h2 : (y 2).val < 1024 := (y 2).isLt
    have h0 : (y 0).val < 3 := (y 0).isLt
    unfold keyHalf at hy
    show y ∈ (Rect.unit (s := S3x512x1024) _ _ inb).set
    rw [Rect.mem_set_unit]
    intro a; split_ifs at hy <;> fin_cases a <;> simp [S1x128x128] <;> omega

/-- The store of a lane tile of every sixteenth row into the 16-bit buffer. -/
theorem GoodHalf.tileB {h : FVec Ideal S512x1024 .f32} (p q s b d : ℕ) (hb : b = 32 * (p + 4 * q)) (hd : d = 128 * s) (hs : s < 8) (hp : p < 4) (hq : q < 4)
    {L : List (View.Piece (Elt Ideal) S3x512x1024 .bf16)}
    (g : GoodHalf h (33 + ((4 * p + q) * 8 + s)) L) (inb : ∀ a, ![2, b, d] a + S1x32x128.size a ≤ S3x512x1024.size a) (V : Vec Ideal S1x1x32x128 .f32)
    (hV : ∀ r l, V (ix4 0 0 r l) = h (ix2 ⟨p + 4 * q + 16 * r.val, by omega⟩ ⟨128 * s + l.val, by omega⟩)) (v : FVec Ideal S1x32x128 .bf16)
    (hv : v = shapeCast S1x32x128 (truncf (F := Ideal) .bf16 (shapeCast S32x128 V shapeCasts_S1x1x32x128_S32x128 : FVec Ideal S32x128 .f32) bitsLt_bf16_f32) shapeCasts_S32x128_S1x32x128) :
    GoodHalf h (33 + ((4 * p + q) * 8 + s) + 1) (⟨Rect.unit (s := S3x512x1024) ![2, b, d] S1x32x128.size inb, v⟩ :: L) := by
  subst hv; subst hb; subst hd
  refine g.cons _ (fun x => ?_) (fun y hy => ?_)
  · obtain ⟨r, l, rfl⟩ : ∃ (r : Fin 32) (l : Fin 128), x = (ix3 0 r l : S1x32x128.Idx) := ⟨x 1, x 2, by
      funext a; fin_cases a
      · exact Fin.ext (by have : (x 0).val < 1 := (x 0).isLt; show (x 0).val = 0; omega)
      · rfl
      · rfl⟩
    rw [half_eq h _ ⟨p + 4 * q + 16 * r.val, by omega⟩ ⟨128 * s + l.val, by omega⟩ (by simp [rowB]; omega) (by simp), ← hV]
    pointwise
  · have h1 : (y 1).val < 512 := (y 1).isLt
    have h2 : (y 2).val < 1024 := (y 2).isLt
    have h0 : (y 0).val < 3 := (y 0).isLt
    unfold keyHalf at hy
    show y ∈ (Rect.unit (s := S3x512x1024) _ _ inb).set
    rw [Rect.mem_set_unit]
    intro a; split_ifs at hy <;> fin_cases a <;> simp [S1x32x128] <;> omega

/-- The whole block's store into the 16-bit buffer. -/
theorem GoodHalf.all {h : FVec Ideal S512x1024 .f32} {L : List (View.Piece (Elt Ideal) S3x512x1024 .bf16)} (g : GoodHalf h 0 L)
    (inb : ∀ a, ![0, 0, 0] a + S1x512x1024.size a ≤ S3x512x1024.size a) (v : FVec Ideal S1x512x1024 .bf16)
    (hv : v = shapeCast S1x512x1024 (truncf (F := Ideal) .bf16 h bitsLt_bf16_f32) shapeCasts_S512x1024_S1x512x1024) :
    GoodHalf h 1 (⟨Rect.unit (s := S3x512x1024) ![0, 0, 0] S1x512x1024.size inb, v⟩ :: L) := by
  subst hv
  refine g.cons _ (fun x => ?_) (fun y hy => ?_)
  · obtain ⟨r, l, rfl⟩ : ∃ (r : Fin 512) (l : Fin 1024), x = (ix3 0 r l : S1x512x1024.Idx) := ⟨x 1, x 2, by
      funext a; fin_cases a
      · exact Fin.ext (by have : (x 0).val < 1 := (x 0).isLt; show (x 0).val = 0; omega)
      · rfl
      · rfl⟩
    rw [half_eq h _ r l (by simp) (by simp)]
    pointwise
  · have h1 : (y 1).val < 512 := (y 1).isLt
    have h2 : (y 2).val < 1024 := (y 2).isLt
    have h0 : (y 0).val < 3 := (y 0).isLt
    unfold keyHalf at hy
    show y ∈ (Rect.unit (s := S3x512x1024) _ _ inb).set
    rw [Rect.mem_set_unit]
    intro a; split_ifs at hy <;> fin_cases a <;> simp [S1x512x1024] <;> omega

/-- The load of one of the 16-bit buffer's three blocks. -/
theorem loadHalf {h : FVec Ideal S512x1024 .f32} {L : List (View.Piece (Elt Ideal) S3x512x1024 .bf16)} (g : GoodHalf h 161 L)
    (M : Memref sig .tc .vmem S3x512x1024 .bf16) (k : ℕ) (hk : k < 3) (inb : ∀ a, ![k, 0, 0] a + S1x512x1024.size a ≤ S3x512x1024.size a) (r : Fin 512) (l : Fin 1024) :
    M.view.readCov (Val := Elt Ideal) L (Rect.unit (s := S3x512x1024) ![k, 0, 0] S1x512x1024.size inb).toLoadRect (ix3 0 r l)
      = h (ix2 (if k = 0 then r else if k = 1 then ⟨rowA r.val, rowA_lt r.isLt⟩ else ⟨rowB r.val, rowB_lt r.isLt⟩) l) := by
  rw [g.read]
  · refine half_eq h _ _ _ ?_ (by simp [LoadRect.idx])
    simp [LoadRect.idx]
    split_ifs <;> rfl
  · intro j
    have h1 : (j 1).val < 512 := (j 1).isLt
    have h2 : (j 2).val < 1024 := (j 2).isLt
    have h0 : (j 0).val < 1 := (j 0).isLt
    unfold keyHalf
    simp [LoadRect.idx]
    split_ifs <;> omega

end Cert.Kernel4Ideal.Proj

end
-- ==== Proof.ProjFill.lean ====
/- The projection's two row buffers, filled: every store's value and place. -/
module

public import proofs.«01_k».proof.Proof.ProjRows

@[expose] public section

set_option maxRecDepth 16384

noncomputable section

namespace Cert.Kernel4Ideal.Proj

open Cert.Kernel4Ideal.Gen
open Idealize.ShloMosaic Idealize.ShloMosaic.TcCoe Idealize.SL.Sem
open Idealize.ShloMosaic.Pipeline (Dat)

variable (c : Dev nD) (arg2 : Memref sig .tc .vmem S1x512x1024 .f32) (harg2 : arg2.IsWhole) (arg3 : Memref sig .tc .vmem S1x1024 .f32) (harg3 : arg3.IsWhole)
  (arg17 : Memref sig .tc .vmem S2x8x512x128 .f32) (arg18 : Memref sig .tc .vmem S3x512x1024 .bf16) (x0 : Vec Ideal S1x512x1024 .f32) (x1 : Vec Ideal S1x1024 .f32)

/-- The normalized rows. -/
def rows : FVec Ideal S512x1024 .f32 := kernelRun0_A.sl.r c arg2 harg2 arg3 harg3 x0 x1

theorem big8 : GoodBig (rows c arg2 harg2 arg3 harg3 x0 x1) 8 (kernelRun0_A.sl.HS0_8 c arg2 harg2 arg3 harg3 x0 x1) := by
  delta kernelRun0_A.sl.HS0_8
  refine GoodBig.lanes (s := 7) (by decide) ?_ _ (by decide) _ rfl
  refine GoodBig.lanes (s := 6) (by decide) ?_ _ (by decide) _ rfl
  refine GoodBig.lanes (s := 5) (by decide) ?_ _ (by decide) _ rfl
  refine GoodBig.lanes (s := 4) (by decide) ?_ _ (by decide) _ rfl
  refine GoodBig.lanes (s := 3) (by decide) ?_ _ (by decide) _ rfl
  refine GoodBig.lanes (s := 2) (by decide) ?_ _ (by decide) _ rfl
  refine GoodBig.lanes (s := 1) (by decide) ?_ _ (by decide) _ rfl
  refine GoodBig.lanes (s := 0) (by decide) ?_ _ (by decide) _ rfl
  exact goodBig_nil _

theorem big9 : GoodBig (rows c arg2 harg2 arg3 harg3 x0 x1) 9 (kernelRun0_A.sl.HS0_9 c arg2 harg2 arg3 harg3 arg17 x0 x1) := by
  delta kernelRun0_A.sl.HS0_9
  refine GoodBig.tile 0 0 0 rfl (by decide) (by decide) (big8 c arg2 harg2 arg3 harg3 x0 x1) _ (arg17.view.readCov (Val := Elt Ideal) (kernelRun0_A.sl.HS0_8 c arg2 harg2 arg3 harg3 x0 x1) ⟨![0, 0, 0, 0], S1x1x128x128.size, ![1, 1, 4, 1], inb_S2x8x512x128_S1x1x128x128_0_0_0_0_s_1_1_4_1⟩) ?_ _ rfl
  exact loadA (big8 c arg2 harg2 arg3 harg3 x0 x1) (by decide) _ 0 0 (by decide) (by decide) _

theorem big10 : GoodBig (rows c arg2 harg2 arg3 harg3 x0 x1) 10 (kernelRun0_A.sl.HS0_10 c arg2 harg2 arg3 harg3 arg17 x0 x1) := by
  delta kernelRun0_A.sl.HS0_10
  refine GoodBig.tile 0 1 0 rfl (by decide) (by decide) (big9 c arg2 harg2 arg3 harg3 arg17 x0 x1) _ (arg17.view.readCov (Val := Elt Ideal) (kernelRun0_A.sl.HS0_9 c arg2 harg2 arg3 harg3 arg17 x0 x1) ⟨![0, 1, 0, 0], S1x1x128x128.size, ![1, 1, 4, 1], inb_S2x8x512x128_S1x1x128x128_0_1_0_0_s_1_1_4_1⟩) ?_ _ rfl
  exact loadA (big9 c arg2 harg2 arg3 harg3 arg17 x0 x1) (by decide) _ 1 0 (by decide) (by decide) _

theorem big11 : GoodBig (rows c arg2 harg2 arg3 harg3 x0 x1) 11 (kernelRun0_A.sl.HS0_11 c arg2 harg2 arg3 harg3 arg17 x0 x1) := by
  delta kernelRun0_A.sl.HS0_11
  refine GoodBig.tile 0 2 0 rfl (by decide) (by decide) (big10 c arg2 harg2 arg3 harg3 arg17 x0 x1) _ (arg17.view.readCov (Val := Elt Ideal) (kernelRun0_A.sl.HS0_10 c arg2 harg2 arg3 harg3 arg17 x0 x1) ⟨![0, 2, 0, 0], S1x1x128x128.size, ![1, 1, 4, 1], inb_S2x8x512x128_S1x1x128x128_0_2_0_0_s_1_1_4_1⟩) ?_ _ rfl
  exact loadA (big10 c arg2 harg2 arg3 harg3 arg17 x0 x1) (by decide) _ 2 0 (by decide) (by decide) _

theorem big12 : GoodBig (rows c arg2 harg2 arg3 harg3 x0 x1) 12 (kernelRun0_A.sl.HS0_12 c arg2 harg2 arg3 harg3 arg17 x0 x1) := by
  delta kernelRun0_A.sl.HS0_12
  refine GoodBig.tile 0 3 0 rfl (by decide) (by decide) (big11 c arg2 harg2 arg3 harg3 arg17 x0 x1) _ (arg17.view.readCov (Val := Elt Ideal) (kernelRun0_A.sl.HS0_11 c arg2 harg2 arg3 harg3 arg17 x0 x1) ⟨![0, 3, 0, 0], S1x1x128x128.size, ![1, 1, 4, 1], inb_S2x8x512x128_S1x1x128x128_0_3_0_0_s_1_1_4_1⟩) ?_ _ rfl
  exact loadA (big11 c arg2 harg2 arg3 harg3 arg17 x0 x1) (by decide) _ 3 0 (by decide) (by decide) _

theorem big13 : GoodBig (rows c arg2 harg2 arg3 harg3 x0 x1) 13 (kernelRun0_A.sl.HS0_13 c arg2 harg2 arg3 harg3 arg17 x0 x1) := by
  delta kernelRun0_A.sl.HS0_13
  refine GoodBig.tile 0 4 0 rfl (by decide) (by decide) (big12 c arg2 harg2 arg3 harg3 arg17 x0 x1) _ (arg17.view.readCov (Val := Elt Ideal) (kernelRun0_A.sl.HS0_12 c arg2 harg2 arg3 harg3 arg17 x0 x1) ⟨![0, 4, 0, 0], S1x1x128x128.size, ![1, 1, 4, 1], inb_S2x8x512x128_S1x1x128x128_0_4_0_0_s_1_1_4_1⟩) ?_ _ rfl
  exact loadA (big12 c arg2 harg2 arg3 harg3 arg17 x0 x1) (by decide) _ 4 0 (by decide) (by decide) _

theorem big14 : GoodBig (rows c arg2 harg2 arg3 harg3 x0 x1) 14 (kernelRun0_A.sl.HS0_14 c arg2 harg2 arg3 harg3 arg17 x0 x1) := by
  delta kernelRun0_A.sl.HS0_14
  refine GoodBig.tile 0 5 0 rfl (by decide) (by decide) (big13 c arg2 harg2 arg3 harg3 arg17 x0 x1) _ (arg17.view.readCov (Val := Elt Ideal) (kernelRun0_A.sl.HS0_13 c arg2 harg2 arg3 harg3 arg17 x0 x1) ⟨![0, 5, 0, 0], S1x1x128x128.size, ![1, 1, 4, 1], inb_S2x8x512x128_S1x1x128x128_0_5_0_0_s_1_1_4_1⟩) ?_ _ rfl
  exact loadA (big13 c arg2 harg2 arg3 harg3 arg17 x0 x1) (by decide) _ 5 0 (by decide) (by decide) _

theorem big15 : GoodBig (rows c arg2 harg2 arg3 harg3 x0 x1) 15 (kernelRun0_A.sl.HS0_15 c arg2 harg2 arg3 harg3 arg17 x0 x1) := by
  delta kernelRun0_A.sl.HS0_15
  refine GoodBig.tile 0 6 0 rfl (by decide) (by decide) (big14 c arg2 harg2 arg3 harg3 arg17 x0 x1) _ (arg17.view.readCov (Val := Elt Ideal) (kernelRun0_A.sl.HS0_14 c arg2 harg2 arg3 harg3 arg17 x0 x1) ⟨![0, 6, 0, 0], S1x1x128x128.size, ![1, 1, 4, 1], inb_S2x8x512x128_S1x1x128x128_0_6_0_0_s_1_1_4_1⟩) ?_ _ rfl
  exact loadA (big14 c arg2 harg2 arg3 harg3 arg17 x0 x1) (by decide) _ 6 0 (by decide) (by decide) _

theorem big16 : GoodBig (rows c arg2 harg2 arg3 harg3 x0 x1) 16 (kernelRun0_A.sl.HS0_16 c arg2 harg2 arg3 harg3 arg17 x0 x1) := by
  delta kernelRun0_A.sl.HS0_16
  refine GoodBig.tile 0 7 0 rfl (by decide) (by decide) (big15 c arg2 harg2 arg3 harg3 arg17 x0 x1) _ (arg17.view.readCov (Val := Elt Ideal) (kernelRun0_A.sl.HS0_15 c arg2 harg2 arg3 harg3 arg17 x0 x1) ⟨![0, 7, 0, 0], S1x1x128x128.size, ![1, 1, 4, 1], inb_S2x8x512x128_S1x1x128x128_0_7_0_0_s_1_1_4_1⟩) ?_ _ rfl
  exact loadA (big15 c arg2 harg2 arg3 harg3 arg17 x0 x1) (by decide) _ 7 0 (by decide) (by decide) _

theorem big17 : GoodBig (rows c arg2 harg2 arg3 harg3 x0 x1) 17 (kernelRun0_A.sl.HS0_17 c arg2 harg2 arg3 harg3 arg17 x0 x1) := by
  delta kernelRun0_A.sl.HS0_17
  refine GoodBig.tile 1 0 128 rfl (by decide) (by decide) (big16 c arg2 harg2 arg3 harg3 arg17 x0 x1) _ (arg17.view.readCov (Val := Elt Ideal) (kernelRun0_A.sl.HS0_16 c arg2 harg2 arg3 harg3 arg17 x0 x1) ⟨![0, 0, 1, 0], S1x1x128x128.size, ![1, 1, 4, 1], inb_S2x8x512x128_S1x1x128x128_0_0_1_0_s_1_1_4_1⟩) ?_ _ rfl
  exact loadA (big16 c arg2 harg2 arg3 harg3 arg17 x0 x1) (by decide) _ 0 1 (by decide) (by decide) _

theorem big18 : GoodBig (rows c arg2 harg2 arg3 harg3 x0 x1) 18 (kernelRun0_A.sl.HS0_18 c arg2 harg2 arg3 harg3 arg17 x0 x1) := by
  delta kernelRun0_A.sl.HS0_18
  refine GoodBig.tile 1 1 128 rfl (by decide) (by decide) (big17 c arg2 harg2 arg3 harg3 arg17 x0 x1) _ (arg17.view.readCov (Val := Elt Ideal) (kernelRun0_A.sl.HS0_17 c arg2 harg2 arg3 harg3 arg17 x0 x1) ⟨![0, 1, 1, 0], S1x1x128x128.size, ![1, 1, 4, 1], inb_S2x8x512x128_S1x1x128x128_0_1_1_0_s_1_1_4_1⟩) ?_ _ rfl
  exact loadA (big17 c arg2 harg2 arg3 harg3 arg17 x0 x1) (by decide) _ 1 1 (by decide) (by decide) _

theorem big19 : GoodBig (rows c arg2 harg2 arg3 harg3 x0 x1) 19 (kernelRun0_A.sl.HS0_19 c arg2 harg2 arg3 harg3 arg17 x0 x1) := by
  delta kernelRun0_A.sl.HS0_19
  refine GoodBig.tile 1 2 128 rfl (by decide) (by decide) (big18 c arg2 harg2 arg3 harg3 arg17 x0 x1) _ (arg17.view.readCov (Val := Elt Ideal) (kernelRun0_A.sl.HS0_18 c arg2 harg2 arg3 harg3 arg17 x0 x1) ⟨![0, 2, 1, 0], S1x1x128x128.size, ![1, 1, 4, 1], inb_S2x8x512x128_S1x1x128x128_0_2_1_0_s_1_1_4_1⟩) ?_ _ rfl
  exact loadA (big18 c arg2 harg2 arg3 harg3 arg17 x0 x1) (by decide) _ 2 1 (by decide) (by decide) _

theorem big20 : GoodBig (rows c arg2 harg2 arg3 harg3 x0 x1) 20 (kernelRun0_A.sl.HS0_20 c arg2 harg2 arg3 harg3 arg17 x0 x1) := by
  delta kernelRun0_A.sl.HS0_20
  refine GoodBig.tile 1 3 128 rfl (by decide) (by decide) (big19 c arg2 harg2 arg3 harg3 arg17 x0 x1) _ (arg17.view.readCov (Val := Elt Ideal) (kernelRun0_A.sl.HS0_19 c arg2 harg2 arg3 harg3 arg17 x0 x1) ⟨![0, 3, 1, 0], S1x1x128x128.size, ![1, 1, 4, 1], inb_S2x8x512x128_S1x1x128x128_0_3_1_0_s_1_1_4_1⟩) ?_ _ rfl
  exact loadA (big19 c arg2 harg2 arg3 harg3 arg17 x0 x1) (by decide) _ 3 1 (by decide) (by decide) _

theorem big21 : GoodBig (rows c arg2 harg2 arg3 harg3 x0 x1) 21 (kernelRun0_A.sl.HS0_21 c arg2 harg2 arg3 harg3 arg17 x0 x1) := by
  delta kernelRun0_A.sl.HS0_21
  refine GoodBig.tile 1 4 128 rfl (by decide) (by decide) (big20 c arg2 harg2 arg3 harg3 arg17 x0 x1) _ (arg17.view.readCov (Val := Elt Ideal) (kernelRun0_A.sl.HS0_20 c arg2 harg2 arg3 harg3 arg17 x0 x1) ⟨![0, 4, 1, 0], S1x1x128x128.size, ![1, 1, 4, 1], inb_S2x8x512x128_S1x1x128x128_0_4_1_0_s_1_1_4_1⟩) ?_ _ rfl
  exact loadA (big20 c arg2 harg2 arg3 harg3 arg17 x0 x1) (by decide) _ 4 1 (by decide) (by decide) _

theorem big22 : GoodBig (rows c arg2 harg2 arg3 harg3 x0 x1) 22 (kernelRun0_A.sl.HS0_22 c arg2 harg2 arg3 harg3 arg17 x0 x1) := by
  delta kernelRun0_A.sl.HS0_22
  refine GoodBig.tile 1 5 128 rfl (by decide) (by decide) (big21 c arg2 harg2 arg3 harg3 arg17 x0 x1) _ (arg17.view.readCov (Val := Elt Ideal) (kernelRun0_A.sl.HS0_21 c arg2 harg2 arg3 harg3 arg17 x0 x1) ⟨![0, 5, 1, 0], S1x1x128x128.size, ![1, 1, 4, 1], inb_S2x8x512x128_S1x1x128x128_0_5_1_0_s_1_1_4_1⟩) ?_ _ rfl
  exact loadA (big21 c arg2 harg2 arg3 harg3 arg17 x0 x1) (by decide) _ 5 1 (by decide) (by decide) _

theorem big23 : GoodBig (rows c arg2 harg2 arg3 harg3 x0 x1) 23 (kernelRun0_A.sl.HS0_23 c arg2 harg2 arg3 harg3 arg17 x0 x1) := by
  delta kernelRun0_A.sl.HS0_23
  refine GoodBig.tile 1 6 128 rfl (by decide) (by decide) (big22 c arg2 harg2 arg3 harg3 arg17 x0 x1) _ (arg17.view.readCov (Val := Elt Ideal) (kernelRun0_A.sl.HS0_22 c arg2 harg2 arg3 harg3 arg17 x0 x1) ⟨![0, 6, 1, 0], S1x1x128x128.size, ![1, 1, 4, 1], inb_S2x8x512x128_S1x1x128x128_0_6_1_0_s_1_1_4_1⟩) ?_ _ rfl
  exact loadA (big22 c arg2 harg2 arg3 harg3 arg17 x0 x1) (by decide) _ 6 1 (by decide) (by decide) _

theorem big24 : GoodBig (rows c arg2 harg2 arg3 harg3 x0 x1) 24 (kernelRun0_A.sl.HS0_24 c arg2 harg2 arg3 harg3 arg17 x0 x1) := by
  delta kernelRun0_A.sl.HS0_24
  refine GoodBig.tile 1 7 128 rfl (by decide) (by decide) (big23 c arg2 harg2 arg3 harg3 arg17 x0 x1) _ (arg17.view.readCov (Val := Elt Ideal) (kernelRun0_A.sl.HS0_23 c arg2 harg2 arg3 harg3 arg17 x0 x1) ⟨![0, 7, 1, 0], S1x1x128x128.size, ![1, 1, 4, 1], inb_S2x8x512x128_S1x1x128x128_0_7_1_0_s_1_1_4_1⟩) ?_ _ rfl
  exact loadA (big23 c arg2 harg2 arg3 harg3 arg17 x0 x1) (by decide) _ 7 1 (by decide) (by decide) _

theorem big25 : GoodBig (rows c arg2 harg2 arg3 harg3 x0 x1) 25 (kernelRun0_A.sl.HS0_25 c arg2 harg2 arg3 harg3 arg17 x0 x1) := by
  delta kernelRun0_A.sl.HS0_25
  refine GoodBig.tile 2 0 256 rfl (by decide) (by decide) (big24 c arg2 harg2 arg3 harg3 arg17 x0 x1) _ (arg17.view.readCov (Val := Elt Ideal) (kernelRun0_A.sl.HS0_24 c arg2 harg2 arg3 harg3 arg17 x0 x1) ⟨![0, 0, 2, 0], S1x1x128x128.size, ![1, 1, 4, 1], inb_S2x8x512x128_S1x1x128x128_0_0_2_0_s_1_1_4_1⟩) ?_ _ rfl
  exact loadA (big24 c arg2 harg2 arg3 harg3 arg17 x0 x1) (by decide) _ 0 2 (by decide) (by decide) _

theorem big26 : GoodBig (rows c arg2 harg2 arg3 harg3 x0 x1) 26 (kernelRun0_A.sl.HS0_26 c arg2 harg2 arg3 harg3 arg17 x0 x1) := by
  delta kernelRun0_A.sl.HS0_26
  refine GoodBig.tile 2 1 256 rfl (by decide) (by decide) (big25 c arg2 harg2 arg3 harg3 arg17 x0 x1) _ (arg17.view.readCov (Val := Elt Ideal) (kernelRun0_A.sl.HS0_25 c arg2 harg2 arg3 harg3 arg17 x0 x1) ⟨![0, 1, 2, 0], S1x1x128x128.size, ![1, 1, 4, 1], inb_S2x8x512x128_S1x1x128x128_0_1_2_0_s_1_1_4_1⟩) ?_ _ rfl
  exact loadA (big25 c arg2 harg2 arg3 harg3 arg17 x0 x1) (by decide) _ 1 2 (by decide) (by decide) _

theorem big27 : GoodBig (rows c arg2 harg2 arg3 harg3 x0 x1) 27 (kernelRun0_A.sl.HS0_27 c arg2 harg2 arg3 harg3 arg17 x0 x1) := by
  delta kernelRun0_A.sl.HS0_27
  refine GoodBig.tile 2 2 256 rfl (by decide) (by decide) (big26 c arg2 harg2 arg3 harg3 arg17 x0 x1) _ (arg17.view.readCov (Val := Elt Ideal) (kernelRun0_A.sl.HS0_26 c arg2 harg2 arg3 harg3 arg17 x0 x1) ⟨![0, 2, 2, 0], S1x1x128x128.size, ![1, 1, 4, 1], inb_S2x8x512x128_S1x1x128x128_0_2_2_0_s_1_1_4_1⟩) ?_ _ rfl
  exact loadA (big26 c arg2 harg2 arg3 harg3 arg17 x0 x1) (by decide) _ 2 2 (by decide) (by decide) _

theorem big28 : GoodBig (rows c arg2 harg2 arg3 harg3 x0 x1) 28 (kernelRun0_A.sl.HS0_28 c arg2 harg2 arg3 harg3 arg17 x0 x1) := by
  delta kernelRun0_A.sl.HS0_28
  refine GoodBig.tile 2 3 256 rfl (by decide) (by decide) (big27 c arg2 harg2 arg3 harg3 arg17 x0 x1) _ (arg17.view.readCov (Val := Elt Ideal) (kernelRun0_A.sl.HS0_27 c arg2 harg2 arg3 harg3 arg17 x0 x1) ⟨![0, 3, 2, 0], S1x1x128x128.size, ![1, 1, 4, 1], inb_S2x8x512x128_S1x1x128x128_0_3_2_0_s_1_1_4_1⟩) ?_ _ rfl
  exact loadA (big27 c arg2 harg2 arg3 harg3 arg17 x0 x1) (by decide) _ 3 2 (by decide) (by decide) _

theorem big29 : GoodBig (rows c arg2 harg2 arg3 harg3 x0 x1) 29 (kernelRun0_A.sl.HS0_29 c arg2 harg2 arg3 harg3 arg17 x0 x1) := by
  delta kernelRun0_A.sl.HS0_29
  refine GoodBig.tile 2 4 256 rfl (by decide) (by decide) (big28 c arg2 harg2 arg3 harg3 arg17 x0 x1) _ (arg17.view.readCov (Val := Elt Ideal) (kernelRun0_A.sl.HS0_28 c arg2 harg2 arg3 harg3 arg17 x0 x1) ⟨![0, 4, 2, 0], S1x1x128x128.size, ![1, 1, 4, 1], inb_S2x8x512x128_S1x1x128x128_0_4_2_0_s_1_1_4_1⟩) ?_ _ rfl
  exact loadA (big28 c arg2 harg2 arg3 harg3 arg17 x0 x1) (by decide) _ 4 2 (by decide) (by decide) _

theorem big30 : GoodBig (rows c arg2 harg2 arg3 harg3 x0 x1) 30 (kernelRun0_A.sl.HS0_30 c arg2 harg2 arg3 harg3 arg17 x0 x1) := by
  delta kernelRun0_A.sl.HS0_30
  refine GoodBig.tile 2 5 256 rfl (by decide) (by decide) (big29 c arg2 harg2 arg3 harg3 arg17 x0 x1) _ (arg17.view.readCov (Val := Elt Ideal) (kernelRun0_A.sl.HS0_29 c arg2 harg2 arg3 harg3 arg17 x0 x1) ⟨![0, 5, 2, 0], S1x1x128x128.size, ![1, 1, 4, 1], inb_S2x8x512x128_S1x1x128x128_0_5_2_0_s_1_1_4_1⟩) ?_ _ rfl
  exact loadA (big29 c arg2 harg2 arg3 harg3 arg17 x0 x1) (by decide) _ 5 2 (by decide) (by decide) _

theorem big31 : GoodBig (rows c arg2 harg2 arg3 harg3 x0 x1) 31 (kernelRun0_A.sl.HS0_31 c arg2 harg2 arg3 harg3 arg17 x0 x1) := by
  delta kernelRun0_A.sl.HS0_31
  refine GoodBig.tile 2 6 256 rfl (by decide) (by decide) (big30 c arg2 harg2 arg3 harg3 arg17 x0 x1) _ (arg17.view.readCov (Val := Elt Ideal) (kernelRun0_A.sl.HS0_30 c arg2 harg2 arg3 harg3 arg17 x0 x1) ⟨![0, 6, 2, 0], S1x1x128x128.size, ![1, 1, 4, 1], inb_S2x8x512x128_S1x1x128x128_0_6_2_0_s_1_1_4_1⟩) ?_ _ rfl
  exact loadA (big30 c arg2 harg2 arg3 harg3 arg17 x0 x1) (by decide) _ 6 2 (by decide) (by decide) _

theorem big32 : GoodBig (rows c arg2 harg2 arg3 harg3 x0 x1) 32 (kernelRun0_A.sl.HS0_32 c arg2 harg2 arg3 harg3 arg17 x0 x1) := by
  delta kernelRun0_A.sl.HS0_32
  refine GoodBig.tile 2 7 256 rfl (by decide) (by decide) (big31 c arg2 harg2 arg3 harg3 arg17 x0 x1) _ (arg17.view.readCov (Val := Elt Ideal) (kernelRun0_A.sl.HS0_31 c arg2 harg2 arg3 harg3 arg17 x0 x1) ⟨![0, 7, 2, 0], S1x1x128x128.size, ![1, 1, 4, 1], inb_S2x8x512x128_S1x1x128x128_0_7_2_0_s_1_1_4_1⟩) ?_ _ rfl
  exact loadA (big31 c arg2 harg2 arg3 harg3 arg17 x0 x1) (by decide) _ 7 2 (by decide) (by decide) _

theorem big33 : GoodBig (rows c arg2 harg2 arg3 harg3 x0 x1) 33 (kernelRun0_A.sl.HS0_33 c arg2 harg2 arg3 harg3 arg17 x0 x1) := by
  delta kernelRun0_A.sl.HS0_33
  refine GoodBig.tile 3 0 384 rfl (by decide) (by decide) (big32 c arg2 harg2 arg3 harg3 arg17 x0 x1) _ (arg17.view.readCov (Val := Elt Ideal) (kernelRun0_A.sl.HS0_32 c arg2 harg2 arg3 harg3 arg17 x0 x1) ⟨![0, 0, 3, 0], S1x1x128x128.size, ![1, 1, 4, 1], inb_S2x8x512x128_S1x1x128x128_0_0_3_0_s_1_1_4_1⟩) ?_ _ rfl
  exact loadA (big32 c arg2 harg2 arg3 harg3 arg17 x0 x1) (by decide) _ 0 3 (by decide) (by decide) _

theorem big34 : GoodBig (rows c arg2 harg2 arg3 harg3 x0 x1) 34 (kernelRun0_A.sl.HS0_34 c arg2 harg2 arg3 harg3 arg17 x0 x1) := by
  delta kernelRun0_A.sl.HS0_34
  refine GoodBig.tile 3 1 384 rfl (by decide) (by decide) (big33 c arg2 harg2 arg3 harg3 arg17 x0 x1) _ (arg17.view.readCov (Val := Elt Ideal) (kernelRun0_A.sl.HS0_33 c arg2 harg2 arg3 harg3 arg17 x0 x1) ⟨![0, 1, 3, 0], S1x1x128x128.size, ![1, 1, 4, 1], inb_S2x8x512x128_S1x1x128x128_0_1_3_0_s_1_1_4_1⟩) ?_ _ rfl
  exact loadA (big33 c arg2 harg2 arg3 harg3 arg17 x0 x1) (by decide) _ 1 3 (by decide) (by decide) _

theorem big35 : GoodBig (rows c arg2 harg2 arg3 harg3 x0 x1) 35 (kernelRun0_A.sl.HS0_35 c arg2 harg2 arg3 harg3 arg17 x0 x1) := by
  delta kernelRun0_A.sl.HS0_35
  refine GoodBig.tile 3 2 384 rfl (by decide) (by decide) (big34 c arg2 harg2 arg3 harg3 arg17 x0 x1) _ (arg17.view.readCov (Val := Elt Ideal) (kernelRun0_A.sl.HS0_34 c arg2 harg2 arg3 harg3 arg17 x0 x1) ⟨![0, 2, 3, 0], S1x1x128x128.size, ![1, 1, 4, 1], inb_S2x8x512x128_S1x1x128x128_0_2_3_0_s_1_1_4_1⟩) ?_ _ rfl
  exact loadA (big34 c arg2 harg2 arg3 harg3 arg17 x0 x1) (by decide) _ 2 3 (by decide) (by decide) _

theorem big36 : GoodBig (rows c arg2 harg2 arg3 harg3 x0 x1) 36 (kernelRun0_A.sl.HS0_36 c arg2 harg2 arg3 harg3 arg17 x0 x1) := by
  delta kernelRun0_A.sl.HS0_36
  refine GoodBig.tile 3 3 384 rfl (by decide) (by decide) (big35 c arg2 harg2 arg3 harg3 arg17 x0 x1) _ (arg17.view.readCov (Val := Elt Ideal) (kernelRun0_A.sl.HS0_35 c arg2 harg2 arg3 harg3 arg17 x0 x1) ⟨![0, 3, 3, 0], S1x1x128x128.size, ![1, 1, 4, 1], inb_S2x8x512x128_S1x1x128x128_0_3_3_0_s_1_1_4_1⟩) ?_ _ rfl
  exact loadA (big35 c arg2 harg2 arg3 harg3 arg17 x0 x1) (by decide) _ 3 3 (by decide) (by decide) _

theorem big37 : GoodBig (rows c arg2 harg2 arg3 harg3 x0 x1) 37 (kernelRun0_A.sl.HS0_37 c arg2 harg2 arg3 harg3 arg17 x0 x1) := by
  delta kernelRun0_A.sl.HS0_37
  refine GoodBig.tile 3 4 384 rfl (by decide) (by decide) (big36 c arg2 harg2 arg3 harg3 arg17 x0 x1) _ (arg17.view.readCov (Val := Elt Ideal) (kernelRun0_A.sl.HS0_36 c arg2 harg2 arg3 harg3 arg17 x0 x1) ⟨![0, 4, 3, 0], S1x1x128x128.size, ![1, 1, 4, 1], inb_S2x8x512x128_S1x1x128x128_0_4_3_0_s_1_1_4_1⟩) ?_ _ rfl
  exact loadA (big36 c arg2 harg2 arg3 harg3 arg17 x0 x1) (by decide) _ 4 3 (by decide) (by decide) _

theorem big38 : GoodBig (rows c arg2 harg2 arg3 harg3 x0 x1) 38 (kernelRun0_A.sl.HS0_38 c arg2 harg2 arg3 harg3 arg17 x0 x1) := by
  delta kernelRun0_A.sl.HS0_38
  refine GoodBig.tile 3 5 384 rfl (by decide) (by decide) (big37 c arg2 harg2 arg3 harg3 arg17 x0 x1) _ (arg17.view.readCov (Val := Elt Ideal) (kernelRun0_A.sl.HS0_37 c arg2 harg2 arg3 harg3 arg17 x0 x1) ⟨![0, 5, 3, 0], S1x1x128x128.size, ![1, 1, 4, 1], inb_S2x8x512x128_S1x1x128x128_0_5_3_0_s_1_1_4_1⟩) ?_ _ rfl
  exact loadA (big37 c arg2 harg2 arg3 harg3 arg17 x0 x1) (by decide) _ 5 3 (by decide) (by decide) _

theorem big39 : GoodBig (rows c arg2 harg2 arg3 harg3 x0 x1) 39 (kernelRun0_A.sl.HS0_39 c arg2 harg2 arg3 harg3 arg17 x0 x1) := by
  delta kernelRun0_A.sl.HS0_39
  refine GoodBig.tile 3 6 384 rfl (by decide) (by decide) (big38 c arg2 harg2 arg3 harg3 arg17 x0 x1) _ (arg17.view.readCov (Val := Elt Ideal) (kernelRun0_A.sl.HS0_38 c arg2 harg2 arg3 harg3 arg17 x0 x1) ⟨![0, 6, 3, 0], S1x1x128x128.size, ![1, 1, 4, 1], inb_S2x8x512x128_S1x1x128x128_0_6_3_0_s_1_1_4_1⟩) ?_ _ rfl
  exact loadA (big38 c arg2 harg2 arg3 harg3 arg17 x0 x1) (by decide) _ 6 3 (by decide) (by decide) _

theorem big40 : GoodBig (rows c arg2 harg2 arg3 harg3 x0 x1) 40 (kernelRun0_A.sl.HS0_40 c arg2 harg2 arg3 harg3 arg17 x0 x1) := by
  delta kernelRun0_A.sl.HS0_40
  refine GoodBig.tile 3 7 384 rfl (by decide) (by decide) (big39 c arg2 harg2 arg3 harg3 arg17 x0 x1) _ (arg17.view.readCov (Val := Elt Ideal) (kernelRun0_A.sl.HS0_39 c arg2 harg2 arg3 harg3 arg17 x0 x1) ⟨![0, 7, 3, 0], S1x1x128x128.size, ![1, 1, 4, 1], inb_S2x8x512x128_S1x1x128x128_0_7_3_0_s_1_1_4_1⟩) ?_ _ rfl
  exact loadA (big39 c arg2 harg2 arg3 harg3 arg17 x0 x1) (by decide) _ 7 3 (by decide) (by decide) _

set_option maxHeartbeats 4000000 in
theorem half161 : GoodHalf (rows c arg2 harg2 arg3 harg3 x0 x1) 161 (kernelRun0_A.sl.HS1_161 c arg2 harg2 arg3 harg3 arg17 x0 x1) := by
  delta kernelRun0_A.sl.HS1_161
  refine GoodHalf.tileB 3 3 7 480 896 rfl rfl (by decide) (by decide) (by decide) ?_ _ (arg17.view.readCov (Val := Elt Ideal) (kernelRun0_A.sl.HS0_40 c arg2 harg2 arg3 harg3 arg17 x0 x1) ⟨![1, 7, 387, 0], S1x1x32x128.size, ![1, 1, 4, 1], inb_S2x8x512x128_S1x1x32x128_1_7_387_0_s_1_1_4_1⟩) ?_ _ rfl
  rotate_left
  · exact loadB (big40 c arg2 harg2 arg3 harg3 arg17 x0 x1) _ 7 3 3 387 rfl (by decide) (by decide) (by decide) _
  refine GoodHalf.tileB 3 3 6 480 768 rfl rfl (by decide) (by decide) (by decide) ?_ _ (arg17.view.readCov (Val := Elt Ideal) (kernelRun0_A.sl.HS0_40 c arg2 harg2 arg3 harg3 arg17 x0 x1) ⟨![1, 6, 387, 0], S1x1x32x128.size, ![1, 1, 4, 1], inb_S2x8x512x128_S1x1x32x128_1_6_387_0_s_1_1_4_1⟩) ?_ _ rfl
  rotate_left
  · exact loadB (big40 c arg2 harg2 arg3 harg3 arg17 x0 x1) _ 6 3 3 387 rfl (by decide) (by decide) (by decide) _
  refine GoodHalf.tileB 3 3 5 480 640 rfl rfl (by decide) (by decide) (by decide) ?_ _ (arg17.view.readCov (Val := Elt Ideal) (kernelRun0_A.sl.HS0_40 c arg2 harg2 arg3 harg3 arg17 x0 x1) ⟨![1, 5, 387, 0], S1x1x32x128.size, ![1, 1, 4, 1], inb_S2x8x512x128_S1x1x32x128_1_5_387_0_s_1_1_4_1⟩) ?_ _ rfl
  rotate_left
  · exact loadB (big40 c arg2 harg2 arg3 harg3 arg17 x0 x1) _ 5 3 3 387 rfl (by decide) (by decide) (by decide) _
  refine GoodHalf.tileB 3 3 4 480 512 rfl rfl (by decide) (by decide) (by decide) ?_ _ (arg17.view.readCov (Val := Elt Ideal) (kernelRun0_A.sl.HS0_40 c arg2 harg2 arg3 harg3 arg17 x0 x1) ⟨![1, 4, 387, 0], S1x1x32x128.size, ![1, 1, 4, 1], inb_S2x8x512x128_S1x1x32x128_1_4_387_0_s_1_1_4_1⟩) ?_ _ rfl
  rotate_left
  · exact loadB (big40 c arg2 harg2 arg3 harg3 arg17 x0 x1) _ 4 3 3 387 rfl (by decide) (by decide) (by decide) _
  refine GoodHalf.tileB 3 3 3 480 384 rfl rfl (by decide) (by decide) (by decide) ?_ _ (arg17.view.readCov (Val := Elt Ideal) (kernelRun0_A.sl.HS0_40 c arg2 harg2 arg3 harg3 arg17 x0 x1) ⟨![1, 3, 387, 0], S1x1x32x128.size, ![1, 1, 4, 1], inb_S2x8x512x128_S1x1x32x128_1_3_387_0_s_1_1_4_1⟩) ?_ _ rfl
  rotate_left
  · exact loadB (big40 c arg2 harg2 arg3 harg3 arg17 x0 x1) _ 3 3 3 387 rfl (by decide) (by decide) (by decide) _
  refine GoodHalf.tileB 3 3 2 480 256 rfl rfl (by decide) (by decide) (by decide) ?_ _ (arg17.view.readCov (Val := Elt Ideal) (kernelRun0_A.sl.HS0_40 c arg2 harg2 arg3 harg3 arg17 x0 x1) ⟨![1, 2, 387, 0], S1x1x32x128.size, ![1, 1, 4, 1], inb_S2x8x512x128_S1x1x32x128_1_2_387_0_s_1_1_4_1⟩) ?_ _ rfl
  rotate_left
  · exact loadB (big40 c arg2 harg2 arg3 harg3 arg17 x0 x1) _ 2 3 3 387 rfl (by decide) (by decide) (by decide) _
  refine GoodHalf.tileB 3 3 1 480 128 rfl rfl (by decide) (by decide) (by decide) ?_ _ (arg17.view.readCov (Val := Elt Ideal) (kernelRun0_A.sl.HS0_40 c arg2 harg2 arg3 harg3 arg17 x0 x1) ⟨![1, 1, 387, 0], S1x1x32x128.size, ![1, 1, 4, 1], inb_S2x8x512x128_S1x1x32x128_1_1_387_0_s_1_1_4_1⟩) ?_ _ rfl
  rotate_left
  · exact loadB (big40 c arg2 harg2 arg3 harg3 arg17 x0 x1) _ 1 3 3 387 rfl (by decide) (by decide) (by decide) _
  refine GoodHalf.tileB 3 3 0 480 0 rfl rfl (by decide) (by decide) (by decide) ?_ _ (arg17.view.readCov (Val := Elt Ideal) (kernelRun0_A.sl.HS0_40 c arg2 harg2 arg3 harg3 arg17 x0 x1) ⟨![1, 0, 387, 0], S1x1x32x128.size, ![1, 1, 4, 1], inb_S2x8x512x128_S1x1x32x128_1_0_387_0_s_1_1_4_1⟩) ?_ _ rfl
  rotate_left
  · exact loadB (big40 c arg2 harg2 arg3 harg3 arg17 x0 x1) _ 0 3 3 387 rfl (by decide) (by decide) (by decide) _
  refine GoodHalf.tileB 3 2 7 352 896 rfl rfl (by decide) (by decide) (by decide) ?_ _ (arg17.view.readCov (Val := Elt Ideal) (kernelRun0_A.sl.HS0_40 c arg2 harg2 arg3 harg3 arg17 x0 x1) ⟨![1, 7, 386, 0], S1x1x32x128.size, ![1, 1, 4, 1], inb_S2x8x512x128_S1x1x32x128_1_7_386_0_s_1_1_4_1⟩) ?_ _ rfl
  rotate_left
  · exact loadB (big40 c arg2 harg2 arg3 harg3 arg17 x0 x1) _ 7 3 2 386 rfl (by decide) (by decide) (by decide) _
  refine GoodHalf.tileB 3 2 6 352 768 rfl rfl (by decide) (by decide) (by decide) ?_ _ (arg17.view.readCov (Val := Elt Ideal) (kernelRun0_A.sl.HS0_40 c arg2 harg2 arg3 harg3 arg17 x0 x1) ⟨![1, 6, 386, 0], S1x1x32x128.size, ![1, 1, 4, 1], inb_S2x8x512x128_S1x1x32x128_1_6_386_0_s_1_1_4_1⟩) ?_ _ rfl
  rotate_left
  · exact loadB (big40 c arg2 harg2 arg3 harg3 arg17 x0 x1) _ 6 3 2 386 rfl (by decide) (by decide) (by decide) _
  refine GoodHalf.tileB 3 2 5 352 640 rfl rfl (by decide) (by decide) (by decide) ?_ _ (arg17.view.readCov (Val := Elt Ideal) (kernelRun0_A.sl.HS0_40 c arg2 harg2 arg3 harg3 arg17 x0 x1) ⟨![1, 5, 386, 0], S1x1x32x128.size, ![1, 1, 4, 1], inb_S2x8x512x128_S1x1x32x128_1_5_386_0_s_1_1_4_1⟩) ?_ _ rfl
  rotate_left
  · exact loadB (big40 c arg2 harg2 arg3 harg3 arg17 x0 x1) _ 5 3 2 386 rfl (by decide) (by decide) (by decide) _
  refine GoodHalf.tileB 3 2 4 352 512 rfl rfl (by decide) (by decide) (by decide) ?_ _ (arg17.view.readCov (Val := Elt Ideal) (kernelRun0_A.sl.HS0_40 c arg2 harg2 arg3 harg3 arg17 x0 x1) ⟨![1, 4, 386, 0], S1x1x32x128.size, ![1, 1, 4, 1], inb_S2x8x512x128_S1x1x32x128_1_4_386_0_s_1_1_4_1⟩) ?_ _ rfl
  rotate_left
  · exact loadB (big40 c arg2 harg2 arg3 harg3 arg17 x0 x1) _ 4 3 2 386 rfl (by decide) (by decide) (by decide) _
  refine GoodHalf.tileB 3 2 3 352 384 rfl rfl (by decide) (by decide) (by decide) ?_ _ (arg17.view.readCov (Val := Elt Ideal) (kernelRun0_A.sl.HS0_40 c arg2 harg2 arg3 harg3 arg17 x0 x1) ⟨![1, 3, 386, 0], S1x1x32x128.size, ![1, 1, 4, 1], inb_S2x8x512x128_S1x1x32x128_1_3_386_0_s_1_1_4_1⟩) ?_ _ rfl
  rotate_left
  · exact loadB (big40 c arg2 harg2 arg3 harg3 arg17 x0 x1) _ 3 3 2 386 rfl (by decide) (by decide) (by decide) _
  refine GoodHalf.tileB 3 2 2 352 256 rfl rfl (by decide) (by decide) (by decide) ?_ _ (arg17.view.readCov (Val := Elt Ideal) (kernelRun0_A.sl.HS0_40 c arg2 harg2 arg3 harg3 arg17 x0 x1) ⟨![1, 2, 386, 0], S1x1x32x128.size, ![1, 1, 4, 1], inb_S2x8x512x128_S1x1x32x128_1_2_386_0_s_1_1_4_1⟩) ?_ _ rfl
  rotate_left
  · exact loadB (big40 c arg2 harg2 arg3 harg3 arg17 x0 x1) _ 2 3 2 386 rfl (by decide) (by decide) (by decide) _
  refine GoodHalf.tileB 3 2 1 352 128 rfl rfl (by decide) (by decide) (by decide) ?_ _ (arg17.view.readCov (Val := Elt Ideal) (kernelRun0_A.sl.HS0_40 c arg2 harg2 arg3 harg3 arg17 x0 x1) ⟨![1, 1, 386, 0], S1x1x32x128.size, ![1, 1, 4, 1], inb_S2x8x512x128_S1x1x32x128_1_1_386_0_s_1_1_4_1⟩) ?_ _ rfl
  rotate_left
  · exact loadB (big40 c arg2 harg2 arg3 harg3 arg17 x0 x1) _ 1 3 2 386 rfl (by decide) (by decide) (by decide) _
  refine GoodHalf.tileB 3 2 0 352 0 rfl rfl (by decide) (by decide) (by decide) ?_ _ (arg17.view.readCov (Val := Elt Ideal) (kernelRun0_A.sl.HS0_40 c arg2 harg2 arg3 harg3 arg17 x0 x1) ⟨![1, 0, 386, 0], S1x1x32x128.size, ![1, 1, 4, 1], inb_S2x8x512x128_S1x1x32x128_1_0_386_0_s_1_1_4_1⟩) ?_ _ rfl
  rotate_left
  · exact loadB (big40 c arg2 harg2 arg3 harg3 arg17 x0 x1) _ 0 3 2 386 rfl (by decide) (by decide) (by decide) _
  refine GoodHalf.tileB 3 1 7 224 896 rfl rfl (by decide) (by decide) (by decide) ?_ _ (arg17.view.readCov (Val := Elt Ideal) (kernelRun0_A.sl.HS0_40 c arg2 harg2 arg3 harg3 arg17 x0 x1) ⟨![1, 7, 385, 0], S1x1x32x128.size, ![1, 1, 4, 1], inb_S2x8x512x128_S1x1x32x128_1_7_385_0_s_1_1_4_1⟩) ?_ _ rfl
  rotate_left
  · exact loadB (big40 c arg2 harg2 arg3 harg3 arg17 x0 x1) _ 7 3 1 385 rfl (by decide) (by decide) (by decide) _
  refine GoodHalf.tileB 3 1 6 224 768 rfl rfl (by decide) (by decide) (by decide) ?_ _ (arg17.view.readCov (Val := Elt Ideal) (kernelRun0_A.sl.HS0_40 c arg2 harg2 arg3 harg3 arg17 x0 x1) ⟨![1, 6, 385, 0], S1x1x32x128.size, ![1, 1, 4, 1], inb_S2x8x512x128_S1x1x32x128_1_6_385_0_s_1_1_4_1⟩) ?_ _ rfl
  rotate_left
  · exact loadB (big40 c arg2 harg2 arg3 harg3 arg17 x0 x1) _ 6 3 1 385 rfl (by decide) (by decide) (by decide) _
  refine GoodHalf.tileB 3 1 5 224 640 rfl rfl (by decide) (by decide) (by decide) ?_ _ (arg17.view.readCov (Val := Elt Ideal) (kernelRun0_A.sl.HS0_40 c arg2 harg2 arg3 harg3 arg17 x0 x1) ⟨![1, 5, 385, 0], S1x1x32x128.size, ![1, 1, 4, 1], inb_S2x8x512x128_S1x1x32x128_1_5_385_0_s_1_1_4_1⟩) ?_ _ rfl
  rotate_left
  · exact loadB (big40 c arg2 harg2 arg3 harg3 arg17 x0 x1) _ 5 3 1 385 rfl (by decide) (by decide) (by decide) _
  refine GoodHalf.tileB 3 1 4 224 512 rfl rfl (by decide) (by decide) (by decide) ?_ _ (arg17.view.readCov (Val := Elt Ideal) (kernelRun0_A.sl.HS0_40 c arg2 harg2 arg3 harg3 arg17 x0 x1) ⟨![1, 4, 385, 0], S1x1x32x128.size, ![1, 1, 4, 1], inb_S2x8x512x128_S1x1x32x128_1_4_385_0_s_1_1_4_1⟩) ?_ _ rfl
  rotate_left
  · exact loadB (big40 c arg2 harg2 arg3 harg3 arg17 x0 x1) _ 4 3 1 385 rfl (by decide) (by decide) (by decide) _
  refine GoodHalf.tileB 3 1 3 224 384 rfl rfl (by decide) (by decide) (by decide) ?_ _ (arg17.view.readCov (Val := Elt Ideal) (kernelRun0_A.sl.HS0_40 c arg2 harg2 arg3 harg3 arg17 x0 x1) ⟨![1, 3, 385, 0], S1x1x32x128.size, ![1, 1, 4, 1], inb_S2x8x512x128_S1x1x32x128_1_3_385_0_s_1_1_4_1⟩) ?_ _ rfl
  rotate_left
  · exact loadB (big40 c arg2 harg2 arg3 harg3 arg17 x0 x1) _ 3 3 1 385 rfl (by decide) (by decide) (by decide) _
  refine GoodHalf.tileB 3 1 2 224 256 rfl rfl (by decide) (by decide) (by decide) ?_ _ (arg17.view.readCov (Val := Elt Ideal) (kernelRun0_A.sl.HS0_40 c arg2 harg2 arg3 harg3 arg17 x0 x1) ⟨![1, 2, 385, 0], S1x1x32x128.size, ![1, 1, 4, 1], inb_S2x8x512x128_S1x1x32x128_1_2_385_0_s_1_1_4_1⟩) ?_ _ rfl
  rotate_left
  · exact loadB (big40 c arg2 harg2 arg3 harg3 arg17 x0 x1) _ 2 3 1 385 rfl (by decide) (by decide) (by decide) _
  refine GoodHalf.tileB 3 1 1 224 128 rfl rfl (by decide) (by decide) (by decide) ?_ _ (arg17.view.readCov (Val := Elt Ideal) (kernelRun0_A.sl.HS0_40 c arg2 harg2 arg3 harg3 arg17 x0 x1) ⟨![1, 1, 385, 0], S1x1x32x128.size, ![1, 1, 4, 1], inb_S2x8x512x128_S1x1x32x128_1_1_385_0_s_1_1_4_1⟩) ?_ _ rfl
  rotate_left
  · exact loadB (big40 c arg2 harg2 arg3 harg3 arg17 x0 x1) _ 1 3 1 385 rfl (by decide) (by decide) (by decide) _
  refine GoodHalf.tileB 3 1 0 224 0 rfl rfl (by decide) (by decide) (by decide) ?_ _ (arg17.view.readCov (Val := Elt Ideal) (kernelRun0_A.sl.HS0_40 c arg2 harg2 arg3 harg3 arg17 x0 x1) ⟨![1, 0, 385, 0], S1x1x32x128.size, ![1, 1, 4, 1], inb_S2x8x512x128_S1x1x32x128_1_0_385_0_s_1_1_4_1⟩) ?_ _ rfl
  rotate_left
  · exact loadB (big40 c arg2 harg2 arg3 harg3 arg17 x0 x1) _ 0 3 1 385 rfl (by decide) (by decide) (by decide) _
  refine GoodHalf.tileB 3 0 7 96 896 rfl rfl (by decide) (by decide) (by decide) ?_ _ (arg17.view.readCov (Val := Elt Ideal) (kernelRun0_A.sl.HS0_40 c arg2 harg2 arg3 harg3 arg17 x0 x1) ⟨![1, 7, 384, 0], S1x1x32x128.size, ![1, 1, 4, 1], inb_S2x8x512x128_S1x1x32x128_1_7_384_0_s_1_1_4_1⟩) ?_ _ rfl
  rotate_left
  · exact loadB (big40 c arg2 harg2 arg3 harg3 arg17 x0 x1) _ 7 3 0 384 rfl (by decide) (by decide) (by decide) _
  refine GoodHalf.tileB 3 0 6 96 768 rfl rfl (by decide) (by decide) (by decide) ?_ _ (arg17.view.readCov (Val := Elt Ideal) (kernelRun0_A.sl.HS0_40 c arg2 harg2 arg3 harg3 arg17 x0 x1) ⟨![1, 6, 384, 0], S1x1x32x128.size, ![1, 1, 4, 1], inb_S2x8x512x128_S1x1x32x128_1_6_384_0_s_1_1_4_1⟩) ?_ _ rfl
  rotate_left
  · exact loadB (big40 c arg2 harg2 arg3 harg3 arg17 x0 x1) _ 6 3 0 384 rfl (by decide) (by decide) (by decide) _
  refine GoodHalf.tileB 3 0 5 96 640 rfl rfl (by decide) (by decide) (by decide) ?_ _ (arg17.view.readCov (Val := Elt Ideal) (kernelRun0_A.sl.HS0_40 c arg2 harg2 arg3 harg3 arg17 x0 x1) ⟨![1, 5, 384, 0], S1x1x32x128.size, ![1, 1, 4, 1], inb_S2x8x512x128_S1x1x32x128_1_5_384_0_s_1_1_4_1⟩) ?_ _ rfl
  rotate_left
  · exact loadB (big40 c arg2 harg2 arg3 harg3 arg17 x0 x1) _ 5 3 0 384 rfl (by decide) (by decide) (by decide) _
  refine GoodHalf.tileB 3 0 4 96 512 rfl rfl (by decide) (by decide) (by decide) ?_ _ (arg17.view.readCov (Val := Elt Ideal) (kernelRun0_A.sl.HS0_40 c arg2 harg2 arg3 harg3 arg17 x0 x1) ⟨![1, 4, 384, 0], S1x1x32x128.size, ![1, 1, 4, 1], inb_S2x8x512x128_S1x1x32x128_1_4_384_0_s_1_1_4_1⟩) ?_ _ rfl
  rotate_left
  · exact loadB (big40 c arg2 harg2 arg3 harg3 arg17 x0 x1) _ 4 3 0 384 rfl (by decide) (by decide) (by decide) _
  refine GoodHalf.tileB 3 0 3 96 384 rfl rfl (by decide) (by decide) (by decide) ?_ _ (arg17.view.readCov (Val := Elt Ideal) (kernelRun0_A.sl.HS0_40 c arg2 harg2 arg3 harg3 arg17 x0 x1) ⟨![1, 3, 384, 0], S1x1x32x128.size, ![1, 1, 4, 1], inb_S2x8x512x128_S1x1x32x128_1_3_384_0_s_1_1_4_1⟩) ?_ _ rfl
  rotate_left
  · exact loadB (big40 c arg2 harg2 arg3 harg3 arg17 x0 x1) _ 3 3 0 384 rfl (by decide) (by decide) (by decide) _
  refine GoodHalf.tileB 3 0 2 96 256 rfl rfl (by decide) (by decide) (by decide) ?_ _ (arg17.view.readCov (Val := Elt Ideal) (kernelRun0_A.sl.HS0_40 c arg2 harg2 arg3 harg3 arg17 x0 x1) ⟨![1, 2, 384, 0], S1x1x32x128.size, ![1, 1, 4, 1], inb_S2x8x512x128_S1x1x32x128_1_2_384_0_s_1_1_4_1⟩) ?_ _ rfl
  rotate_left
  · exact loadB (big40 c arg2 harg2 arg3 harg3 arg17 x0 x1) _ 2 3 0 384 rfl (by decide) (by decide) (by decide) _
  refine GoodHalf.tileB 3 0 1 96 128 rfl rfl (by decide) (by decide) (by decide) ?_ _ (arg17.view.readCov (Val := Elt Ideal) (kernelRun0_A.sl.HS0_40 c arg2 harg2 arg3 harg3 arg17 x0 x1) ⟨![1, 1, 384, 0], S1x1x32x128.size, ![1, 1, 4, 1], inb_S2x8x512x128_S1x1x32x128_1_1_384_0_s_1_1_4_1⟩) ?_ _ rfl
  rotate_left
  · exact loadB (big40 c arg2 harg2 arg3 harg3 arg17 x0 x1) _ 1 3 0 384 rfl (by decide) (by decide) (by decide) _
  refine GoodHalf.tileB 3 0 0 96 0 rfl rfl (by decide) (by decide) (by decide) ?_ _ (arg17.view.readCov (Val := Elt Ideal) (kernelRun0_A.sl.HS0_40 c arg2 harg2 arg3 harg3 arg17 x0 x1) ⟨![1, 0, 384, 0], S1x1x32x128.size, ![1, 1, 4, 1], inb_S2x8x512x128_S1x1x32x128_1_0_384_0_s_1_1_4_1⟩) ?_ _ rfl
  rotate_left
  · exact loadB (big40 c arg2 harg2 arg3 harg3 arg17 x0 x1) _ 0 3 0 384 rfl (by decide) (by decide) (by decide) _
  refine GoodHalf.tileB 2 3 7 448 896 rfl rfl (by decide) (by decide) (by decide) ?_ _ (arg17.view.readCov (Val := Elt Ideal) (kernelRun0_A.sl.HS0_40 c arg2 harg2 arg3 harg3 arg17 x0 x1) ⟨![1, 7, 259, 0], S1x1x32x128.size, ![1, 1, 4, 1], inb_S2x8x512x128_S1x1x32x128_1_7_259_0_s_1_1_4_1⟩) ?_ _ rfl
  rotate_left
  · exact loadB (big40 c arg2 harg2 arg3 harg3 arg17 x0 x1) _ 7 2 3 259 rfl (by decide) (by decide) (by decide) _
  refine GoodHalf.tileB 2 3 6 448 768 rfl rfl (by decide) (by decide) (by decide) ?_ _ (arg17.view.readCov (Val := Elt Ideal) (kernelRun0_A.sl.HS0_40 c arg2 harg2 arg3 harg3 arg17 x0 x1) ⟨![1, 6, 259, 0], S1x1x32x128.size, ![1, 1, 4, 1], inb_S2x8x512x128_S1x1x32x128_1_6_259_0_s_1_1_4_1⟩) ?_ _ rfl
  rotate_left
  · exact loadB (big40 c arg2 harg2 arg3 harg3 arg17 x0 x1) _ 6 2 3 259 rfl (by decide) (by decide) (by decide) _
  refine GoodHalf.tileB 2 3 5 448 640 rfl rfl (by decide) (by decide) (by decide) ?_ _ (arg17.view.readCov (Val := Elt Ideal) (kernelRun0_A.sl.HS0_40 c arg2 harg2 arg3 harg3 arg17 x0 x1) ⟨![1, 5, 259, 0], S1x1x32x128.size, ![1, 1, 4, 1], inb_S2x8x512x128_S1x1x32x128_1_5_259_0_s_1_1_4_1⟩) ?_ _ rfl
  rotate_left
  · exact loadB (big40 c arg2 harg2 arg3 harg3 arg17 x0 x1) _ 5 2 3 259 rfl (by decide) (by decide) (by decide) _
  refine GoodHalf.tileB 2 3 4 448 512 rfl rfl (by decide) (by decide) (by decide) ?_ _ (arg17.view.readCov (Val := Elt Ideal) (kernelRun0_A.sl.HS0_40 c arg2 harg2 arg3 harg3 arg17 x0 x1) ⟨![1, 4, 259, 0], S1x1x32x128.size, ![1, 1, 4, 1], inb_S2x8x512x128_S1x1x32x128_1_4_259_0_s_1_1_4_1⟩) ?_ _ rfl
  rotate_left
  · exact loadB (big40 c arg2 harg2 arg3 harg3 arg17 x0 x1) _ 4 2 3 259 rfl (by decide) (by decide) (by decide) _
  refine GoodHalf.tileB 2 3 3 448 384 rfl rfl (by decide) (by decide) (by decide) ?_ _ (arg17.view.readCov (Val := Elt Ideal) (kernelRun0_A.sl.HS0_40 c arg2 harg2 arg3 harg3 arg17 x0 x1) ⟨![1, 3, 259, 0], S1x1x32x128.size, ![1, 1, 4, 1], inb_S2x8x512x128_S1x1x32x128_1_3_259_0_s_1_1_4_1⟩) ?_ _ rfl
  rotate_left
  · exact loadB (big40 c arg2 harg2 arg3 harg3 arg17 x0 x1) _ 3 2 3 259 rfl (by decide) (by decide) (by decide) _
  refine GoodHalf.tileB 2 3 2 448 256 rfl rfl (by decide) (by decide) (by decide) ?_ _ (arg17.view.readCov (Val := Elt Ideal) (kernelRun0_A.sl.HS0_40 c arg2 harg2 arg3 harg3 arg17 x0 x1) ⟨![1, 2, 259, 0], S1x1x32x128.size, ![1, 1, 4, 1], inb_S2x8x512x128_S1x1x32x128_1_2_259_0_s_1_1_4_1⟩) ?_ _ rfl
  rotate_left
  · exact loadB (big40 c arg2 harg2 arg3 harg3 arg17 x0 x1) _ 2 2 3 259 rfl (by decide) (by decide) (by decide) _
  refine GoodHalf.tileB 2 3 1 448 128 rfl rfl (by decide) (by decide) (by decide) ?_ _ (arg17.view.readCov (Val := Elt Ideal) (kernelRun0_A.sl.HS0_40 c arg2 harg2 arg3 harg3 arg17 x0 x1) ⟨![1, 1, 259, 0], S1x1x32x128.size, ![1, 1, 4, 1], inb_S2x8x512x128_S1x1x32x128_1_1_259_0_s_1_1_4_1⟩) ?_ _ rfl
  rotate_left
  · exact loadB (big40 c arg2 harg2 arg3 harg3 arg17 x0 x1) _ 1 2 3 259 rfl (by decide) (by decide) (by decide) _
  refine GoodHalf.tileB 2 3 0 448 0 rfl rfl (by decide) (by decide) (by decide) ?_ _ (arg17.view.readCov (Val := Elt Ideal) (kernelRun0_A.sl.HS0_40 c arg2 harg2 arg3 harg3 arg17 x0 x1) ⟨![1, 0, 259, 0], S1x1x32x128.size, ![1, 1, 4, 1], inb_S2x8x512x128_S1x1x32x128_1_0_259_0_s_1_1_4_1⟩) ?_ _ rfl
  rotate_left
  · exact loadB (big40 c arg2 harg2 arg3 harg3 arg17 x0 x1) _ 0 2 3 259 rfl (by decide) (by decide) (by decide) _
  refine GoodHalf.tileB 2 2 7 320 896 rfl rfl (by decide) (by decide) (by decide) ?_ _ (arg17.view.readCov (Val := Elt Ideal) (kernelRun0_A.sl.HS0_40 c arg2 harg2 arg3 harg3 arg17 x0 x1) ⟨![1, 7, 258, 0], S1x1x32x128.size, ![1, 1, 4, 1], inb_S2x8x512x128_S1x1x32x128_1_7_258_0_s_1_1_4_1⟩) ?_ _ rfl
  rotate_left
  · exact loadB (big40 c arg2 harg2 arg3 harg3 arg17 x0 x1) _ 7 2 2 258 rfl (by decide) (by decide) (by decide) _
  refine GoodHalf.tileB 2 2 6 320 768 rfl rfl (by decide) (by decide) (by decide) ?_ _ (arg17.view.readCov (Val := Elt Ideal) (kernelRun0_A.sl.HS0_40 c arg2 harg2 arg3 harg3 arg17 x0 x1) ⟨![1, 6, 258, 0], S1x1x32x128.size, ![1, 1, 4, 1], inb_S2x8x512x128_S1x1x32x128_1_6_258_0_s_1_1_4_1⟩) ?_ _ rfl
  rotate_left
  · exact loadB (big40 c arg2 harg2 arg3 harg3 arg17 x0 x1) _ 6 2 2 258 rfl (by decide) (by decide) (by decide) _
  refine GoodHalf.tileB 2 2 5 320 640 rfl rfl (by decide) (by decide) (by decide) ?_ _ (arg17.view.readCov (Val := Elt Ideal) (kernelRun0_A.sl.HS0_40 c arg2 harg2 arg3 harg3 arg17 x0 x1) ⟨![1, 5, 258, 0], S1x1x32x128.size, ![1, 1, 4, 1], inb_S2x8x512x128_S1x1x32x128_1_5_258_0_s_1_1_4_1⟩) ?_ _ rfl
  rotate_left
  · exact loadB (big40 c arg2 harg2 arg3 harg3 arg17 x0 x1) _ 5 2 2 258 rfl (by decide) (by decide) (by decide) _
  refine GoodHalf.tileB 2 2 4 320 512 rfl rfl (by decide) (by decide) (by decide) ?_ _ (arg17.view.readCov (Val := Elt Ideal) (kernelRun0_A.sl.HS0_40 c arg2 harg2 arg3 harg3 arg17 x0 x1) ⟨![1, 4, 258, 0], S1x1x32x128.size, ![1, 1, 4, 1], inb_S2x8x512x128_S1x1x32x128_1_4_258_0_s_1_1_4_1⟩) ?_ _ rfl
  rotate_left
  · exact loadB (big40 c arg2 harg2 arg3 harg3 arg17 x0 x1) _ 4 2 2 258 rfl (by decide) (by decide) (by decide) _
  refine GoodHalf.tileB 2 2 3 320 384 rfl rfl (by decide) (by decide) (by decide) ?_ _ (arg17.view.readCov (Val := Elt Ideal) (kernelRun0_A.sl.HS0_40 c arg2 harg2 arg3 harg3 arg17 x0 x1) ⟨![1, 3, 258, 0], S1x1x32x128.size, ![1, 1, 4, 1], inb_S2x8x512x128_S1x1x32x128_1_3_258_0_s_1_1_4_1⟩) ?_ _ rfl
  rotate_left
  · exact loadB (big40 c arg2 harg2 arg3 harg3 arg17 x0 x1) _ 3 2 2 258 rfl (by decide) (by decide) (by decide) _
  refine GoodHalf.tileB 2 2 2 320 256 rfl rfl (by decide) (by decide) (by decide) ?_ _ (arg17.view.readCov (Val := Elt Ideal) (kernelRun0_A.sl.HS0_40 c arg2 harg2 arg3 harg3 arg17 x0 x1) ⟨![1, 2, 258, 0], S1x1x32x128.size, ![1, 1, 4, 1], inb_S2x8x512x128_S1x1x32x128_1_2_258_0_s_1_1_4_1⟩) ?_ _ rfl
  rotate_left
  · exact loadB (big40 c arg2 harg2 arg3 harg3 arg17 x0 x1) _ 2 2 2 258 rfl (by decide) (by decide) (by decide) _
  refine GoodHalf.tileB 2 2 1 320 128 rfl rfl (by decide) (by decide) (by decide) ?_ _ (arg17.view.readCov (Val := Elt Ideal) (kernelRun0_A.sl.HS0_40 c arg2 harg2 arg3 harg3 arg17 x0 x1) ⟨![1, 1, 258, 0], S1x1x32x128.size, ![1, 1, 4, 1], inb_S2x8x512x128_S1x1x32x128_1_1_258_0_s_1_1_4_1⟩) ?_ _ rfl
  rotate_left
  · exact loadB (big40 c arg2 harg2 arg3 harg3 arg17 x0 x1) _ 1 2 2 258 rfl (by decide) (by decide) (by decide) _
  refine GoodHalf.tileB 2 2 0 320 0 rfl rfl (by decide) (by decide) (by decide) ?_ _ (arg17.view.readCov (Val := Elt Ideal) (kernelRun0_A.sl.HS0_40 c arg2 harg2 arg3 harg3 arg17 x0 x1) ⟨![1, 0, 258, 0], S1x1x32x128.size, ![1, 1, 4, 1], inb_S2x8x512x128_S1x1x32x128_1_0_258_0_s_1_1_4_1⟩) ?_ _ rfl
  rotate_left
  · exact loadB (big40 c arg2 harg2 arg3 harg3 arg17 x0 x1) _ 0 2 2 258 rfl (by decide) (by decide) (by decide) _
  refine GoodHalf.tileB 2 1 7 192 896 rfl rfl (by decide) (by decide) (by decide) ?_ _ (arg17.view.readCov (Val := Elt Ideal) (kernelRun0_A.sl.HS0_40 c arg2 harg2 arg3 harg3 arg17 x0 x1) ⟨![1, 7, 257, 0], S1x1x32x128.size, ![1, 1, 4, 1], inb_S2x8x512x128_S1x1x32x128_1_7_257_0_s_1_1_4_1⟩) ?_ _ rfl
  rotate_left
  · exact loadB (big40 c arg2 harg2 arg3 harg3 arg17 x0 x1) _ 7 2 1 257 rfl (by decide) (by decide) (by decide) _
  refine GoodHalf.tileB 2 1 6 192 768 rfl rfl (by decide) (by decide) (by decide) ?_ _ (arg17.view.readCov (Val := Elt Ideal) (kernelRun0_A.sl.HS0_40 c arg2 harg2 arg3 harg3 arg17 x0 x1) ⟨![1, 6, 257, 0], S1x1x32x128.size, ![1, 1, 4, 1], inb_S2x8x512x128_S1x1x32x128_1_6_257_0_s_1_1_4_1⟩) ?_ _ rfl
  rotate_left
  · exact loadB (big40 c arg2 harg2 arg3 harg3 arg17 x0 x1) _ 6 2 1 257 rfl (by decide) (by decide) (by decide) _
  refine GoodHalf.tileB 2 1 5 192 640 rfl rfl (by decide) (by decide) (by decide) ?_ _ (arg17.view.readCov (Val := Elt Ideal) (kernelRun0_A.sl.HS0_40 c arg2 harg2 arg3 harg3 arg17 x0 x1) ⟨![1, 5, 257, 0], S1x1x32x128.size, ![1, 1, 4, 1], inb_S2x8x512x128_S1x1x32x128_1_5_257_0_s_1_1_4_1⟩) ?_ _ rfl
  rotate_left
  · exact loadB (big40 c arg2 harg2 arg3 harg3 arg17 x0 x1) _ 5 2 1 257 rfl (by decide) (by decide) (by decide) _
  refine GoodHalf.tileB 2 1 4 192 512 rfl rfl (by decide) (by decide) (by decide) ?_ _ (arg17.view.readCov (Val := Elt Ideal) (kernelRun0_A.sl.HS0_40 c arg2 harg2 arg3 harg3 arg17 x0 x1) ⟨![1, 4, 257, 0], S1x1x32x128.size, ![1, 1, 4, 1], inb_S2x8x512x128_S1x1x32x128_1_4_257_0_s_1_1_4_1⟩) ?_ _ rfl
  rotate_left
  · exact loadB (big40 c arg2 harg2 arg3 harg3 arg17 x0 x1) _ 4 2 1 257 rfl (by decide) (by decide) (by decide) _
  refine GoodHalf.tileB 2 1 3 192 384 rfl rfl (by decide) (by decide) (by decide) ?_ _ (arg17.view.readCov (Val := Elt Ideal) (kernelRun0_A.sl.HS0_40 c arg2 harg2 arg3 harg3 arg17 x0 x1) ⟨![1, 3, 257, 0], S1x1x32x128.size, ![1, 1, 4, 1], inb_S2x8x512x128_S1x1x32x128_1_3_257_0_s_1_1_4_1⟩) ?_ _ rfl
  rotate_left
  · exact loadB (big40 c arg2 harg2 arg3 harg3 arg17 x0 x1) _ 3 2 1 257 rfl (by decide) (by decide) (by decide) _
  refine GoodHalf.tileB 2 1 2 192 256 rfl rfl (by decide) (by decide) (by decide) ?_ _ (arg17.view.readCov (Val := Elt Ideal) (kernelRun0_A.sl.HS0_40 c arg2 harg2 arg3 harg3 arg17 x0 x1) ⟨![1, 2, 257, 0], S1x1x32x128.size, ![1, 1, 4, 1], inb_S2x8x512x128_S1x1x32x128_1_2_257_0_s_1_1_4_1⟩) ?_ _ rfl
  rotate_left
  · exact loadB (big40 c arg2 harg2 arg3 harg3 arg17 x0 x1) _ 2 2 1 257 rfl (by decide) (by decide) (by decide) _
  refine GoodHalf.tileB 2 1 1 192 128 rfl rfl (by decide) (by decide) (by decide) ?_ _ (arg17.view.readCov (Val := Elt Ideal) (kernelRun0_A.sl.HS0_40 c arg2 harg2 arg3 harg3 arg17 x0 x1) ⟨![1, 1, 257, 0], S1x1x32x128.size, ![1, 1, 4, 1], inb_S2x8x512x128_S1x1x32x128_1_1_257_0_s_1_1_4_1⟩) ?_ _ rfl
  rotate_left
  · exact loadB (big40 c arg2 harg2 arg3 harg3 arg17 x0 x1) _ 1 2 1 257 rfl (by decide) (by decide) (by decide) _
  refine GoodHalf.tileB 2 1 0 192 0 rfl rfl (by decide) (by decide) (by decide) ?_ _ (arg17.view.readCov (Val := Elt Ideal) (kernelRun0_A.sl.HS0_40 c arg2 harg2 arg3 harg3 arg17 x0 x1) ⟨![1, 0, 257, 0], S1x1x32x128.size, ![1, 1, 4, 1], inb_S2x8x512x128_S1x1x32x128_1_0_257_0_s_1_1_4_1⟩) ?_ _ rfl
  rotate_left
  · exact loadB (big40 c arg2 harg2 arg3 harg3 arg17 x0 x1) _ 0 2 1 257 rfl (by decide) (by decide) (by decide) _
  refine GoodHalf.tileB 2 0 7 64 896 rfl rfl (by decide) (by decide) (by decide) ?_ _ (arg17.view.readCov (Val := Elt Ideal) (kernelRun0_A.sl.HS0_40 c arg2 harg2 arg3 harg3 arg17 x0 x1) ⟨![1, 7, 256, 0], S1x1x32x128.size, ![1, 1, 4, 1], inb_S2x8x512x128_S1x1x32x128_1_7_256_0_s_1_1_4_1⟩) ?_ _ rfl
  rotate_left
  · exact loadB (big40 c arg2 harg2 arg3 harg3 arg17 x0 x1) _ 7 2 0 256 rfl (by decide) (by decide) (by decide) _
  refine GoodHalf.tileB 2 0 6 64 768 rfl rfl (by decide) (by decide) (by decide) ?_ _ (arg17.view.readCov (Val := Elt Ideal) (kernelRun0_A.sl.HS0_40 c arg2 harg2 arg3 harg3 arg17 x0 x1) ⟨![1, 6, 256, 0], S1x1x32x128.size, ![1, 1, 4, 1], inb_S2x8x512x128_S1x1x32x128_1_6_256_0_s_1_1_4_1⟩) ?_ _ rfl
  rotate_left
  · exact loadB (big40 c arg2 harg2 arg3 harg3 arg17 x0 x1) _ 6 2 0 256 rfl (by decide) (by decide) (by decide) _
  refine GoodHalf.tileB 2 0 5 64 640 rfl rfl (by decide) (by decide) (by decide) ?_ _ (arg17.view.readCov (Val := Elt Ideal) (kernelRun0_A.sl.HS0_40 c arg2 harg2 arg3 harg3 arg17 x0 x1) ⟨![1, 5, 256, 0], S1x1x32x128.size, ![1, 1, 4, 1], inb_S2x8x512x128_S1x1x32x128_1_5_256_0_s_1_1_4_1⟩) ?_ _ rfl
  rotate_left
  · exact loadB (big40 c arg2 harg2 arg3 harg3 arg17 x0 x1) _ 5 2 0 256 rfl (by decide) (by decide) (by decide) _
  refine GoodHalf.tileB 2 0 4 64 512 rfl rfl (by decide) (by decide) (by decide) ?_ _ (arg17.view.readCov (Val := Elt Ideal) (kernelRun0_A.sl.HS0_40 c arg2 harg2 arg3 harg3 arg17 x0 x1) ⟨![1, 4, 256, 0], S1x1x32x128.size, ![1, 1, 4, 1], inb_S2x8x512x128_S1x1x32x128_1_4_256_0_s_1_1_4_1⟩) ?_ _ rfl
  rotate_left
  · exact loadB (big40 c arg2 harg2 arg3 harg3 arg17 x0 x1) _ 4 2 0 256 rfl (by decide) (by decide) (by decide) _
  refine GoodHalf.tileB 2 0 3 64 384 rfl rfl (by decide) (by decide) (by decide) ?_ _ (arg17.view.readCov (Val := Elt Ideal) (kernelRun0_A.sl.HS0_40 c arg2 harg2 arg3 harg3 arg17 x0 x1) ⟨![1, 3, 256, 0], S1x1x32x128.size, ![1, 1, 4, 1], inb_S2x8x512x128_S1x1x32x128_1_3_256_0_s_1_1_4_1⟩) ?_ _ rfl
  rotate_left
  · exact loadB (big40 c arg2 harg2 arg3 harg3 arg17 x0 x1) _ 3 2 0 256 rfl (by decide) (by decide) (by decide) _
  refine GoodHalf.tileB 2 0 2 64 256 rfl rfl (by decide) (by decide) (by decide) ?_ _ (arg17.view.readCov (Val := Elt Ideal) (kernelRun0_A.sl.HS0_40 c arg2 harg2 arg3 harg3 arg17 x0 x1) ⟨![1, 2, 256, 0], S1x1x32x128.size, ![1, 1, 4, 1], inb_S2x8x512x128_S1x1x32x128_1_2_256_0_s_1_1_4_1⟩) ?_ _ rfl
  rotate_left
  · exact loadB (big40 c arg2 harg2 arg3 harg3 arg17 x0 x1) _ 2 2 0 256 rfl (by decide) (by decide) (by decide) _
  refine GoodHalf.tileB 2 0 1 64 128 rfl rfl (by decide) (by decide) (by decide) ?_ _ (arg17.view.readCov (Val := Elt Ideal) (kernelRun0_A.sl.HS0_40 c arg2 harg2 arg3 harg3 arg17 x0 x1) ⟨![1, 1, 256, 0], S1x1x32x128.size, ![1, 1, 4, 1], inb_S2x8x512x128_S1x1x32x128_1_1_256_0_s_1_1_4_1⟩) ?_ _ rfl
  rotate_left
  · exact loadB (big40 c arg2 harg2 arg3 harg3 arg17 x0 x1) _ 1 2 0 256 rfl (by decide) (by decide) (by decide) _
  refine GoodHalf.tileB 2 0 0 64 0 rfl rfl (by decide) (by decide) (by decide) ?_ _ (arg17.view.readCov (Val := Elt Ideal) (kernelRun0_A.sl.HS0_40 c arg2 harg2 arg3 harg3 arg17 x0 x1) ⟨![1, 0, 256, 0], S1x1x32x128.size, ![1, 1, 4, 1], inb_S2x8x512x128_S1x1x32x128_1_0_256_0_s_1_1_4_1⟩) ?_ _ rfl
  rotate_left
  · exact loadB (big40 c arg2 harg2 arg3 harg3 arg17 x0 x1) _ 0 2 0 256 rfl (by decide) (by decide) (by decide) _
  refine GoodHalf.tileB 1 3 7 416 896 rfl rfl (by decide) (by decide) (by decide) ?_ _ (arg17.view.readCov (Val := Elt Ideal) (kernelRun0_A.sl.HS0_40 c arg2 harg2 arg3 harg3 arg17 x0 x1) ⟨![1, 7, 131, 0], S1x1x32x128.size, ![1, 1, 4, 1], inb_S2x8x512x128_S1x1x32x128_1_7_131_0_s_1_1_4_1⟩) ?_ _ rfl
  rotate_left
  · exact loadB (big40 c arg2 harg2 arg3 harg3 arg17 x0 x1) _ 7 1 3 131 rfl (by decide) (by decide) (by decide) _
  refine GoodHalf.tileB 1 3 6 416 768 rfl rfl (by decide) (by decide) (by decide) ?_ _ (arg17.view.readCov (Val := Elt Ideal) (kernelRun0_A.sl.HS0_40 c arg2 harg2 arg3 harg3 arg17 x0 x1) ⟨![1, 6, 131, 0], S1x1x32x128.size, ![1, 1, 4, 1], inb_S2x8x512x128_S1x1x32x128_1_6_131_0_s_1_1_4_1⟩) ?_ _ rfl
  rotate_left
  · exact loadB (big40 c arg2 harg2 arg3 harg3 arg17 x0 x1) _ 6 1 3 131 rfl (by decide) (by decide) (by decide) _
  refine GoodHalf.tileB 1 3 5 416 640 rfl rfl (by decide) (by decide) (by decide) ?_ _ (arg17.view.readCov (Val := Elt Ideal) (kernelRun0_A.sl.HS0_40 c arg2 harg2 arg3 harg3 arg17 x0 x1) ⟨![1, 5, 131, 0], S1x1x32x128.size, ![1, 1, 4, 1], inb_S2x8x512x128_S1x1x32x128_1_5_131_0_s_1_1_4_1⟩) ?_ _ rfl
  rotate_left
  · exact loadB (big40 c arg2 harg2 arg3 harg3 arg17 x0 x1) _ 5 1 3 131 rfl (by decide) (by decide) (by decide) _
  refine GoodHalf.tileB 1 3 4 416 512 rfl rfl (by decide) (by decide) (by decide) ?_ _ (arg17.view.readCov (Val := Elt Ideal) (kernelRun0_A.sl.HS0_40 c arg2 harg2 arg3 harg3 arg17 x0 x1) ⟨![1, 4, 131, 0], S1x1x32x128.size, ![1, 1, 4, 1], inb_S2x8x512x128_S1x1x32x128_1_4_131_0_s_1_1_4_1⟩) ?_ _ rfl
  rotate_left
  · exact loadB (big40 c arg2 harg2 arg3 harg3 arg17 x0 x1) _ 4 1 3 131 rfl (by decide) (by decide) (by decide) _
  refine GoodHalf.tileB 1 3 3 416 384 rfl rfl (by decide) (by decide) (by decide) ?_ _ (arg17.view.readCov (Val := Elt Ideal) (kernelRun0_A.sl.HS0_40 c arg2 harg2 arg3 harg3 arg17 x0 x1) ⟨![1, 3, 131, 0], S1x1x32x128.size, ![1, 1, 4, 1], inb_S2x8x512x128_S1x1x32x128_1_3_131_0_s_1_1_4_1⟩) ?_ _ rfl
  rotate_left
  · exact loadB (big40 c arg2 harg2 arg3 harg3 arg17 x0 x1) _ 3 1 3 131 rfl (by decide) (by decide) (by decide) _
  refine GoodHalf.tileB 1 3 2 416 256 rfl rfl (by decide) (by decide) (by decide) ?_ _ (arg17.view.readCov (Val := Elt Ideal) (kernelRun0_A.sl.HS0_40 c arg2 harg2 arg3 harg3 arg17 x0 x1) ⟨![1, 2, 131, 0], S1x1x32x128.size, ![1, 1, 4, 1], inb_S2x8x512x128_S1x1x32x128_1_2_131_0_s_1_1_4_1⟩) ?_ _ rfl
  rotate_left
  · exact loadB (big40 c arg2 harg2 arg3 harg3 arg17 x0 x1) _ 2 1 3 131 rfl (by decide) (by decide) (by decide) _
  refine GoodHalf.tileB 1 3 1 416 128 rfl rfl (by decide) (by decide) (by decide) ?_ _ (arg17.view.readCov (Val := Elt Ideal) (kernelRun0_A.sl.HS0_40 c arg2 harg2 arg3 harg3 arg17 x0 x1) ⟨![1, 1, 131, 0], S1x1x32x128.size, ![1, 1, 4, 1], inb_S2x8x512x128_S1x1x32x128_1_1_131_0_s_1_1_4_1⟩) ?_ _ rfl
  rotate_left
  · exact loadB (big40 c arg2 harg2 arg3 harg3 arg17 x0 x1) _ 1 1 3 131 rfl (by decide) (by decide) (by decide) _
  refine GoodHalf.tileB 1 3 0 416 0 rfl rfl (by decide) (by decide) (by decide) ?_ _ (arg17.view.readCov (Val := Elt Ideal) (kernelRun0_A.sl.HS0_40 c arg2 harg2 arg3 harg3 arg17 x0 x1) ⟨![1, 0, 131, 0], S1x1x32x128.size, ![1, 1, 4, 1], inb_S2x8x512x128_S1x1x32x128_1_0_131_0_s_1_1_4_1⟩) ?_ _ rfl
  rotate_left
  · exact loadB (big40 c arg2 harg2 arg3 harg3 arg17 x0 x1) _ 0 1 3 131 rfl (by decide) (by decide) (by decide) _
  refine GoodHalf.tileB 1 2 7 288 896 rfl rfl (by decide) (by decide) (by decide) ?_ _ (arg17.view.readCov (Val := Elt Ideal) (kernelRun0_A.sl.HS0_40 c arg2 harg2 arg3 harg3 arg17 x0 x1) ⟨![1, 7, 130, 0], S1x1x32x128.size, ![1, 1, 4, 1], inb_S2x8x512x128_S1x1x32x128_1_7_130_0_s_1_1_4_1⟩) ?_ _ rfl
  rotate_left
  · exact loadB (big40 c arg2 harg2 arg3 harg3 arg17 x0 x1) _ 7 1 2 130 rfl (by decide) (by decide) (by decide) _
  refine GoodHalf.tileB 1 2 6 288 768 rfl rfl (by decide) (by decide) (by decide) ?_ _ (arg17.view.readCov (Val := Elt Ideal) (kernelRun0_A.sl.HS0_40 c arg2 harg2 arg3 harg3 arg17 x0 x1) ⟨![1, 6, 130, 0], S1x1x32x128.size, ![1, 1, 4, 1], inb_S2x8x512x128_S1x1x32x128_1_6_130_0_s_1_1_4_1⟩) ?_ _ rfl
  rotate_left
  · exact loadB (big40 c arg2 harg2 arg3 harg3 arg17 x0 x1) _ 6 1 2 130 rfl (by decide) (by decide) (by decide) _
  refine GoodHalf.tileB 1 2 5 288 640 rfl rfl (by decide) (by decide) (by decide) ?_ _ (arg17.view.readCov (Val := Elt Ideal) (kernelRun0_A.sl.HS0_40 c arg2 harg2 arg3 harg3 arg17 x0 x1) ⟨![1, 5, 130, 0], S1x1x32x128.size, ![1, 1, 4, 1], inb_S2x8x512x128_S1x1x32x128_1_5_130_0_s_1_1_4_1⟩) ?_ _ rfl
  rotate_left
  · exact loadB (big40 c arg2 harg2 arg3 harg3 arg17 x0 x1) _ 5 1 2 130 rfl (by decide) (by decide) (by decide) _
  refine GoodHalf.tileB 1 2 4 288 512 rfl rfl (by decide) (by decide) (by decide) ?_ _ (arg17.view.readCov (Val := Elt Ideal) (kernelRun0_A.sl.HS0_40 c arg2 harg2 arg3 harg3 arg17 x0 x1) ⟨![1, 4, 130, 0], S1x1x32x128.size, ![1, 1, 4, 1], inb_S2x8x512x128_S1x1x32x128_1_4_130_0_s_1_1_4_1⟩) ?_ _ rfl
  rotate_left
  · exact loadB (big40 c arg2 harg2 arg3 harg3 arg17 x0 x1) _ 4 1 2 130 rfl (by decide) (by decide) (by decide) _
  refine GoodHalf.tileB 1 2 3 288 384 rfl rfl (by decide) (by decide) (by decide) ?_ _ (arg17.view.readCov (Val := Elt Ideal) (kernelRun0_A.sl.HS0_40 c arg2 harg2 arg3 harg3 arg17 x0 x1) ⟨![1, 3, 130, 0], S1x1x32x128.size, ![1, 1, 4, 1], inb_S2x8x512x128_S1x1x32x128_1_3_130_0_s_1_1_4_1⟩) ?_ _ rfl
  rotate_left
  · exact loadB (big40 c arg2 harg2 arg3 harg3 arg17 x0 x1) _ 3 1 2 130 rfl (by decide) (by decide) (by decide) _
  refine GoodHalf.tileB 1 2 2 288 256 rfl rfl (by decide) (by decide) (by decide) ?_ _ (arg17.view.readCov (Val := Elt Ideal) (kernelRun0_A.sl.HS0_40 c arg2 harg2 arg3 harg3 arg17 x0 x1) ⟨![1, 2, 130, 0], S1x1x32x128.size, ![1, 1, 4, 1], inb_S2x8x512x128_S1x1x32x128_1_2_130_0_s_1_1_4_1⟩) ?_ _ rfl
  rotate_left
  · exact loadB (big40 c arg2 harg2 arg3 harg3 arg17 x0 x1) _ 2 1 2 130 rfl (by decide) (by decide) (by decide) _
  refine GoodHalf.tileB 1 2 1 288 128 rfl rfl (by decide) (by decide) (by decide) ?_ _ (arg17.view.readCov (Val := Elt Ideal) (kernelRun0_A.sl.HS0_40 c arg2 harg2 arg3 harg3 arg17 x0 x1) ⟨![1, 1, 130, 0], S1x1x32x128.size, ![1, 1, 4, 1], inb_S2x8x512x128_S1x1x32x128_1_1_130_0_s_1_1_4_1⟩) ?_ _ rfl
  rotate_left
  · exact loadB (big40 c arg2 harg2 arg3 harg3 arg17 x0 x1) _ 1 1 2 130 rfl (by decide) (by decide) (by decide) _
  refine GoodHalf.tileB 1 2 0 288 0 rfl rfl (by decide) (by decide) (by decide) ?_ _ (arg17.view.readCov (Val := Elt Ideal) (kernelRun0_A.sl.HS0_40 c arg2 harg2 arg3 harg3 arg17 x0 x1) ⟨![1, 0, 130, 0], S1x1x32x128.size, ![1, 1, 4, 1], inb_S2x8x512x128_S1x1x32x128_1_0_130_0_s_1_1_4_1⟩) ?_ _ rfl
  rotate_left
  · exact loadB (big40 c arg2 harg2 arg3 harg3 arg17 x0 x1) _ 0 1 2 130 rfl (by decide) (by decide) (by decide) _
  refine GoodHalf.tileB 1 1 7 160 896 rfl rfl (by decide) (by decide) (by decide) ?_ _ (arg17.view.readCov (Val := Elt Ideal) (kernelRun0_A.sl.HS0_40 c arg2 harg2 arg3 harg3 arg17 x0 x1) ⟨![1, 7, 129, 0], S1x1x32x128.size, ![1, 1, 4, 1], inb_S2x8x512x128_S1x1x32x128_1_7_129_0_s_1_1_4_1⟩) ?_ _ rfl
  rotate_left
  · exact loadB (big40 c arg2 harg2 arg3 harg3 arg17 x0 x1) _ 7 1 1 129 rfl (by decide) (by decide) (by decide) _
  refine GoodHalf.tileB 1 1 6 160 768 rfl rfl (by decide) (by decide) (by decide) ?_ _ (arg17.view.readCov (Val := Elt Ideal) (kernelRun0_A.sl.HS0_40 c arg2 harg2 arg3 harg3 arg17 x0 x1) ⟨![1, 6, 129, 0], S1x1x32x128.size, ![1, 1, 4, 1], inb_S2x8x512x128_S1x1x32x128_1_6_129_0_s_1_1_4_1⟩) ?_ _ rfl
  rotate_left
  · exact loadB (big40 c arg2 harg2 arg3 harg3 arg17 x0 x1) _ 6 1 1 129 rfl (by decide) (by decide) (by decide) _
  refine GoodHalf.tileB 1 1 5 160 640 rfl rfl (by decide) (by decide) (by decide) ?_ _ (arg17.view.readCov (Val := Elt Ideal) (kernelRun0_A.sl.HS0_40 c arg2 harg2 arg3 harg3 arg17 x0 x1) ⟨![1, 5, 129, 0], S1x1x32x128.size, ![1, 1, 4, 1], inb_S2x8x512x128_S1x1x32x128_1_5_129_0_s_1_1_4_1⟩) ?_ _ rfl
  rotate_left
  · exact loadB (big40 c arg2 harg2 arg3 harg3 arg17 x0 x1) _ 5 1 1 129 rfl (by decide) (by decide) (by decide) _
  refine GoodHalf.tileB 1 1 4 160 512 rfl rfl (by decide) (by decide) (by decide) ?_ _ (arg17.view.readCov (Val := Elt Ideal) (kernelRun0_A.sl.HS0_40 c arg2 harg2 arg3 harg3 arg17 x0 x1) ⟨![1, 4, 129, 0], S1x1x32x128.size, ![1, 1, 4, 1], inb_S2x8x512x128_S1x1x32x128_1_4_129_0_s_1_1_4_1⟩) ?_ _ rfl
  rotate_left
  · exact loadB (big40 c arg2 harg2 arg3 harg3 arg17 x0 x1) _ 4 1 1 129 rfl (by decide) (by decide) (by decide) _
  refine GoodHalf.tileB 1 1 3 160 384 rfl rfl (by decide) (by decide) (by decide) ?_ _ (arg17.view.readCov (Val := Elt Ideal) (kernelRun0_A.sl.HS0_40 c arg2 harg2 arg3 harg3 arg17 x0 x1) ⟨![1, 3, 129, 0], S1x1x32x128.size, ![1, 1, 4, 1], inb_S2x8x512x128_S1x1x32x128_1_3_129_0_s_1_1_4_1⟩) ?_ _ rfl
  rotate_left
  · exact loadB (big40 c arg2 harg2 arg3 harg3 arg17 x0 x1) _ 3 1 1 129 rfl (by decide) (by decide) (by decide) _
  refine GoodHalf.tileB 1 1 2 160 256 rfl rfl (by decide) (by decide) (by decide) ?_ _ (arg17.view.readCov (Val := Elt Ideal) (kernelRun0_A.sl.HS0_40 c arg2 harg2 arg3 harg3 arg17 x0 x1) ⟨![1, 2, 129, 0], S1x1x32x128.size, ![1, 1, 4, 1], inb_S2x8x512x128_S1x1x32x128_1_2_129_0_s_1_1_4_1⟩) ?_ _ rfl
  rotate_left
  · exact loadB (big40 c arg2 harg2 arg3 harg3 arg17 x0 x1) _ 2 1 1 129 rfl (by decide) (by decide) (by decide) _
  refine GoodHalf.tileB 1 1 1 160 128 rfl rfl (by decide) (by decide) (by decide) ?_ _ (arg17.view.readCov (Val := Elt Ideal) (kernelRun0_A.sl.HS0_40 c arg2 harg2 arg3 harg3 arg17 x0 x1) ⟨![1, 1, 129, 0], S1x1x32x128.size, ![1, 1, 4, 1], inb_S2x8x512x128_S1x1x32x128_1_1_129_0_s_1_1_4_1⟩) ?_ _ rfl
  rotate_left
  · exact loadB (big40 c arg2 harg2 arg3 harg3 arg17 x0 x1) _ 1 1 1 129 rfl (by decide) (by decide) (by decide) _
  refine GoodHalf.tileB 1 1 0 160 0 rfl rfl (by decide) (by decide) (by decide) ?_ _ (arg17.view.readCov (Val := Elt Ideal) (kernelRun0_A.sl.HS0_40 c arg2 harg2 arg3 harg3 arg17 x0 x1) ⟨![1, 0, 129, 0], S1x1x32x128.size, ![1, 1, 4, 1], inb_S2x8x512x128_S1x1x32x128_1_0_129_0_s_1_1_4_1⟩) ?_ _ rfl
  rotate_left
  · exact loadB (big40 c arg2 harg2 arg3 harg3 arg17 x0 x1) _ 0 1 1 129 rfl (by decide) (by decide) (by decide) _
  refine GoodHalf.tileB 1 0 7 32 896 rfl rfl (by decide) (by decide) (by decide) ?_ _ (arg17.view.readCov (Val := Elt Ideal) (kernelRun0_A.sl.HS0_40 c arg2 harg2 arg3 harg3 arg17 x0 x1) ⟨![1, 7, 128, 0], S1x1x32x128.size, ![1, 1, 4, 1], inb_S2x8x512x128_S1x1x32x128_1_7_128_0_s_1_1_4_1⟩) ?_ _ rfl
  rotate_left
  · exact loadB (big40 c arg2 harg2 arg3 harg3 arg17 x0 x1) _ 7 1 0 128 rfl (by decide) (by decide) (by decide) _
  refine GoodHalf.tileB 1 0 6 32 768 rfl rfl (by decide) (by decide) (by decide) ?_ _ (arg17.view.readCov (Val := Elt Ideal) (kernelRun0_A.sl.HS0_40 c arg2 harg2 arg3 harg3 arg17 x0 x1) ⟨![1, 6, 128, 0], S1x1x32x128.size, ![1, 1, 4, 1], inb_S2x8x512x128_S1x1x32x128_1_6_128_0_s_1_1_4_1⟩) ?_ _ rfl
  rotate_left
  · exact loadB (big40 c arg2 harg2 arg3 harg3 arg17 x0 x1) _ 6 1 0 128 rfl (by decide) (by decide) (by decide) _
  refine GoodHalf.tileB 1 0 5 32 640 rfl rfl (by decide) (by decide) (by decide) ?_ _ (arg17.view.readCov (Val := Elt Ideal) (kernelRun0_A.sl.HS0_40 c arg2 harg2 arg3 harg3 arg17 x0 x1) ⟨![1, 5, 128, 0], S1x1x32x128.size, ![1, 1, 4, 1], inb_S2x8x512x128_S1x1x32x128_1_5_128_0_s_1_1_4_1⟩) ?_ _ rfl
  rotate_left
  · exact loadB (big40 c arg2 harg2 arg3 harg3 arg17 x0 x1) _ 5 1 0 128 rfl (by decide) (by decide) (by decide) _
  refine GoodHalf.tileB 1 0 4 32 512 rfl rfl (by decide) (by decide) (by decide) ?_ _ (arg17.view.readCov (Val := Elt Ideal) (kernelRun0_A.sl.HS0_40 c arg2 harg2 arg3 harg3 arg17 x0 x1) ⟨![1, 4, 128, 0], S1x1x32x128.size, ![1, 1, 4, 1], inb_S2x8x512x128_S1x1x32x128_1_4_128_0_s_1_1_4_1⟩) ?_ _ rfl
  rotate_left
  · exact loadB (big40 c arg2 harg2 arg3 harg3 arg17 x0 x1) _ 4 1 0 128 rfl (by decide) (by decide) (by decide) _
  refine GoodHalf.tileB 1 0 3 32 384 rfl rfl (by decide) (by decide) (by decide) ?_ _ (arg17.view.readCov (Val := Elt Ideal) (kernelRun0_A.sl.HS0_40 c arg2 harg2 arg3 harg3 arg17 x0 x1) ⟨![1, 3, 128, 0], S1x1x32x128.size, ![1, 1, 4, 1], inb_S2x8x512x128_S1x1x32x128_1_3_128_0_s_1_1_4_1⟩) ?_ _ rfl
  rotate_left
  · exact loadB (big40 c arg2 harg2 arg3 harg3 arg17 x0 x1) _ 3 1 0 128 rfl (by decide) (by decide) (by decide) _
  refine GoodHalf.tileB 1 0 2 32 256 rfl rfl (by decide) (by decide) (by decide) ?_ _ (arg17.view.readCov (Val := Elt Ideal) (kernelRun0_A.sl.HS0_40 c arg2 harg2 arg3 harg3 arg17 x0 x1) ⟨![1, 2, 128, 0], S1x1x32x128.size, ![1, 1, 4, 1], inb_S2x8x512x128_S1x1x32x128_1_2_128_0_s_1_1_4_1⟩) ?_ _ rfl
  rotate_left
  · exact loadB (big40 c arg2 harg2 arg3 harg3 arg17 x0 x1) _ 2 1 0 128 rfl (by decide) (by decide) (by decide) _
  refine GoodHalf.tileB 1 0 1 32 128 rfl rfl (by decide) (by decide) (by decide) ?_ _ (arg17.view.readCov (Val := Elt Ideal) (kernelRun0_A.sl.HS0_40 c arg2 harg2 arg3 harg3 arg17 x0 x1) ⟨![1, 1, 128, 0], S1x1x32x128.size, ![1, 1, 4, 1], inb_S2x8x512x128_S1x1x32x128_1_1_128_0_s_1_1_4_1⟩) ?_ _ rfl
  rotate_left
  · exact loadB (big40 c arg2 harg2 arg3 harg3 arg17 x0 x1) _ 1 1 0 128 rfl (by decide) (by decide) (by decide) _
  refine GoodHalf.tileB 1 0 0 32 0 rfl rfl (by decide) (by decide) (by decide) ?_ _ (arg17.view.readCov (Val := Elt Ideal) (kernelRun0_A.sl.HS0_40 c arg2 harg2 arg3 harg3 arg17 x0 x1) ⟨![1, 0, 128, 0], S1x1x32x128.size, ![1, 1, 4, 1], inb_S2x8x512x128_S1x1x32x128_1_0_128_0_s_1_1_4_1⟩) ?_ _ rfl
  rotate_left
  · exact loadB (big40 c arg2 harg2 arg3 harg3 arg17 x0 x1) _ 0 1 0 128 rfl (by decide) (by decide) (by decide) _
  refine GoodHalf.tileB 0 3 7 384 896 rfl rfl (by decide) (by decide) (by decide) ?_ _ (arg17.view.readCov (Val := Elt Ideal) (kernelRun0_A.sl.HS0_40 c arg2 harg2 arg3 harg3 arg17 x0 x1) ⟨![1, 7, 3, 0], S1x1x32x128.size, ![1, 1, 4, 1], inb_S2x8x512x128_S1x1x32x128_1_7_3_0_s_1_1_4_1⟩) ?_ _ rfl
  rotate_left
  · exact loadB (big40 c arg2 harg2 arg3 harg3 arg17 x0 x1) _ 7 0 3 3 rfl (by decide) (by decide) (by decide) _
  refine GoodHalf.tileB 0 3 6 384 768 rfl rfl (by decide) (by decide) (by decide) ?_ _ (arg17.view.readCov (Val := Elt Ideal) (kernelRun0_A.sl.HS0_40 c arg2 harg2 arg3 harg3 arg17 x0 x1) ⟨![1, 6, 3, 0], S1x1x32x128.size, ![1, 1, 4, 1], inb_S2x8x512x128_S1x1x32x128_1_6_3_0_s_1_1_4_1⟩) ?_ _ rfl
  rotate_left
  · exact loadB (big40 c arg2 harg2 arg3 harg3 arg17 x0 x1) _ 6 0 3 3 rfl (by decide) (by decide) (by decide) _
  refine GoodHalf.tileB 0 3 5 384 640 rfl rfl (by decide) (by decide) (by decide) ?_ _ (arg17.view.readCov (Val := Elt Ideal) (kernelRun0_A.sl.HS0_40 c arg2 harg2 arg3 harg3 arg17 x0 x1) ⟨![1, 5, 3, 0], S1x1x32x128.size, ![1, 1, 4, 1], inb_S2x8x512x128_S1x1x32x128_1_5_3_0_s_1_1_4_1⟩) ?_ _ rfl
  rotate_left
  · exact loadB (big40 c arg2 harg2 arg3 harg3 arg17 x0 x1) _ 5 0 3 3 rfl (by decide) (by decide) (by decide) _
  refine GoodHalf.tileB 0 3 4 384 512 rfl rfl (by decide) (by decide) (by decide) ?_ _ (arg17.view.readCov (Val := Elt Ideal) (kernelRun0_A.sl.HS0_40 c arg2 harg2 arg3 harg3 arg17 x0 x1) ⟨![1, 4, 3, 0], S1x1x32x128.size, ![1, 1, 4, 1], inb_S2x8x512x128_S1x1x32x128_1_4_3_0_s_1_1_4_1⟩) ?_ _ rfl
  rotate_left
  · exact loadB (big40 c arg2 harg2 arg3 harg3 arg17 x0 x1) _ 4 0 3 3 rfl (by decide) (by decide) (by decide) _
  refine GoodHalf.tileB 0 3 3 384 384 rfl rfl (by decide) (by decide) (by decide) ?_ _ (arg17.view.readCov (Val := Elt Ideal) (kernelRun0_A.sl.HS0_40 c arg2 harg2 arg3 harg3 arg17 x0 x1) ⟨![1, 3, 3, 0], S1x1x32x128.size, ![1, 1, 4, 1], inb_S2x8x512x128_S1x1x32x128_1_3_3_0_s_1_1_4_1⟩) ?_ _ rfl
  rotate_left
  · exact loadB (big40 c arg2 harg2 arg3 harg3 arg17 x0 x1) _ 3 0 3 3 rfl (by decide) (by decide) (by decide) _
  refine GoodHalf.tileB 0 3 2 384 256 rfl rfl (by decide) (by decide) (by decide) ?_ _ (arg17.view.readCov (Val := Elt Ideal) (kernelRun0_A.sl.HS0_40 c arg2 harg2 arg3 harg3 arg17 x0 x1) ⟨![1, 2, 3, 0], S1x1x32x128.size, ![1, 1, 4, 1], inb_S2x8x512x128_S1x1x32x128_1_2_3_0_s_1_1_4_1⟩) ?_ _ rfl
  rotate_left
  · exact loadB (big40 c arg2 harg2 arg3 harg3 arg17 x0 x1) _ 2 0 3 3 rfl (by decide) (by decide) (by decide) _
  refine GoodHalf.tileB 0 3 1 384 128 rfl rfl (by decide) (by decide) (by decide) ?_ _ (arg17.view.readCov (Val := Elt Ideal) (kernelRun0_A.sl.HS0_40 c arg2 harg2 arg3 harg3 arg17 x0 x1) ⟨![1, 1, 3, 0], S1x1x32x128.size, ![1, 1, 4, 1], inb_S2x8x512x128_S1x1x32x128_1_1_3_0_s_1_1_4_1⟩) ?_ _ rfl
  rotate_left
  · exact loadB (big40 c arg2 harg2 arg3 harg3 arg17 x0 x1) _ 1 0 3 3 rfl (by decide) (by decide) (by decide) _
  refine GoodHalf.tileB 0 3 0 384 0 rfl rfl (by decide) (by decide) (by decide) ?_ _ (arg17.view.readCov (Val := Elt Ideal) (kernelRun0_A.sl.HS0_40 c arg2 harg2 arg3 harg3 arg17 x0 x1) ⟨![1, 0, 3, 0], S1x1x32x128.size, ![1, 1, 4, 1], inb_S2x8x512x128_S1x1x32x128_1_0_3_0_s_1_1_4_1⟩) ?_ _ rfl
  rotate_left
  · exact loadB (big40 c arg2 harg2 arg3 harg3 arg17 x0 x1) _ 0 0 3 3 rfl (by decide) (by decide) (by decide) _
  refine GoodHalf.tileB 0 2 7 256 896 rfl rfl (by decide) (by decide) (by decide) ?_ _ (arg17.view.readCov (Val := Elt Ideal) (kernelRun0_A.sl.HS0_40 c arg2 harg2 arg3 harg3 arg17 x0 x1) ⟨![1, 7, 2, 0], S1x1x32x128.size, ![1, 1, 4, 1], inb_S2x8x512x128_S1x1x32x128_1_7_2_0_s_1_1_4_1⟩) ?_ _ rfl
  rotate_left
  · exact loadB (big40 c arg2 harg2 arg3 harg3 arg17 x0 x1) _ 7 0 2 2 rfl (by decide) (by decide) (by decide) _
  refine GoodHalf.tileB 0 2 6 256 768 rfl rfl (by decide) (by decide) (by decide) ?_ _ (arg17.view.readCov (Val := Elt Ideal) (kernelRun0_A.sl.HS0_40 c arg2 harg2 arg3 harg3 arg17 x0 x1) ⟨![1, 6, 2, 0], S1x1x32x128.size, ![1, 1, 4, 1], inb_S2x8x512x128_S1x1x32x128_1_6_2_0_s_1_1_4_1⟩) ?_ _ rfl
  rotate_left
  · exact loadB (big40 c arg2 harg2 arg3 harg3 arg17 x0 x1) _ 6 0 2 2 rfl (by decide) (by decide) (by decide) _
  refine GoodHalf.tileB 0 2 5 256 640 rfl rfl (by decide) (by decide) (by decide) ?_ _ (arg17.view.readCov (Val := Elt Ideal) (kernelRun0_A.sl.HS0_40 c arg2 harg2 arg3 harg3 arg17 x0 x1) ⟨![1, 5, 2, 0], S1x1x32x128.size, ![1, 1, 4, 1], inb_S2x8x512x128_S1x1x32x128_1_5_2_0_s_1_1_4_1⟩) ?_ _ rfl
  rotate_left
  · exact loadB (big40 c arg2 harg2 arg3 harg3 arg17 x0 x1) _ 5 0 2 2 rfl (by decide) (by decide) (by decide) _
  refine GoodHalf.tileB 0 2 4 256 512 rfl rfl (by decide) (by decide) (by decide) ?_ _ (arg17.view.readCov (Val := Elt Ideal) (kernelRun0_A.sl.HS0_40 c arg2 harg2 arg3 harg3 arg17 x0 x1) ⟨![1, 4, 2, 0], S1x1x32x128.size, ![1, 1, 4, 1], inb_S2x8x512x128_S1x1x32x128_1_4_2_0_s_1_1_4_1⟩) ?_ _ rfl
  rotate_left
  · exact loadB (big40 c arg2 harg2 arg3 harg3 arg17 x0 x1) _ 4 0 2 2 rfl (by decide) (by decide) (by decide) _
  refine GoodHalf.tileB 0 2 3 256 384 rfl rfl (by decide) (by decide) (by decide) ?_ _ (arg17.view.readCov (Val := Elt Ideal) (kernelRun0_A.sl.HS0_40 c arg2 harg2 arg3 harg3 arg17 x0 x1) ⟨![1, 3, 2, 0], S1x1x32x128.size, ![1, 1, 4, 1], inb_S2x8x512x128_S1x1x32x128_1_3_2_0_s_1_1_4_1⟩) ?_ _ rfl
  rotate_left
  · exact loadB (big40 c arg2 harg2 arg3 harg3 arg17 x0 x1) _ 3 0 2 2 rfl (by decide) (by decide) (by decide) _
  refine GoodHalf.tileB 0 2 2 256 256 rfl rfl (by decide) (by decide) (by decide) ?_ _ (arg17.view.readCov (Val := Elt Ideal) (kernelRun0_A.sl.HS0_40 c arg2 harg2 arg3 harg3 arg17 x0 x1) ⟨![1, 2, 2, 0], S1x1x32x128.size, ![1, 1, 4, 1], inb_S2x8x512x128_S1x1x32x128_1_2_2_0_s_1_1_4_1⟩) ?_ _ rfl
  rotate_left
  · exact loadB (big40 c arg2 harg2 arg3 harg3 arg17 x0 x1) _ 2 0 2 2 rfl (by decide) (by decide) (by decide) _
  refine GoodHalf.tileB 0 2 1 256 128 rfl rfl (by decide) (by decide) (by decide) ?_ _ (arg17.view.readCov (Val := Elt Ideal) (kernelRun0_A.sl.HS0_40 c arg2 harg2 arg3 harg3 arg17 x0 x1) ⟨![1, 1, 2, 0], S1x1x32x128.size, ![1, 1, 4, 1], inb_S2x8x512x128_S1x1x32x128_1_1_2_0_s_1_1_4_1⟩) ?_ _ rfl
  rotate_left
  · exact loadB (big40 c arg2 harg2 arg3 harg3 arg17 x0 x1) _ 1 0 2 2 rfl (by decide) (by decide) (by decide) _
  refine GoodHalf.tileB 0 2 0 256 0 rfl rfl (by decide) (by decide) (by decide) ?_ _ (arg17.view.readCov (Val := Elt Ideal) (kernelRun0_A.sl.HS0_40 c arg2 harg2 arg3 harg3 arg17 x0 x1) ⟨![1, 0, 2, 0], S1x1x32x128.size, ![1, 1, 4, 1], inb_S2x8x512x128_S1x1x32x128_1_0_2_0_s_1_1_4_1⟩) ?_ _ rfl
  rotate_left
  · exact loadB (big40 c arg2 harg2 arg3 harg3 arg17 x0 x1) _ 0 0 2 2 rfl (by decide) (by decide) (by decide) _
  refine GoodHalf.tileB 0 1 7 128 896 rfl rfl (by decide) (by decide) (by decide) ?_ _ (arg17.view.readCov (Val := Elt Ideal) (kernelRun0_A.sl.HS0_40 c arg2 harg2 arg3 harg3 arg17 x0 x1) ⟨![1, 7, 1, 0], S1x1x32x128.size, ![1, 1, 4, 1], inb_S2x8x512x128_S1x1x32x128_1_7_1_0_s_1_1_4_1⟩) ?_ _ rfl
  rotate_left
  · exact loadB (big40 c arg2 harg2 arg3 harg3 arg17 x0 x1) _ 7 0 1 1 rfl (by decide) (by decide) (by decide) _
  refine GoodHalf.tileB 0 1 6 128 768 rfl rfl (by decide) (by decide) (by decide) ?_ _ (arg17.view.readCov (Val := Elt Ideal) (kernelRun0_A.sl.HS0_40 c arg2 harg2 arg3 harg3 arg17 x0 x1) ⟨![1, 6, 1, 0], S1x1x32x128.size, ![1, 1, 4, 1], inb_S2x8x512x128_S1x1x32x128_1_6_1_0_s_1_1_4_1⟩) ?_ _ rfl
  rotate_left
  · exact loadB (big40 c arg2 harg2 arg3 harg3 arg17 x0 x1) _ 6 0 1 1 rfl (by decide) (by decide) (by decide) _
  refine GoodHalf.tileB 0 1 5 128 640 rfl rfl (by decide) (by decide) (by decide) ?_ _ (arg17.view.readCov (Val := Elt Ideal) (kernelRun0_A.sl.HS0_40 c arg2 harg2 arg3 harg3 arg17 x0 x1) ⟨![1, 5, 1, 0], S1x1x32x128.size, ![1, 1, 4, 1], inb_S2x8x512x128_S1x1x32x128_1_5_1_0_s_1_1_4_1⟩) ?_ _ rfl
  rotate_left
  · exact loadB (big40 c arg2 harg2 arg3 harg3 arg17 x0 x1) _ 5 0 1 1 rfl (by decide) (by decide) (by decide) _
  refine GoodHalf.tileB 0 1 4 128 512 rfl rfl (by decide) (by decide) (by decide) ?_ _ (arg17.view.readCov (Val := Elt Ideal) (kernelRun0_A.sl.HS0_40 c arg2 harg2 arg3 harg3 arg17 x0 x1) ⟨![1, 4, 1, 0], S1x1x32x128.size, ![1, 1, 4, 1], inb_S2x8x512x128_S1x1x32x128_1_4_1_0_s_1_1_4_1⟩) ?_ _ rfl
  rotate_left
  · exact loadB (big40 c arg2 harg2 arg3 harg3 arg17 x0 x1) _ 4 0 1 1 rfl (by decide) (by decide) (by decide) _
  refine GoodHalf.tileB 0 1 3 128 384 rfl rfl (by decide) (by decide) (by decide) ?_ _ (arg17.view.readCov (Val := Elt Ideal) (kernelRun0_A.sl.HS0_40 c arg2 harg2 arg3 harg3 arg17 x0 x1) ⟨![1, 3, 1, 0], S1x1x32x128.size, ![1, 1, 4, 1], inb_S2x8x512x128_S1x1x32x128_1_3_1_0_s_1_1_4_1⟩) ?_ _ rfl
  rotate_left
  · exact loadB (big40 c arg2 harg2 arg3 harg3 arg17 x0 x1) _ 3 0 1 1 rfl (by decide) (by decide) (by decide) _
  refine GoodHalf.tileB 0 1 2 128 256 rfl rfl (by decide) (by decide) (by decide) ?_ _ (arg17.view.readCov (Val := Elt Ideal) (kernelRun0_A.sl.HS0_40 c arg2 harg2 arg3 harg3 arg17 x0 x1) ⟨![1, 2, 1, 0], S1x1x32x128.size, ![1, 1, 4, 1], inb_S2x8x512x128_S1x1x32x128_1_2_1_0_s_1_1_4_1⟩) ?_ _ rfl
  rotate_left
  · exact loadB (big40 c arg2 harg2 arg3 harg3 arg17 x0 x1) _ 2 0 1 1 rfl (by decide) (by decide) (by decide) _
  refine GoodHalf.tileB 0 1 1 128 128 rfl rfl (by decide) (by decide) (by decide) ?_ _ (arg17.view.readCov (Val := Elt Ideal) (kernelRun0_A.sl.HS0_40 c arg2 harg2 arg3 harg3 arg17 x0 x1) ⟨![1, 1, 1, 0], S1x1x32x128.size, ![1, 1, 4, 1], inb_S2x8x512x128_S1x1x32x128_1_1_1_0_s_1_1_4_1⟩) ?_ _ rfl
  rotate_left
  · exact loadB (big40 c arg2 harg2 arg3 harg3 arg17 x0 x1) _ 1 0 1 1 rfl (by decide) (by decide) (by decide) _
  refine GoodHalf.tileB 0 1 0 128 0 rfl rfl (by decide) (by decide) (by decide) ?_ _ (arg17.view.readCov (Val := Elt Ideal) (kernelRun0_A.sl.HS0_40 c arg2 harg2 arg3 harg3 arg17 x0 x1) ⟨![1, 0, 1, 0], S1x1x32x128.size, ![1, 1, 4, 1], inb_S2x8x512x128_S1x1x32x128_1_0_1_0_s_1_1_4_1⟩) ?_ _ rfl
  rotate_left
  · exact loadB (big40 c arg2 harg2 arg3 harg3 arg17 x0 x1) _ 0 0 1 1 rfl (by decide) (by decide) (by decide) _
  refine GoodHalf.tileB 0 0 7 0 896 rfl rfl (by decide) (by decide) (by decide) ?_ _ (arg17.view.readCov (Val := Elt Ideal) (kernelRun0_A.sl.HS0_40 c arg2 harg2 arg3 harg3 arg17 x0 x1) ⟨![1, 7, 0, 0], S1x1x32x128.size, ![1, 1, 4, 1], inb_S2x8x512x128_S1x1x32x128_1_7_0_0_s_1_1_4_1⟩) ?_ _ rfl
  rotate_left
  · exact loadB (big40 c arg2 harg2 arg3 harg3 arg17 x0 x1) _ 7 0 0 0 rfl (by decide) (by decide) (by decide) _
  refine GoodHalf.tileB 0 0 6 0 768 rfl rfl (by decide) (by decide) (by decide) ?_ _ (arg17.view.readCov (Val := Elt Ideal) (kernelRun0_A.sl.HS0_40 c arg2 harg2 arg3 harg3 arg17 x0 x1) ⟨![1, 6, 0, 0], S1x1x32x128.size, ![1, 1, 4, 1], inb_S2x8x512x128_S1x1x32x128_1_6_0_0_s_1_1_4_1⟩) ?_ _ rfl
  rotate_left
  · exact loadB (big40 c arg2 harg2 arg3 harg3 arg17 x0 x1) _ 6 0 0 0 rfl (by decide) (by decide) (by decide) _
  refine GoodHalf.tileB 0 0 5 0 640 rfl rfl (by decide) (by decide) (by decide) ?_ _ (arg17.view.readCov (Val := Elt Ideal) (kernelRun0_A.sl.HS0_40 c arg2 harg2 arg3 harg3 arg17 x0 x1) ⟨![1, 5, 0, 0], S1x1x32x128.size, ![1, 1, 4, 1], inb_S2x8x512x128_S1x1x32x128_1_5_0_0_s_1_1_4_1⟩) ?_ _ rfl
  rotate_left
  · exact loadB (big40 c arg2 harg2 arg3 harg3 arg17 x0 x1) _ 5 0 0 0 rfl (by decide) (by decide) (by decide) _
  refine GoodHalf.tileB 0 0 4 0 512 rfl rfl (by decide) (by decide) (by decide) ?_ _ (arg17.view.readCov (Val := Elt Ideal) (kernelRun0_A.sl.HS0_40 c arg2 harg2 arg3 harg3 arg17 x0 x1) ⟨![1, 4, 0, 0], S1x1x32x128.size, ![1, 1, 4, 1], inb_S2x8x512x128_S1x1x32x128_1_4_0_0_s_1_1_4_1⟩) ?_ _ rfl
  rotate_left
  · exact loadB (big40 c arg2 harg2 arg3 harg3 arg17 x0 x1) _ 4 0 0 0 rfl (by decide) (by decide) (by decide) _
  refine GoodHalf.tileB 0 0 3 0 384 rfl rfl (by decide) (by decide) (by decide) ?_ _ (arg17.view.readCov (Val := Elt Ideal) (kernelRun0_A.sl.HS0_40 c arg2 harg2 arg3 harg3 arg17 x0 x1) ⟨![1, 3, 0, 0], S1x1x32x128.size, ![1, 1, 4, 1], inb_S2x8x512x128_S1x1x32x128_1_3_0_0_s_1_1_4_1⟩) ?_ _ rfl
  rotate_left
  · exact loadB (big40 c arg2 harg2 arg3 harg3 arg17 x0 x1) _ 3 0 0 0 rfl (by decide) (by decide) (by decide) _
  refine GoodHalf.tileB 0 0 2 0 256 rfl rfl (by decide) (by decide) (by decide) ?_ _ (arg17.view.readCov (Val := Elt Ideal) (kernelRun0_A.sl.HS0_40 c arg2 harg2 arg3 harg3 arg17 x0 x1) ⟨![1, 2, 0, 0], S1x1x32x128.size, ![1, 1, 4, 1], inb_S2x8x512x128_S1x1x32x128_1_2_0_0_s_1_1_4_1⟩) ?_ _ rfl
  rotate_left
  · exact loadB (big40 c arg2 harg2 arg3 harg3 arg17 x0 x1) _ 2 0 0 0 rfl (by decide) (by decide) (by decide) _
  refine GoodHalf.tileB 0 0 1 0 128 rfl rfl (by decide) (by decide) (by decide) ?_ _ (arg17.view.readCov (Val := Elt Ideal) (kernelRun0_A.sl.HS0_40 c arg2 harg2 arg3 harg3 arg17 x0 x1) ⟨![1, 1, 0, 0], S1x1x32x128.size, ![1, 1, 4, 1], inb_S2x8x512x128_S1x1x32x128_1_1_0_0_s_1_1_4_1⟩) ?_ _ rfl
  rotate_left
  · exact loadB (big40 c arg2 harg2 arg3 harg3 arg17 x0 x1) _ 1 0 0 0 rfl (by decide) (by decide) (by decide) _
  refine GoodHalf.tileB 0 0 0 0 0 rfl rfl (by decide) (by decide) (by decide) ?_ _ (arg17.view.readCov (Val := Elt Ideal) (kernelRun0_A.sl.HS0_40 c arg2 harg2 arg3 harg3 arg17 x0 x1) ⟨![1, 0, 0, 0], S1x1x32x128.size, ![1, 1, 4, 1], inb_S2x8x512x128_S1x1x32x128_1_0_0_0_s_1_1_4_1⟩) ?_ _ rfl
  rotate_left
  · exact loadB (big40 c arg2 harg2 arg3 harg3 arg17 x0 x1) _ 0 0 0 0 rfl (by decide) (by decide) (by decide) _
  refine GoodHalf.tileA 3 7 384 896 rfl rfl (by decide) (by decide) ?_ _ (arg17.view.readCov (Val := Elt Ideal) (kernelRun0_A.sl.HS0_39 c arg2 harg2 arg3 harg3 arg17 x0 x1) ⟨![0, 7, 3, 0], S1x1x128x128.size, ![1, 1, 4, 1], inb_S2x8x512x128_S1x1x128x128_0_7_3_0_s_1_1_4_1⟩) ?_ _ rfl
  rotate_left
  · exact loadA (big39 c arg2 harg2 arg3 harg3 arg17 x0 x1) (by decide) _ 7 3 (by decide) (by decide) _
  refine GoodHalf.tileA 3 6 384 768 rfl rfl (by decide) (by decide) ?_ _ (arg17.view.readCov (Val := Elt Ideal) (kernelRun0_A.sl.HS0_38 c arg2 harg2 arg3 harg3 arg17 x0 x1) ⟨![0, 6, 3, 0], S1x1x128x128.size, ![1, 1, 4, 1], inb_S2x8x512x128_S1x1x128x128_0_6_3_0_s_1_1_4_1⟩) ?_ _ rfl
  rotate_left
  · exact loadA (big38 c arg2 harg2 arg3 harg3 arg17 x0 x1) (by decide) _ 6 3 (by decide) (by decide) _
  refine GoodHalf.tileA 3 5 384 640 rfl rfl (by decide) (by decide) ?_ _ (arg17.view.readCov (Val := Elt Ideal) (kernelRun0_A.sl.HS0_37 c arg2 harg2 arg3 harg3 arg17 x0 x1) ⟨![0, 5, 3, 0], S1x1x128x128.size, ![1, 1, 4, 1], inb_S2x8x512x128_S1x1x128x128_0_5_3_0_s_1_1_4_1⟩) ?_ _ rfl
  rotate_left
  · exact loadA (big37 c arg2 harg2 arg3 harg3 arg17 x0 x1) (by decide) _ 5 3 (by decide) (by decide) _
  refine GoodHalf.tileA 3 4 384 512 rfl rfl (by decide) (by decide) ?_ _ (arg17.view.readCov (Val := Elt Ideal) (kernelRun0_A.sl.HS0_36 c arg2 harg2 arg3 harg3 arg17 x0 x1) ⟨![0, 4, 3, 0], S1x1x128x128.size, ![1, 1, 4, 1], inb_S2x8x512x128_S1x1x128x128_0_4_3_0_s_1_1_4_1⟩) ?_ _ rfl
  rotate_left
  · exact loadA (big36 c arg2 harg2 arg3 harg3 arg17 x0 x1) (by decide) _ 4 3 (by decide) (by decide) _
  refine GoodHalf.tileA 3 3 384 384 rfl rfl (by decide) (by decide) ?_ _ (arg17.view.readCov (Val := Elt Ideal) (kernelRun0_A.sl.HS0_35 c arg2 harg2 arg3 harg3 arg17 x0 x1) ⟨![0, 3, 3, 0], S1x1x128x128.size, ![1, 1, 4, 1], inb_S2x8x512x128_S1x1x128x128_0_3_3_0_s_1_1_4_1⟩) ?_ _ rfl
  rotate_left
  · exact loadA (big35 c arg2 harg2 arg3 harg3 arg17 x0 x1) (by decide) _ 3 3 (by decide) (by decide) _
  refine GoodHalf.tileA 3 2 384 256 rfl rfl (by decide) (by decide) ?_ _ (arg17.view.readCov (Val := Elt Ideal) (kernelRun0_A.sl.HS0_34 c arg2 harg2 arg3 harg3 arg17 x0 x1) ⟨![0, 2, 3, 0], S1x1x128x128.size, ![1, 1, 4, 1], inb_S2x8x512x128_S1x1x128x128_0_2_3_0_s_1_1_4_1⟩) ?_ _ rfl
  rotate_left
  · exact loadA (big34 c arg2 harg2 arg3 harg3 arg17 x0 x1) (by decide) _ 2 3 (by decide) (by decide) _
  refine GoodHalf.tileA 3 1 384 128 rfl rfl (by decide) (by decide) ?_ _ (arg17.view.readCov (Val := Elt Ideal) (kernelRun0_A.sl.HS0_33 c arg2 harg2 arg3 harg3 arg17 x0 x1) ⟨![0, 1, 3, 0], S1x1x128x128.size, ![1, 1, 4, 1], inb_S2x8x512x128_S1x1x128x128_0_1_3_0_s_1_1_4_1⟩) ?_ _ rfl
  rotate_left
  · exact loadA (big33 c arg2 harg2 arg3 harg3 arg17 x0 x1) (by decide) _ 1 3 (by decide) (by decide) _
  refine GoodHalf.tileA 3 0 384 0 rfl rfl (by decide) (by decide) ?_ _ (arg17.view.readCov (Val := Elt Ideal) (kernelRun0_A.sl.HS0_32 c arg2 harg2 arg3 harg3 arg17 x0 x1) ⟨![0, 0, 3, 0], S1x1x128x128.size, ![1, 1, 4, 1], inb_S2x8x512x128_S1x1x128x128_0_0_3_0_s_1_1_4_1⟩) ?_ _ rfl
  rotate_left
  · exact loadA (big32 c arg2 harg2 arg3 harg3 arg17 x0 x1) (by decide) _ 0 3 (by decide) (by decide) _
  refine GoodHalf.tileA 2 7 256 896 rfl rfl (by decide) (by decide) ?_ _ (arg17.view.readCov (Val := Elt Ideal) (kernelRun0_A.sl.HS0_31 c arg2 harg2 arg3 harg3 arg17 x0 x1) ⟨![0, 7, 2, 0], S1x1x128x128.size, ![1, 1, 4, 1], inb_S2x8x512x128_S1x1x128x128_0_7_2_0_s_1_1_4_1⟩) ?_ _ rfl
  rotate_left
  · exact loadA (big31 c arg2 harg2 arg3 harg3 arg17 x0 x1) (by decide) _ 7 2 (by decide) (by decide) _
  refine GoodHalf.tileA 2 6 256 768 rfl rfl (by decide) (by decide) ?_ _ (arg17.view.readCov (Val := Elt Ideal) (kernelRun0_A.sl.HS0_30 c arg2 harg2 arg3 harg3 arg17 x0 x1) ⟨![0, 6, 2, 0], S1x1x128x128.size, ![1, 1, 4, 1], inb_S2x8x512x128_S1x1x128x128_0_6_2_0_s_1_1_4_1⟩) ?_ _ rfl
  rotate_left
  · exact loadA (big30 c arg2 harg2 arg3 harg3 arg17 x0 x1) (by decide) _ 6 2 (by decide) (by decide) _
  refine GoodHalf.tileA 2 5 256 640 rfl rfl (by decide) (by decide) ?_ _ (arg17.view.readCov (Val := Elt Ideal) (kernelRun0_A.sl.HS0_29 c arg2 harg2 arg3 harg3 arg17 x0 x1) ⟨![0, 5, 2, 0], S1x1x128x128.size, ![1, 1, 4, 1], inb_S2x8x512x128_S1x1x128x128_0_5_2_0_s_1_1_4_1⟩) ?_ _ rfl
  rotate_left
  · exact loadA (big29 c arg2 harg2 arg3 harg3 arg17 x0 x1) (by decide) _ 5 2 (by decide) (by decide) _
  refine GoodHalf.tileA 2 4 256 512 rfl rfl (by decide) (by decide) ?_ _ (arg17.view.readCov (Val := Elt Ideal) (kernelRun0_A.sl.HS0_28 c arg2 harg2 arg3 harg3 arg17 x0 x1) ⟨![0, 4, 2, 0], S1x1x128x128.size, ![1, 1, 4, 1], inb_S2x8x512x128_S1x1x128x128_0_4_2_0_s_1_1_4_1⟩) ?_ _ rfl
  rotate_left
  · exact loadA (big28 c arg2 harg2 arg3 harg3 arg17 x0 x1) (by decide) _ 4 2 (by decide) (by decide) _
  refine GoodHalf.tileA 2 3 256 384 rfl rfl (by decide) (by decide) ?_ _ (arg17.view.readCov (Val := Elt Ideal) (kernelRun0_A.sl.HS0_27 c arg2 harg2 arg3 harg3 arg17 x0 x1) ⟨![0, 3, 2, 0], S1x1x128x128.size, ![1, 1, 4, 1], inb_S2x8x512x128_S1x1x128x128_0_3_2_0_s_1_1_4_1⟩) ?_ _ rfl
  rotate_left
  · exact loadA (big27 c arg2 harg2 arg3 harg3 arg17 x0 x1) (by decide) _ 3 2 (by decide) (by decide) _
  refine GoodHalf.tileA 2 2 256 256 rfl rfl (by decide) (by decide) ?_ _ (arg17.view.readCov (Val := Elt Ideal) (kernelRun0_A.sl.HS0_26 c arg2 harg2 arg3 harg3 arg17 x0 x1) ⟨![0, 2, 2, 0], S1x1x128x128.size, ![1, 1, 4, 1], inb_S2x8x512x128_S1x1x128x128_0_2_2_0_s_1_1_4_1⟩) ?_ _ rfl
  rotate_left
  · exact loadA (big26 c arg2 harg2 arg3 harg3 arg17 x0 x1) (by decide) _ 2 2 (by decide) (by decide) _
  refine GoodHalf.tileA 2 1 256 128 rfl rfl (by decide) (by decide) ?_ _ (arg17.view.readCov (Val := Elt Ideal) (kernelRun0_A.sl.HS0_25 c arg2 harg2 arg3 harg3 arg17 x0 x1) ⟨![0, 1, 2, 0], S1x1x128x128.size, ![1, 1, 4, 1], inb_S2x8x512x128_S1x1x128x128_0_1_2_0_s_1_1_4_1⟩) ?_ _ rfl
  rotate_left
  · exact loadA (big25 c arg2 harg2 arg3 harg3 arg17 x0 x1) (by decide) _ 1 2 (by decide) (by decide) _
  refine GoodHalf.tileA 2 0 256 0 rfl rfl (by decide) (by decide) ?_ _ (arg17.view.readCov (Val := Elt Ideal) (kernelRun0_A.sl.HS0_24 c arg2 harg2 arg3 harg3 arg17 x0 x1) ⟨![0, 0, 2, 0], S1x1x128x128.size, ![1, 1, 4, 1], inb_S2x8x512x128_S1x1x128x128_0_0_2_0_s_1_1_4_1⟩) ?_ _ rfl
  rotate_left
  · exact loadA (big24 c arg2 harg2 arg3 harg3 arg17 x0 x1) (by decide) _ 0 2 (by decide) (by decide) _
  refine GoodHalf.tileA 1 7 128 896 rfl rfl (by decide) (by decide) ?_ _ (arg17.view.readCov (Val := Elt Ideal) (kernelRun0_A.sl.HS0_23 c arg2 harg2 arg3 harg3 arg17 x0 x1) ⟨![0, 7, 1, 0], S1x1x128x128.size, ![1, 1, 4, 1], inb_S2x8x512x128_S1x1x128x128_0_7_1_0_s_1_1_4_1⟩) ?_ _ rfl
  rotate_left
  · exact loadA (big23 c arg2 harg2 arg3 harg3 arg17 x0 x1) (by decide) _ 7 1 (by decide) (by decide) _
  refine GoodHalf.tileA 1 6 128 768 rfl rfl (by decide) (by decide) ?_ _ (arg17.view.readCov (Val := Elt Ideal) (kernelRun0_A.sl.HS0_22 c arg2 harg2 arg3 harg3 arg17 x0 x1) ⟨![0, 6, 1, 0], S1x1x128x128.size, ![1, 1, 4, 1], inb_S2x8x512x128_S1x1x128x128_0_6_1_0_s_1_1_4_1⟩) ?_ _ rfl
  rotate_left
  · exact loadA (big22 c arg2 harg2 arg3 harg3 arg17 x0 x1) (by decide) _ 6 1 (by decide) (by decide) _
  refine GoodHalf.tileA 1 5 128 640 rfl rfl (by decide) (by decide) ?_ _ (arg17.view.readCov (Val := Elt Ideal) (kernelRun0_A.sl.HS0_21 c arg2 harg2 arg3 harg3 arg17 x0 x1) ⟨![0, 5, 1, 0], S1x1x128x128.size, ![1, 1, 4, 1], inb_S2x8x512x128_S1x1x128x128_0_5_1_0_s_1_1_4_1⟩) ?_ _ rfl
  rotate_left
  · exact loadA (big21 c arg2 harg2 arg3 harg3 arg17 x0 x1) (by decide) _ 5 1 (by decide) (by decide) _
  refine GoodHalf.tileA 1 4 128 512 rfl rfl (by decide) (by decide) ?_ _ (arg17.view.readCov (Val := Elt Ideal) (kernelRun0_A.sl.HS0_20 c arg2 harg2 arg3 harg3 arg17 x0 x1) ⟨![0, 4, 1, 0], S1x1x128x128.size, ![1, 1, 4, 1], inb_S2x8x512x128_S1x1x128x128_0_4_1_0_s_1_1_4_1⟩) ?_ _ rfl
  rotate_left
  · exact loadA (big20 c arg2 harg2 arg3 harg3 arg17 x0 x1) (by decide) _ 4 1 (by decide) (by decide) _
  refine GoodHalf.tileA 1 3 128 384 rfl rfl (by decide) (by decide) ?_ _ (arg17.view.readCov (Val := Elt Ideal) (kernelRun0_A.sl.HS0_19 c arg2 harg2 arg3 harg3 arg17 x0 x1) ⟨![0, 3, 1, 0], S1x1x128x128.size, ![1, 1, 4, 1], inb_S2x8x512x128_S1x1x128x128_0_3_1_0_s_1_1_4_1⟩) ?_ _ rfl
  rotate_left
  · exact loadA (big19 c arg2 harg2 arg3 harg3 arg17 x0 x1) (by decide) _ 3 1 (by decide) (by decide) _
  refine GoodHalf.tileA 1 2 128 256 rfl rfl (by decide) (by decide) ?_ _ (arg17.view.readCov (Val := Elt Ideal) (kernelRun0_A.sl.HS0_18 c arg2 harg2 arg3 harg3 arg17 x0 x1) ⟨![0, 2, 1, 0], S1x1x128x128.size, ![1, 1, 4, 1], inb_S2x8x512x128_S1x1x128x128_0_2_1_0_s_1_1_4_1⟩) ?_ _ rfl
  rotate_left
  · exact loadA (big18 c arg2 harg2 arg3 harg3 arg17 x0 x1) (by decide) _ 2 1 (by decide) (by decide) _
  refine GoodHalf.tileA 1 1 128 128 rfl rfl (by decide) (by decide) ?_ _ (arg17.view.readCov (Val := Elt Ideal) (kernelRun0_A.sl.HS0_17 c arg2 harg2 arg3 harg3 arg17 x0 x1) ⟨![0, 1, 1, 0], S1x1x128x128.size, ![1, 1, 4, 1], inb_S2x8x512x128_S1x1x128x128_0_1_1_0_s_1_1_4_1⟩) ?_ _ rfl
  rotate_left
  · exact loadA (big17 c arg2 harg2 arg3 harg3 arg17 x0 x1) (by decide) _ 1 1 (by decide) (by decide) _
  refine GoodHalf.tileA 1 0 128 0 rfl rfl (by decide) (by decide) ?_ _ (arg17.view.readCov (Val := Elt Ideal) (kernelRun0_A.sl.HS0_16 c arg2 harg2 arg3 harg3 arg17 x0 x1) ⟨![0, 0, 1, 0], S1x1x128x128.size, ![1, 1, 4, 1], inb_S2x8x512x128_S1x1x128x128_0_0_1_0_s_1_1_4_1⟩) ?_ _ rfl
  rotate_left
  · exact loadA (big16 c arg2 harg2 arg3 harg3 arg17 x0 x1) (by decide) _ 0 1 (by decide) (by decide) _
  refine GoodHalf.tileA 0 7 0 896 rfl rfl (by decide) (by decide) ?_ _ (arg17.view.readCov (Val := Elt Ideal) (kernelRun0_A.sl.HS0_15 c arg2 harg2 arg3 harg3 arg17 x0 x1) ⟨![0, 7, 0, 0], S1x1x128x128.size, ![1, 1, 4, 1], inb_S2x8x512x128_S1x1x128x128_0_7_0_0_s_1_1_4_1⟩) ?_ _ rfl
  rotate_left
  · exact loadA (big15 c arg2 harg2 arg3 harg3 arg17 x0 x1) (by decide) _ 7 0 (by decide) (by decide) _
  refine GoodHalf.tileA 0 6 0 768 rfl rfl (by decide) (by decide) ?_ _ (arg17.view.readCov (Val := Elt Ideal) (kernelRun0_A.sl.HS0_14 c arg2 harg2 arg3 harg3 arg17 x0 x1) ⟨![0, 6, 0, 0], S1x1x128x128.size, ![1, 1, 4, 1], inb_S2x8x512x128_S1x1x128x128_0_6_0_0_s_1_1_4_1⟩) ?_ _ rfl
  rotate_left
  · exact loadA (big14 c arg2 harg2 arg3 harg3 arg17 x0 x1) (by decide) _ 6 0 (by decide) (by decide) _
  refine GoodHalf.tileA 0 5 0 640 rfl rfl (by decide) (by decide) ?_ _ (arg17.view.readCov (Val := Elt Ideal) (kernelRun0_A.sl.HS0_13 c arg2 harg2 arg3 harg3 arg17 x0 x1) ⟨![0, 5, 0, 0], S1x1x128x128.size, ![1, 1, 4, 1], inb_S2x8x512x128_S1x1x128x128_0_5_0_0_s_1_1_4_1⟩) ?_ _ rfl
  rotate_left
  · exact loadA (big13 c arg2 harg2 arg3 harg3 arg17 x0 x1) (by decide) _ 5 0 (by decide) (by decide) _
  refine GoodHalf.tileA 0 4 0 512 rfl rfl (by decide) (by decide) ?_ _ (arg17.view.readCov (Val := Elt Ideal) (kernelRun0_A.sl.HS0_12 c arg2 harg2 arg3 harg3 arg17 x0 x1) ⟨![0, 4, 0, 0], S1x1x128x128.size, ![1, 1, 4, 1], inb_S2x8x512x128_S1x1x128x128_0_4_0_0_s_1_1_4_1⟩) ?_ _ rfl
  rotate_left
  · exact loadA (big12 c arg2 harg2 arg3 harg3 arg17 x0 x1) (by decide) _ 4 0 (by decide) (by decide) _
  refine GoodHalf.tileA 0 3 0 384 rfl rfl (by decide) (by decide) ?_ _ (arg17.view.readCov (Val := Elt Ideal) (kernelRun0_A.sl.HS0_11 c arg2 harg2 arg3 harg3 arg17 x0 x1) ⟨![0, 3, 0, 0], S1x1x128x128.size, ![1, 1, 4, 1], inb_S2x8x512x128_S1x1x128x128_0_3_0_0_s_1_1_4_1⟩) ?_ _ rfl
  rotate_left
  · exact loadA (big11 c arg2 harg2 arg3 harg3 arg17 x0 x1) (by decide) _ 3 0 (by decide) (by decide) _
  refine GoodHalf.tileA 0 2 0 256 rfl rfl (by decide) (by decide) ?_ _ (arg17.view.readCov (Val := Elt Ideal) (kernelRun0_A.sl.HS0_10 c arg2 harg2 arg3 harg3 arg17 x0 x1) ⟨![0, 2, 0, 0], S1x1x128x128.size, ![1, 1, 4, 1], inb_S2x8x512x128_S1x1x128x128_0_2_0_0_s_1_1_4_1⟩) ?_ _ rfl
  rotate_left
  · exact loadA (big10 c arg2 harg2 arg3 harg3 arg17 x0 x1) (by decide) _ 2 0 (by decide) (by decide) _
  refine GoodHalf.tileA 0 1 0 128 rfl rfl (by decide) (by decide) ?_ _ (arg17.view.readCov (Val := Elt Ideal) (kernelRun0_A.sl.HS0_9 c arg2 harg2 arg3 harg3 arg17 x0 x1) ⟨![0, 1, 0, 0], S1x1x128x128.size, ![1, 1, 4, 1], inb_S2x8x512x128_S1x1x128x128_0_1_0_0_s_1_1_4_1⟩) ?_ _ rfl
  rotate_left
  · exact loadA (big9 c arg2 harg2 arg3 harg3 arg17 x0 x1) (by decide) _ 1 0 (by decide) (by decide) _
  refine GoodHalf.tileA 0 0 0 0 rfl rfl (by decide) (by decide) ?_ _ (arg17.view.readCov (Val := Elt Ideal) (kernelRun0_A.sl.HS0_8 c arg2 harg2 arg3 harg3 x0 x1) ⟨![0, 0, 0, 0], S1x1x128x128.size, ![1, 1, 4, 1], inb_S2x8x512x128_S1x1x128x128_0_0_0_0_s_1_1_4_1⟩) ?_ _ rfl
  rotate_left
  · exact loadA (big8 c arg2 harg2 arg3 harg3 x0 x1) (by decide) _ 0 0 (by decide) (by decide) _
  exact GoodHalf.all (goodHalf_nil _) _ _ rfl

end Cert.Kernel4Ideal.Proj

end
-- ==== Proof.ProjAt.lean ====
/- The projection's operations at an entry, over the extended reals. -/
module

public import proofs.«01_k».proof.Proof.ProjFill
public import Idealize.ShloMosaic.Lib.Pipeline.ValueKit

@[expose] public section

set_option maxRecDepth 16384

noncomputable section

namespace Cert.Kernel4Ideal.Proj

open Cert.Kernel4Ideal.Gen
open Idealize.ShloMosaic Idealize.ShloMosaic.TcCoe Idealize.SL.Sem

/-- A row over the root of its mean square, times a gain. -/
def rms {n : ℕ} (u : Fin n → EReal) (size : EReal) (g : EReal) (k : Fin n) : EReal :=
  u k * Ideal.rsqrt (Ideal.div (∑ j, u j * u j) size + Ideal.ofBits .f32 0x358637BD#32) * g

/-- The other lane of a pair of lanes. -/
def other (d : Fin 128) : Fin 128 := ⟨if d.val % 2 = 0 then d.val + 1 else d.val - 1, by have := d.isLt; split <;> omega⟩

/-- The word of a half. -/
theorem half_word : Ideal.ofBits .f32 0x3F000000#32 = (((2 : ℝ)⁻¹ : ℝ) : EReal) := by
  simp [Ideal.ofBits, Ideal.ieee, -EReal.coe_mul]
  norm_num

/-- The logistic function is half of one plus the hyperbolic tangent of half the argument. -/
theorem gate_tanh (x : EReal) :
    Ideal.ofBits .f32 1056964608#32 * Ideal.tanh (Ideal.ofBits .f32 1056964608#32 * x) + Ideal.ofBits .f32 1056964608#32 = Ideal.logistic x := by
  have hw := half_word
  rw [show (0x3F000000#32 : BitVec 32) = 1056964608#32 from rfl] at hw
  rw [hw]
  induction x with
  | bot =>
    rw [EReal.coe_mul_bot_of_pos (by norm_num)]
    rw [Ideal.logistic_bot]
    show (((2 : ℝ)⁻¹ : ℝ) : EReal) * ((-1 : ℝ) : EReal) + _ = _
    rw [← EReal.coe_mul, ← EReal.coe_add]
    norm_num
  | top =>
    rw [EReal.coe_mul_top_of_pos (by norm_num)]
    rw [Ideal.logistic_top]
    show (((2 : ℝ)⁻¹ : ℝ) : EReal) * ((1 : ℝ) : EReal) + _ = _
    rw [← EReal.coe_mul, ← EReal.coe_add]
    norm_num
  | coe r =>
    rw [← EReal.coe_mul, Ideal.logistic_coe]
    show (((2 : ℝ)⁻¹ : ℝ) : EReal) * ((Real.tanh (2⁻¹ * r) : ℝ) : EReal) + _ = _
    rw [← EReal.coe_mul, ← EReal.coe_add]
    congr 1
    have e : Real.exp (-r) = Real.exp (-(2⁻¹ * r)) * Real.exp (-(2⁻¹ * r)) := by
      rw [← Real.exp_add]; congr 1; ring
    have h1 : Real.exp (-(2⁻¹ * r)) = (Real.exp (2⁻¹ * r))⁻¹ := Real.exp_neg _
    have h2 := Real.exp_pos (2⁻¹ * r)
    rw [Real.tanh_eq_sinh_div_cosh, Real.sinh_eq, Real.cosh_eq, e, h1]
    set a := Real.exp (2⁻¹ * r)
    field_simp
    ring

/-- Rows by 256 columns of the weights. -/
def mmP (H : Vec Ideal S1x512x1024 .bf16) (w : Vec Ideal S1024x256 .bf16) : FVec Ideal S512x256 .f32 :=
  matmul (F := Ideal) (φ₁ := .bf16) (φ₂ := .bf16) dot_S512x1024_S1024x256_S512x256_1_0_0_1_n_n none (shapeCast S512x1024 H shapeCasts_S1x512x1024_S512x1024)
    (shapeCast S1024x256 w shapeCasts_S1024x256_S1024x256) (constant S512x256 .f32 0x00000000#32)

theorem mmP_at (H : Vec Ideal S1x512x1024 .bf16) (w : Vec Ideal S1024x256 .bf16) (r : Fin 512) (j : Fin 256) :
    mmP H w (ix2 r j) = ∑ k : Fin 1024, H (ix3 0 r k) * w (ix2 k j) := by
  pointwise [mmP]

/-- The three layouts a product is stored in. -/
def outA (M : FVec Ideal S512x256 .f32) : FVec Ideal S1x1x512x256 .bf16 :=
  shapeCast S1x1x512x256 (truncf .bf16 M bitsLt_bf16_f32) shapeCasts_S512x256_S1x1x512x256
def outB (M : FVec Ideal S512x256 .f32) : FVec Ideal S1x4x128x256 .bf16 :=
  shapeCast S1x4x128x256 (truncf .bf16 (shapeCast S4x128x256 M shapeCasts_S512x256_S4x128x256) bitsLt_bf16_f32) shapeCasts_S4x128x256_S1x4x128x256
def outC (M : FVec Ideal S512x256 .f32) : FVec Ideal S1x16x32x256 .bf16 :=
  shapeCast S1x16x32x256 (truncf .bf16 (shapeCast S16x32x256 M shapeCasts_S512x256_S16x32x256) bitsLt_bf16_f32) shapeCasts_S16x32x256_S1x16x32x256
/-- A product stored with its rows as lanes. -/
def outT (M : FVec Ideal S512x256 .f32) : FVec Ideal S1x256x512 .bf16 :=
  shapeCast S1x256x512 (truncf .bf16 (transpose S256x512 [1, 0] M transposes_S512x256_p1_0_S256x512) bitsLt_bf16_f32) shapeCasts_S256x512_S1x256x512
/-- A product with a bias, through the logistic function written with a hyperbolic tangent. -/
def outG (M : FVec Ideal S512x256 .f32) (b : Vec Ideal S1x256 .f32) : FVec Ideal S1x512x256 .bf16 :=
  shapeCast S1x512x256 (truncf .bf16 (addf (mulf (broadcast S512x256 (Scalar.ofBits (F := Ideal) .f32 0x3F000000#32))
    (tanh (mulf (broadcast S512x256 (Scalar.ofBits (F := Ideal) .f32 0x3F000000#32))
      (addf M (broadcastTo S512x256 (shapeCast S1x256 b shapeCasts_S1x256_S1x256) broadcasts_S1x256_S512x256)))))
    (broadcast S512x256 (Scalar.ofBits (F := Ideal) .f32 0x3F000000#32))) bitsLt_bf16_f32) shapeCasts_S512x256_S1x512x256

/-- The two heads of a product. -/
def lo (M : FVec Ideal S512x256 .f32) : FVec Ideal S512x128 .f32 := extractStridedSlice S512x128 ![0, 0] M slices_S512x256_o0_0_S512x128
def hi (M : FVec Ideal S512x256 .f32) : FVec Ideal S512x128 .f32 := extractStridedSlice S512x128 ![0, 128] M slices_S512x256_o0_128_S512x128

/-- A head's rows normalized. -/
def normP (u : FVec Ideal S512x128 .f32) (g : Vec Ideal S1x128 .f32) : FVec Ideal S512x128 .f32 :=
  mulf (mulf u (broadcastTo S512x128 (rsqrt (addf (divf (shapeCast S512x1
    (multiReduction .add [1] S512 (mulf u u) 0x00000000#32 reduces_S512x128_S512 (.inl rfl) rfl) shapeCasts_S512_S512x1)
    (broadcast S512x1 (Scalar.ofBits (F := Ideal) .f32 0x43000000#32))) (broadcast S512x1 (Scalar.ofBits (F := Ideal) .f32 0x358637BD#32)))) broadcasts_S512x1_S512x128))
    (broadcastTo S512x128 (shapeCast S1x128 g shapeCasts_S1x128_S1x128) broadcasts_S1x128_S512x128)

/-- The rotation of the pairs of lanes. -/
def ropeP (co si n : FVec Ideal S512x128 .f32) : FVec Ideal S1x512x128 .bf16 :=
  shapeCast S1x512x128 (truncf .bf16 (addf (mulf n co) (mulf (select k0_pay2
    (dynamicRotate 1 127#32 none n rotates_S512x128_d1) (dynamicRotate 1 1#32 none n rotates_S512x128_d1)) si)) bitsLt_bf16_f32) shapeCasts_S512x128_S1x512x128

/-- The scale of the dilated queries. -/
def scaleP (M : FVec Ideal S512x256 .f32) : FVec Ideal S512x256 .f32 :=
  mulf M (broadcast S512x256 (Scalar.ofBits (F := Ideal) .f32 0x3E38AA3B#32))

/-- The scale at a lane of a group: its first 512 lanes are the queries'. -/
def scl (j : ℕ) (v : EReal) : EReal := if j < 512 then v * Ideal.ofBits .f32 0x3E38AA3B#32 else v

theorem scaleP_at (M : FVec Ideal S512x256 .f32) (r : Fin 512) (j : Fin 256) : scaleP M (ix2 r j) = M (ix2 r j) * Ideal.ofBits .f32 0x3E38AA3B#32 := by
  pointwise [scaleP]

theorem outA_at (M : FVec Ideal S512x256 .f32) (r : Fin 512) (j : Fin 256) : outA M (ix4 0 0 r j) = M (ix2 r j) := by
  pointwise [outA]

theorem outB_at (M : FVec Ideal S512x256 .f32) (q : Fin 4) (r : Fin 128) (j : Fin 256) :
    outB M (ix4 0 q r j) = M (ix2 ⟨q.val * 128 + r.val, by omega⟩ j) := by
  pointwise [outB]

theorem outC_at (M : FVec Ideal S512x256 .f32) (q : Fin 16) (r : Fin 32) (j : Fin 256) :
    outC M (ix4 0 q r j) = M (ix2 ⟨q.val * 32 + r.val, by omega⟩ j) := by
  pointwise [outC]

theorem outT_at (M : FVec Ideal S512x256 .f32) (d : Fin 256) (r : Fin 512) : outT M (ix3 0 d r) = M (ix2 r d) := by
  pointwise [outT]

theorem outG_at (M : FVec Ideal S512x256 .f32) (b : Vec Ideal S1x256 .f32) (r : Fin 512) (j : Fin 256) :
    outG M b (ix3 0 r j) = Ideal.logistic (M (ix2 r j) + b (ix2 0 j)) := by
  pointwise [outG]
  exact gate_tanh _

theorem lo_at (M : FVec Ideal S512x256 .f32) (r : Fin 512) (d : Fin 128) : lo M (ix2 r d) = M (ix2 r ⟨d.val, by omega⟩) := by
  pointwise [lo]

theorem hi_at (M : FVec Ideal S512x256 .f32) (r : Fin 512) (d : Fin 128) : hi M (ix2 r d) = M (ix2 r ⟨128 + d.val, by omega⟩) := by
  pointwise [hi]

theorem normP_at (u : FVec Ideal S512x128 .f32) (g : Vec Ideal S1x128 .f32) (r : Fin 512) (d : Fin 128) :
    normP u g (ix2 r d) = rms (fun k : Fin 128 => u (ix2 r k)) (Ideal.ofBits .f32 0x43000000#32) (g (ix2 0 d)) d := by
  pointwise [normP, rms]
  try rfl

theorem hn_at (a : Vec Ideal S1x512x1024 .f32) (g : Vec Ideal S1x1024 .f32) (r : Fin 512) (d : Fin 1024) :
    k0_pay3 a g (ix2 r d) = rms (fun k : Fin 1024 => a (ix3 0 r k)) (Ideal.ofBits .f32 0x44800000#32) (g (ix2 0 d)) d := by
  pointwise [k0_pay3, rms]
  try rfl

theorem even_at (r : Fin 512) (d : Fin 128) : k0_pay2 (ix2 r d) = if d.val % 2 = 0 then 1#1 else 0#1 := by
  pointwise [k0_pay2]
  revert d
  decide +kernel

theorem ropeP_at (co si n : FVec Ideal S512x128 .f32) (r : Fin 512) (d : Fin 128) :
    ropeP co si n (ix3 0 r d) = n (ix2 r d) * co (ix2 r d) + n (ix2 r (other d)) * si (ix2 r d) := by
  pointwise [ropeP, even_at, other]
  have hd := d.isLt
  by_cases h : d.val % 2 = 0
  · have e : (d.val + 128 - 127) % 128 = d.val + 1 := by omega
    simp only [h, if_true, e]; rfl
  · have e : (d.val + 128 - 1) % 128 = d.val - 1 := by omega
    simp only [h, if_false, e]; rfl

end Cert.Kernel4Ideal.Proj

end
-- ==== Proof.ProjOut.lean ====
/- The projection's stored blocks at an entry, over the extended reals. -/
module

public import proofs.«01_k».proof.Proof.ProjAt
public import proofs.«01_k».proof.Proof.Gen.Kernel4Ideal.Frame
public import Idealize.ShloMosaic.Lib.VecWindow

@[expose] public section

set_option maxRecDepth 16384

noncomputable section

namespace Cert.Kernel4Ideal.Proj

open Cert.Kernel4Ideal.Gen
open Idealize.ShloMosaic Idealize.ShloMosaic.TcCoe Idealize.SL.Sem
open Idealize.ShloMosaic.Pipeline (Dat)

/-- A row of the normalized rows by a column of the weights. -/
def proj (h : FVec Ideal S512x1024 .f32) (W : Vec Ideal S1024x8192 .bf16) (r : Fin 512) (z : Fin 8192) : EReal :=
  ∑ k : Fin 1024, h (ix2 r k) * W (ix2 k z)

theorem proj_congr (h : FVec Ideal S512x1024 .f32) (W : Vec Ideal S1024x8192 .bf16) {r r' : Fin 512} {z z' : Fin 8192} (hr : r.val = r'.val) (hz : z.val = z'.val) :
    proj h W r z = proj h W r' z' := by rw [Fin.ext hr, Fin.ext hz]

/-- The weights' column of the group `g`'s lane `j`. -/
def colOf (g j : ℕ) : ℕ := j / 512 * 1536 + g * 512 + j % 512

theorem colOf_lt {g j : ℕ} (hg : g < 3) (h : j < 1536) : colOf g j < 8192 := by unfold colOf; omega

/-- The entries of the seven stored blocks, from the normalized rows and the weights. -/
def blockA (h : FVec Ideal S512x1024 .f32) (W : Vec Ideal S1024x8192 .bf16) : Vec Ideal S1x1x512x1536 .bf16 := fun y =>
  scl (y 3).val (proj h W (y 2) ⟨colOf 0 (y 3).val, colOf_lt (by omega) (y 3).isLt⟩)
def blockB (h : FVec Ideal S512x1024 .f32) (W : Vec Ideal S1024x8192 .bf16) : Vec Ideal S1x4x128x1536 .bf16 := fun y =>
  scl (y 3).val (proj h W ⟨rowA ((y 1).val * 128 + (y 2).val), rowA_lt (by have h1 : (y 1).val < 4 := (y 1).isLt; have h2 : (y 2).val < 128 := (y 2).isLt; omega)⟩
    ⟨colOf 1 (y 3).val, colOf_lt (by omega) (y 3).isLt⟩)
def blockC (h : FVec Ideal S512x1024 .f32) (W : Vec Ideal S1024x8192 .bf16) : Vec Ideal S1x16x32x1536 .bf16 := fun y =>
  scl (y 3).val (proj h W ⟨rowB ((y 1).val * 32 + (y 2).val), rowB_lt (by have h1 : (y 1).val < 16 := (y 1).isLt; have h2 : (y 2).val < 32 := (y 2).isLt; omega)⟩
    ⟨colOf 2 (y 3).val, colOf_lt (by omega) (y 3).isLt⟩)
def blockT (h : FVec Ideal S512x1024 .f32) (W : Vec Ideal S1024x8192 .bf16) : Vec Ideal S1x256x512 .bf16 := fun y =>
  proj h W (y 2) ⟨5888 + (y 1).val, by have h1 : (y 1).val < 256 := (y 1).isLt; omega⟩
def blockG (h : FVec Ideal S512x1024 .f32) (W : Vec Ideal S1024x8192 .bf16) (b : Vec Ideal S1x2048 .f32) : Vec Ideal S1x512x2048 .bf16 := fun y =>
  Ideal.logistic (proj h W (y 1) ⟨6144 + (y 2).val, by have h1 : (y 2).val < 2048 := (y 2).isLt; omega⟩ + b (ix2 0 (y 2)))

/-- A head's lane, normalized and rotated. -/
def headVal (h : FVec Ideal S512x1024 .f32) (W : Vec Ideal S1024x8192 .bf16) (g : Vec Ideal S1x128 .f32) (co si : FVec Ideal S512x128 .f32)
    (r : Fin 512) (z : Fin 8065) (d : Fin 128) : EReal :=
  rms (fun k : Fin 128 => proj h W r ⟨z.val + k.val, by omega⟩) (Ideal.ofBits .f32 0x43000000#32) (g (ix2 0 d)) d * co (ix2 r d)
    + rms (fun k : Fin 128 => proj h W r ⟨z.val + k.val, by omega⟩) (Ideal.ofBits .f32 0x43000000#32) (g (ix2 0 (other d))) (other d) * si (ix2 r d)

theorem headVal_congr (h : FVec Ideal S512x1024 .f32) (W : Vec Ideal S1024x8192 .bf16) (g : Vec Ideal S1x128 .f32) (co si : FVec Ideal S512x128 .f32)
    {r r' : Fin 512} {z z' : Fin 8065} {d d' : Fin 128} (hr : r.val = r'.val) (hz : z.val = z'.val) (hd : d.val = d'.val) :
    headVal h W g co si r z d = headVal h W g co si r' z' d' := by rw [Fin.ext hr, Fin.ext hz, Fin.ext hd]

def blockQ (h : FVec Ideal S512x1024 .f32) (W : Vec Ideal S1024x8192 .bf16) (g : Vec Ideal S1x128 .f32) (co si : FVec Ideal S512x128 .f32) : Vec Ideal S1x512x1024 .bf16 := fun y =>
  headVal h W g co si (y 1) ⟨4608 + (y 2).val / 128 * 128, by have h1 : (y 2).val < 1024 := (y 2).isLt; omega⟩ ⟨(y 2).val % 128, by omega⟩
def blockK (h : FVec Ideal S512x1024 .f32) (W : Vec Ideal S1024x8192 .bf16) (g : Vec Ideal S1x128 .f32) (co si : FVec Ideal S512x128 .f32) : Vec Ideal S1x512x256 .bf16 := fun y =>
  headVal h W g co si (y 1) ⟨5632 + (y 2).val / 128 * 128, by have h1 : (y 2).val < 256 := (y 2).isLt; omega⟩ ⟨(y 2).val % 128, by omega⟩

section Pieces

variable (h : FVec Ideal S512x1024 .f32) (arg4 : Memref sig .tc .vmem S1024x8192 .bf16) (harg4 : arg4.IsWhole)

/-- A load of 256 columns of the weights. -/
theorem wread (x2 : Vec Ideal S1024x8192 .bf16) (z : ℕ) (inb : ∀ a, ![0, z] a + ![1024, 256] a ≤ S1024x8192.size a) (hz : z + 256 ≤ 8192) (k : Fin 1024) (j : Fin 256) :
    View.readAt (Elt Ideal) arg4.view (Rect.unit (s := S1024x8192) ![0, z] ![1024, 256] inb).toLoadRect (harg4.unread x2) (ix2 k j) = x2 (ix2 k ⟨z + j.val, by omega⟩) := by
  rw [View.readAt_apply, harg4.read_unread]
  refine congrArg x2 (funext fun a => Fin.ext ?_)
  fin_cases a <;> simp [LoadRect.idx]

theorem bread (arg5 : Memref sig .tc .vmem S1x2048 .f32) (harg5 : arg5.IsWhole) (x3 : Vec Ideal S1x2048 .f32) (o : ℕ) (inb : ∀ a, ![0, o] a + ![1, 256] a ≤ S1x2048.size a) (ho : o + 256 ≤ 2048) (j : Fin 256) :
    View.readAt (Elt Ideal) arg5.view (Rect.unit (s := S1x2048) ![0, o] ![1, 256] inb).toLoadRect (harg5.unread x3) (ix2 0 j) = x3 (ix2 0 ⟨o + j.val, by omega⟩) := by
  rw [View.readAt_apply, harg5.read_unread]
  refine congrArg x3 (funext fun a => Fin.ext ?_)
  fin_cases a <;> simp [LoadRect.idx]

theorem gread (arg6 : Memref sig .tc .vmem S1x128 .f32) (harg6 : arg6.IsWhole) (x4 : Vec Ideal S1x128 .f32) (inb : ∀ a, ![0, 0] a + ![1, 128] a ≤ S1x128.size a) (j : Fin 128) :
    View.readAt (Elt Ideal) arg6.view (Rect.unit (s := S1x128) ![0, 0] ![1, 128] inb).toLoadRect (harg6.unread x4) (ix2 0 j) = x4 (ix2 0 j) := by
  rw [View.readAt_apply, harg6.read_unread]
  refine congrArg x4 (funext fun a => Fin.ext ?_)
  fin_cases a <;> simp [LoadRect.idx]

/-- A product with the loaded columns at an entry. -/
theorem mm_at (x2 : Vec Ideal S1024x8192 .bf16) (H : Vec Ideal S1x512x1024 .bf16) (f : Fin 512 → Fin 512) (hH : ∀ r l, H (ix3 0 r l) = h (ix2 (f r) l))
    (z : ℕ) (inb : ∀ a, ![0, z] a + ![1024, 256] a ≤ S1024x8192.size a) (hz : z + 256 ≤ 8192) (r : Fin 512) (j : Fin 256) :
    mmP H (View.readAt (Elt Ideal) arg4.view (Rect.unit (s := S1024x8192) ![0, z] ![1024, 256] inb).toLoadRect (harg4.unread x2)) (ix2 r j)
      = proj h x2 (f r) ⟨z + j.val, by omega⟩ := by
  rw [mmP_at]
  unfold proj
  exact Finset.sum_congr rfl fun k _ => by rw [hH, wread arg4 harg4 x2 z inb hz]

theorem pieceT (x2 : Vec Ideal S1024x8192 .bf16) (v : FVec Ideal S1x256x512 .bf16) (H : Vec Ideal S1x512x1024 .bf16) (hH : ∀ r l, H (ix3 0 r l) = h (ix2 r l))
    (inb : ∀ a, ![0, 5888] a + ![1024, 256] a ≤ S1024x8192.size a) (inbo : ∀ a, ![0, 0, 0] a + ![1, 256, 512] a ≤ S1x256x512.size a)
    (hv : v = outT (mmP H (View.readAt (Elt Ideal) arg4.view (Rect.unit (s := S1024x8192) ![0, 5888] ![1024, 256] inb).toLoadRect (harg4.unread x2)))) (x : S1x256x512.Idx) :
    v x = blockT h x2 ((Rect.unit (s := S1x256x512) ![0, 0, 0] ![1, 256, 512] inbo).emb x) := by
  subst hv
  obtain ⟨d, r, rfl⟩ : ∃ (d : Fin 256) (r : Fin 512), x = (ix3 0 d r : S1x256x512.Idx) := ⟨x 1, x 2, by
    funext a; fin_cases a
    · exact Fin.ext (by have : (x 0).val < 1 := (x 0).isLt; show (x 0).val = 0; omega)
    · rfl
    · rfl⟩
  rw [outT_at, mm_at h arg4 harg4 x2 H id hH 5888 inb (by omega)]
  exact proj_congr _ _ (by simp) (by simp)

theorem pieceG (arg5 : Memref sig .tc .vmem S1x2048 .f32) (harg5 : arg5.IsWhole) (x2 : Vec Ideal S1024x8192 .bf16) (x3 : Vec Ideal S1x2048 .f32) (o z : ℕ) (hz : z = 6144 + o) (ho : o + 256 ≤ 2048)
    (v : FVec Ideal S1x512x256 .bf16) (H : Vec Ideal S1x512x1024 .bf16) (hH : ∀ r l, H (ix3 0 r l) = h (ix2 r l))
    (inb : ∀ a, ![0, z] a + ![1024, 256] a ≤ S1024x8192.size a) (inbb : ∀ a, ![0, o] a + ![1, 256] a ≤ S1x2048.size a) (inbo : ∀ a, ![0, 0, o] a + ![1, 512, 256] a ≤ S1x512x2048.size a)
    (hv : v = outG (mmP H (View.readAt (Elt Ideal) arg4.view (Rect.unit (s := S1024x8192) ![0, z] ![1024, 256] inb).toLoadRect (harg4.unread x2)))
      (View.readAt (Elt Ideal) arg5.view (Rect.unit (s := S1x2048) ![0, o] ![1, 256] inbb).toLoadRect (harg5.unread x3))) (x : S1x512x256.Idx) :
    v x = blockG h x2 x3 ((Rect.unit (s := S1x512x2048) ![0, 0, o] ![1, 512, 256] inbo).emb x) := by
  subst hv
  obtain ⟨r, j, rfl⟩ : ∃ (r : Fin 512) (j : Fin 256), x = (ix3 0 r j : S1x512x256.Idx) := ⟨x 1, x 2, by
    funext a; fin_cases a
    · exact Fin.ext (by have : (x 0).val < 1 := (x 0).isLt; show (x 0).val = 0; omega)
    · rfl
    · rfl⟩
  rw [outG_at, mm_at h arg4 harg4 x2 H id hH z inb (by omega), bread arg5 harg5 x3 o inbb ho]
  refine congrArg Ideal.logistic (congrArg₂ (· + ·) (proj_congr _ _ (by simp) (by simp; omega)) (congrArg x3 (funext fun a => Fin.ext ?_)))
  fin_cases a <;> simp

theorem pieceAs (x2 : Vec Ideal S1024x8192 .bf16) (o z : ℕ) (hz : z = colOf 0 o) (ho : o + 256 ≤ 512) (hm : o % 256 = 0)
    (v : FVec Ideal S1x1x512x256 .bf16) (H : Vec Ideal S1x512x1024 .bf16) (hH : ∀ r l, H (ix3 0 r l) = h (ix2 r l))
    (inb : ∀ a, ![0, z] a + ![1024, 256] a ≤ S1024x8192.size a) (inbo : ∀ a, ![0, 0, 0, o] a + ![1, 1, 512, 256] a ≤ S1x1x512x1536.size a)
    (hv : v = outA (scaleP (mmP H (View.readAt (Elt Ideal) arg4.view (Rect.unit (s := S1024x8192) ![0, z] ![1024, 256] inb).toLoadRect (harg4.unread x2))))) (x : S1x1x512x256.Idx) :
    v x = blockA h x2 ((Rect.unit (s := S1x1x512x1536) ![0, 0, 0, o] ![1, 1, 512, 256] inbo).emb x) := by
  subst hv
  obtain ⟨r, j, rfl⟩ : ∃ (r : Fin 512) (j : Fin 256), x = (ix4 0 0 r j : S1x1x512x256.Idx) := ⟨x 2, x 3, by
    funext a; fin_cases a
    · exact Fin.ext (by have : (x 0).val < 1 := (x 0).isLt; show (x 0).val = 0; omega)
    · exact Fin.ext (by have : (x 1).val < 1 := (x 1).isLt; show (x 1).val = 0; omega)
    · rfl
    · rfl⟩
  unfold colOf at hz
  rw [outA_at, scaleP_at, mm_at h arg4 harg4 x2 H id hH z inb (by omega)]
  unfold blockA
  rw [scl, if_pos]
  · exact congrArg (· * Ideal.ofBits .f32 0x3E38AA3B#32) (proj_congr _ _ (by simp) (by simp [colOf]; omega))
  · simp; try omega

theorem pieceBs (x2 : Vec Ideal S1024x8192 .bf16) (o z : ℕ) (hz : z = colOf 1 o) (ho : o + 256 ≤ 512) (hm : o % 256 = 0)
    (v : FVec Ideal S1x4x128x256 .bf16) (H : Vec Ideal S1x512x1024 .bf16) (hH : ∀ r l, H (ix3 0 r l) = h (ix2 ⟨rowA r.val, rowA_lt r.isLt⟩ l))
    (inb : ∀ a, ![0, z] a + ![1024, 256] a ≤ S1024x8192.size a) (inbo : ∀ a, ![0, 0, 0, o] a + ![1, 4, 128, 256] a ≤ S1x4x128x1536.size a)
    (hv : v = outB (scaleP (mmP H (View.readAt (Elt Ideal) arg4.view (Rect.unit (s := S1024x8192) ![0, z] ![1024, 256] inb).toLoadRect (harg4.unread x2))))) (x : S1x4x128x256.Idx) :
    v x = blockB h x2 ((Rect.unit (s := S1x4x128x1536) ![0, 0, 0, o] ![1, 4, 128, 256] inbo).emb x) := by
  subst hv
  obtain ⟨q, r, j, rfl⟩ : ∃ (q : Fin 4) (r : Fin 128) (j : Fin 256), x = (ix4 0 q r j : S1x4x128x256.Idx) := ⟨x 1, x 2, x 3, by
    funext a; fin_cases a
    · exact Fin.ext (by have : (x 0).val < 1 := (x 0).isLt; show (x 0).val = 0; omega)
    · rfl
    · rfl
    · rfl⟩
  unfold colOf at hz
  rw [outB_at, scaleP_at, mm_at h arg4 harg4 x2 H (fun r => ⟨rowA r.val, rowA_lt r.isLt⟩) hH z inb (by omega)]
  unfold blockB
  rw [scl, if_pos]
  · exact congrArg (· * Ideal.ofBits .f32 0x3E38AA3B#32) (proj_congr _ _ (by simp) (by simp [colOf]; omega))
  · simp; try omega

theorem pieceCs (x2 : Vec Ideal S1024x8192 .bf16) (o z : ℕ) (hz : z = colOf 2 o) (ho : o + 256 ≤ 512) (hm : o % 256 = 0)
    (v : FVec Ideal S1x16x32x256 .bf16) (H : Vec Ideal S1x512x1024 .bf16) (hH : ∀ r l, H (ix3 0 r l) = h (ix2 ⟨rowB r.val, rowB_lt r.isLt⟩ l))
    (inb : ∀ a, ![0, z] a + ![1024, 256] a ≤ S1024x8192.size a) (inbo : ∀ a, ![0, 0, 0, o] a + ![1, 16, 32, 256] a ≤ S1x16x32x1536.size a)
    (hv : v = outC (scaleP (mmP H (View.readAt (Elt Ideal) arg4.view (Rect.unit (s := S1024x8192) ![0, z] ![1024, 256] inb).toLoadRect (harg4.unread x2))))) (x : S1x16x32x256.Idx) :
    v x = blockC h x2 ((Rect.unit (s := S1x16x32x1536) ![0, 0, 0, o] ![1, 16, 32, 256] inbo).emb x) := by
  subst hv
  obtain ⟨q, r, j, rfl⟩ : ∃ (q : Fin 16) (r : Fin 32) (j : Fin 256), x = (ix4 0 q r j : S1x16x32x256.Idx) := ⟨x 1, x 2, x 3, by
    funext a; fin_cases a
    · exact Fin.ext (by have : (x 0).val < 1 := (x 0).isLt; show (x 0).val = 0; omega)
    · rfl
    · rfl
    · rfl⟩
  unfold colOf at hz
  rw [outC_at, scaleP_at, mm_at h arg4 harg4 x2 H (fun r => ⟨rowB r.val, rowB_lt r.isLt⟩) hH z inb (by omega)]
  unfold blockC
  rw [scl, if_pos]
  · exact congrArg (· * Ideal.ofBits .f32 0x3E38AA3B#32) (proj_congr _ _ (by simp) (by simp [colOf]; omega))
  · simp; try omega

theorem pieceA (x2 : Vec Ideal S1024x8192 .bf16) (o z : ℕ) (hz : z = colOf 0 o) (ho : 512 ≤ o) (ho' : o + 256 ≤ 1536) (hm : o % 256 = 0)
    (v : FVec Ideal S1x1x512x256 .bf16) (H : Vec Ideal S1x512x1024 .bf16) (hH : ∀ r l, H (ix3 0 r l) = h (ix2 r l))
    (inb : ∀ a, ![0, z] a + ![1024, 256] a ≤ S1024x8192.size a) (inbo : ∀ a, ![0, 0, 0, o] a + ![1, 1, 512, 256] a ≤ S1x1x512x1536.size a)
    (hv : v = outA (mmP H (View.readAt (Elt Ideal) arg4.view (Rect.unit (s := S1024x8192) ![0, z] ![1024, 256] inb).toLoadRect (harg4.unread x2)))) (x : S1x1x512x256.Idx) :
    v x = blockA h x2 ((Rect.unit (s := S1x1x512x1536) ![0, 0, 0, o] ![1, 1, 512, 256] inbo).emb x) := by
  subst hv
  obtain ⟨r, j, rfl⟩ : ∃ (r : Fin 512) (j : Fin 256), x = (ix4 0 0 r j : S1x1x512x256.Idx) := ⟨x 2, x 3, by
    funext a; fin_cases a
    · exact Fin.ext (by have : (x 0).val < 1 := (x 0).isLt; show (x 0).val = 0; omega)
    · exact Fin.ext (by have : (x 1).val < 1 := (x 1).isLt; show (x 1).val = 0; omega)
    · rfl
    · rfl⟩
  unfold colOf at hz
  rw [outA_at, mm_at h arg4 harg4 x2 H id hH z inb (by omega)]
  unfold blockA
  rw [scl, if_neg]
  · exact proj_congr _ _ (by simp) (by simp [colOf]; omega)
  · simp; try omega

theorem pieceB (x2 : Vec Ideal S1024x8192 .bf16) (o z : ℕ) (hz : z = colOf 1 o) (ho : 512 ≤ o) (ho' : o + 256 ≤ 1536) (hm : o % 256 = 0)
    (v : FVec Ideal S1x4x128x256 .bf16) (H : Vec Ideal S1x512x1024 .bf16) (hH : ∀ r l, H (ix3 0 r l) = h (ix2 ⟨rowA r.val, rowA_lt r.isLt⟩ l))
    (inb : ∀ a, ![0, z] a + ![1024, 256] a ≤ S1024x8192.size a) (inbo : ∀ a, ![0, 0, 0, o] a + ![1, 4, 128, 256] a ≤ S1x4x128x1536.size a)
    (hv : v = outB (mmP H (View.readAt (Elt Ideal) arg4.view (Rect.unit (s := S1024x8192) ![0, z] ![1024, 256] inb).toLoadRect (harg4.unread x2)))) (x : S1x4x128x256.Idx) :
    v x = blockB h x2 ((Rect.unit (s := S1x4x128x1536) ![0, 0, 0, o] ![1, 4, 128, 256] inbo).emb x) := by
  subst hv
  obtain ⟨q, r, j, rfl⟩ : ∃ (q : Fin 4) (r : Fin 128) (j : Fin 256), x = (ix4 0 q r j : S1x4x128x256.Idx) := ⟨x 1, x 2, x 3, by
    funext a; fin_cases a
    · exact Fin.ext (by have : (x 0).val < 1 := (x 0).isLt; show (x 0).val = 0; omega)
    · rfl
    · rfl
    · rfl⟩
  unfold colOf at hz
  rw [outB_at, mm_at h arg4 harg4 x2 H (fun r => ⟨rowA r.val, rowA_lt r.isLt⟩) hH z inb (by omega)]
  unfold blockB
  rw [scl, if_neg]
  · exact proj_congr _ _ (by simp) (by simp [colOf]; omega)
  · simp; try omega

theorem pieceC (x2 : Vec Ideal S1024x8192 .bf16) (o z : ℕ) (hz : z = colOf 2 o) (ho : 512 ≤ o) (ho' : o + 256 ≤ 1536) (hm : o % 256 = 0)
    (v : FVec Ideal S1x16x32x256 .bf16) (H : Vec Ideal S1x512x1024 .bf16) (hH : ∀ r l, H (ix3 0 r l) = h (ix2 ⟨rowB r.val, rowB_lt r.isLt⟩ l))
    (inb : ∀ a, ![0, z] a + ![1024, 256] a ≤ S1024x8192.size a) (inbo : ∀ a, ![0, 0, 0, o] a + ![1, 16, 32, 256] a ≤ S1x16x32x1536.size a)
    (hv : v = outC (mmP H (View.readAt (Elt Ideal) arg4.view (Rect.unit (s := S1024x8192) ![0, z] ![1024, 256] inb).toLoadRect (harg4.unread x2)))) (x : S1x16x32x256.Idx) :
    v x = blockC h x2 ((Rect.unit (s := S1x16x32x1536) ![0, 0, 0, o] ![1, 16, 32, 256] inbo).emb x) := by
  subst hv
  obtain ⟨q, r, j, rfl⟩ : ∃ (q : Fin 16) (r : Fin 32) (j : Fin 256), x = (ix4 0 q r j : S1x16x32x256.Idx) := ⟨x 1, x 2, x 3, by
    funext a; fin_cases a
    · exact Fin.ext (by have : (x 0).val < 1 := (x 0).isLt; show (x 0).val = 0; omega)
    · rfl
    · rfl
    · rfl⟩
  unfold colOf at hz
  rw [outC_at, mm_at h arg4 harg4 x2 H (fun r => ⟨rowB r.val, rowB_lt r.isLt⟩) hH z inb (by omega)]
  unfold blockC
  rw [scl, if_neg]
  · exact proj_congr _ _ (by simp) (by simp [colOf]; omega)
  · simp; try omega

variable (arg6 : Memref sig .tc .vmem S1x128 .f32) (harg6 : arg6.IsWhole) (c : Dev nD)
  (arg8 : Memref sig .tc .vmem S512x128 .f32) (harg8 : arg8.IsWhole) (arg9 : Memref sig .tc .vmem S512x128 .f32) (harg9 : arg9.IsWhole)

theorem cosine_eq (x6 : Vec Ideal S512x128 .f32) : kernelRun0_A.sl.r_38 c arg8 harg8 x6 = x6 := by
  funext y
  obtain ⟨r, d, rfl⟩ : ∃ (r : Fin 512) (d : Fin 128), y = (ix2 r d : S512x128.Idx) := ⟨y 0, y 1, eq_ix2 y⟩
  have e : View.readAt (Elt Ideal) arg8.view (Rect.unit (s := S512x128) ![0, 0] S512x128.size inb_S512x128_S512x128_0_0).toLoadRect (harg8.unread x6) = x6 :=
    (View.readAt_full arg8.view _ _).trans (harg8.read_unread _)
  show (shapeCast S512x128 (View.readAt (Elt Ideal) arg8.view (Rect.unit (s := S512x128) ![0, 0] S512x128.size inb_S512x128_S512x128_0_0).toLoadRect (harg8.unread x6)) shapeCasts_S512x128_S512x128 : FVec Ideal S512x128 .f32) (ix2 r d) = _
  rw [e]
  pointwise

theorem sine_eq (x7 : Vec Ideal S512x128 .f32) : kernelRun0_A.sl.r_39 c arg9 harg9 x7 = x7 := cosine_eq c arg9 harg9 x7

/-- A head of a product, normalized and rotated, at an entry. -/
theorem head_at (x2 : Vec Ideal S1024x8192 .bf16) (g : Vec Ideal S1x128 .f32) (x6 x7 : Vec Ideal S512x128 .f32) (u : FVec Ideal S512x128 .f32) (z : Fin 8065)
    (inbg : ∀ a, ![0, 0] a + ![1, 128] a ≤ S1x128.size a)
    (hu : ∀ (r : Fin 512) (k : Fin 128), u (ix2 r k) = proj h x2 r ⟨z.val + k.val, by omega⟩) (r : Fin 512) (d : Fin 128) :
    ropeP (kernelRun0_A.sl.r_38 c arg8 harg8 x6) (kernelRun0_A.sl.r_39 c arg9 harg9 x7)
      (normP u (View.readAt (Elt Ideal) arg6.view (Rect.unit (s := S1x128) ![0, 0] ![1, 128] inbg).toLoadRect (harg6.unread g))) (ix3 0 r d)
      = headVal h x2 g x6 x7 r z d := by
  rw [ropeP_at, cosine_eq, sine_eq, normP_at, normP_at, gread, gread]
  simp only [hu]
  rfl

theorem pieceQlo (x2 : Vec Ideal S1024x8192 .bf16) (g : Vec Ideal S1x128 .f32) (x6 x7 : Vec Ideal S512x128 .f32) (o z : ℕ) (hz : z + 0 = 4608 + o) (ho : o + 128 ≤ 1024) (hm : o % 128 = 0)
    (v : FVec Ideal S1x512x128 .bf16) (H : Vec Ideal S1x512x1024 .bf16) (hH : ∀ r l, H (ix3 0 r l) = h (ix2 r l))
    (inb : ∀ a, ![0, z] a + ![1024, 256] a ≤ S1024x8192.size a) (inbo : ∀ a, ![0, 0, o] a + ![1, 512, 128] a ≤ S1x512x1024.size a)
    (hv : v = ropeP (kernelRun0_A.sl.r_38 c arg8 harg8 x6) (kernelRun0_A.sl.r_39 c arg9 harg9 x7)
      (normP (lo (mmP H (View.readAt (Elt Ideal) arg4.view (Rect.unit (s := S1024x8192) ![0, z] ![1024, 256] inb).toLoadRect (harg4.unread x2))))
        (View.readAt (Elt Ideal) arg6.view (Rect.unit (s := S1x128) ![0, 0] ![1, 128] inb_S1x128_S1x128_0_0).toLoadRect (harg6.unread g)))) (x : S1x512x128.Idx) :
    v x = blockQ h x2 g x6 x7 ((Rect.unit (s := S1x512x1024) ![0, 0, o] ![1, 512, 128] inbo).emb x) := by
  subst hv
  obtain ⟨r, d, rfl⟩ : ∃ (r : Fin 512) (d : Fin 128), x = (ix3 0 r d : S1x512x128.Idx) := ⟨x 1, x 2, by
    funext a; fin_cases a
    · exact Fin.ext (by have : (x 0).val < 1 := (x 0).isLt; show (x 0).val = 0; omega)
    · rfl
    · rfl⟩
  rw [head_at h arg6 harg6 c arg8 harg8 arg9 harg9 x2 g x6 x7 _ ⟨z + 0, by omega⟩ inb_S1x128_S1x128_0_0 (fun r k => by
    rw [lo_at, mm_at h arg4 harg4 x2 H id hH z inb (by omega)]
    exact proj_congr _ _ rfl (by simp <;> omega))]
  exact headVal_congr _ _ _ _ _ (by simp) (by simp; omega) (by simp; omega)

theorem pieceQhi (x2 : Vec Ideal S1024x8192 .bf16) (g : Vec Ideal S1x128 .f32) (x6 x7 : Vec Ideal S512x128 .f32) (o z : ℕ) (hz : z + 128 = 4608 + o) (ho : o + 128 ≤ 1024) (hm : o % 128 = 0)
    (v : FVec Ideal S1x512x128 .bf16) (H : Vec Ideal S1x512x1024 .bf16) (hH : ∀ r l, H (ix3 0 r l) = h (ix2 r l))
    (inb : ∀ a, ![0, z] a + ![1024, 256] a ≤ S1024x8192.size a) (inbo : ∀ a, ![0, 0, o] a + ![1, 512, 128] a ≤ S1x512x1024.size a)
    (hv : v = ropeP (kernelRun0_A.sl.r_38 c arg8 harg8 x6) (kernelRun0_A.sl.r_39 c arg9 harg9 x7)
      (normP (hi (mmP H (View.readAt (Elt Ideal) arg4.view (Rect.unit (s := S1024x8192) ![0, z] ![1024, 256] inb).toLoadRect (harg4.unread x2))))
        (View.readAt (Elt Ideal) arg6.view (Rect.unit (s := S1x128) ![0, 0] ![1, 128] inb_S1x128_S1x128_0_0).toLoadRect (harg6.unread g)))) (x : S1x512x128.Idx) :
    v x = blockQ h x2 g x6 x7 ((Rect.unit (s := S1x512x1024) ![0, 0, o] ![1, 512, 128] inbo).emb x) := by
  subst hv
  obtain ⟨r, d, rfl⟩ : ∃ (r : Fin 512) (d : Fin 128), x = (ix3 0 r d : S1x512x128.Idx) := ⟨x 1, x 2, by
    funext a; fin_cases a
    · exact Fin.ext (by have : (x 0).val < 1 := (x 0).isLt; show (x 0).val = 0; omega)
    · rfl
    · rfl⟩
  rw [head_at h arg6 harg6 c arg8 harg8 arg9 harg9 x2 g x6 x7 _ ⟨z + 128, by omega⟩ inb_S1x128_S1x128_0_0 (fun r k => by
    rw [hi_at, mm_at h arg4 harg4 x2 H id hH z inb (by omega)]
    exact proj_congr _ _ rfl (by simp <;> omega))]
  exact headVal_congr _ _ _ _ _ (by simp) (by simp; omega) (by simp; omega)

theorem pieceKlo (x2 : Vec Ideal S1024x8192 .bf16) (g : Vec Ideal S1x128 .f32) (x6 x7 : Vec Ideal S512x128 .f32) (o z : ℕ) (hz : z + 0 = 5632 + o) (ho : o + 128 ≤ 256) (hm : o % 128 = 0)
    (v : FVec Ideal S1x512x128 .bf16) (H : Vec Ideal S1x512x1024 .bf16) (hH : ∀ r l, H (ix3 0 r l) = h (ix2 r l))
    (inb : ∀ a, ![0, z] a + ![1024, 256] a ≤ S1024x8192.size a) (inbo : ∀ a, ![0, 0, o] a + ![1, 512, 128] a ≤ S1x512x256.size a)
    (hv : v = ropeP (kernelRun0_A.sl.r_38 c arg8 harg8 x6) (kernelRun0_A.sl.r_39 c arg9 harg9 x7)
      (normP (lo (mmP H (View.readAt (Elt Ideal) arg4.view (Rect.unit (s := S1024x8192) ![0, z] ![1024, 256] inb).toLoadRect (harg4.unread x2))))
        (View.readAt (Elt Ideal) arg6.view (Rect.unit (s := S1x128) ![0, 0] ![1, 128] inb_S1x128_S1x128_0_0).toLoadRect (harg6.unread g)))) (x : S1x512x128.Idx) :
    v x = blockK h x2 g x6 x7 ((Rect.unit (s := S1x512x256) ![0, 0, o] ![1, 512, 128] inbo).emb x) := by
  subst hv
  obtain ⟨r, d, rfl⟩ : ∃ (r : Fin 512) (d : Fin 128), x = (ix3 0 r d : S1x512x128.Idx) := ⟨x 1, x 2, by
    funext a; fin_cases a
    · exact Fin.ext (by have : (x 0).val < 1 := (x 0).isLt; show (x 0).val = 0; omega)
    · rfl
    · rfl⟩
  rw [head_at h arg6 harg6 c arg8 harg8 arg9 harg9 x2 g x6 x7 _ ⟨z + 0, by omega⟩ inb_S1x128_S1x128_0_0 (fun r k => by
    rw [lo_at, mm_at h arg4 harg4 x2 H id hH z inb (by omega)]
    exact proj_congr _ _ rfl (by simp <;> omega))]
  exact headVal_congr _ _ _ _ _ (by simp) (by simp; omega) (by simp; omega)

theorem pieceKhi (x2 : Vec Ideal S1024x8192 .bf16) (g : Vec Ideal S1x128 .f32) (x6 x7 : Vec Ideal S512x128 .f32) (o z : ℕ) (hz : z + 128 = 5632 + o) (ho : o + 128 ≤ 256) (hm : o % 128 = 0)
    (v : FVec Ideal S1x512x128 .bf16) (H : Vec Ideal S1x512x1024 .bf16) (hH : ∀ r l, H (ix3 0 r l) = h (ix2 r l))
    (inb : ∀ a, ![0, z] a + ![1024, 256] a ≤ S1024x8192.size a) (inbo : ∀ a, ![0, 0, o] a + ![1, 512, 128] a ≤ S1x512x256.size a)
    (hv : v = ropeP (kernelRun0_A.sl.r_38 c arg8 harg8 x6) (kernelRun0_A.sl.r_39 c arg9 harg9 x7)
      (normP (hi (mmP H (View.readAt (Elt Ideal) arg4.view (Rect.unit (s := S1024x8192) ![0, z] ![1024, 256] inb).toLoadRect (harg4.unread x2))))
        (View.readAt (Elt Ideal) arg6.view (Rect.unit (s := S1x128) ![0, 0] ![1, 128] inb_S1x128_S1x128_0_0).toLoadRect (harg6.unread g)))) (x : S1x512x128.Idx) :
    v x = blockK h x2 g x6 x7 ((Rect.unit (s := S1x512x256) ![0, 0, o] ![1, 512, 128] inbo).emb x) := by
  subst hv
  obtain ⟨r, d, rfl⟩ : ∃ (r : Fin 512) (d : Fin 128), x = (ix3 0 r d : S1x512x128.Idx) := ⟨x 1, x 2, by
    funext a; fin_cases a
    · exact Fin.ext (by have : (x 0).val < 1 := (x 0).isLt; show (x 0).val = 0; omega)
    · rfl
    · rfl⟩
  rw [head_at h arg6 harg6 c arg8 harg8 arg9 harg9 x2 g x6 x7 _ ⟨z + 128, by omega⟩ inb_S1x128_S1x128_0_0 (fun r k => by
    rw [hi_at, mm_at h arg4 harg4 x2 H id hH z inb (by omega)]
    exact proj_congr _ _ rfl (by simp <;> omega))]
  exact headVal_congr _ _ _ _ _ (by simp) (by simp; omega) (by simp; omega)

end Pieces

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x8192 .bf16) (harg4 : arg4.IsWhole) (arg5 : Memref sig .tc .vmem S1x2048 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x1x512x1536 .bf16) (harg10 : arg10.IsWhole) (arg11 : Memref sig .tc .vmem S1x4x128x1536 .bf16) (harg11 : arg11.IsWhole) (arg12 : Memref sig .tc .vmem S1x16x32x1536 .bf16) (harg12 : arg12.IsWhole) (arg13 : Memref sig .tc .vmem S1x512x1024 .bf16) (harg13 : arg13.IsWhole) (arg14 : Memref sig .tc .vmem S1x512x256 .bf16) (harg14 : arg14.IsWhole) (arg15 : Memref sig .tc .vmem S1x256x512 .bf16) (harg15 : arg15.IsWhole) (arg16 : Memref sig .tc .vmem S1x512x2048 .bf16) (harg16 : arg16.IsWhole) (arg17 : Memref sig .tc .vmem S2x8x512x128 .f32) (harg17 : arg17.IsWhole) (arg18 : Memref sig .tc .vmem S3x512x1024 .bf16) (harg18 : arg18.IsWhole)
  (x0 : Vec Ideal S1x512x1024 .f32) (x1 : Vec Ideal S1x1024 .f32) (x2 : Vec Ideal S1024x8192 .bf16) (x3 : Vec Ideal S1x2048 .f32) (x4 : Vec Ideal S1x128 .f32) (x5 : Vec Ideal S1x128 .f32) (x6 : Vec Ideal S512x128 .f32) (x7 : Vec Ideal S512x128 .f32)

/-- The rows in order, as the loads read them. -/
theorem v1113_at (arg2 : Memref sig .tc .vmem S1x512x1024 .f32) (harg2 : arg2.IsWhole) (arg3 : Memref sig .tc .vmem S1x1024 .f32) (harg3 : arg3.IsWhole) (arg17 : Memref sig .tc .vmem S2x8x512x128 .f32) (arg18 : Memref sig .tc .vmem S3x512x1024 .bf16)
    (x0 : Vec Ideal S1x512x1024 .f32) (x1 : Vec Ideal S1x1024 .f32) (r : Fin 512) (l : Fin 1024) : kernelRun0_A.sl.v1113 c arg2 harg2 arg3 harg3 arg17 arg18 x0 x1 (ix3 0 r l) = (rows c arg2 harg2 arg3 harg3 x0 x1) (ix2 r l) := by
  unfold kernelRun0_A.sl.v1113
  exact loadHalf (half161 c arg2 harg2 arg3 harg3 arg17 x0 x1) arg18 0 (by omega) inb_S3x512x1024_S1x512x1024_0_0_0 r l

/-- Every fourth row together. -/
theorem v1626_at (arg2 : Memref sig .tc .vmem S1x512x1024 .f32) (harg2 : arg2.IsWhole) (arg3 : Memref sig .tc .vmem S1x1024 .f32) (harg3 : arg3.IsWhole) (arg17 : Memref sig .tc .vmem S2x8x512x128 .f32) (arg18 : Memref sig .tc .vmem S3x512x1024 .bf16)
    (x0 : Vec Ideal S1x512x1024 .f32) (x1 : Vec Ideal S1x1024 .f32) (r : Fin 512) (l : Fin 1024) : kernelRun0_A.sl.v1626 c arg2 harg2 arg3 harg3 arg17 arg18 x0 x1 (ix3 0 r l) = (rows c arg2 harg2 arg3 harg3 x0 x1) (ix2 ⟨rowA r.val, rowA_lt r.isLt⟩ l) := by
  unfold kernelRun0_A.sl.v1626
  exact loadHalf (half161 c arg2 harg2 arg3 harg3 arg17 x0 x1) arg18 1 (by omega) inb_S3x512x1024_S1x512x1024_1_0_0 r l

/-- Every sixteenth row together. -/
theorem v1562_at (arg2 : Memref sig .tc .vmem S1x512x1024 .f32) (harg2 : arg2.IsWhole) (arg3 : Memref sig .tc .vmem S1x1024 .f32) (harg3 : arg3.IsWhole) (arg17 : Memref sig .tc .vmem S2x8x512x128 .f32) (arg18 : Memref sig .tc .vmem S3x512x1024 .bf16)
    (x0 : Vec Ideal S1x512x1024 .f32) (x1 : Vec Ideal S1x1024 .f32) (r : Fin 512) (l : Fin 1024) : kernelRun0_A.sl.v1562 c arg2 harg2 arg3 harg3 arg17 arg18 x0 x1 (ix3 0 r l) = (rows c arg2 harg2 arg3 harg3 x0 x1) (ix2 ⟨rowB r.val, rowB_lt r.isLt⟩ l) := by
  unfold kernelRun0_A.sl.v1562
  exact loadHalf (half161 c arg2 harg2 arg3 harg3 arg17 x0 x1) arg18 2 (by omega) inb_S3x512x1024_S1x512x1024_2_0_0 r l

set_option maxHeartbeats 4000000 in
/-- The values' block at an entry. -/
theorem out13_eq (y : _) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = blockT (rows c arg2 harg2 arg3 harg3 x0 x1) x2 y := by
  unfold out0_A_13
  refine View.read_writes_apply_of_pieces (v := VO0_13) (f := VO0_13.junk) (blockT (rows c arg2 harg2 arg3 harg3 x0 x1) x2) _ ?_ y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y)
  delta kernelRun0_A
  dsimp only
  refine List.forall_mem_cons.2 ⟨?_, List.forall_mem_nil _⟩
  · intro x; dsimp only; exact pieceT (rows c arg2 harg2 arg3 harg3 x0 x1) arg4 harg4 x2 _ (kernelRun0_A.sl.v1113 c arg2 harg2 arg3 harg3 arg17 arg18 x0 x1) (v1113_at c arg2 harg2 arg3 harg3 arg17 arg18 x0 x1) inb_S1024x8192_S1024x256_0_5888 _ rfl x

set_option maxHeartbeats 4000000 in
/-- The gates' block at an entry. -/
theorem out14_eq (y : _) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = blockG (rows c arg2 harg2 arg3 harg3 x0 x1) x2 x3 y := by
  unfold out0_A_14
  refine View.read_writes_apply_of_pieces (v := VO0_14) (f := VO0_14.junk) (blockG (rows c arg2 harg2 arg3 harg3 x0 x1) x2 x3) _ ?_ y (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y)
  delta kernelRun0_A
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · intro x; dsimp only; exact pieceG (rows c arg2 harg2 arg3 harg3 x0 x1) arg4 harg4 arg5 harg5 x2 x3 1792 7936 rfl (by omega) _ (kernelRun0_A.sl.v1113 c arg2 harg2 arg3 harg3 arg17 arg18 x0 x1) (v1113_at c arg2 harg2 arg3 harg3 arg17 arg18 x0 x1) inb_S1024x8192_S1024x256_0_7936 inb_S1x2048_S1x256_0_1792 _ rfl x
  · intro x; dsimp only; exact pieceG (rows c arg2 harg2 arg3 harg3 x0 x1) arg4 harg4 arg5 harg5 x2 x3 1536 7680 rfl (by omega) _ (kernelRun0_A.sl.v1113 c arg2 harg2 arg3 harg3 arg17 arg18 x0 x1) (v1113_at c arg2 harg2 arg3 harg3 arg17 arg18 x0 x1) inb_S1024x8192_S1024x256_0_7680 inb_S1x2048_S1x256_0_1536 _ rfl x
  · intro x; dsimp only; exact pieceG (rows c arg2 harg2 arg3 harg3 x0 x1) arg4 harg4 arg5 harg5 x2 x3 1280 7424 rfl (by omega) _ (kernelRun0_A.sl.v1113 c arg2 harg2 arg3 harg3 arg17 arg18 x0 x1) (v1113_at c arg2 harg2 arg3 harg3 arg17 arg18 x0 x1) inb_S1024x8192_S1024x256_0_7424 inb_S1x2048_S1x256_0_1280 _ rfl x
  · intro x; dsimp only; exact pieceG (rows c arg2 harg2 arg3 harg3 x0 x1) arg4 harg4 arg5 harg5 x2 x3 1024 7168 rfl (by omega) _ (kernelRun0_A.sl.v1113 c arg2 harg2 arg3 harg3 arg17 arg18 x0 x1) (v1113_at c arg2 harg2 arg3 harg3 arg17 arg18 x0 x1) inb_S1024x8192_S1024x256_0_7168 inb_S1x2048_S1x256_0_1024 _ rfl x
  · intro x; dsimp only; exact pieceG (rows c arg2 harg2 arg3 harg3 x0 x1) arg4 harg4 arg5 harg5 x2 x3 768 6912 rfl (by omega) _ (kernelRun0_A.sl.v1113 c arg2 harg2 arg3 harg3 arg17 arg18 x0 x1) (v1113_at c arg2 harg2 arg3 harg3 arg17 arg18 x0 x1) inb_S1024x8192_S1024x256_0_6912 inb_S1x2048_S1x256_0_768 _ rfl x
  · intro x; dsimp only; exact pieceG (rows c arg2 harg2 arg3 harg3 x0 x1) arg4 harg4 arg5 harg5 x2 x3 512 6656 rfl (by omega) _ (kernelRun0_A.sl.v1113 c arg2 harg2 arg3 harg3 arg17 arg18 x0 x1) (v1113_at c arg2 harg2 arg3 harg3 arg17 arg18 x0 x1) inb_S1024x8192_S1024x256_0_6656 inb_S1x2048_S1x256_0_512 _ rfl x
  · intro x; dsimp only; exact pieceG (rows c arg2 harg2 arg3 harg3 x0 x1) arg4 harg4 arg5 harg5 x2 x3 256 6400 rfl (by omega) _ (kernelRun0_A.sl.v1113 c arg2 harg2 arg3 harg3 arg17 arg18 x0 x1) (v1113_at c arg2 harg2 arg3 harg3 arg17 arg18 x0 x1) inb_S1024x8192_S1024x256_0_6400 inb_S1x2048_S1x256_0_256 _ rfl x
  · intro x; dsimp only; exact pieceG (rows c arg2 harg2 arg3 harg3 x0 x1) arg4 harg4 arg5 harg5 x2 x3 0 6144 rfl (by omega) _ (kernelRun0_A.sl.v1113 c arg2 harg2 arg3 harg3 arg17 arg18 x0 x1) (v1113_at c arg2 harg2 arg3 harg3 arg17 arg18 x0 x1) inb_S1024x8192_S1024x256_0_6144 inb_S1x2048_S1x256_0_0 _ rfl x

set_option maxHeartbeats 4000000 in
/-- The first stored block at an entry. -/
theorem out8_eq (y : _) : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = blockA (rows c arg2 harg2 arg3 harg3 x0 x1) x2 y := by
  unfold out0_A_8
  refine View.read_writes_apply_of_pieces (v := VO0_8) (f := VO0_8.junk) (blockA (rows c arg2 harg2 arg3 harg3 x0 x1) x2) _ ?_ y (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y)
  delta kernelRun0_A
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩
  · intro x; dsimp only; exact pieceA (rows c arg2 harg2 arg3 harg3 x0 x1) arg4 harg4 x2 1280 3328 rfl (by omega) (by omega) (by omega) _ (kernelRun0_A.sl.v1113 c arg2 harg2 arg3 harg3 arg17 arg18 x0 x1) (v1113_at c arg2 harg2 arg3 harg3 arg17 arg18 x0 x1) inb_S1024x8192_S1024x256_0_3328 _ rfl x
  · intro x; dsimp only; exact pieceA (rows c arg2 harg2 arg3 harg3 x0 x1) arg4 harg4 x2 1024 3072 rfl (by omega) (by omega) (by omega) _ (kernelRun0_A.sl.v1113 c arg2 harg2 arg3 harg3 arg17 arg18 x0 x1) (v1113_at c arg2 harg2 arg3 harg3 arg17 arg18 x0 x1) inb_S1024x8192_S1024x256_0_3072 _ rfl x
  · intro x; dsimp only; exact pieceA (rows c arg2 harg2 arg3 harg3 x0 x1) arg4 harg4 x2 768 1792 rfl (by omega) (by omega) (by omega) _ (kernelRun0_A.sl.v1113 c arg2 harg2 arg3 harg3 arg17 arg18 x0 x1) (v1113_at c arg2 harg2 arg3 harg3 arg17 arg18 x0 x1) inb_S1024x8192_S1024x256_0_1792 _ rfl x
  · intro x; dsimp only; exact pieceA (rows c arg2 harg2 arg3 harg3 x0 x1) arg4 harg4 x2 512 1536 rfl (by omega) (by omega) (by omega) _ (kernelRun0_A.sl.v1113 c arg2 harg2 arg3 harg3 arg17 arg18 x0 x1) (v1113_at c arg2 harg2 arg3 harg3 arg17 arg18 x0 x1) inb_S1024x8192_S1024x256_0_1536 _ rfl x
  · intro x; dsimp only; exact pieceAs (rows c arg2 harg2 arg3 harg3 x0 x1) arg4 harg4 x2 256 256 rfl (by omega) (by omega) _ (kernelRun0_A.sl.v1113 c arg2 harg2 arg3 harg3 arg17 arg18 x0 x1) (v1113_at c arg2 harg2 arg3 harg3 arg17 arg18 x0 x1) inb_S1024x8192_S1024x256_0_256 _ rfl x
  · intro x; dsimp only; exact pieceAs (rows c arg2 harg2 arg3 harg3 x0 x1) arg4 harg4 x2 0 0 rfl (by omega) (by omega) _ (kernelRun0_A.sl.v1113 c arg2 harg2 arg3 harg3 arg17 arg18 x0 x1) (v1113_at c arg2 harg2 arg3 harg3 arg17 arg18 x0 x1) inb_S1024x8192_S1024x256_0_0 _ rfl x

set_option maxHeartbeats 4000000 in
/-- The second stored block at an entry. -/
theorem out9_eq (y : _) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = blockB (rows c arg2 harg2 arg3 harg3 x0 x1) x2 y := by
  unfold out0_A_9
  refine View.read_writes_apply_of_pieces (v := VO0_9) (f := VO0_9.junk) (blockB (rows c arg2 harg2 arg3 harg3 x0 x1) x2) _ ?_ y (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y)
  delta kernelRun0_A
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩
  · intro x; dsimp only; exact pieceB (rows c arg2 harg2 arg3 harg3 x0 x1) arg4 harg4 x2 1280 3840 rfl (by omega) (by omega) (by omega) _ (kernelRun0_A.sl.v1626 c arg2 harg2 arg3 harg3 arg17 arg18 x0 x1) (v1626_at c arg2 harg2 arg3 harg3 arg17 arg18 x0 x1) inb_S1024x8192_S1024x256_0_3840 _ rfl x
  · intro x; dsimp only; exact pieceB (rows c arg2 harg2 arg3 harg3 x0 x1) arg4 harg4 x2 1024 3584 rfl (by omega) (by omega) (by omega) _ (kernelRun0_A.sl.v1626 c arg2 harg2 arg3 harg3 arg17 arg18 x0 x1) (v1626_at c arg2 harg2 arg3 harg3 arg17 arg18 x0 x1) inb_S1024x8192_S1024x256_0_3584 _ rfl x
  · intro x; dsimp only; exact pieceB (rows c arg2 harg2 arg3 harg3 x0 x1) arg4 harg4 x2 768 2304 rfl (by omega) (by omega) (by omega) _ (kernelRun0_A.sl.v1626 c arg2 harg2 arg3 harg3 arg17 arg18 x0 x1) (v1626_at c arg2 harg2 arg3 harg3 arg17 arg18 x0 x1) inb_S1024x8192_S1024x256_0_2304 _ rfl x
  · intro x; dsimp only; exact pieceB (rows c arg2 harg2 arg3 harg3 x0 x1) arg4 harg4 x2 512 2048 rfl (by omega) (by omega) (by omega) _ (kernelRun0_A.sl.v1626 c arg2 harg2 arg3 harg3 arg17 arg18 x0 x1) (v1626_at c arg2 harg2 arg3 harg3 arg17 arg18 x0 x1) inb_S1024x8192_S1024x256_0_2048 _ rfl x
  · intro x; dsimp only; exact pieceBs (rows c arg2 harg2 arg3 harg3 x0 x1) arg4 harg4 x2 256 768 rfl (by omega) (by omega) _ (kernelRun0_A.sl.v1626 c arg2 harg2 arg3 harg3 arg17 arg18 x0 x1) (v1626_at c arg2 harg2 arg3 harg3 arg17 arg18 x0 x1) inb_S1024x8192_S1024x256_0_768 _ rfl x
  · intro x; dsimp only; exact pieceBs (rows c arg2 harg2 arg3 harg3 x0 x1) arg4 harg4 x2 0 512 rfl (by omega) (by omega) _ (kernelRun0_A.sl.v1626 c arg2 harg2 arg3 harg3 arg17 arg18 x0 x1) (v1626_at c arg2 harg2 arg3 harg3 arg17 arg18 x0 x1) inb_S1024x8192_S1024x256_0_512 _ rfl x

set_option maxHeartbeats 4000000 in
/-- The third stored block at an entry. -/
theorem out10_eq (y : _) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = blockC (rows c arg2 harg2 arg3 harg3 x0 x1) x2 y := by
  unfold out0_A_10
  refine View.read_writes_apply_of_pieces (v := VO0_10) (f := VO0_10.junk) (blockC (rows c arg2 harg2 arg3 harg3 x0 x1) x2) _ ?_ y (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y)
  delta kernelRun0_A
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩
  · intro x; dsimp only; exact pieceC (rows c arg2 harg2 arg3 harg3 x0 x1) arg4 harg4 x2 1280 4352 rfl (by omega) (by omega) (by omega) _ (kernelRun0_A.sl.v1562 c arg2 harg2 arg3 harg3 arg17 arg18 x0 x1) (v1562_at c arg2 harg2 arg3 harg3 arg17 arg18 x0 x1) inb_S1024x8192_S1024x256_0_4352 _ rfl x
  · intro x; dsimp only; exact pieceC (rows c arg2 harg2 arg3 harg3 x0 x1) arg4 harg4 x2 1024 4096 rfl (by omega) (by omega) (by omega) _ (kernelRun0_A.sl.v1562 c arg2 harg2 arg3 harg3 arg17 arg18 x0 x1) (v1562_at c arg2 harg2 arg3 harg3 arg17 arg18 x0 x1) inb_S1024x8192_S1024x256_0_4096 _ rfl x
  · intro x; dsimp only; exact pieceC (rows c arg2 harg2 arg3 harg3 x0 x1) arg4 harg4 x2 768 2816 rfl (by omega) (by omega) (by omega) _ (kernelRun0_A.sl.v1562 c arg2 harg2 arg3 harg3 arg17 arg18 x0 x1) (v1562_at c arg2 harg2 arg3 harg3 arg17 arg18 x0 x1) inb_S1024x8192_S1024x256_0_2816 _ rfl x
  · intro x; dsimp only; exact pieceC (rows c arg2 harg2 arg3 harg3 x0 x1) arg4 harg4 x2 512 2560 rfl (by omega) (by omega) (by omega) _ (kernelRun0_A.sl.v1562 c arg2 harg2 arg3 harg3 arg17 arg18 x0 x1) (v1562_at c arg2 harg2 arg3 harg3 arg17 arg18 x0 x1) inb_S1024x8192_S1024x256_0_2560 _ rfl x
  · intro x; dsimp only; exact pieceCs (rows c arg2 harg2 arg3 harg3 x0 x1) arg4 harg4 x2 256 1280 rfl (by omega) (by omega) _ (kernelRun0_A.sl.v1562 c arg2 harg2 arg3 harg3 arg17 arg18 x0 x1) (v1562_at c arg2 harg2 arg3 harg3 arg17 arg18 x0 x1) inb_S1024x8192_S1024x256_0_1280 _ rfl x
  · intro x; dsimp only; exact pieceCs (rows c arg2 harg2 arg3 harg3 x0 x1) arg4 harg4 x2 0 1024 rfl (by omega) (by omega) _ (kernelRun0_A.sl.v1562 c arg2 harg2 arg3 harg3 arg17 arg18 x0 x1) (v1562_at c arg2 harg2 arg3 harg3 arg17 arg18 x0 x1) inb_S1024x8192_S1024x256_0_1024 _ rfl x

set_option maxHeartbeats 4000000 in
/-- The queries' block at an entry. -/
theorem out11_eq (y : _) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = blockQ (rows c arg2 harg2 arg3 harg3 x0 x1) x2 x4 x6 x7 y := by
  unfold out0_A_11
  refine View.read_writes_apply_of_pieces (v := VO0_11) (f := VO0_11.junk) (blockQ (rows c arg2 harg2 arg3 harg3 x0 x1) x2 x4 x6 x7) _ ?_ y (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y)
  delta kernelRun0_A
  dsimp only
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · intro x; dsimp only; exact pieceQhi (rows c arg2 harg2 arg3 harg3 x0 x1) arg4 harg4 arg6 harg6 c arg8 harg8 arg9 harg9 x2 x4 x6 x7 896 5376 rfl (by omega) (by omega) _ (kernelRun0_A.sl.v1113 c arg2 harg2 arg3 harg3 arg17 arg18 x0 x1) (v1113_at c arg2 harg2 arg3 harg3 arg17 arg18 x0 x1) inb_S1024x8192_S1024x256_0_5376 _ rfl x
  · intro x; dsimp only; exact pieceQlo (rows c arg2 harg2 arg3 harg3 x0 x1) arg4 harg4 arg6 harg6 c arg8 harg8 arg9 harg9 x2 x4 x6 x7 768 5376 rfl (by omega) (by omega) _ (kernelRun0_A.sl.v1113 c arg2 harg2 arg3 harg3 arg17 arg18 x0 x1) (v1113_at c arg2 harg2 arg3 harg3 arg17 arg18 x0 x1) inb_S1024x8192_S1024x256_0_5376 _ rfl x
  · intro x; dsimp only; exact pieceQhi (rows c arg2 harg2 arg3 harg3 x0 x1) arg4 harg4 arg6 harg6 c arg8 harg8 arg9 harg9 x2 x4 x6 x7 640 5120 rfl (by omega) (by omega) _ (kernelRun0_A.sl.v1113 c arg2 harg2 arg3 harg3 arg17 arg18 x0 x1) (v1113_at c arg2 harg2 arg3 harg3 arg17 arg18 x0 x1) inb_S1024x8192_S1024x256_0_5120 _ rfl x
  · intro x; dsimp only; exact pieceQlo (rows c arg2 harg2 arg3 harg3 x0 x1) arg4 harg4 arg6 harg6 c arg8 harg8 arg9 harg9 x2 x4 x6 x7 512 5120 rfl (by omega) (by omega) _ (kernelRun0_A.sl.v1113 c arg2 harg2 arg3 harg3 arg17 arg18 x0 x1) (v1113_at c arg2 harg2 arg3 harg3 arg17 arg18 x0 x1) inb_S1024x8192_S1024x256_0_5120 _ rfl x
  · intro x; dsimp only; exact pieceQhi (rows c arg2 harg2 arg3 harg3 x0 x1) arg4 harg4 arg6 harg6 c arg8 harg8 arg9 harg9 x2 x4 x6 x7 384 4864 rfl (by omega) (by omega) _ (kernelRun0_A.sl.v1113 c arg2 harg2 arg3 harg3 arg17 arg18 x0 x1) (v1113_at c arg2 harg2 arg3 harg3 arg17 arg18 x0 x1) inb_S1024x8192_S1024x256_0_4864 _ rfl x
  · intro x; dsimp only; exact pieceQlo (rows c arg2 harg2 arg3 harg3 x0 x1) arg4 harg4 arg6 harg6 c arg8 harg8 arg9 harg9 x2 x4 x6 x7 256 4864 rfl (by omega) (by omega) _ (kernelRun0_A.sl.v1113 c arg2 harg2 arg3 harg3 arg17 arg18 x0 x1) (v1113_at c arg2 harg2 arg3 harg3 arg17 arg18 x0 x1) inb_S1024x8192_S1024x256_0_4864 _ rfl x
  · intro x; dsimp only; exact pieceQhi (rows c arg2 harg2 arg3 harg3 x0 x1) arg4 harg4 arg6 harg6 c arg8 harg8 arg9 harg9 x2 x4 x6 x7 128 4608 rfl (by omega) (by omega) _ (kernelRun0_A.sl.v1113 c arg2 harg2 arg3 harg3 arg17 arg18 x0 x1) (v1113_at c arg2 harg2 arg3 harg3 arg17 arg18 x0 x1) inb_S1024x8192_S1024x256_0_4608 _ rfl x
  · intro x; dsimp only; exact pieceQlo (rows c arg2 harg2 arg3 harg3 x0 x1) arg4 harg4 arg6 harg6 c arg8 harg8 arg9 harg9 x2 x4 x6 x7 0 4608 rfl (by omega) (by omega) _ (kernelRun0_A.sl.v1113 c arg2 harg2 arg3 harg3 arg17 arg18 x0 x1) (v1113_at c arg2 harg2 arg3 harg3 arg17 arg18 x0 x1) inb_S1024x8192_S1024x256_0_4608 _ rfl x

set_option maxHeartbeats 4000000 in
/-- The keys' block at an entry. -/
theorem out12_eq (y : _) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = blockK (rows c arg2 harg2 arg3 harg3 x0 x1) x2 x5 x6 x7 y := by
  unfold out0_A_12
  refine View.read_writes_apply_of_pieces (v := VO0_12) (f := VO0_12.junk) (blockK (rows c arg2 harg2 arg3 harg3 x0 x1) x2 x5 x6 x7) _ ?_ y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y)
  delta kernelRun0_A
  dsimp only
  refine List.forall_mem_cons.2 ⟨?_, List.forall_mem_cons.2 ⟨?_, List.forall_mem_nil _⟩⟩
  · intro x; dsimp only; exact pieceKhi (rows c arg2 harg2 arg3 harg3 x0 x1) arg4 harg4 arg7 harg7 c arg8 harg8 arg9 harg9 x2 x5 x6 x7 128 5632 rfl (by omega) (by omega) _ (kernelRun0_A.sl.v1113 c arg2 harg2 arg3 harg3 arg17 arg18 x0 x1) (v1113_at c arg2 harg2 arg3 harg3 arg17 arg18 x0 x1) inb_S1024x8192_S1024x256_0_5632 _ rfl x
  · intro x; dsimp only; exact pieceKlo (rows c arg2 harg2 arg3 harg3 x0 x1) arg4 harg4 arg7 harg7 c arg8 harg8 arg9 harg9 x2 x5 x6 x7 0 5632 rfl (by omega) (by omega) _ (kernelRun0_A.sl.v1113 c arg2 harg2 arg3 harg3 arg17 arg18 x0 x1) (v1113_at c arg2 harg2 arg3 harg3 arg17 arg18 x0 x1) inb_S1024x8192_S1024x256_0_5632 _ rfl x

end Cert.Kernel4Ideal.Proj

end
-- ==== Proof.ProjValue.lean ====
/- The projection's result arrays at the end of the run. -/
module

public import proofs.«01_k».proof.Proof.ProjOut

@[expose] public section

set_option maxRecDepth 16384

noncomputable section

namespace Cert.Kernel4Ideal.Proj

open Cert.Kernel4Ideal.Gen
open Idealize.ShloMosaic Idealize.ShloMosaic.TcCoe Idealize.SL.Sem
open Idealize.ShloMosaic.Pipeline (Dat)

/-- A row's normalized entry. -/
def hnG (X : FVec Ideal S8x4096x1024 .f32) (G : FVec Ideal S1x1024 .f32) (b : Fin 8) (s : Fin 4096) (l : Fin 1024) : EReal :=
  rms (fun k : Fin 1024 => X (ix3 b s k)) (Ideal.ofBits .f32 0x44800000#32) (G (ix2 0 l)) l

/-- A normalized row by a column of the weights. -/
def prjG (X : FVec Ideal S8x4096x1024 .f32) (G : FVec Ideal S1x1024 .f32) (W : FVec Ideal S1024x8192 .bf16) (b : Fin 8) (s : Fin 4096) (z : Fin 8192) : EReal :=
  ∑ k : Fin 1024, hnG X G b s k * W (ix2 k z)

theorem prjG_congr (X : FVec Ideal S8x4096x1024 .f32) (G : FVec Ideal S1x1024 .f32) (W : FVec Ideal S1024x8192 .bf16) {b b' : Fin 8} {s s' : Fin 4096} {z z' : Fin 8192}
    (hb : b.val = b'.val) (hs : s.val = s'.val) (hz : z.val = z'.val) : prjG X G W b s z = prjG X G W b' s' z' := by rw [Fin.ext hb, Fin.ext hs, Fin.ext hz]

/-- A head's lane, normalized and rotated. -/
def headG (X : FVec Ideal S8x4096x1024 .f32) (G : FVec Ideal S1x1024 .f32) (W : FVec Ideal S1024x8192 .bf16) (g : FVec Ideal S1x128 .f32) (co si : FVec Ideal S4096x128 .f32)
    (b : Fin 8) (s : Fin 4096) (z : Fin 8065) (d : Fin 128) : EReal :=
  rms (fun k : Fin 128 => prjG X G W b s ⟨z.val + k.val, by omega⟩) (Ideal.ofBits .f32 0x43000000#32) (g (ix2 0 d)) d * co (ix2 s d)
    + rms (fun k : Fin 128 => prjG X G W b s ⟨z.val + k.val, by omega⟩) (Ideal.ofBits .f32 0x43000000#32) (g (ix2 0 (other d))) (other d) * si (ix2 s d)

theorem headG_congr (X : FVec Ideal S8x4096x1024 .f32) (G : FVec Ideal S1x1024 .f32) (W : FVec Ideal S1024x8192 .bf16) (g : FVec Ideal S1x128 .f32) (co si : FVec Ideal S4096x128 .f32)
    {b b' : Fin 8} {s s' : Fin 4096} {z z' : Fin 8065} {d d' : Fin 128} (hb : b.val = b'.val) (hs : s.val = s'.val) (hz : z.val = z'.val) (hd : d.val = d'.val) :
    headG X G W g co si b s z d = headG X G W g co si b' s' z' d' := by rw [Fin.ext hb, Fin.ext hs, Fin.ext hz, Fin.ext hd]

/-- The seven result arrays. -/
def arrA (X : FVec Ideal S8x4096x1024 .f32) (G : FVec Ideal S1x1024 .f32) (W : FVec Ideal S1024x8192 .bf16) : FVec Ideal S8x1x4096x1536 .bf16 := fun i =>
  scl (i 3).val (prjG X G W (i 0) (i 2) ⟨colOf 0 (i 3).val, colOf_lt (by omega) (i 3).isLt⟩)
def arrB (X : FVec Ideal S8x4096x1024 .f32) (G : FVec Ideal S1x1024 .f32) (W : FVec Ideal S1024x8192 .bf16) : FVec Ideal S8x4x1024x1536 .bf16 := fun i =>
  scl (i 3).val (prjG X G W (i 0) ⟨4 * (i 2).val + (i 1).val, by have h1 : (i 1).val < 4 := (i 1).isLt; have h2 : (i 2).val < 1024 := (i 2).isLt; omega⟩ ⟨colOf 1 (i 3).val, colOf_lt (by omega) (i 3).isLt⟩)
def arrC (X : FVec Ideal S8x4096x1024 .f32) (G : FVec Ideal S1x1024 .f32) (W : FVec Ideal S1024x8192 .bf16) : FVec Ideal S8x16x256x1536 .bf16 := fun i =>
  scl (i 3).val (prjG X G W (i 0) ⟨16 * (i 2).val + (i 1).val, by have h1 : (i 1).val < 16 := (i 1).isLt; have h2 : (i 2).val < 256 := (i 2).isLt; omega⟩ ⟨colOf 2 (i 3).val, colOf_lt (by omega) (i 3).isLt⟩)
def arrQ (X : FVec Ideal S8x4096x1024 .f32) (G : FVec Ideal S1x1024 .f32) (W : FVec Ideal S1024x8192 .bf16) (g : FVec Ideal S1x128 .f32) (co si : FVec Ideal S4096x128 .f32) : FVec Ideal S8x4096x1024 .bf16 := fun i =>
  headG X G W g co si (i 0) (i 1) ⟨4608 + (i 2).val / 128 * 128, by have h1 : (i 2).val < 1024 := (i 2).isLt; omega⟩ ⟨(i 2).val % 128, by omega⟩
def arrK (X : FVec Ideal S8x4096x1024 .f32) (G : FVec Ideal S1x1024 .f32) (W : FVec Ideal S1024x8192 .bf16) (g : FVec Ideal S1x128 .f32) (co si : FVec Ideal S4096x128 .f32) : FVec Ideal S8x4096x256 .bf16 := fun i =>
  headG X G W g co si (i 0) (i 1) ⟨5632 + (i 2).val / 128 * 128, by have h1 : (i 2).val < 256 := (i 2).isLt; omega⟩ ⟨(i 2).val % 128, by omega⟩
def arrT (X : FVec Ideal S8x4096x1024 .f32) (G : FVec Ideal S1x1024 .f32) (W : FVec Ideal S1024x8192 .bf16) : FVec Ideal S8x256x4096 .bf16 := fun i =>
  prjG X G W (i 0) (i 2) ⟨5888 + (i 1).val, by have h1 : (i 1).val < 256 := (i 1).isLt; omega⟩
def arrG (X : FVec Ideal S8x4096x1024 .f32) (G : FVec Ideal S1x1024 .f32) (W : FVec Ideal S1024x8192 .bf16) (B : FVec Ideal S1x2048 .f32) : FVec Ideal S8x4096x2048 .bf16 := fun i =>
  Ideal.logistic (prjG X G W (i 0) (i 1) ⟨6144 + (i 2).val, by have h1 : (i 2).val < 2048 := (i 2).isLt; omega⟩ + B (ix2 0 (i 2)))

/-- The normalized rows, from the loaded blocks. -/
theorem rows_eq (c : Dev nD) (arg2 : Memref sig .tc .vmem S1x512x1024 .f32) (harg2 : arg2.IsWhole) (arg3 : Memref sig .tc .vmem S1x1024 .f32) (harg3 : arg3.IsWhole)
    (x0 : Vec Ideal S1x512x1024 .f32) (x1 : Vec Ideal S1x1024 .f32) : rows c arg2 harg2 arg3 harg3 x0 x1 = k0_pay3 x0 x1 := by
  have e0 : View.readAt (Elt Ideal) arg2.view (Rect.unit (s := S1x512x1024) ![0, 0, 0] S1x512x1024.size inb_S1x512x1024_S1x512x1024_0_0_0).toLoadRect (harg2.unread x0) = x0 :=
    (View.readAt_full arg2.view _ _).trans (harg2.read_unread _)
  have e1 : View.readAt (Elt Ideal) arg3.view (Rect.unit (s := S1x1024) ![0, 0] S1x1024.size inb_S1x1024_S1x1024_0_0).toLoadRect (harg3.unread x1) = x1 :=
    (View.readAt_full arg3.view _ _).trans (harg3.read_unread _)
  show k0_pay3 (View.readAt (Elt Ideal) arg2.view (Rect.unit (s := S1x512x1024) ![0, 0, 0] S1x512x1024.size inb_S1x512x1024_S1x512x1024_0_0_0).toLoadRect (harg2.unread x0))
    (View.readAt (Elt Ideal) arg3.view (Rect.unit (s := S1x1024) ![0, 0] S1x1024.size inb_S1x1024_S1x1024_0_0).toLoadRect (harg3.unread x1)) = _
  rw [e0, e1]

variable (m : (ℓ : Loc nD τ sig) → Buf (Elt Ideal) ℓ)

/-- Every window's block index at every point. -/
theorem idx : ∀ t : Fin cfg0.N, win0_0.index t = ![t.val / 8, t.val % 8, 0] ∧ win0_1.index t = ![0, 0] ∧ win0_2.index t = ![0, 0] ∧ win0_3.index t = ![0, 0]
    ∧ win0_4.index t = ![0, 0] ∧ win0_5.index t = ![0, 0] ∧ win0_6.index t = ![t.val % 8, 0] ∧ win0_7.index t = ![t.val % 8, 0]
    ∧ win0_8.index t = ![t.val / 8, 0, t.val % 8, 0] ∧ win0_9.index t = ![t.val / 8, 0, t.val % 8, 0] ∧ win0_10.index t = ![t.val / 8, 0, t.val % 8, 0]
    ∧ win0_11.index t = ![t.val / 8, t.val % 8, 0] ∧ win0_12.index t = ![t.val / 8, t.val % 8, 0] ∧ win0_13.index t = ![t.val / 8, 0, t.val % 8] ∧ win0_14.index t = ![t.val / 8, t.val % 8, 0] :=
  (by decide +kernel : ∀ t : Fin grid0.N, _)

/-- A point's block of the rows. -/
theorem iblk0 (c : Dev nD) (t : Fin cfg0.N) (b : Fin 8) (n : Fin 8) (hb : t.val / 8 = b.val) (hn : t.val % 8 = n.val) (r : Fin 512) (k : Fin 1024) :
    (iblk m c 0 t : Vec Ideal S1x512x1024 .f32) (ix3 0 r k) = V m c main_arg0 (ix3 b (⟨512 * n.val + r.val, by omega⟩ : Fin 4096) k) := by
  blk_point [iblk, idx t]

theorem iblk1 (c : Dev nD) (t : Fin cfg0.N) (k : Fin 1024) : (iblk m c 1 t : Vec Ideal S1x1024 .f32) (ix2 0 k) = V m c main_v8 (ix2 0 k) := by
  blk_point [iblk, idx t]

theorem iblk2 (c : Dev nD) (t : Fin cfg0.N) (k : Fin 1024) (z : Fin 8192) : (iblk m c 2 t : Vec Ideal S1024x8192 .bf16) (ix2 k z) = V m c main_v10 (ix2 k z) := by
  blk_point [iblk, idx t]

theorem iblk3 (c : Dev nD) (t : Fin cfg0.N) (k : Fin 2048) : (iblk m c 3 t : Vec Ideal S1x2048 .f32) (ix2 0 k) = V m c main_v12 (ix2 0 k) := by
  blk_point [iblk, idx t]

theorem iblk4 (c : Dev nD) (t : Fin cfg0.N) (k : Fin 128) : (iblk m c 4 t : Vec Ideal S1x128 .f32) (ix2 0 k) = V m c main_v14 (ix2 0 k) := by
  blk_point [iblk, idx t]

theorem iblk5 (c : Dev nD) (t : Fin cfg0.N) (k : Fin 128) : (iblk m c 5 t : Vec Ideal S1x128 .f32) (ix2 0 k) = V m c main_v16 (ix2 0 k) := by
  blk_point [iblk, idx t]

theorem iblk6 (c : Dev nD) (t : Fin cfg0.N) (n : Fin 8) (hn : t.val % 8 = n.val) (r : Fin 512) (k : Fin 128) :
    (iblk m c 6 t : Vec Ideal S512x128 .f32) (ix2 r k) = V m c main_v1 (ix2 (⟨512 * n.val + r.val, by omega⟩ : Fin 4096) k) := by
  blk_point [iblk, idx t]

theorem iblk7 (c : Dev nD) (t : Fin cfg0.N) (n : Fin 8) (hn : t.val % 8 = n.val) (r : Fin 512) (k : Fin 128) :
    (iblk m c 7 t : Vec Ideal S512x128 .f32) (ix2 r k) = V m c main_v6 (ix2 (⟨512 * n.val + r.val, by omega⟩ : Fin 4096) k) := by
  blk_point [iblk, idx t]

/-- A product at a point. -/
theorem proj_point (c : Dev nD) (t : Fin cfg0.N) (b : Fin 8) (n : Fin 8) (hb : t.val / 8 = b.val) (hn : t.val % 8 = n.val)
    (arg2 : Memref sig .tc .vmem S1x512x1024 .f32) (harg2 : arg2.IsWhole) (arg3 : Memref sig .tc .vmem S1x1024 .f32) (harg3 : arg3.IsWhole) (r : Fin 512) (z : Fin 8192) :
    proj (rows c arg2 harg2 arg3 harg3 (iblk m c 0 t) (iblk m c 1 t)) (iblk m c 2 t) r z
      = prjG (V m c main_arg0) (V m c main_v8) (V m c main_v10) b (⟨512 * n.val + r.val, by omega⟩ : Fin 4096) z := by
  unfold proj prjG
  refine Finset.sum_congr rfl fun k _ => ?_
  rw [rows_eq, hn_at, iblk2]
  unfold hnG
  simp only [iblk0 m c t b n hb hn, iblk1]

/-- A head's lane at a point. -/
theorem head_point (c : Dev nD) (t : Fin cfg0.N) (b : Fin 8) (n : Fin 8) (hb : t.val / 8 = b.val) (hn : t.val % 8 = n.val)
    (arg2 : Memref sig .tc .vmem S1x512x1024 .f32) (harg2 : arg2.IsWhole) (arg3 : Memref sig .tc .vmem S1x1024 .f32) (harg3 : arg3.IsWhole)
    (g : Vec Ideal S1x128 .f32) (g' : FVec Ideal S1x128 .f32) (hg : ∀ k : Fin 128, g (ix2 0 k) = g' (ix2 0 k)) (r : Fin 512) (z : Fin 8065) (d : Fin 128) :
    headVal (rows c arg2 harg2 arg3 harg3 (iblk m c 0 t) (iblk m c 1 t)) (iblk m c 2 t) g (iblk m c 6 t) (iblk m c 7 t) r z d
      = headG (V m c main_arg0) (V m c main_v8) (V m c main_v10) g' (V m c main_v1) (V m c main_v6) b (⟨512 * n.val + r.val, by omega⟩ : Fin 4096) z d := by
  unfold headVal headG
  simp only [proj_point m c t b n hb hn, hg]
  rw [iblk6 m c t n hn, iblk7 m c t n hn]

/-- Result 1 after the run. -/
theorem final8 (c : Dev nD) : (dats m 0 c).arrAt 8 (cfgs 0).N = arrA (V m c main_arg0) (V m c main_v8) (V m c main_v10) := by
  refine (dats m 0 c).arrAt_eq_of_covers 8 _ (by decide +kernel) fun t _ y => ?_
  blk_simp
  rw [after0_8]
  unfold outsAt0
  dsimp only
  rw [out8_eq]
  have ht : t.val < 64 := t.isLt
  obtain ⟨r, z, rfl⟩ : ∃ (r : Fin 512) (z : Fin 1536), y = (ix4 0 0 r z : S1x1x512x1536.Idx) := ⟨y 2, y 3, by
    funext a; fin_cases a
    · exact Fin.ext (by have : (y 0).val < 1 := (y 0).isLt; show (y 0).val = 0; omega)
    · exact Fin.ext (by have : (y 1).val < 1 := (y 1).isLt; show (y 1).val = 0; omega)
    · rfl
    · rfl⟩
  have e : ∀ G : FVec Ideal S8x1x4096x1536 .bf16, G ((win0_8.blk t).view.emb (ix4 0 0 r z)) = G (ix4 (⟨t.val / 8, by omega⟩ : Fin 8) (0 : Fin 1) (⟨512 * (t.val % 8) + r.val, by omega⟩ : Fin 4096) z) := fun G => by
    blk_point [idx t]
  refine Eq.trans ?_ (e _).symm
  refine congrArg (scl z.val) ((proj_point m c t ⟨t.val / 8, by omega⟩ ⟨t.val % 8, by omega⟩ rfl rfl _ _ _ _ _ _).trans ?_)
  exact prjG_congr _ _ _ rfl rfl rfl

/-- Result 2 after the run. -/
theorem final9 (c : Dev nD) : (dats m 0 c).arrAt 9 (cfgs 0).N = arrB (V m c main_arg0) (V m c main_v8) (V m c main_v10) := by
  refine (dats m 0 c).arrAt_eq_of_covers 9 _ (by decide +kernel) fun t _ y => ?_
  blk_simp
  rw [after0_9]
  unfold outsAt0
  dsimp only
  rw [out9_eq]
  have ht : t.val < 64 := t.isLt
  obtain ⟨q, r, z, rfl⟩ : ∃ (q : Fin 4) (r : Fin 128) (z : Fin 1536), y = (ix4 0 q r z : S1x4x128x1536.Idx) := ⟨y 1, y 2, y 3, by
    funext a; fin_cases a
    · exact Fin.ext (by have : (y 0).val < 1 := (y 0).isLt; show (y 0).val = 0; omega)
    · rfl
    · rfl
    · rfl⟩
  have e : ∀ G : FVec Ideal S8x4x1024x1536 .bf16, G ((win0_9.blk t).view.emb (ix4 0 q r z)) = G (ix4 (⟨t.val / 8, by omega⟩ : Fin 8) q (⟨128 * (t.val % 8) + r.val, by omega⟩ : Fin 1024) z) := fun G => by
    blk_point [idx t]
  refine Eq.trans ?_ (e _).symm
  refine congrArg (scl z.val) ((proj_point m c t ⟨t.val / 8, by omega⟩ ⟨t.val % 8, by omega⟩ rfl rfl _ _ _ _ _ _).trans ?_)
  exact prjG_congr _ _ _ rfl (by show 512 * (t.val % 8) + rowA (q.val * 128 + r.val) = 4 * (128 * (t.val % 8) + r.val) + q.val; unfold rowA; omega) rfl

/-- Result 3 after the run. -/
theorem final10 (c : Dev nD) : (dats m 0 c).arrAt 10 (cfgs 0).N = arrC (V m c main_arg0) (V m c main_v8) (V m c main_v10) := by
  refine (dats m 0 c).arrAt_eq_of_covers 10 _ (by decide +kernel) fun t _ y => ?_
  blk_simp
  rw [after0_10]
  unfold outsAt0
  dsimp only
  rw [out10_eq]
  have ht : t.val < 64 := t.isLt
  obtain ⟨q, r, z, rfl⟩ : ∃ (q : Fin 16) (r : Fin 32) (z : Fin 1536), y = (ix4 0 q r z : S1x16x32x1536.Idx) := ⟨y 1, y 2, y 3, by
    funext a; fin_cases a
    · exact Fin.ext (by have : (y 0).val < 1 := (y 0).isLt; show (y 0).val = 0; omega)
    · rfl
    · rfl
    · rfl⟩
  have e : ∀ G : FVec Ideal S8x16x256x1536 .bf16, G ((win0_10.blk t).view.emb (ix4 0 q r z)) = G (ix4 (⟨t.val / 8, by omega⟩ : Fin 8) q (⟨32 * (t.val % 8) + r.val, by omega⟩ : Fin 256) z) := fun G => by
    blk_point [idx t]
  refine Eq.trans ?_ (e _).symm
  refine congrArg (scl z.val) ((proj_point m c t ⟨t.val / 8, by omega⟩ ⟨t.val % 8, by omega⟩ rfl rfl _ _ _ _ _ _).trans ?_)
  exact prjG_congr _ _ _ rfl (by show 512 * (t.val % 8) + rowB (q.val * 32 + r.val) = 16 * (32 * (t.val % 8) + r.val) + q.val; unfold rowB; omega) rfl

/-- Result 4 after the run. -/
theorem final11 (c : Dev nD) : (dats m 0 c).arrAt 11 (cfgs 0).N = arrQ (V m c main_arg0) (V m c main_v8) (V m c main_v10) (V m c main_v14) (V m c main_v1) (V m c main_v6) := by
  refine (dats m 0 c).arrAt_eq_of_covers 11 _ (by decide +kernel) fun t _ y => ?_
  blk_simp
  rw [after0_11]
  unfold outsAt0
  dsimp only
  rw [out11_eq]
  have ht : t.val < 64 := t.isLt
  obtain ⟨r, z, rfl⟩ : ∃ (r : Fin 512) (z : Fin 1024), y = (ix3 0 r z : S1x512x1024.Idx) := ⟨y 1, y 2, by
    funext a; fin_cases a
    · exact Fin.ext (by have : (y 0).val < 1 := (y 0).isLt; show (y 0).val = 0; omega)
    · rfl
    · rfl⟩
  have e : ∀ G : FVec Ideal S8x4096x1024 .bf16, G ((win0_11.blk t).view.emb (ix3 0 r z)) = G (ix3 (⟨t.val / 8, by omega⟩ : Fin 8) (⟨512 * (t.val % 8) + r.val, by omega⟩ : Fin 4096) z) := fun G => by
    blk_point [idx t]
  refine Eq.trans ?_ (e _).symm
  exact head_point m c t ⟨t.val / 8, by omega⟩ ⟨t.val % 8, by omega⟩ rfl rfl _ _ _ _ _ _ (iblk4 m c t) _ _ _

/-- Result 5 after the run. -/
theorem final12 (c : Dev nD) : (dats m 0 c).arrAt 12 (cfgs 0).N = arrK (V m c main_arg0) (V m c main_v8) (V m c main_v10) (V m c main_v16) (V m c main_v1) (V m c main_v6) := by
  refine (dats m 0 c).arrAt_eq_of_covers 12 _ (by decide +kernel) fun t _ y => ?_
  blk_simp
  rw [after0_12]
  unfold outsAt0
  dsimp only
  rw [out12_eq]
  have ht : t.val < 64 := t.isLt
  obtain ⟨r, z, rfl⟩ : ∃ (r : Fin 512) (z : Fin 256), y = (ix3 0 r z : S1x512x256.Idx) := ⟨y 1, y 2, by
    funext a; fin_cases a
    · exact Fin.ext (by have : (y 0).val < 1 := (y 0).isLt; show (y 0).val = 0; omega)
    · rfl
    · rfl⟩
  have e : ∀ G : FVec Ideal S8x4096x256 .bf16, G ((win0_12.blk t).view.emb (ix3 0 r z)) = G (ix3 (⟨t.val / 8, by omega⟩ : Fin 8) (⟨512 * (t.val % 8) + r.val, by omega⟩ : Fin 4096) z) := fun G => by
    blk_point [idx t]
  refine Eq.trans ?_ (e _).symm
  exact head_point m c t ⟨t.val / 8, by omega⟩ ⟨t.val % 8, by omega⟩ rfl rfl _ _ _ _ _ _ (iblk5 m c t) _ _ _

/-- Result 6 after the run. -/
theorem final13 (c : Dev nD) : (dats m 0 c).arrAt 13 (cfgs 0).N = arrT (V m c main_arg0) (V m c main_v8) (V m c main_v10) := by
  refine (dats m 0 c).arrAt_eq_of_covers 13 _ (by decide +kernel) fun t _ y => ?_
  blk_simp
  rw [after0_13]
  unfold outsAt0
  dsimp only
  rw [out13_eq]
  have ht : t.val < 64 := t.isLt
  obtain ⟨z, r, rfl⟩ : ∃ (z : Fin 256) (r : Fin 512), y = (ix3 0 z r : S1x256x512.Idx) := ⟨y 1, y 2, by
    funext a; fin_cases a
    · exact Fin.ext (by have : (y 0).val < 1 := (y 0).isLt; show (y 0).val = 0; omega)
    · rfl
    · rfl⟩
  have e : ∀ G : FVec Ideal S8x256x4096 .bf16, G ((win0_13.blk t).view.emb (ix3 0 z r)) = G (ix3 (⟨t.val / 8, by omega⟩ : Fin 8) z (⟨512 * (t.val % 8) + r.val, by omega⟩ : Fin 4096)) := fun G => by
    blk_point [idx t]
  refine Eq.trans ?_ (e _).symm
  refine (proj_point m c t ⟨t.val / 8, by omega⟩ ⟨t.val % 8, by omega⟩ rfl rfl _ _ _ _ _ _).trans ?_
  exact prjG_congr _ _ _ rfl rfl rfl

/-- Result 7 after the run. -/
theorem final14 (c : Dev nD) : (dats m 0 c).arrAt 14 (cfgs 0).N = arrG (V m c main_arg0) (V m c main_v8) (V m c main_v10) (V m c main_v12) := by
  refine (dats m 0 c).arrAt_eq_of_covers 14 _ (by decide +kernel) fun t _ y => ?_
  blk_simp
  rw [after0_14]
  unfold outsAt0
  dsimp only
  rw [out14_eq]
  have ht : t.val < 64 := t.isLt
  obtain ⟨r, z, rfl⟩ : ∃ (r : Fin 512) (z : Fin 2048), y = (ix3 0 r z : S1x512x2048.Idx) := ⟨y 1, y 2, by
    funext a; fin_cases a
    · exact Fin.ext (by have : (y 0).val < 1 := (y 0).isLt; show (y 0).val = 0; omega)
    · rfl
    · rfl⟩
  have e : ∀ G : FVec Ideal S8x4096x2048 .bf16, G ((win0_14.blk t).view.emb (ix3 0 r z)) = G (ix3 (⟨t.val / 8, by omega⟩ : Fin 8) (⟨512 * (t.val % 8) + r.val, by omega⟩ : Fin 4096) z) := fun G => by
    blk_point [idx t]
  refine Eq.trans ?_ (e _).symm
  exact congrArg Ideal.logistic (congrArg₂ (· + ·) (proj_point m c t ⟨t.val / 8, by omega⟩ ⟨t.val % 8, by omega⟩ rfl rfl _ _ _ _ _ _) (iblk3 m c t z))

end Cert.Kernel4Ideal.Proj

end
-- ==== Proof.ProjRef.lean ====
/- The projection's reference at an entry. -/
module

public import proofs.«01_k».proof.Proof.Gen.Reference4Ideal
public import proofs.«01_k».proof.Proof.Gen.Reference4Ideal.Run
public import proofs.«01_k».proof.Proof.ProjAt
public import Idealize.ShloMosaic.Lib.Pipeline.ValueKit
public import Idealize.ShloMosaic.Lib.Claim

@[expose] public section

set_option maxRecDepth 16384

noncomputable section

namespace Cert.Reference4Ideal.Proj

open Cert.Reference4Ideal.Gen
open Cert.Kernel4Ideal.Proj (rms scl)
open Idealize.ShloMosaic Idealize.ShloMosaic.TcCoe Idealize.SL.Sem

/-- The reference's normalized rows. -/
def refHn (X : FVec Ideal S8x4096x1024 .f32) (G : FVec Ideal S1x1024 .f32) : FVec Ideal S8x4096x1024 .f32 :=
  mulf (mulf X (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf X X) (constant S_ .f32 0x00000000#32) reducesTo_S8x4096x1024_S8x4096_d2 h_S_))
    (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast S1024 G shapeCasts_S1x1024_S1024)))

/-- The reference's projection. -/
def refPrj (X : FVec Ideal S8x4096x1024 .f32) (G : FVec Ideal S1x1024 .f32) (W : FVec Ideal S1x1024x8192 .f32) : FVec Ideal S8x4096x8192 .f32 :=
  Host.dotGeneral dot_S8x4096x1024_S1024x8192_S8x4096x8192_2_0_01_1_n_n none (refHn X G) (shapeCast S1024x8192 W shapeCasts_S1x1024x8192_S1024x8192)

/-- The reference's columns of the dilated attentions by part, group and lane. -/
def split (P : FVec Ideal S8x4096x8192 .f32) : FVec Ideal S8x4096x3x3x512 .f32 :=
  shapeCast S8x4096x3x3x512 (extractStridedSlice S8x4096x4608 ![0, 0, 0] P slices_S8x4096x8192_S8x4096x4608_0_0_0) shapeCasts_S8x4096x4608_S8x4096x3x3x512

/-- The same with the queries scaled. -/
def scaled (R : FVec Ideal S8x4096x3x3x512 .f32) : FVec Ideal S8x4096x3x3x512 .f32 :=
  concatenate S8x4096x3x3x512 2 [⟨S8x4096x1x3x512, mulf (extractStridedSlice S8x4096x1x3x512 ![0, 0, 0, 0, 0] R slices_S8x4096x3x3x512_S8x4096x1x3x512_0_0_0_0_0)
      (broadcastInDim S8x4096x1x3x512 ![] bcast_S_S8x4096x1x3x512 (constant S_ .f32 0x3E38AA3B#32))⟩,
    ⟨S8x4096x2x3x512, extractStridedSlice S8x4096x2x3x512 ![0, 0, 1, 0, 0] R slices_S8x4096x3x3x512_S8x4096x2x3x512_0_0_1_0_0⟩] concatenates_S8x4096x1x3x512_S8x4096x2x3x512_S8x4096x3x3x512_d2

/-- The reference's three groups of columns, each with its rows apart. -/
def refA (Z : FVec Ideal S8x4096x3x3x512 .f32) : FVec Ideal S8x1x4096x1536 .bf16 :=
  truncf .bf16 (transpose S8x1x4096x1536 [0, 2, 1, 3] (shapeCast S8x4096x1x1536 (shapeCast S8x4096x3x512 (extractStridedSlice S8x4096x3x1x512 ![0, 0, 0, 0, 0] Z
    slices_S8x4096x3x3x512_S8x4096x3x1x512_0_0_0_0_0) shapeCasts_S8x4096x3x1x512_S8x4096x3x512) shapeCasts_S8x4096x3x512_S8x4096x1x1536) transposes_S8x4096x1x1536_S8x1x4096x1536_0_2_1_3) bitsLt_bf16_f32
def refB (Z : FVec Ideal S8x4096x3x3x512 .f32) : FVec Ideal S8x4x1024x1536 .bf16 :=
  truncf .bf16 (transpose S8x4x1024x1536 [0, 2, 1, 3] (shapeCast S8x1024x4x1536 (shapeCast S8x4096x3x512 (extractStridedSlice S8x4096x3x1x512 ![0, 0, 0, 1, 0] Z
    slices_S8x4096x3x3x512_S8x4096x3x1x512_0_0_0_1_0) shapeCasts_S8x4096x3x1x512_S8x4096x3x512) shapeCasts_S8x4096x3x512_S8x1024x4x1536) transposes_S8x1024x4x1536_S8x4x1024x1536_0_2_1_3) bitsLt_bf16_f32
def refC (Z : FVec Ideal S8x4096x3x3x512 .f32) : FVec Ideal S8x16x256x1536 .bf16 :=
  truncf .bf16 (transpose S8x16x256x1536 [0, 2, 1, 3] (shapeCast S8x256x16x1536 (shapeCast S8x4096x3x512 (extractStridedSlice S8x4096x3x1x512 ![0, 0, 0, 2, 0] Z
    slices_S8x4096x3x3x512_S8x4096x3x1x512_0_0_0_2_0) shapeCasts_S8x4096x3x1x512_S8x4096x3x512) shapeCasts_S8x4096x3x512_S8x256x16x1536) transposes_S8x256x16x1536_S8x16x256x1536_0_2_1_3) bitsLt_bf16_f32

/-- The reference's transposed values. -/
def refT (P : FVec Ideal S8x4096x8192 .f32) : FVec Ideal S8x256x4096 .bf16 :=
  truncf .bf16 (transpose S8x256x4096 [0, 2, 1] (extractStridedSlice S8x4096x256 ![0, 0, 5888] P slices_S8x4096x8192_S8x4096x256_0_0_5888) transposes_S8x4096x256_S8x256x4096_0_2_1) bitsLt_bf16_f32

/-- The reference's gates. -/
def refG (P : FVec Ideal S8x4096x8192 .f32) (B : FVec Ideal S1x2048 .f32) : FVec Ideal S8x4096x2048 .bf16 :=
  truncf .bf16 (Host.divf (broadcastInDim S8x4096x2048 ![] bcast_S_S8x4096x2048 (constant S_ .f32 0x3F800000#32))
    (addf (broadcastInDim S8x4096x2048 ![] bcast_S_S8x4096x2048 (constant S_ .f32 0x3F800000#32)) (Host.exp (Host.negf (addf
      (extractStridedSlice S8x4096x2048 ![0, 0, 6144] P slices_S8x4096x8192_S8x4096x2048_0_0_6144)
      (broadcastInDim S8x4096x2048 ![0, 1, 2] bcast_S1x1x2048_S8x4096x2048_0_1_2 (broadcastInDim S1x1x2048 ![2] bcast_S2048_S1x1x2048_2 (shapeCast S2048 B shapeCasts_S1x2048_S2048)))))))) bitsLt_bf16_f32

theorem refHn_at (X : FVec Ideal S8x4096x1024 .f32) (G : FVec Ideal S1x1024 .f32) (b : Fin 8) (s : Fin 4096) (l : Fin 1024) :
    refHn X G (ix3 b s l) = rms (fun k : Fin 1024 => X (ix3 b s k)) (Ideal.ofBits .f32 0x44800000#32) (G (ix2 0 l)) l := by
  pointwise [refHn, rms]
  first | done | rw [zero_add]

theorem refPrj_at (X : FVec Ideal S8x4096x1024 .f32) (G : FVec Ideal S1x1024 .f32) (W : FVec Ideal S1x1024x8192 .f32) (b : Fin 8) (s : Fin 4096) (z : Fin 8192) :
    refPrj X G W (ix3 b s z) = ∑ k : Fin 1024, refHn X G (ix3 b s k) * W (ix3 0 k z) := by
  pointwise [refPrj]

theorem split_at (P : FVec Ideal S8x4096x8192 .f32) (b : Fin 8) (s : Fin 4096) (t g : Fin 3) (w : Fin 512) :
    split P (ix5 b s t g w) = P (ix3 b s ⟨t.val * 1536 + g.val * 512 + w.val, by omega⟩) := by
  pointwise [split]

theorem scaled_zero (R : FVec Ideal S8x4096x3x3x512 .f32) (b : Fin 8) (s : Fin 4096) (g : Fin 3) (w : Fin 512) :
    scaled R (ix5 b s (0 : Fin 3) g w) = R (ix5 b s (0 : Fin 3) g w) * Ideal.ofBits .f32 0x3E38AA3B#32 := by
  pointwise [scaled]

theorem scaled_one (R : FVec Ideal S8x4096x3x3x512 .f32) (b : Fin 8) (s : Fin 4096) (g : Fin 3) (w : Fin 512) :
    scaled R (ix5 b s (1 : Fin 3) g w) = R (ix5 b s (1 : Fin 3) g w) := by
  pointwise [scaled]

theorem scaled_two (R : FVec Ideal S8x4096x3x3x512 .f32) (b : Fin 8) (s : Fin 4096) (g : Fin 3) (w : Fin 512) :
    scaled R (ix5 b s (2 : Fin 3) g w) = R (ix5 b s (2 : Fin 3) g w) := by
  pointwise [scaled]

/-- The columns at a group's lane. -/
theorem scaled_at (P : FVec Ideal S8x4096x8192 .f32) (b : Fin 8) (s : Fin 4096) (g : Fin 3) (j : Fin 1536) :
    scaled (split P) (ix5 b s (⟨j.val / 512, by omega⟩ : Fin 3) g (⟨j.val % 512, by omega⟩ : Fin 512))
      = scl j.val (P (ix3 b s ⟨j.val / 512 * 1536 + g.val * 512 + j.val % 512, by omega⟩)) := by
  obtain ⟨t, ht⟩ : ∃ t : Fin 3, t.val = j.val / 512 := ⟨⟨j.val / 512, by omega⟩, rfl⟩
  have e : (⟨j.val / 512, by omega⟩ : Fin 3) = t := Fin.ext ht.symm
  have hz : split P (ix5 b s t g (⟨j.val % 512, by omega⟩ : Fin 512)) = P (ix3 b s ⟨j.val / 512 * 1536 + g.val * 512 + j.val % 512, by omega⟩) := by
    rw [split_at]
    exact congrArg (fun z => P (ix3 b s z)) (Fin.ext (by simp only [ht]))
  rw [e, ← hz, scl]
  fin_cases t
  · rw [if_pos (by simp at ht; omega)]
    exact scaled_zero _ _ _ _ _
  · rw [if_neg (by simp at ht; omega)]
    exact scaled_one _ _ _ _ _
  · rw [if_neg (by simp at ht; omega)]
    exact scaled_two _ _ _ _ _

theorem refA_at (Z : FVec Ideal S8x4096x3x3x512 .f32) (b : Fin 8) (s : Fin 4096) (j : Fin 1536) :
    refA Z (ix4 b 0 s j) = Z (ix5 b s (⟨j.val / 512, by omega⟩ : Fin 3) (0 : Fin 3) (⟨j.val % 512, by omega⟩ : Fin 512)) := by
  pointwise [refA]

theorem refB_at (Z : FVec Ideal S8x4096x3x3x512 .f32) (b : Fin 8) (q : Fin 4) (s : Fin 1024) (j : Fin 1536) :
    refB Z (ix4 b q s j) = Z (ix5 b (⟨4 * s.val + q.val, by omega⟩ : Fin 4096) (⟨j.val / 512, by omega⟩ : Fin 3) (1 : Fin 3) (⟨j.val % 512, by omega⟩ : Fin 512)) := by
  pointwise [refB]
  exact congrArg (fun r => Z (ix5 b r _ _ _)) (Fin.ext (by show s.val * 4 + q.val = 4 * s.val + q.val; omega))

theorem refC_at (Z : FVec Ideal S8x4096x3x3x512 .f32) (b : Fin 8) (q : Fin 16) (s : Fin 256) (j : Fin 1536) :
    refC Z (ix4 b q s j) = Z (ix5 b (⟨16 * s.val + q.val, by omega⟩ : Fin 4096) (⟨j.val / 512, by omega⟩ : Fin 3) (2 : Fin 3) (⟨j.val % 512, by omega⟩ : Fin 512)) := by
  pointwise [refC]
  exact congrArg (fun r => Z (ix5 b r _ _ _)) (Fin.ext (by show s.val * 16 + q.val = 16 * s.val + q.val; omega))

theorem refT_at (P : FVec Ideal S8x4096x8192 .f32) (b : Fin 8) (d : Fin 256) (s : Fin 4096) :
    refT P (ix3 b d s) = P (ix3 b s ⟨5888 + d.val, by omega⟩) := by
  pointwise [refT]

theorem refG_at (P : FVec Ideal S8x4096x8192 .f32) (B : FVec Ideal S1x2048 .f32) (b : Fin 8) (s : Fin 4096) (j : Fin 2048) :
    refG P B (ix3 b s j) = Ideal.logistic (P (ix3 b s ⟨6144 + j.val, by omega⟩) + B (ix2 0 j)) := by
  pointwise [refG, Ideal.logistic]

/-- The reference's queries by head. -/
def headQ (P : FVec Ideal S8x4096x8192 .f32) : FVec Ideal S8x4096x8x128 .f32 :=
  shapeCast S8x4096x8x128 (extractStridedSlice S8x4096x1024 ![0, 0, 4608] P slices_S8x4096x8192_S8x4096x1024_0_0_4608) shapeCasts_S8x4096x1024_S8x4096x8x128

/-- The reference's queries, normalized. -/
def normQ (U : FVec Ideal S8x4096x8x128 .f32) (g : FVec Ideal S1x128 .f32) : FVec Ideal S8x4096x8x128 .f32 :=
  mulf (mulf U (broadcastInDim S8x4096x8x128 ![0, 1, 2, 3] bcast_S8x4096x8x1_S8x4096x8x128_0_1_2_3 (Host.rsqrt (addf (Host.divf
    (broadcastInDim S8x4096x8x1 ![0, 1, 2] bcast_S8x4096x8_S8x4096x8x1_0_1_2 (Host.reduceAdd (mulf U U) (constant S_ .f32 0x00000000#32) reducesTo_S8x4096x8x128_S8x4096x8_d3 h_S_))
    (broadcastInDim S8x4096x8x1 ![] bcast_S_S8x4096x8x1 (constant S_ .f32 0x43000000#32))) (broadcastInDim S8x4096x8x1 ![] bcast_S_S8x4096x8x1 (constant S_ .f32 0x358637BD#32))))))
    (broadcastInDim S8x4096x8x128 ![0, 1, 2, 3] bcast_S1x1x1x128_S8x4096x8x128_0_1_2_3 (broadcastInDim S1x1x1x128 ![3] bcast_S128_S1x1x1x128_3 (shapeCast S128 g shapeCasts_S1x128_S128)))

/-- The even and the odd lanes, and a table spread over the heads. -/
def evenQ (N : FVec Ideal S8x4096x8x128 .f32) : FVec Ideal S8x4096x8x64 .f32 :=
  shapeCast S8x4096x8x64 (extractStridedSlice S8x4096x8x64x1 ![0, 0, 0, 0, 0] (shapeCast S8x4096x8x64x2 N shapeCasts_S8x4096x8x128_S8x4096x8x64x2) slices_S8x4096x8x64x2_S8x4096x8x64x1_0_0_0_0_0) shapeCasts_S8x4096x8x64x1_S8x4096x8x64
def oddQ (N : FVec Ideal S8x4096x8x128 .f32) : FVec Ideal S8x4096x8x64 .f32 :=
  shapeCast S8x4096x8x64 (extractStridedSlice S8x4096x8x64x1 ![0, 0, 0, 0, 1] (shapeCast S8x4096x8x64x2 N shapeCasts_S8x4096x8x128_S8x4096x8x64x2) slices_S8x4096x8x64x2_S8x4096x8x64x1_0_0_0_0_1) shapeCasts_S8x4096x8x64x1_S8x4096x8x64
def tabQ (C : FVec Ideal S4096x64 .f32) : FVec Ideal S8x4096x8x64 .f32 :=
  broadcastInDim S8x4096x8x64 ![0, 1, 2, 3] bcast_S1x4096x1x64_S8x4096x8x64_0_1_2_3 (broadcastInDim S1x4096x1x64 ![1, 3] bcast_S4096x64_S1x4096x1x64_1_3 C)

/-- The reference's rotated pairs. -/
def pairsQ (N : FVec Ideal S8x4096x8x128 .f32) (C S : FVec Ideal S4096x64 .f32) : FVec Ideal S8x4096x8x64x2 .f32 :=
  concatenate S8x4096x8x64x2 4 [⟨S8x4096x8x64x1, broadcastInDim S8x4096x8x64x1 ![0, 1, 2, 3] bcast_S8x4096x8x64_S8x4096x8x64x1_0_1_2_3 (subf (mulf (evenQ N) (tabQ C)) (mulf (oddQ N) (tabQ S)))⟩,
    ⟨S8x4096x8x64x1, broadcastInDim S8x4096x8x64x1 ![0, 1, 2, 3] bcast_S8x4096x8x64_S8x4096x8x64x1_0_1_2_3 (addf (mulf (evenQ N) (tabQ S)) (mulf (oddQ N) (tabQ C)))⟩] concatenates_S8x4096x8x64x1_S8x4096x8x64x1_S8x4096x8x64x2_d4

/-- The reference's queries. -/
def refQ (P : FVec Ideal S8x4096x8192 .f32) (g : FVec Ideal S1x128 .f32) (C S : FVec Ideal S4096x64 .f32) : FVec Ideal S8x4096x1024 .bf16 :=
  truncf .bf16 (shapeCast S8x4096x1024 (shapeCast S8x4096x8x128 (pairsQ (normQ (headQ P) g) C S) shapeCasts_S8x4096x8x64x2_S8x4096x8x128) shapeCasts_S8x4096x8x128_S8x4096x1024) bitsLt_bf16_f32

theorem headQ_at (P : FVec Ideal S8x4096x8192 .f32) (b : Fin 8) (s : Fin 4096) (h : Fin 8) (d : Fin 128) :
    headQ P (ix4 b s h d) = P (ix3 b s ⟨4608 + h.val * 128 + d.val, by omega⟩) := by
  pointwise [headQ]
  refine congrArg (fun z => P (ix3 b s z)) (Fin.ext ?_)
  simp
  try omega

theorem normQ_at (U : FVec Ideal S8x4096x8x128 .f32) (g : FVec Ideal S1x128 .f32) (b : Fin 8) (s : Fin 4096) (h : Fin 8) (d : Fin 128) :
    normQ U g (ix4 b s h d) = rms (fun k : Fin 128 => U (ix4 b s h k)) (Ideal.ofBits .f32 0x43000000#32) (g (ix2 0 d)) d := by
  pointwise [normQ, rms]
  first | done | rw [zero_add]

theorem evenQ_at (N : FVec Ideal S8x4096x8x128 .f32) (b : Fin 8) (s : Fin 4096) (h : Fin 8) (p : Fin 64) : evenQ N (ix4 b s h p) = N (ix4 b s h ⟨p.val * 2, by omega⟩) := by
  pointwise [evenQ]

theorem oddQ_at (N : FVec Ideal S8x4096x8x128 .f32) (b : Fin 8) (s : Fin 4096) (h : Fin 8) (p : Fin 64) : oddQ N (ix4 b s h p) = N (ix4 b s h ⟨p.val * 2 + 1, by omega⟩) := by
  pointwise [oddQ]

theorem tabQ_at (C : FVec Ideal S4096x64 .f32) (b : Fin 8) (s : Fin 4096) (h : Fin 8) (p : Fin 64) : tabQ C (ix4 b s h p) = C (ix2 s p) := by
  pointwise [tabQ]

theorem pairsQ_even (N : FVec Ideal S8x4096x8x128 .f32) (C S : FVec Ideal S4096x64 .f32) (b : Fin 8) (s : Fin 4096) (h : Fin 8) (p : Fin 64) :
    pairsQ N C S (ix5 b s h p (0 : Fin 2)) = N (ix4 b s h ⟨p.val * 2, by omega⟩) * C (ix2 s p) - N (ix4 b s h ⟨p.val * 2 + 1, by omega⟩) * S (ix2 s p) := by
  pointwise [pairsQ, evenQ_at, oddQ_at, tabQ_at]

theorem pairsQ_odd (N : FVec Ideal S8x4096x8x128 .f32) (C S : FVec Ideal S4096x64 .f32) (b : Fin 8) (s : Fin 4096) (h : Fin 8) (p : Fin 64) :
    pairsQ N C S (ix5 b s h p (1 : Fin 2)) = N (ix4 b s h ⟨p.val * 2, by omega⟩) * S (ix2 s p) + N (ix4 b s h ⟨p.val * 2 + 1, by omega⟩) * C (ix2 s p) := by
  pointwise [pairsQ, evenQ_at, oddQ_at, tabQ_at]

theorem foldQ_at (Z : FVec Ideal S8x4096x8x64x2 .f32) (b : Fin 8) (s : Fin 4096) (h : Fin 8) (p : Fin 64) (e : Fin 2) :
    shapeCast S8x4096x8x128 Z shapeCasts_S8x4096x8x64x2_S8x4096x8x128 (ix4 b s h ⟨p.val * 2 + e.val, by omega⟩) = Z (ix5 b s h p e) := by
  pointwise []

theorem flatQ_at (Y : FVec Ideal S8x4096x8x128 .f32) (b : Fin 8) (s : Fin 4096) (h : Fin 8) (d : Fin 128) :
    truncf .bf16 (shapeCast S8x4096x1024 Y shapeCasts_S8x4096x8x128_S8x4096x1024) bitsLt_bf16_f32 (ix3 b s ⟨h.val * 128 + d.val, by omega⟩) = Y (ix4 b s h d) := by
  pointwise []

theorem refQ_at (P : FVec Ideal S8x4096x8192 .f32) (g : FVec Ideal S1x128 .f32) (C S : FVec Ideal S4096x64 .f32) (b : Fin 8) (s : Fin 4096) (h : Fin 8) (p : Fin 64) (e : Fin 2)
    (l : Fin 1024) (hl : l.val = h.val * 128 + (p.val * 2 + e.val)) :
    refQ P g C S (ix3 b s l) = pairsQ (normQ (headQ P) g) C S (ix5 b s h p e) := by
  have hd : p.val * 2 + e.val < 128 := by omega
  have hl' : l = ⟨h.val * 128 + (⟨p.val * 2 + e.val, hd⟩ : Fin 128).val, by simp only []; omega⟩ := Fin.ext hl
  rw [hl', refQ, flatQ_at, foldQ_at]

/-- The reference's keys by head. -/
def headK (P : FVec Ideal S8x4096x8192 .f32) : FVec Ideal S8x4096x2x128 .f32 :=
  shapeCast S8x4096x2x128 (extractStridedSlice S8x4096x256 ![0, 0, 5632] P slices_S8x4096x8192_S8x4096x256_0_0_5632) shapeCasts_S8x4096x256_S8x4096x2x128

/-- The reference's keys, normalized. -/
def normK (U : FVec Ideal S8x4096x2x128 .f32) (g : FVec Ideal S1x128 .f32) : FVec Ideal S8x4096x2x128 .f32 :=
  mulf (mulf U (broadcastInDim S8x4096x2x128 ![0, 1, 2, 3] bcast_S8x4096x2x1_S8x4096x2x128_0_1_2_3 (Host.rsqrt (addf (Host.divf
    (broadcastInDim S8x4096x2x1 ![0, 1, 2] bcast_S8x4096x2_S8x4096x2x1_0_1_2 (Host.reduceAdd (mulf U U) (constant S_ .f32 0x00000000#32) reducesTo_S8x4096x2x128_S8x4096x2_d3 h_S_))
    (broadcastInDim S8x4096x2x1 ![] bcast_S_S8x4096x2x1 (constant S_ .f32 0x43000000#32))) (broadcastInDim S8x4096x2x1 ![] bcast_S_S8x4096x2x1 (constant S_ .f32 0x358637BD#32))))))
    (broadcastInDim S8x4096x2x128 ![0, 1, 2, 3] bcast_S1x1x1x128_S8x4096x2x128_0_1_2_3 (broadcastInDim S1x1x1x128 ![3] bcast_S128_S1x1x1x128_3 (shapeCast S128 g shapeCasts_S1x128_S128)))

/-- The even and the odd lanes, and a table spread over the heads. -/
def evenK (N : FVec Ideal S8x4096x2x128 .f32) : FVec Ideal S8x4096x2x64 .f32 :=
  shapeCast S8x4096x2x64 (extractStridedSlice S8x4096x2x64x1 ![0, 0, 0, 0, 0] (shapeCast S8x4096x2x64x2 N shapeCasts_S8x4096x2x128_S8x4096x2x64x2) slices_S8x4096x2x64x2_S8x4096x2x64x1_0_0_0_0_0) shapeCasts_S8x4096x2x64x1_S8x4096x2x64
def oddK (N : FVec Ideal S8x4096x2x128 .f32) : FVec Ideal S8x4096x2x64 .f32 :=
  shapeCast S8x4096x2x64 (extractStridedSlice S8x4096x2x64x1 ![0, 0, 0, 0, 1] (shapeCast S8x4096x2x64x2 N shapeCasts_S8x4096x2x128_S8x4096x2x64x2) slices_S8x4096x2x64x2_S8x4096x2x64x1_0_0_0_0_1) shapeCasts_S8x4096x2x64x1_S8x4096x2x64
def tabK (C : FVec Ideal S4096x64 .f32) : FVec Ideal S8x4096x2x64 .f32 :=
  broadcastInDim S8x4096x2x64 ![0, 1, 2, 3] bcast_S1x4096x1x64_S8x4096x2x64_0_1_2_3 (broadcastInDim S1x4096x1x64 ![1, 3] bcast_S4096x64_S1x4096x1x64_1_3 C)

/-- The reference's rotated pairs. -/
def pairsK (N : FVec Ideal S8x4096x2x128 .f32) (C S : FVec Ideal S4096x64 .f32) : FVec Ideal S8x4096x2x64x2 .f32 :=
  concatenate S8x4096x2x64x2 4 [⟨S8x4096x2x64x1, broadcastInDim S8x4096x2x64x1 ![0, 1, 2, 3] bcast_S8x4096x2x64_S8x4096x2x64x1_0_1_2_3 (subf (mulf (evenK N) (tabK C)) (mulf (oddK N) (tabK S)))⟩,
    ⟨S8x4096x2x64x1, broadcastInDim S8x4096x2x64x1 ![0, 1, 2, 3] bcast_S8x4096x2x64_S8x4096x2x64x1_0_1_2_3 (addf (mulf (evenK N) (tabK S)) (mulf (oddK N) (tabK C)))⟩] concatenates_S8x4096x2x64x1_S8x4096x2x64x1_S8x4096x2x64x2_d4

/-- The reference's keys. -/
def refK (P : FVec Ideal S8x4096x8192 .f32) (g : FVec Ideal S1x128 .f32) (C S : FVec Ideal S4096x64 .f32) : FVec Ideal S8x4096x256 .bf16 :=
  truncf .bf16 (shapeCast S8x4096x256 (shapeCast S8x4096x2x128 (pairsK (normK (headK P) g) C S) shapeCasts_S8x4096x2x64x2_S8x4096x2x128) shapeCasts_S8x4096x2x128_S8x4096x256) bitsLt_bf16_f32

theorem headK_at (P : FVec Ideal S8x4096x8192 .f32) (b : Fin 8) (s : Fin 4096) (h : Fin 2) (d : Fin 128) :
    headK P (ix4 b s h d) = P (ix3 b s ⟨5632 + h.val * 128 + d.val, by omega⟩) := by
  pointwise [headK]
  refine congrArg (fun z => P (ix3 b s z)) (Fin.ext ?_)
  simp
  try omega

theorem normK_at (U : FVec Ideal S8x4096x2x128 .f32) (g : FVec Ideal S1x128 .f32) (b : Fin 8) (s : Fin 4096) (h : Fin 2) (d : Fin 128) :
    normK U g (ix4 b s h d) = rms (fun k : Fin 128 => U (ix4 b s h k)) (Ideal.ofBits .f32 0x43000000#32) (g (ix2 0 d)) d := by
  pointwise [normK, rms]
  first | done | rw [zero_add]

theorem evenK_at (N : FVec Ideal S8x4096x2x128 .f32) (b : Fin 8) (s : Fin 4096) (h : Fin 2) (p : Fin 64) : evenK N (ix4 b s h p) = N (ix4 b s h ⟨p.val * 2, by omega⟩) := by
  pointwise [evenK]

theorem oddK_at (N : FVec Ideal S8x4096x2x128 .f32) (b : Fin 8) (s : Fin 4096) (h : Fin 2) (p : Fin 64) : oddK N (ix4 b s h p) = N (ix4 b s h ⟨p.val * 2 + 1, by omega⟩) := by
  pointwise [oddK]

theorem tabK_at (C : FVec Ideal S4096x64 .f32) (b : Fin 8) (s : Fin 4096) (h : Fin 2) (p : Fin 64) : tabK C (ix4 b s h p) = C (ix2 s p) := by
  pointwise [tabK]

theorem pairsK_even (N : FVec Ideal S8x4096x2x128 .f32) (C S : FVec Ideal S4096x64 .f32) (b : Fin 8) (s : Fin 4096) (h : Fin 2) (p : Fin 64) :
    pairsK N C S (ix5 b s h p (0 : Fin 2)) = N (ix4 b s h ⟨p.val * 2, by omega⟩) * C (ix2 s p) - N (ix4 b s h ⟨p.val * 2 + 1, by omega⟩) * S (ix2 s p) := by
  pointwise [pairsK, evenK_at, oddK_at, tabK_at]

theorem pairsK_odd (N : FVec Ideal S8x4096x2x128 .f32) (C S : FVec Ideal S4096x64 .f32) (b : Fin 8) (s : Fin 4096) (h : Fin 2) (p : Fin 64) :
    pairsK N C S (ix5 b s h p (1 : Fin 2)) = N (ix4 b s h ⟨p.val * 2, by omega⟩) * S (ix2 s p) + N (ix4 b s h ⟨p.val * 2 + 1, by omega⟩) * C (ix2 s p) := by
  pointwise [pairsK, evenK_at, oddK_at, tabK_at]

theorem foldK_at (Z : FVec Ideal S8x4096x2x64x2 .f32) (b : Fin 8) (s : Fin 4096) (h : Fin 2) (p : Fin 64) (e : Fin 2) :
    shapeCast S8x4096x2x128 Z shapeCasts_S8x4096x2x64x2_S8x4096x2x128 (ix4 b s h ⟨p.val * 2 + e.val, by omega⟩) = Z (ix5 b s h p e) := by
  pointwise []

theorem flatK_at (Y : FVec Ideal S8x4096x2x128 .f32) (b : Fin 8) (s : Fin 4096) (h : Fin 2) (d : Fin 128) :
    truncf .bf16 (shapeCast S8x4096x256 Y shapeCasts_S8x4096x2x128_S8x4096x256) bitsLt_bf16_f32 (ix3 b s ⟨h.val * 128 + d.val, by omega⟩) = Y (ix4 b s h d) := by
  pointwise []

theorem refK_at (P : FVec Ideal S8x4096x8192 .f32) (g : FVec Ideal S1x128 .f32) (C S : FVec Ideal S4096x64 .f32) (b : Fin 8) (s : Fin 4096) (h : Fin 2) (p : Fin 64) (e : Fin 2)
    (l : Fin 256) (hl : l.val = h.val * 128 + (p.val * 2 + e.val)) :
    refK P g C S (ix3 b s l) = pairsK (normK (headK P) g) C S (ix5 b s h p e) := by
  have hd : p.val * 2 + e.val < 128 := by omega
  have hl' : l = ⟨h.val * 128 + (⟨p.val * 2 + e.val, hd⟩ : Fin 128).val, by simp only []; omega⟩ := Fin.ext hl
  rw [hl', refK, flatK_at, foldK_at]

end Cert.Reference4Ideal.Proj

end
-- ==== Proof.ProjEq.lean ====
/- The projection's arrays and its reference's results are the same. -/
module

public import proofs.«01_k».proof.Proof.ProjValue
public import proofs.«01_k».proof.Proof.ProjRef

@[expose] public section

set_option maxRecDepth 16384

noncomputable section

namespace Cert.Kernel4Ideal.Proj

open Cert.Kernel4Ideal.Gen
open Idealize.ShloMosaic Idealize.ShloMosaic.TcCoe Idealize.SL.Sem
open Cert.Reference4Ideal.Proj (refHn refPrj scaled split refA refB refC refQ refK refT refG)

/-- The operands as the call hands them to the kernel. -/
def gainH (G : FVec Ideal S1x1024 .f32) : FVec Ideal S1x1024 .f32 := shapeCast S1x1024 (shapeCast S1024 G shapeCasts_S1x1024_S1024) shapeCasts_S1024_S1x1024
def weightH (W : FVec Ideal S1x1024x8192 .f32) : FVec Ideal S1024x8192 .bf16 := truncf .bf16 (shapeCast S1024x8192 W shapeCasts_S1x1024x8192_S1024x8192) bitsLt_bf16_f32
def biasH (B : FVec Ideal S1x2048 .f32) : FVec Ideal S1x2048 .f32 := shapeCast S1x2048 (shapeCast S2048 B shapeCasts_S1x2048_S2048) shapeCasts_S2048_S1x2048
def laneH (g : FVec Ideal S1x128 .f32) : FVec Ideal S1x128 .f32 := shapeCast S1x128 (shapeCast S128 g shapeCasts_S1x128_S128) shapeCasts_S128_S1x128
def cosH (C : FVec Ideal S4096x64 .f32) : FVec Ideal S4096x128 .f32 :=
  shapeCast S4096x128 (broadcastInDim S4096x64x2 ![0, 1] bcast_S4096x64_S4096x64x2_0_1 C) shapeCasts_S4096x64x2_S4096x128
def signH (S : FVec Ideal S4096x64 .f32) : FVec Ideal S4096x64x2 .f32 :=
  concatenate S4096x64x2 2 [⟨S4096x64x1, broadcastInDim S4096x64x1 ![0, 1] bcast_S4096x64_S4096x64x1_0_1 (Host.negf S)⟩,
    ⟨S4096x64x1, broadcastInDim S4096x64x1 ![0, 1] bcast_S4096x64_S4096x64x1_0_1 S⟩] concatenates_S4096x64x1_S4096x64x1_S4096x64x2_d2
def sinH (S : FVec Ideal S4096x64 .f32) : FVec Ideal S4096x128 .f32 := shapeCast S4096x128 (signH S) shapeCasts_S4096x64x2_S4096x128

theorem gainH_at (G : FVec Ideal S1x1024 .f32) (l : Fin 1024) : gainH G (ix2 0 l) = G (ix2 0 l) := by
  pointwise [gainH]
theorem weightH_at (W : FVec Ideal S1x1024x8192 .f32) (k : Fin 1024) (z : Fin 8192) : weightH W (ix2 k z) = W (ix3 0 k z) := by
  pointwise [weightH]
theorem biasH_at (B : FVec Ideal S1x2048 .f32) (l : Fin 2048) : biasH B (ix2 0 l) = B (ix2 0 l) := by
  pointwise [biasH]
theorem laneH_at (g : FVec Ideal S1x128 .f32) (l : Fin 128) : laneH g (ix2 0 l) = g (ix2 0 l) := by
  pointwise [laneH]
theorem flatH_at (Z : FVec Ideal S4096x64x2 .f32) (s : Fin 4096) (p : Fin 64) (e : Fin 2) (d : Fin 128) (hd : d.val = p.val * 2 + e.val) :
    shapeCast S4096x128 Z shapeCasts_S4096x64x2_S4096x128 (ix2 s d) = Z (ix3 s p e) := by
  have hlt : p.val * 2 + e.val < 128 := by omega
  have hd' : d = ⟨p.val * 2 + e.val, hlt⟩ := Fin.ext hd
  subst hd'
  pointwise []
theorem cosH_at (C : FVec Ideal S4096x64 .f32) (s : Fin 4096) (p : Fin 64) (e : Fin 2) (d : Fin 128) (hd : d.val = p.val * 2 + e.val) : cosH C (ix2 s d) = C (ix2 s p) := by
  rw [cosH, flatH_at _ s p e d hd]
  pointwise []
theorem signH_zero (S : FVec Ideal S4096x64 .f32) (s : Fin 4096) (p : Fin 64) : signH S (ix3 s p (0 : Fin 2)) = -S (ix2 s p) := by
  pointwise [signH]
theorem signH_one (S : FVec Ideal S4096x64 .f32) (s : Fin 4096) (p : Fin 64) : signH S (ix3 s p (1 : Fin 2)) = S (ix2 s p) := by
  pointwise [signH]
theorem sinH_even (S : FVec Ideal S4096x64 .f32) (s : Fin 4096) (p : Fin 64) (d : Fin 128) (hd : d.val = p.val * 2) : sinH S (ix2 s d) = -S (ix2 s p) := by
  rw [sinH, flatH_at _ s p 0 d hd, signH_zero]
theorem sinH_odd (S : FVec Ideal S4096x64 .f32) (s : Fin 4096) (p : Fin 64) (d : Fin 128) (hd : d.val = p.val * 2 + 1) : sinH S (ix2 s d) = S (ix2 s p) := by
  rw [sinH, flatH_at _ s p 1 d hd, signH_one]

/-- The reference's projection is a normalized row by a column of the weights. -/
theorem prj_eq (X : FVec Ideal S8x4096x1024 .f32) (G : FVec Ideal S1x1024 .f32) (W : FVec Ideal S1x1024x8192 .f32) (b : Fin 8) (s : Fin 4096) (z : Fin 8192) :
    refPrj X G W (ix3 b s z) = prjG X (gainH G) (weightH W) b s z := by
  rw [Cert.Reference4Ideal.Proj.refPrj_at, prjG]
  refine Finset.sum_congr rfl fun k _ => ?_
  rw [Cert.Reference4Ideal.Proj.refHn_at, hnG, gainH_at, weightH_at]

section
variable (X : FVec Ideal S8x4096x1024 .f32) (G : FVec Ideal S1x1024 .f32) (W : FVec Ideal S1024x8192 .bf16) (P : FVec Ideal Cert.Reference4Ideal.S8x4096x8192 .f32)
  (hP : ∀ (b : Fin 8) (s : Fin 4096) (z : Fin 8192), P (ix3 b s z) = prjG X G W b s z)
include hP

/-- The first group of columns. -/
theorem a_eq : arrA X G W = refA (scaled (split P)) := by
  funext i
  rw [eq_ix4 i]
  generalize i 0 = b, i 1 = q, i 2 = s, i 3 = j
  change Fin 8 at b; change Fin 1 at q; change Fin 4096 at s; change Fin 1536 at j
  obtain rfl : q = 0 := Subsingleton.elim _ _
  exact ((Cert.Reference4Ideal.Proj.refA_at _ b s j).trans ((Cert.Reference4Ideal.Proj.scaled_at P b _ 0 j).trans (congrArg (scl j.val) (hP _ _ _)))).symm

/-- The second group of columns. -/
theorem b_eq : arrB X G W = refB (scaled (split P)) := by
  funext i
  rw [eq_ix4 i]
  generalize i 0 = b, i 1 = q, i 2 = s, i 3 = j
  change Fin 8 at b; change Fin 4 at q; change Fin 1024 at s; change Fin 1536 at j
  exact ((Cert.Reference4Ideal.Proj.refB_at _ b q s j).trans ((Cert.Reference4Ideal.Proj.scaled_at P b _ 1 j).trans (congrArg (scl j.val) (hP _ _ _)))).symm

/-- The third group of columns. -/
theorem c_eq : arrC X G W = refC (scaled (split P)) := by
  funext i
  rw [eq_ix4 i]
  generalize i 0 = b, i 1 = q, i 2 = s, i 3 = j
  change Fin 8 at b; change Fin 16 at q; change Fin 256 at s; change Fin 1536 at j
  exact ((Cert.Reference4Ideal.Proj.refC_at _ b q s j).trans ((Cert.Reference4Ideal.Proj.scaled_at P b _ 2 j).trans (congrArg (scl j.val) (hP _ _ _)))).symm

/-- The transposed values. -/
theorem t_eq : arrT X G W = refT P := by
  funext i
  rw [eq_ix3 i]
  generalize i 0 = b, i 1 = d, i 2 = s
  change Fin 8 at b; change Fin 256 at d; change Fin 4096 at s
  exact ((Cert.Reference4Ideal.Proj.refT_at P b d s).trans (hP _ _ _)).symm

/-- The gates. -/
theorem g_eq (B : FVec Ideal S1x2048 .f32) : arrG X G W (biasH B) = refG P B := by
  funext i
  rw [eq_ix3 i]
  generalize i 0 = b, i 1 = s, i 2 = j
  change Fin 8 at b; change Fin 4096 at s; change Fin 2048 at j
  rw [Cert.Reference4Ideal.Proj.refG_at, hP]
  exact congrArg (fun v => Ideal.logistic (prjG X G W b s ⟨6144 + j.val, by omega⟩ + v)) (biasH_at B j)

/-- The queries. -/
theorem q_eq (g : FVec Ideal S1x128 .f32) (C S : FVec Ideal S4096x64 .f32) : arrQ X G W (laneH g) (cosH C) (sinH S) = refQ P g C S := by
  funext i
  rw [eq_ix3 i]
  generalize i 0 = b, i 1 = s, i 2 = l
  change Fin 8 at b; change Fin 4096 at s; change Fin 1024 at l
  show headG X G W (laneH g) (cosH C) (sinH S) b s ⟨4608 + l.val / 128 * 128, by omega⟩ ⟨l.val % 128, by omega⟩ = _
  obtain ⟨h, hh⟩ : ∃ h : Fin 8, h.val = l.val / 128 := ⟨⟨l.val / 128, by omega⟩, rfl⟩
  obtain ⟨p, hp⟩ : ∃ p : Fin 64, p.val = l.val % 128 / 2 := ⟨⟨l.val % 128 / 2, by omega⟩, rfl⟩
  have hz : 4608 + h.val * 128 < 8065 := by omega
  have hu : (fun k : Fin 128 => Cert.Reference4Ideal.Proj.headQ P (ix4 b s h k)) = fun k : Fin 128 => prjG X G W b s ⟨(⟨4608 + h.val * 128, hz⟩ : Fin 8065).val + k.val, by simp only []; omega⟩ :=
    funext fun k => (Cert.Reference4Ideal.Proj.headQ_at P b s h k).trans (hP _ _ _)
  have he : p.val * 2 < 128 := by omega
  have ho : p.val * 2 + 1 < 128 := by omega
  rcases Nat.mod_two_eq_zero_or_one l.val with e | e
  · rw [Cert.Reference4Ideal.Proj.refQ_at P g C S b s h p 0 l (by simp only [Fin.val_zero]; omega), Cert.Reference4Ideal.Proj.pairsQ_even, Cert.Reference4Ideal.Proj.normQ_at, Cert.Reference4Ideal.Proj.normQ_at, hu,
      headG_congr X G W (laneH g) (cosH C) (sinH S) (b' := b) (s' := s) (z' := ⟨4608 + h.val * 128, hz⟩) (d' := ⟨p.val * 2, he⟩) rfl rfl (by simp only []; omega) (by simp only []; omega)]
    have hot : other ⟨p.val * 2, he⟩ = ⟨p.val * 2 + 1, ho⟩ := Fin.ext (by unfold other; simp)
    rw [headG, hot, cosH_at C s p 0 ⟨p.val * 2, he⟩ rfl, sinH_even S s p ⟨p.val * 2, he⟩ rfl, laneH_at, laneH_at, mul_neg, sub_eq_add_neg]
  · rw [Cert.Reference4Ideal.Proj.refQ_at P g C S b s h p 1 l (by simp only [Fin.val_one]; omega), Cert.Reference4Ideal.Proj.pairsQ_odd, Cert.Reference4Ideal.Proj.normQ_at, Cert.Reference4Ideal.Proj.normQ_at, hu,
      headG_congr X G W (laneH g) (cosH C) (sinH S) (b' := b) (s' := s) (z' := ⟨4608 + h.val * 128, hz⟩) (d' := ⟨p.val * 2 + 1, ho⟩) rfl rfl (by simp only []; omega) (by simp only []; omega)]
    have hot : other ⟨p.val * 2 + 1, ho⟩ = ⟨p.val * 2, he⟩ := Fin.ext (by unfold other; simp; try omega)
    rw [headG, hot, cosH_at C s p 1 ⟨p.val * 2 + 1, ho⟩ rfl, sinH_odd S s p ⟨p.val * 2 + 1, ho⟩ rfl, laneH_at, laneH_at, add_comm]

/-- The keys. -/
theorem k_eq (g : FVec Ideal S1x128 .f32) (C S : FVec Ideal S4096x64 .f32) : arrK X G W (laneH g) (cosH C) (sinH S) = refK P g C S := by
  funext i
  rw [eq_ix3 i]
  generalize i 0 = b, i 1 = s, i 2 = l
  change Fin 8 at b; change Fin 4096 at s; change Fin 256 at l
  show headG X G W (laneH g) (cosH C) (sinH S) b s ⟨5632 + l.val / 128 * 128, by omega⟩ ⟨l.val % 128, by omega⟩ = _
  obtain ⟨h, hh⟩ : ∃ h : Fin 2, h.val = l.val / 128 := ⟨⟨l.val / 128, by omega⟩, rfl⟩
  obtain ⟨p, hp⟩ : ∃ p : Fin 64, p.val = l.val % 128 / 2 := ⟨⟨l.val % 128 / 2, by omega⟩, rfl⟩
  have hz : 5632 + h.val * 128 < 8065 := by omega
  have hu : (fun k : Fin 128 => Cert.Reference4Ideal.Proj.headK P (ix4 b s h k)) = fun k : Fin 128 => prjG X G W b s ⟨(⟨5632 + h.val * 128, hz⟩ : Fin 8065).val + k.val, by simp only []; omega⟩ :=
    funext fun k => (Cert.Reference4Ideal.Proj.headK_at P b s h k).trans (hP _ _ _)
  have he : p.val * 2 < 128 := by omega
  have ho : p.val * 2 + 1 < 128 := by omega
  rcases Nat.mod_two_eq_zero_or_one l.val with e | e
  · rw [Cert.Reference4Ideal.Proj.refK_at P g C S b s h p 0 l (by simp only [Fin.val_zero]; omega), Cert.Reference4Ideal.Proj.pairsK_even, Cert.Reference4Ideal.Proj.normK_at, Cert.Reference4Ideal.Proj.normK_at, hu,
      headG_congr X G W (laneH g) (cosH C) (sinH S) (b' := b) (s' := s) (z' := ⟨5632 + h.val * 128, hz⟩) (d' := ⟨p.val * 2, he⟩) rfl rfl (by simp only []; omega) (by simp only []; omega)]
    have hot : other ⟨p.val * 2, he⟩ = ⟨p.val * 2 + 1, ho⟩ := Fin.ext (by unfold other; simp)
    rw [headG, hot, cosH_at C s p 0 ⟨p.val * 2, he⟩ rfl, sinH_even S s p ⟨p.val * 2, he⟩ rfl, laneH_at, laneH_at, mul_neg, sub_eq_add_neg]
  · rw [Cert.Reference4Ideal.Proj.refK_at P g C S b s h p 1 l (by simp only [Fin.val_one]; omega), Cert.Reference4Ideal.Proj.pairsK_odd, Cert.Reference4Ideal.Proj.normK_at, Cert.Reference4Ideal.Proj.normK_at, hu,
      headG_congr X G W (laneH g) (cosH C) (sinH S) (b' := b) (s' := s) (z' := ⟨5632 + h.val * 128, hz⟩) (d' := ⟨p.val * 2 + 1, ho⟩) rfl rfl (by simp only []; omega) (by simp only []; omega)]
    have hot : other ⟨p.val * 2 + 1, ho⟩ = ⟨p.val * 2, he⟩ := Fin.ext (by unfold other; simp; try omega)
    rw [headG, hot, cosH_at C s p 1 ⟨p.val * 2 + 1, ho⟩ rfl, sinH_odd S s p ⟨p.val * 2 + 1, ho⟩ rfl, laneH_at, laneH_at, add_comm]

end

end Cert.Kernel4Ideal.Proj

end
-- ==== Proof.ProjFinal.lean ====
/- The projection's runs and results: its seven results are its reference's. -/
module

public import proofs.«01_k».proof.Defs
public import proofs.«01_k».proof.Proof.ProjEq
public import proofs.«01_k».proof.Proof.Gen.Kernel4Ideal.Frame
public import proofs.«01_k».proof.Proof.Gen.Kernel4Ideal
public import Idealize.ShloMosaic.Lib.Claim

@[expose] public section

set_option maxRecDepth 16384

noncomputable section

namespace Cert.Kernel4Ideal.Proj

open Cert.Kernel4Ideal.Gen
open Idealize.ShloMosaic Idealize.ShloMosaic.TcCoe Idealize.SL.Sem
open Idealize.ShloMosaic.Pipeline (Dat)
open Cert.Reference4Ideal.Proj (refPrj scaled split refA refB refC refQ refK refT refG)

variable (m : (ℓ : Loc nD τ sig) → Buf (Elt Ideal) ℓ) (ρ : Dev nD → PrngReg)

/-- The call ends with its result arrays as its windows left them. -/
theorem run_results : θ_run defs (onTc (τ := τ) (main (F := Ideal))) ⟨m, fun _ => 0, ρ⟩ fun r => ∀ c : Dev nD,
      r.2.mem ((c.tc : Thread nD τ).loc main_v17_0) = (dats m 0 c).arrAt 8 (cfgs 0).N
      ∧ r.2.mem ((c.tc : Thread nD τ).loc main_v17_1) = (dats m 0 c).arrAt 9 (cfgs 0).N
      ∧ r.2.mem ((c.tc : Thread nD τ).loc main_v17_2) = (dats m 0 c).arrAt 10 (cfgs 0).N
      ∧ r.2.mem ((c.tc : Thread nD τ).loc main_v17_3) = (dats m 0 c).arrAt 11 (cfgs 0).N
      ∧ r.2.mem ((c.tc : Thread nD τ).loc main_v17_4) = (dats m 0 c).arrAt 12 (cfgs 0).N
      ∧ r.2.mem ((c.tc : Thread nD τ).loc main_v17_5) = (dats m 0 c).arrAt 13 (cfgs 0).N
      ∧ r.2.mem ((c.tc : Thread nD τ).loc main_v17_6) = (dats m 0 c).arrAt 14 (cfgs 0).N :=
  (θ_run defs _ _).mono (fun r h c => ⟨(h c).1 8, (h c).1 9, (h c).1 10, (h c).1 11, (h c).1 12, (h c).1 13, (h c).1 14⟩) (run_main m ρ)

/-- The call ends with its result arrays as its windows left them and its arguments unchanged. -/
theorem run_post : θ_run defs (onTc (τ := τ) (main (F := Ideal))) ⟨m, fun _ => 0, ρ⟩ fun r => ∀ c : Dev nD,
      r.2.mem ((c.tc : Thread nD τ).loc main_v17_0) = (dats m 0 c).arrAt 8 (cfgs 0).N
      ∧ r.2.mem ((c.tc : Thread nD τ).loc main_v17_1) = (dats m 0 c).arrAt 9 (cfgs 0).N
      ∧ r.2.mem ((c.tc : Thread nD τ).loc main_v17_2) = (dats m 0 c).arrAt 10 (cfgs 0).N
      ∧ r.2.mem ((c.tc : Thread nD τ).loc main_v17_3) = (dats m 0 c).arrAt 11 (cfgs 0).N
      ∧ r.2.mem ((c.tc : Thread nD τ).loc main_v17_4) = (dats m 0 c).arrAt 12 (cfgs 0).N
      ∧ r.2.mem ((c.tc : Thread nD τ).loc main_v17_5) = (dats m 0 c).arrAt 13 (cfgs 0).N
      ∧ r.2.mem ((c.tc : Thread nD τ).loc main_v17_6) = (dats m 0 c).arrAt 14 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h.1 c).1, (h.1 c).2.1, (h.1 c).2.2.1, (h.1 c).2.2.2.1, (h.1 c).2.2.2.2.1, (h.1 c).2.2.2.2.2.1, (h.1 c).2.2.2.2.2.2, h.2 c⟩)
    (θ_run_and (run_results m ρ) (unchanged m ρ))

/-- The rows' gains, as the call finds them. -/
theorem V_v8 (c : Dev nD) : V m c main_v8 = gainH (m ((c : Thread nD τ).loc main_arg1)) := by
  entry_read <;> rfl

/-- The weights, as the call finds them. -/
theorem V_v10 (c : Dev nD) : V m c main_v10 = weightH (m ((c : Thread nD τ).loc main_arg2)) := by
  entry_read <;> rfl

/-- The gates' biases, as the call finds them. -/
theorem V_v12 (c : Dev nD) : V m c main_v12 = biasH (m ((c : Thread nD τ).loc main_arg3)) := by
  entry_read <;> rfl

/-- The queries' gains, as the call finds them. -/
theorem V_v14 (c : Dev nD) : V m c main_v14 = laneH (m ((c : Thread nD τ).loc main_arg4)) := by
  entry_read <;> rfl

/-- The keys' gains, as the call finds them. -/
theorem V_v16 (c : Dev nD) : V m c main_v16 = laneH (m ((c : Thread nD τ).loc main_arg5)) := by
  entry_read <;> rfl

/-- The cosines, as the call finds them. -/
theorem V_v1 (c : Dev nD) : V m c main_v1 = cosH (m ((c : Thread nD τ).loc main_arg6)) := by
  entry_read <;> rfl

/-- The signed sines, as the call finds them. -/
theorem V_v6 (c : Dev nD) : V m c main_v6 = sinH (m ((c : Thread nD τ).loc main_arg7)) := by
  entry_read <;> rfl

/-- Result 0 is the reference's result 0 of the call's arguments. -/
theorem same0 (c : Dev nD) : (dats m 0 c).arrAt 8 (cfgs 0).N = refA (scaled (split (refPrj (m ((c : Thread nD τ).loc main_arg0)) (m ((c : Thread nD τ).loc main_arg1)) (m ((c : Thread nD τ).loc main_arg2))))) := by
  rw [final8, V_main_arg0, V_v8, V_v10]
  exact a_eq _ _ _ _ (prj_eq (m ((c : Thread nD τ).loc main_arg0)) (m ((c : Thread nD τ).loc main_arg1)) (m ((c : Thread nD τ).loc main_arg2)))

/-- Result 1 is the reference's result 1 of the call's arguments. -/
theorem same1 (c : Dev nD) : (dats m 0 c).arrAt 9 (cfgs 0).N = refB (scaled (split (refPrj (m ((c : Thread nD τ).loc main_arg0)) (m ((c : Thread nD τ).loc main_arg1)) (m ((c : Thread nD τ).loc main_arg2))))) := by
  rw [final9, V_main_arg0, V_v8, V_v10]
  exact b_eq _ _ _ _ (prj_eq (m ((c : Thread nD τ).loc main_arg0)) (m ((c : Thread nD τ).loc main_arg1)) (m ((c : Thread nD τ).loc main_arg2)))

/-- Result 2 is the reference's result 2 of the call's arguments. -/
theorem same2 (c : Dev nD) : (dats m 0 c).arrAt 10 (cfgs 0).N = refC (scaled (split (refPrj (m ((c : Thread nD τ).loc main_arg0)) (m ((c : Thread nD τ).loc main_arg1)) (m ((c : Thread nD τ).loc main_arg2))))) := by
  rw [final10, V_main_arg0, V_v8, V_v10]
  exact c_eq _ _ _ _ (prj_eq (m ((c : Thread nD τ).loc main_arg0)) (m ((c : Thread nD τ).loc main_arg1)) (m ((c : Thread nD τ).loc main_arg2)))

/-- Result 3 is the reference's result 3 of the call's arguments. -/
theorem same3 (c : Dev nD) : (dats m 0 c).arrAt 11 (cfgs 0).N = refQ (refPrj (m ((c : Thread nD τ).loc main_arg0)) (m ((c : Thread nD τ).loc main_arg1)) (m ((c : Thread nD τ).loc main_arg2))) (m ((c : Thread nD τ).loc main_arg4)) (m ((c : Thread nD τ).loc main_arg6)) (m ((c : Thread nD τ).loc main_arg7)) := by
  rw [final11, V_main_arg0, V_v8, V_v10, V_v14, V_v1, V_v6]
  exact q_eq _ _ _ _ (prj_eq (m ((c : Thread nD τ).loc main_arg0)) (m ((c : Thread nD τ).loc main_arg1)) (m ((c : Thread nD τ).loc main_arg2))) _ _ _

/-- Result 4 is the reference's result 4 of the call's arguments. -/
theorem same4 (c : Dev nD) : (dats m 0 c).arrAt 12 (cfgs 0).N = refK (refPrj (m ((c : Thread nD τ).loc main_arg0)) (m ((c : Thread nD τ).loc main_arg1)) (m ((c : Thread nD τ).loc main_arg2))) (m ((c : Thread nD τ).loc main_arg5)) (m ((c : Thread nD τ).loc main_arg6)) (m ((c : Thread nD τ).loc main_arg7)) := by
  rw [final12, V_main_arg0, V_v8, V_v10, V_v16, V_v1, V_v6]
  exact k_eq _ _ _ _ (prj_eq (m ((c : Thread nD τ).loc main_arg0)) (m ((c : Thread nD τ).loc main_arg1)) (m ((c : Thread nD τ).loc main_arg2))) _ _ _

/-- Result 5 is the reference's result 5 of the call's arguments. -/
theorem same5 (c : Dev nD) : (dats m 0 c).arrAt 13 (cfgs 0).N = refT (refPrj (m ((c : Thread nD τ).loc main_arg0)) (m ((c : Thread nD τ).loc main_arg1)) (m ((c : Thread nD τ).loc main_arg2))) := by
  rw [final13, V_main_arg0, V_v8, V_v10]
  exact t_eq _ _ _ _ (prj_eq (m ((c : Thread nD τ).loc main_arg0)) (m ((c : Thread nD τ).loc main_arg1)) (m ((c : Thread nD τ).loc main_arg2)))

/-- Result 6 is the reference's result 6 of the call's arguments. -/
theorem same6 (c : Dev nD) : (dats m 0 c).arrAt 14 (cfgs 0).N = refG (refPrj (m ((c : Thread nD τ).loc main_arg0)) (m ((c : Thread nD τ).loc main_arg1)) (m ((c : Thread nD τ).loc main_arg2))) (m ((c : Thread nD τ).loc main_arg3)) := by
  rw [final14, V_main_arg0, V_v8, V_v10, V_v12]
  exact g_eq _ _ _ _ (prj_eq (m ((c : Thread nD τ).loc main_arg0)) (m ((c : Thread nD τ).loc main_arg1)) (m ((c : Thread nD τ).loc main_arg2))) _

end Cert.Kernel4Ideal.Proj

end
-- ==== Proof.ProjRefRun.lean ====
/- The run of the projection's reference. -/
module

public import proofs.«01_k».proof.Proof.Gen.Reference4Ideal
public import proofs.«01_k».proof.Proof.Gen.Reference4Ideal.Run
public import proofs.«01_k».proof.Proof.ProjRef
public import Idealize.ShloMosaic.Lib.Pipeline.ValueKit
public import Idealize.ShloMosaic.Lib.Claim

@[expose] public section

set_option maxRecDepth 16384

noncomputable section

namespace Cert.Reference4Ideal.Proj

open Cert.Reference4Ideal.Gen
open Idealize.ShloMosaic Idealize.ShloMosaic.TcCoe Idealize.SL.Sem

variable (m : (ℓ : Loc nD τ sig) → Buf (Elt Ideal) ℓ) (ρ : Dev nD → PrngReg)

set_option maxHeartbeats 4000000 in
/-- The reference ends with its results and its arguments unchanged. -/
theorem run_ref : θ_run defs (onTc (τ := τ) (main (F := Ideal))) ⟨m, fun _ => 0, ρ⟩ fun r => ∀ c : Dev nD,
      r.2.mem ((c.tc : Thread nD τ).loc main_v124) = refA (scaled (split (refPrj (m ((c.tc : Thread nD τ).loc main_arg0)) (m ((c.tc : Thread nD τ).loc main_arg1)) (m ((c.tc : Thread nD τ).loc main_arg2)))))
      ∧ r.2.mem ((c.tc : Thread nD τ).loc main_v125) = refB (scaled (split (refPrj (m ((c.tc : Thread nD τ).loc main_arg0)) (m ((c.tc : Thread nD τ).loc main_arg1)) (m ((c.tc : Thread nD τ).loc main_arg2)))))
      ∧ r.2.mem ((c.tc : Thread nD τ).loc main_v126) = refC (scaled (split (refPrj (m ((c.tc : Thread nD τ).loc main_arg0)) (m ((c.tc : Thread nD τ).loc main_arg1)) (m ((c.tc : Thread nD τ).loc main_arg2)))))
      ∧ r.2.mem ((c.tc : Thread nD τ).loc main_v127) = refQ (refPrj (m ((c.tc : Thread nD τ).loc main_arg0)) (m ((c.tc : Thread nD τ).loc main_arg1)) (m ((c.tc : Thread nD τ).loc main_arg2))) (m ((c.tc : Thread nD τ).loc main_arg4)) (m ((c.tc : Thread nD τ).loc main_arg6)) (m ((c.tc : Thread nD τ).loc main_arg7))
      ∧ r.2.mem ((c.tc : Thread nD τ).loc main_v128) = refK (refPrj (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg6)) (m ((c.tc : Thread nD τ).loc main_arg7))
      ∧ r.2.mem ((c.tc : Thread nD τ).loc main_v129) = refT (refPrj (m ((c.tc : Thread nD τ).loc main_arg0)) (m ((c.tc : Thread nD τ).loc main_arg1)) (m ((c.tc : Thread nD τ).loc main_arg2)))
      ∧ r.2.mem ((c.tc : Thread nD τ).loc main_v130) = refG (refPrj (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans rfl, (h c).2.1.trans rfl, (h c).2.2.1.trans rfl, (h c).2.2.2.1.trans rfl, (h c).2.2.2.2.1.trans rfl,
    (h c).2.2.2.2.2.1.trans rfl, (h c).2.2.2.2.2.2.1.trans rfl, (h c).2.2.2.2.2.2.2⟩) (Cert.Reference4Ideal.Value.run m ρ)

end Cert.Reference4Ideal.Proj

end
-- ==== Proof.lean ====
/- The frames of the kernel, of its idealization and of the reference, and the equality of the results over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.FinalSame
public import proofs.«01_k».proof.Proof.Same
public import proofs.«01_k».proof.Proof.Twin
public import proofs.«01_k».proof.Proof.Gen.Kernel3
public import proofs.«01_k».proof.Proof.Gen.Kernel3Ideal
public import proofs.«01_k».proof.Proof.Gen.Reference3Ideal
public import proofs.«01_k».proof.Proof.AttnSame
public import proofs.«01_k».proof.Proof.AttnFinal
public import proofs.«01_k».proof.Proof.Gen.Kernel4
public import proofs.«01_k».proof.Proof.Gen.Kernel4Ideal
public import proofs.«01_k».proof.Proof.Gen.Reference4Ideal
public import proofs.«01_k».proof.Proof.ProjSame
public import proofs.«01_k».proof.Proof.ProjFinal
public import proofs.«01_k».proof.Proof.ProjRefRun
public import Idealize.ShloMosaic.Lib.Claim

@[expose] public section

set_option maxRecDepth 16384

noncomputable section

namespace Cert.Proof

open Idealize.ShloMosaic Idealize.SL.Sem

/-- The idealized kernel terminates with its arguments unchanged and every counter at zero. -/
theorem frame_ideal : Cert.quiescent_KernelIdeal := fun m ρ _ =>
  Cert.KernelIdeal.Ffn.run_args m ρ

/-- The reference terminates with its arguments unchanged and every counter at zero. -/
theorem frame_ref : Cert.quiescent_ReferenceIdeal := fun m ρ _ =>
  (θ_run Cert.ReferenceIdeal.defs _ _).mono
    (fun _ h => ⟨fun c => (h c).2.2, funext fun g => by rcases g with ⟨_, s | s⟩ <;> exact Fin.elim0 s⟩)
    (Cert.ReferenceIdeal.Ffn.run_ref m ρ)

/-- Over the extended reals the kernel's two results are the reference's. -/
theorem algebraic : Cert.algebraic_KernelIdeal_ReferenceIdeal := by
  pair_intro
  · run_from Cert.KernelIdeal.Ffn.run_post m g
  · run_from Cert.ReferenceIdeal.Ffn.run_ref m' g'
    · exact (Cert.KernelIdeal.Ffn.same4 m c).symm
    · exact (Cert.KernelIdeal.Ffn.same5 m c).symm

/-- The idealized second call terminates with its arguments unchanged and every counter at zero. -/
theorem frame_ideal2 : Cert.quiescent_Kernel2Ideal := fun m ρ _ =>
  Cert.Kernel2Ideal.Gen.frame m ρ

/-- The second call's reference terminates with its arguments unchanged and every counter at zero. -/
theorem frame_ref2 : Cert.quiescent_Reference2Ideal := fun m ρ _ =>
  (θ_run Cert.Reference2Ideal.defs _ _).mono
    (fun _ h => ⟨fun c => (h c).2, funext fun g => by rcases g with ⟨_, s | s⟩ <;> exact Fin.elim0 s⟩)
    (Cert.Reference2Ideal.Final.run_ref m ρ)

/-- Over the extended reals the second call's result is its reference's. -/
theorem algebraic2 : Cert.algebraic_Kernel2Ideal_Reference2Ideal := by
  pair_intro
  · run_from Cert.Kernel2Ideal.Final.run_post m g
  · run_from Cert.Reference2Ideal.Final.run_ref m' g'
    · exact (Cert.Kernel2Ideal.Final.same6 m c).symm

/-- The idealized attention call terminates with its arguments unchanged and every counter at zero. -/
theorem frame_ideal3 : Cert.quiescent_Kernel3Ideal := fun m ρ _ =>
  Cert.Kernel3Ideal.Attn.frame m ρ

/-- The same where the queries and keys are finite. -/
theorem frame_ideal3_pre [Cert.Pre_finite_queries_keys.Facts] :
    Cert.quiescent_Kernel3Ideal_pre_finite_queries_keys := fun m ρ _ =>
  Cert.Kernel3Ideal.Attn.frame m ρ

/-- The attention call's reference terminates with its arguments unchanged and every counter at zero. -/
theorem frame_ref3 : Cert.quiescent_Reference3Ideal := fun m ρ _ =>
  (θ_run Cert.Reference3Ideal.defs _ _).mono
    (fun _ h => ⟨fun c => (h c).2.2.2.2.2.2.2, funext fun g => by rcases g with ⟨_, s | s⟩ <;> exact Fin.elim0 s⟩)
    (Cert.Reference3Ideal.Attn.run_ref m ρ)

/-- The same where the queries and keys are finite. -/
theorem frame_ref3_pre [Cert.Pre_finite_queries_keys.Facts] :
    Cert.quiescent_Reference3Ideal_pre_finite_queries_keys := fun m ρ h =>
  frame_ref3 m ρ trivial

/-- The constant named in the attention kernel is, over the extended reals, the value its table gives it. -/
theorem preserves3 : Cert.preserves_Kernel3_Kernel3Ideal :=
  IdealRules.named_const.statement Cert.Kernel3Ideal.κ "scale_log2e" .f32 0x3E0293EE#32 _ rfl

/-- Over the extended reals the attention call's seven results are its reference's, where the queries and keys are
finite. -/
theorem algebraic3 [Cert.Pre_finite_queries_keys.Facts] :
    Cert.algebraic_Kernel3Ideal_Reference3Ideal_pre_finite_queries_keys := by
  pair_intro
  · run_from Cert.Kernel3Ideal.Attn.run_post m g
  · run_from Cert.Reference3Ideal.Attn.run_ref m' g'
    · exact (Cert.Kernel3Ideal.Attn.same0 m c (Cert.Kernel3Ideal.Attn.finite_of_pre m hpre c).1
        (Cert.Kernel3Ideal.Attn.finite_of_pre m hpre c).2).symm
    · exact (Cert.Kernel3Ideal.Attn.same1 m c).symm
    · exact (Cert.Kernel3Ideal.Attn.same2 m c).symm
    · exact (Cert.Kernel3Ideal.Attn.same3 m c).symm
    · exact (Cert.Kernel3Ideal.Attn.same4 m c).symm
    · exact (Cert.Kernel3Ideal.Attn.same5 m c).symm
    · exact (Cert.Kernel3Ideal.Attn.same6 m c).symm

/-- The idealized projection terminates with its arguments unchanged and every counter at zero. -/
theorem frame_ideal4 : Cert.quiescent_Kernel4Ideal := fun m ρ _ =>
  Cert.Kernel4Ideal.Gen.frame m ρ

/-- The projection's reference terminates with its arguments unchanged and every counter at zero. -/
theorem frame_ref4 : Cert.quiescent_Reference4Ideal := fun m ρ _ =>
  (θ_run Cert.Reference4Ideal.defs _ _).mono
    (fun _ h => ⟨fun c => (h c).2.2.2.2.2.2.2, funext fun g => by rcases g with ⟨_, s | s⟩ <;> exact Fin.elim0 s⟩)
    (Cert.Reference4Ideal.Proj.run_ref m ρ)

/-- Over the extended reals the projection's seven results are its reference's. -/
theorem algebraic4 : Cert.algebraic_Kernel4Ideal_Reference4Ideal := by
  pair_intro
  · run_from Cert.Kernel4Ideal.Proj.run_post m g
  · run_from Cert.Reference4Ideal.Proj.run_ref m' g'
    · exact (Cert.Kernel4Ideal.Proj.same0 m c).symm
    · exact (Cert.Kernel4Ideal.Proj.same1 m c).symm
    · exact (Cert.Kernel4Ideal.Proj.same2 m c).symm
    · exact (Cert.Kernel4Ideal.Proj.same3 m c).symm
    · exact (Cert.Kernel4Ideal.Proj.same4 m c).symm
    · exact (Cert.Kernel4Ideal.Proj.same5 m c).symm
    · exact (Cert.Kernel4Ideal.Proj.same6 m c).symm

/-- The claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite_queries_keys.facts,
    Cert.Kernel.Ffn.frame, frame_ideal, frame_ref, Cert.Kernel2.Final.frame, frame_ideal2, frame_ref2,
    Cert.Kernel3.Attn.frame, frame_ideal3, @frame_ideal3_pre Cert.Pre_finite_queries_keys.facts,
    frame_ref3, @frame_ref3_pre Cert.Pre_finite_queries_keys.facts,
    Cert.Kernel4.Proj.frame, frame_ideal4, frame_ref4,
    trivial, algebraic, trivial, algebraic2, preserves3,
    @algebraic3 Cert.Pre_finite_queries_keys.facts, trivial, algebraic4⟩

end Cert.Proof

end
